-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_and_bias_finite [hPre_gains_and_bias_finite : Cert.Pre_gains_and_bias_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_and_bias_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_and_bias_finite [hPre_gains_and_bias_finite : Cert.Pre_gains_and_bias_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_and_bias_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Ff1Kernel (m : (ℓ : Loc Cert.Ff1Kernel.nD Cert.Ff1Kernel.τ Cert.Ff1Kernel.sig) → Buf (Elt Bits) ℓ) : Prop :=
  True

def Pre_Ff1KernelIdeal (m : (ℓ : Loc Cert.Ff1KernelIdeal.nD Cert.Ff1KernelIdeal.τ Cert.Ff1KernelIdeal.sig) → Buf (Elt Ideal) ℓ) : Prop :=
  True

def Pre_Ff1ReferenceIdeal (m : (ℓ : Loc Cert.Ff1ReferenceIdeal.nD Cert.Ff1ReferenceIdeal.τ Cert.Ff1ReferenceIdeal.sig) → Buf (Elt Ideal) ℓ) : Prop :=
  True

def Pre_Ff2Kernel (m : (ℓ : Loc Cert.Ff2Kernel.nD Cert.Ff2Kernel.τ Cert.Ff2Kernel.sig) → Buf (Elt Bits) ℓ) : Prop :=
  True

def Pre_Ff2KernelIdeal (m : (ℓ : Loc Cert.Ff2KernelIdeal.nD Cert.Ff2KernelIdeal.τ Cert.Ff2KernelIdeal.sig) → Buf (Elt Ideal) ℓ) : Prop :=
  True

def Pre_Ff2ReferenceIdeal (m : (ℓ : Loc Cert.Ff2ReferenceIdeal.nD Cert.Ff2ReferenceIdeal.τ Cert.Ff2ReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_DiffKernel (m : (ℓ : Loc Cert.DiffKernel.nD Cert.DiffKernel.τ Cert.DiffKernel.sig) → Buf (Elt Bits) ℓ) : Prop :=
  True

def Pre_DiffKernelIdeal (m : (ℓ : Loc Cert.DiffKernelIdeal.nD Cert.DiffKernelIdeal.τ Cert.DiffKernelIdeal.sig) → Buf (Elt Ideal) ℓ) : Prop :=
  True

def Pre_DiffKernelIdeal_diff_finite [hPre_diff_finite : Cert.Pre_diff_finite.Facts] (m : (ℓ : Loc Cert.DiffKernelIdeal.nD Cert.DiffKernelIdeal.τ Cert.DiffKernelIdeal.sig) → Buf (Elt Ideal) ℓ) : Prop :=
  ∀ c : Dev Cert.DiffKernelIdeal.nD,
    (Cert.Pre_diff_finite.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2)) (m ((c.tc : Thread Cert.DiffKernelIdeal.nD Cert.DiffKernelIdeal.τ).loc Cert.DiffKernelIdeal.main_arg3)) (m ((c.tc : Thread Cert.DiffKernelIdeal.nD Cert.DiffKernelIdeal.τ).loc Cert.DiffKernelIdeal.main_arg4)) (m ((c.tc : Thread Cert.DiffKernelIdeal.nD Cert.DiffKernelIdeal.τ).loc Cert.DiffKernelIdeal.main_arg5)) (m ((c.tc : Thread Cert.DiffKernelIdeal.nD Cert.DiffKernelIdeal.τ).loc Cert.DiffKernelIdeal.main_arg6)) (m ((c.tc : Thread Cert.DiffKernelIdeal.nD Cert.DiffKernelIdeal.τ).loc Cert.DiffKernelIdeal.main_arg7))) = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_diff_finite [hPre_diff_finite : Cert.Pre_diff_finite.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_diff_finite.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4)) (m ((c.tc : Thread Cert.DiffReferenceIdeal.nD Cert.DiffReferenceIdeal.τ).loc Cert.DiffReferenceIdeal.main_arg5)) (m ((c.tc : Thread Cert.DiffReferenceIdeal.nD Cert.DiffReferenceIdeal.τ).loc Cert.DiffReferenceIdeal.main_arg6)) (m ((c.tc : Thread Cert.DiffReferenceIdeal.nD Cert.DiffReferenceIdeal.τ).loc Cert.DiffReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gains_and_bias_finite [hKernelIdeal : Cert.KernelIdeal.Facts] [hPre_gains_and_bias_finite : Cert.Pre_gains_and_bias_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_and_bias_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gains_and_bias_finite [hReferenceIdeal : Cert.ReferenceIdeal.Facts] [hPre_gains_and_bias_finite : Cert.Pre_gains_and_bias_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_and_bias_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Ff1Kernel [hFf1Kernel : Cert.Ff1Kernel.Facts] : Prop :=
  ∀ (m : (ℓ : Loc Cert.Ff1Kernel.nD Cert.Ff1Kernel.τ Cert.Ff1Kernel.sig) → Buf (Elt Bits) ℓ) (g : Dev Cert.Ff1Kernel.nD → PrngReg), Pre_Ff1Kernel m →
    θ_run (Cert.Ff1Kernel.defs (F := Bits)) (onTc (τ := Cert.Ff1Kernel.τ) (Cert.Ff1Kernel.main (F := Bits))) ⟨m, fun _ => 0, g⟩ (fun r => (∀ c : Dev Cert.Ff1Kernel.nD,
      r.2.mem ((c.tc : Thread Cert.Ff1Kernel.nD Cert.Ff1Kernel.τ).loc Cert.Ff1Kernel.main_arg0) = m ((c.tc : Thread Cert.Ff1Kernel.nD Cert.Ff1Kernel.τ).loc Cert.Ff1Kernel.main_arg0)
      ∧ r.2.mem ((c.tc : Thread Cert.Ff1Kernel.nD Cert.Ff1Kernel.τ).loc Cert.Ff1Kernel.main_arg1) = m ((c.tc : Thread Cert.Ff1Kernel.nD Cert.Ff1Kernel.τ).loc Cert.Ff1Kernel.main_arg1))
      ∧ r.2.sem = fun _ => 0)

def quiescent_Ff1KernelIdeal [hFf1KernelIdeal : Cert.Ff1KernelIdeal.Facts] : Prop :=
  ∀ (m : (ℓ : Loc Cert.Ff1KernelIdeal.nD Cert.Ff1KernelIdeal.τ Cert.Ff1KernelIdeal.sig) → Buf (Elt Ideal) ℓ) (g : Dev Cert.Ff1KernelIdeal.nD → PrngReg), Pre_Ff1KernelIdeal m →
    θ_run (Cert.Ff1KernelIdeal.defs (F := Ideal)) (onTc (τ := Cert.Ff1KernelIdeal.τ) (Cert.Ff1KernelIdeal.main (F := Ideal))) ⟨m, fun _ => 0, g⟩ (fun r => (∀ c : Dev Cert.Ff1KernelIdeal.nD,
      r.2.mem ((c.tc : Thread Cert.Ff1KernelIdeal.nD Cert.Ff1KernelIdeal.τ).loc Cert.Ff1KernelIdeal.main_arg0) = m ((c.tc : Thread Cert.Ff1KernelIdeal.nD Cert.Ff1KernelIdeal.τ).loc Cert.Ff1KernelIdeal.main_arg0)
      ∧ r.2.mem ((c.tc : Thread Cert.Ff1KernelIdeal.nD Cert.Ff1KernelIdeal.τ).loc Cert.Ff1KernelIdeal.main_arg1) = m ((c.tc : Thread Cert.Ff1KernelIdeal.nD Cert.Ff1KernelIdeal.τ).loc Cert.Ff1KernelIdeal.main_arg1))
      ∧ r.2.sem = fun _ => 0)

def quiescent_Ff1ReferenceIdeal [hFf1ReferenceIdeal : Cert.Ff1ReferenceIdeal.Facts] : Prop :=
  ∀ (m : (ℓ : Loc Cert.Ff1ReferenceIdeal.nD Cert.Ff1ReferenceIdeal.τ Cert.Ff1ReferenceIdeal.sig) → Buf (Elt Ideal) ℓ) (g : Dev Cert.Ff1ReferenceIdeal.nD → PrngReg), Pre_Ff1ReferenceIdeal m →
    θ_run (Cert.Ff1ReferenceIdeal.defs (F := Ideal)) (onTc (τ := Cert.Ff1ReferenceIdeal.τ) (Cert.Ff1ReferenceIdeal.main (F := Ideal))) ⟨m, fun _ => 0, g⟩ (fun r => (∀ c : Dev Cert.Ff1ReferenceIdeal.nD,
      r.2.mem ((c.tc : Thread Cert.Ff1ReferenceIdeal.nD Cert.Ff1ReferenceIdeal.τ).loc Cert.Ff1ReferenceIdeal.main_arg0) = m ((c.tc : Thread Cert.Ff1ReferenceIdeal.nD Cert.Ff1ReferenceIdeal.τ).loc Cert.Ff1ReferenceIdeal.main_arg0)
      ∧ r.2.mem ((c.tc : Thread Cert.Ff1ReferenceIdeal.nD Cert.Ff1ReferenceIdeal.τ).loc Cert.Ff1ReferenceIdeal.main_arg1) = m ((c.tc : Thread Cert.Ff1ReferenceIdeal.nD Cert.Ff1ReferenceIdeal.τ).loc Cert.Ff1ReferenceIdeal.main_arg1))
      ∧ r.2.sem = fun _ => 0)

def quiescent_Ff2Kernel [hFf2Kernel : Cert.Ff2Kernel.Facts] : Prop :=
  ∀ (m : (ℓ : Loc Cert.Ff2Kernel.nD Cert.Ff2Kernel.τ Cert.Ff2Kernel.sig) → Buf (Elt Bits) ℓ) (g : Dev Cert.Ff2Kernel.nD → PrngReg), Pre_Ff2Kernel m →
    θ_run (Cert.Ff2Kernel.defs (F := Bits)) (onTc (τ := Cert.Ff2Kernel.τ) (Cert.Ff2Kernel.main (F := Bits))) ⟨m, fun _ => 0, g⟩ (fun r => (∀ c : Dev Cert.Ff2Kernel.nD,
      r.2.mem ((c.tc : Thread Cert.Ff2Kernel.nD Cert.Ff2Kernel.τ).loc Cert.Ff2Kernel.main_arg0) = m ((c.tc : Thread Cert.Ff2Kernel.nD Cert.Ff2Kernel.τ).loc Cert.Ff2Kernel.main_arg0)
      ∧ r.2.mem ((c.tc : Thread Cert.Ff2Kernel.nD Cert.Ff2Kernel.τ).loc Cert.Ff2Kernel.main_arg1) = m ((c.tc : Thread Cert.Ff2Kernel.nD Cert.Ff2Kernel.τ).loc Cert.Ff2Kernel.main_arg1)
      ∧ r.2.mem ((c.tc : Thread Cert.Ff2Kernel.nD Cert.Ff2Kernel.τ).loc Cert.Ff2Kernel.main_arg2) = m ((c.tc : Thread Cert.Ff2Kernel.nD Cert.Ff2Kernel.τ).loc Cert.Ff2Kernel.main_arg2))
      ∧ r.2.sem = fun _ => 0)

def quiescent_Ff2KernelIdeal [hFf2KernelIdeal : Cert.Ff2KernelIdeal.Facts] : Prop :=
  ∀ (m : (ℓ : Loc Cert.Ff2KernelIdeal.nD Cert.Ff2KernelIdeal.τ Cert.Ff2KernelIdeal.sig) → Buf (Elt Ideal) ℓ) (g : Dev Cert.Ff2KernelIdeal.nD → PrngReg), Pre_Ff2KernelIdeal m →
    θ_run (Cert.Ff2KernelIdeal.defs (F := Ideal)) (onTc (τ := Cert.Ff2KernelIdeal.τ) (Cert.Ff2KernelIdeal.main (F := Ideal))) ⟨m, fun _ => 0, g⟩ (fun r => (∀ c : Dev Cert.Ff2KernelIdeal.nD,
      r.2.mem ((c.tc : Thread Cert.Ff2KernelIdeal.nD Cert.Ff2KernelIdeal.τ).loc Cert.Ff2KernelIdeal.main_arg0) = m ((c.tc : Thread Cert.Ff2KernelIdeal.nD Cert.Ff2KernelIdeal.τ).loc Cert.Ff2KernelIdeal.main_arg0)
      ∧ r.2.mem ((c.tc : Thread Cert.Ff2KernelIdeal.nD Cert.Ff2KernelIdeal.τ).loc Cert.Ff2KernelIdeal.main_arg1) = m ((c.tc : Thread Cert.Ff2KernelIdeal.nD Cert.Ff2KernelIdeal.τ).loc Cert.Ff2KernelIdeal.main_arg1)
      ∧ r.2.mem ((c.tc : Thread Cert.Ff2KernelIdeal.nD Cert.Ff2KernelIdeal.τ).loc Cert.Ff2KernelIdeal.main_arg2) = m ((c.tc : Thread Cert.Ff2KernelIdeal.nD Cert.Ff2KernelIdeal.τ).loc Cert.Ff2KernelIdeal.main_arg2))
      ∧ r.2.sem = fun _ => 0)

def quiescent_Ff2ReferenceIdeal [hFf2ReferenceIdeal : Cert.Ff2ReferenceIdeal.Facts] : Prop :=
  ∀ (m : (ℓ : Loc Cert.Ff2ReferenceIdeal.nD Cert.Ff2ReferenceIdeal.τ Cert.Ff2ReferenceIdeal.sig) → Buf (Elt Ideal) ℓ) (g : Dev Cert.Ff2ReferenceIdeal.nD → PrngReg), Pre_Ff2ReferenceIdeal m →
    θ_run (Cert.Ff2ReferenceIdeal.defs (F := Ideal)) (onTc (τ := Cert.Ff2ReferenceIdeal.τ) (Cert.Ff2ReferenceIdeal.main (F := Ideal))) ⟨m, fun _ => 0, g⟩ (fun r => (∀ c : Dev Cert.Ff2ReferenceIdeal.nD,
      r.2.mem ((c.tc : Thread Cert.Ff2ReferenceIdeal.nD Cert.Ff2ReferenceIdeal.τ).loc Cert.Ff2ReferenceIdeal.main_arg0) = m ((c.tc : Thread Cert.Ff2ReferenceIdeal.nD Cert.Ff2ReferenceIdeal.τ).loc Cert.Ff2ReferenceIdeal.main_arg0)
      ∧ r.2.mem ((c.tc : Thread Cert.Ff2ReferenceIdeal.nD Cert.Ff2ReferenceIdeal.τ).loc Cert.Ff2ReferenceIdeal.main_arg1) = m ((c.tc : Thread Cert.Ff2ReferenceIdeal.nD Cert.Ff2ReferenceIdeal.τ).loc Cert.Ff2ReferenceIdeal.main_arg1)
      ∧ r.2.mem ((c.tc : Thread Cert.Ff2ReferenceIdeal.nD Cert.Ff2ReferenceIdeal.τ).loc Cert.Ff2ReferenceIdeal.main_arg2) = m ((c.tc : Thread Cert.Ff2ReferenceIdeal.nD Cert.Ff2ReferenceIdeal.τ).loc Cert.Ff2ReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3)
      ∧ r.2.mem ((c.tc : Thread Cert.GluKernel.nD Cert.GluKernel.τ).loc Cert.GluKernel.main_arg4) = m ((c.tc : Thread Cert.GluKernel.nD Cert.GluKernel.τ).loc Cert.GluKernel.main_arg4))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_DiffKernel [hDiffKernel : Cert.DiffKernel.Facts] : Prop :=
  ∀ (m : (ℓ : Loc Cert.DiffKernel.nD Cert.DiffKernel.τ Cert.DiffKernel.sig) → Buf (Elt Bits) ℓ) (g : Dev Cert.DiffKernel.nD → PrngReg), Pre_DiffKernel m →
    θ_run (Cert.DiffKernel.defs (F := Bits)) (onTc (τ := Cert.DiffKernel.τ) (Cert.DiffKernel.main (F := Bits))) ⟨m, fun _ => 0, g⟩ (fun r => (∀ c : Dev Cert.DiffKernel.nD,
      r.2.mem ((c.tc : Thread Cert.DiffKernel.nD Cert.DiffKernel.τ).loc Cert.DiffKernel.main_arg0) = m ((c.tc : Thread Cert.DiffKernel.nD Cert.DiffKernel.τ).loc Cert.DiffKernel.main_arg0)
      ∧ r.2.mem ((c.tc : Thread Cert.DiffKernel.nD Cert.DiffKernel.τ).loc Cert.DiffKernel.main_arg1) = m ((c.tc : Thread Cert.DiffKernel.nD Cert.DiffKernel.τ).loc Cert.DiffKernel.main_arg1)
      ∧ r.2.mem ((c.tc : Thread Cert.DiffKernel.nD Cert.DiffKernel.τ).loc Cert.DiffKernel.main_arg2) = m ((c.tc : Thread Cert.DiffKernel.nD Cert.DiffKernel.τ).loc Cert.DiffKernel.main_arg2)
      ∧ r.2.mem ((c.tc : Thread Cert.DiffKernel.nD Cert.DiffKernel.τ).loc Cert.DiffKernel.main_arg3) = m ((c.tc : Thread Cert.DiffKernel.nD Cert.DiffKernel.τ).loc Cert.DiffKernel.main_arg3)
      ∧ r.2.mem ((c.tc : Thread Cert.DiffKernel.nD Cert.DiffKernel.τ).loc Cert.DiffKernel.main_arg4) = m ((c.tc : Thread Cert.DiffKernel.nD Cert.DiffKernel.τ).loc Cert.DiffKernel.main_arg4)
      ∧ r.2.mem ((c.tc : Thread Cert.DiffKernel.nD Cert.DiffKernel.τ).loc Cert.DiffKernel.main_arg5) = m ((c.tc : Thread Cert.DiffKernel.nD Cert.DiffKernel.τ).loc Cert.DiffKernel.main_arg5)
      ∧ r.2.mem ((c.tc : Thread Cert.DiffKernel.nD Cert.DiffKernel.τ).loc Cert.DiffKernel.main_arg6) = m ((c.tc : Thread Cert.DiffKernel.nD Cert.DiffKernel.τ).loc Cert.DiffKernel.main_arg6)
      ∧ r.2.mem ((c.tc : Thread Cert.DiffKernel.nD Cert.DiffKernel.τ).loc Cert.DiffKernel.main_arg7) = m ((c.tc : Thread Cert.DiffKernel.nD Cert.DiffKernel.τ).loc Cert.DiffKernel.main_arg7))
      ∧ r.2.sem = fun _ => 0)

def quiescent_DiffKernelIdeal [hDiffKernelIdeal : Cert.DiffKernelIdeal.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
      ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3)
      ∧ r.2.mem ((c.tc : Thread Cert.DiffKernelIdeal.nD Cert.DiffKernelIdeal.τ).loc Cert.DiffKernelIdeal.main_arg4) = m ((c.tc : Thread Cert.DiffKernelIdeal.nD Cert.DiffKernelIdeal.τ).loc Cert.DiffKernelIdeal.main_arg4)
      ∧ r.2.mem ((c.tc : Thread Cert.DiffKernelIdeal.nD Cert.DiffKernelIdeal.τ).loc Cert.DiffKernelIdeal.main_arg5) = m ((c.tc : Thread Cert.DiffKernelIdeal.nD Cert.DiffKernelIdeal.τ).loc Cert.DiffKernelIdeal.main_arg5)
      ∧ r.2.mem ((c.tc : Thread Cert.DiffKernelIdeal.nD Cert.DiffKernelIdeal.τ).loc Cert.DiffKernelIdeal.main_arg6) = m ((c.tc : Thread Cert.DiffKernelIdeal.nD Cert.DiffKernelIdeal.τ).loc Cert.DiffKernelIdeal.main_arg6)
      ∧ r.2.mem ((c.tc : Thread Cert.DiffKernelIdeal.nD Cert.DiffKernelIdeal.τ).loc Cert.DiffKernelIdeal.main_arg7) = m ((c.tc : Thread Cert.DiffKernelIdeal.nD Cert.DiffKernelIdeal.τ).loc Cert.DiffKernelIdeal.main_arg7))
      ∧ r.2.sem = fun _ => 0)

def quiescent_DiffKernelIdeal_pre_diff_finite [hDiffKernelIdeal : Cert.DiffKernelIdeal.Facts] [hPre_diff_finite : Cert.Pre_diff_finite.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal_diff_finite m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
      ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3)
      ∧ r.2.mem ((c.tc : Thread Cert.DiffKernelIdeal.nD Cert.DiffKernelIdeal.τ).loc Cert.DiffKernelIdeal.main_arg4) = m ((c.tc : Thread Cert.DiffKernelIdeal.nD Cert.DiffKernelIdeal.τ).loc Cert.DiffKernelIdeal.main_arg4)
      ∧ r.2.mem ((c.tc : Thread Cert.DiffKernelIdeal.nD Cert.DiffKernelIdeal.τ).loc Cert.DiffKernelIdeal.main_arg5) = m ((c.tc : Thread Cert.DiffKernelIdeal.nD Cert.DiffKernelIdeal.τ).loc Cert.DiffKernelIdeal.main_arg5)
      ∧ r.2.mem ((c.tc : Thread Cert.DiffKernelIdeal.nD Cert.DiffKernelIdeal.τ).loc Cert.DiffKernelIdeal.main_arg6) = m ((c.tc : Thread Cert.DiffKernelIdeal.nD Cert.DiffKernelIdeal.τ).loc Cert.DiffKernelIdeal.main_arg6)
      ∧ r.2.mem ((c.tc : Thread Cert.DiffKernelIdeal.nD Cert.DiffKernelIdeal.τ).loc Cert.DiffKernelIdeal.main_arg7) = m ((c.tc : Thread Cert.DiffKernelIdeal.nD Cert.DiffKernelIdeal.τ).loc Cert.DiffKernelIdeal.main_arg7))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5)
      ∧ r.2.mem ((c.tc : Thread Cert.DiffReferenceIdeal.nD Cert.DiffReferenceIdeal.τ).loc Cert.DiffReferenceIdeal.main_arg6) = m ((c.tc : Thread Cert.DiffReferenceIdeal.nD Cert.DiffReferenceIdeal.τ).loc Cert.DiffReferenceIdeal.main_arg6)
      ∧ r.2.mem ((c.tc : Thread Cert.DiffReferenceIdeal.nD Cert.DiffReferenceIdeal.τ).loc Cert.DiffReferenceIdeal.main_arg7) = m ((c.tc : Thread Cert.DiffReferenceIdeal.nD Cert.DiffReferenceIdeal.τ).loc Cert.DiffReferenceIdeal.main_arg7))
      ∧ r.2.sem = fun _ => 0)

def quiescent_DiffReferenceIdeal_pre_diff_finite [hDiffReferenceIdeal : Cert.DiffReferenceIdeal.Facts] [hPre_diff_finite : Cert.Pre_diff_finite.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_diff_finite m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5)
      ∧ r.2.mem ((c.tc : Thread Cert.DiffReferenceIdeal.nD Cert.DiffReferenceIdeal.τ).loc Cert.DiffReferenceIdeal.main_arg6) = m ((c.tc : Thread Cert.DiffReferenceIdeal.nD Cert.DiffReferenceIdeal.τ).loc Cert.DiffReferenceIdeal.main_arg6)
      ∧ r.2.mem ((c.tc : Thread Cert.DiffReferenceIdeal.nD Cert.DiffReferenceIdeal.τ).loc Cert.DiffReferenceIdeal.main_arg7) = m ((c.tc : Thread Cert.DiffReferenceIdeal.nD Cert.DiffReferenceIdeal.τ).loc Cert.DiffReferenceIdeal.main_arg7))
      ∧ r.2.sem = fun _ => 0)

def preserves_Kernel_KernelIdeal : Prop :=
  IdealRules.named_const.Statement Cert.KernelIdeal.κ "scale" .f32 0x3E0293EE#32 (((Real.log 2)⁻¹ * (Real.sqrt 128)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_gains_and_bias_finite [hKernelIdeal : Cert.KernelIdeal.Facts] [hReferenceIdeal : Cert.ReferenceIdeal.Facts] [hPre_gains_and_bias_finite : Cert.Pre_gains_and_bias_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_and_bias_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v0)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v4) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Ff1Kernel_Ff1KernelIdeal : Prop :=
  True

def algebraic_Ff1KernelIdeal_Ff1ReferenceIdeal [hFf1KernelIdeal : Cert.Ff1KernelIdeal.Facts] [hFf1ReferenceIdeal : Cert.Ff1ReferenceIdeal.Facts] : Prop :=
  ∀ (m : (ℓ : Loc Cert.Ff1KernelIdeal.nD Cert.Ff1KernelIdeal.τ Cert.Ff1KernelIdeal.sig) → Buf (Elt Ideal) ℓ) (g : Dev Cert.Ff1KernelIdeal.nD → PrngReg)
    (m' : (ℓ : Loc Cert.Ff1ReferenceIdeal.nD Cert.Ff1ReferenceIdeal.τ Cert.Ff1ReferenceIdeal.sig) → Buf (Elt Ideal) ℓ) (g' : Dev Cert.Ff1ReferenceIdeal.nD → PrngReg), Pre_Ff1KernelIdeal m →
    (∀ c : Dev Cert.Ff1KernelIdeal.nD,
      m' ((c.tc : Thread Cert.Ff1ReferenceIdeal.nD Cert.Ff1ReferenceIdeal.τ).loc Cert.Ff1ReferenceIdeal.main_arg0) = m ((c.tc : Thread Cert.Ff1KernelIdeal.nD Cert.Ff1KernelIdeal.τ).loc Cert.Ff1KernelIdeal.main_arg0)
      ∧ m' ((c.tc : Thread Cert.Ff1ReferenceIdeal.nD Cert.Ff1ReferenceIdeal.τ).loc Cert.Ff1ReferenceIdeal.main_arg1) = m ((c.tc : Thread Cert.Ff1KernelIdeal.nD Cert.Ff1KernelIdeal.τ).loc Cert.Ff1KernelIdeal.main_arg1)) →
    ∃ (v0 : (c : Dev Cert.Ff1KernelIdeal.nD) → Buf (Elt Ideal) ((c.tc : Thread Cert.Ff1KernelIdeal.nD Cert.Ff1KernelIdeal.τ).loc Cert.Ff1KernelIdeal.main_v0)),
      θ_run (Cert.Ff1KernelIdeal.defs (F := Ideal)) (onTc (τ := Cert.Ff1KernelIdeal.τ) (Cert.Ff1KernelIdeal.main (F := Ideal))) ⟨m, fun _ => 0, g⟩ (fun r => ∀ c : Dev Cert.Ff1KernelIdeal.nD,
          r.2.mem ((c.tc : Thread Cert.Ff1KernelIdeal.nD Cert.Ff1KernelIdeal.τ).loc Cert.Ff1KernelIdeal.main_v0) = v0 c
          ∧ r.2.mem ((c.tc : Thread Cert.Ff1KernelIdeal.nD Cert.Ff1KernelIdeal.τ).loc Cert.Ff1KernelIdeal.main_arg0) = m ((c.tc : Thread Cert.Ff1KernelIdeal.nD Cert.Ff1KernelIdeal.τ).loc Cert.Ff1KernelIdeal.main_arg0)
          ∧ r.2.mem ((c.tc : Thread Cert.Ff1KernelIdeal.nD Cert.Ff1KernelIdeal.τ).loc Cert.Ff1KernelIdeal.main_arg1) = m ((c.tc : Thread Cert.Ff1KernelIdeal.nD Cert.Ff1KernelIdeal.τ).loc Cert.Ff1KernelIdeal.main_arg1))
      ∧ θ_run (Cert.Ff1ReferenceIdeal.defs (F := Ideal)) (onTc (τ := Cert.Ff1ReferenceIdeal.τ) (Cert.Ff1ReferenceIdeal.main (F := Ideal))) ⟨m', fun _ => 0, g'⟩ (fun r => ∀ c : Dev Cert.Ff1ReferenceIdeal.nD,
          r.2.mem ((c.tc : Thread Cert.Ff1ReferenceIdeal.nD Cert.Ff1ReferenceIdeal.τ).loc Cert.Ff1ReferenceIdeal.main_v6) = v0 c
          ∧ r.2.mem ((c.tc : Thread Cert.Ff1ReferenceIdeal.nD Cert.Ff1ReferenceIdeal.τ).loc Cert.Ff1ReferenceIdeal.main_arg0) = m' ((c.tc : Thread Cert.Ff1ReferenceIdeal.nD Cert.Ff1ReferenceIdeal.τ).loc Cert.Ff1ReferenceIdeal.main_arg0)
          ∧ r.2.mem ((c.tc : Thread Cert.Ff1ReferenceIdeal.nD Cert.Ff1ReferenceIdeal.τ).loc Cert.Ff1ReferenceIdeal.main_arg1) = m' ((c.tc : Thread Cert.Ff1ReferenceIdeal.nD Cert.Ff1ReferenceIdeal.τ).loc Cert.Ff1ReferenceIdeal.main_arg1))

def preserves_Ff2Kernel_Ff2KernelIdeal : Prop :=
  True

def algebraic_Ff2KernelIdeal_Ff2ReferenceIdeal [hFf2KernelIdeal : Cert.Ff2KernelIdeal.Facts] [hFf2ReferenceIdeal : Cert.Ff2ReferenceIdeal.Facts] : Prop :=
  ∀ (m : (ℓ : Loc Cert.Ff2KernelIdeal.nD Cert.Ff2KernelIdeal.τ Cert.Ff2KernelIdeal.sig) → Buf (Elt Ideal) ℓ) (g : Dev Cert.Ff2KernelIdeal.nD → PrngReg)
    (m' : (ℓ : Loc Cert.Ff2ReferenceIdeal.nD Cert.Ff2ReferenceIdeal.τ Cert.Ff2ReferenceIdeal.sig) → Buf (Elt Ideal) ℓ) (g' : Dev Cert.Ff2ReferenceIdeal.nD → PrngReg), Pre_Ff2KernelIdeal m →
    (∀ c : Dev Cert.Ff2KernelIdeal.nD,
      m' ((c.tc : Thread Cert.Ff2ReferenceIdeal.nD Cert.Ff2ReferenceIdeal.τ).loc Cert.Ff2ReferenceIdeal.main_arg0) = m ((c.tc : Thread Cert.Ff2KernelIdeal.nD Cert.Ff2KernelIdeal.τ).loc Cert.Ff2KernelIdeal.main_arg0)
      ∧ m' ((c.tc : Thread Cert.Ff2ReferenceIdeal.nD Cert.Ff2ReferenceIdeal.τ).loc Cert.Ff2ReferenceIdeal.main_arg1) = m ((c.tc : Thread Cert.Ff2KernelIdeal.nD Cert.Ff2KernelIdeal.τ).loc Cert.Ff2KernelIdeal.main_arg1)
      ∧ m' ((c.tc : Thread Cert.Ff2ReferenceIdeal.nD Cert.Ff2ReferenceIdeal.τ).loc Cert.Ff2ReferenceIdeal.main_arg2) = m ((c.tc : Thread Cert.Ff2KernelIdeal.nD Cert.Ff2KernelIdeal.τ).loc Cert.Ff2KernelIdeal.main_arg2)) →
    ∃ (v0 : (c : Dev Cert.Ff2KernelIdeal.nD) → Buf (Elt Ideal) ((c.tc : Thread Cert.Ff2KernelIdeal.nD Cert.Ff2KernelIdeal.τ).loc Cert.Ff2KernelIdeal.main_v1)),
      θ_run (Cert.Ff2KernelIdeal.defs (F := Ideal)) (onTc (τ := Cert.Ff2KernelIdeal.τ) (Cert.Ff2KernelIdeal.main (F := Ideal))) ⟨m, fun _ => 0, g⟩ (fun r => ∀ c : Dev Cert.Ff2KernelIdeal.nD,
          r.2.mem ((c.tc : Thread Cert.Ff2KernelIdeal.nD Cert.Ff2KernelIdeal.τ).loc Cert.Ff2KernelIdeal.main_v1) = v0 c
          ∧ r.2.mem ((c.tc : Thread Cert.Ff2KernelIdeal.nD Cert.Ff2KernelIdeal.τ).loc Cert.Ff2KernelIdeal.main_arg0) = m ((c.tc : Thread Cert.Ff2KernelIdeal.nD Cert.Ff2KernelIdeal.τ).loc Cert.Ff2KernelIdeal.main_arg0)
          ∧ r.2.mem ((c.tc : Thread Cert.Ff2KernelIdeal.nD Cert.Ff2KernelIdeal.τ).loc Cert.Ff2KernelIdeal.main_arg1) = m ((c.tc : Thread Cert.Ff2KernelIdeal.nD Cert.Ff2KernelIdeal.τ).loc Cert.Ff2KernelIdeal.main_arg1)
          ∧ r.2.mem ((c.tc : Thread Cert.Ff2KernelIdeal.nD Cert.Ff2KernelIdeal.τ).loc Cert.Ff2KernelIdeal.main_arg2) = m ((c.tc : Thread Cert.Ff2KernelIdeal.nD Cert.Ff2KernelIdeal.τ).loc Cert.Ff2KernelIdeal.main_arg2))
      ∧ θ_run (Cert.Ff2ReferenceIdeal.defs (F := Ideal)) (onTc (τ := Cert.Ff2ReferenceIdeal.τ) (Cert.Ff2ReferenceIdeal.main (F := Ideal))) ⟨m', fun _ => 0, g'⟩ (fun r => ∀ c : Dev Cert.Ff2ReferenceIdeal.nD,
          r.2.mem ((c.tc : Thread Cert.Ff2ReferenceIdeal.nD Cert.Ff2ReferenceIdeal.τ).loc Cert.Ff2ReferenceIdeal.main_v4) = v0 c
          ∧ r.2.mem ((c.tc : Thread Cert.Ff2ReferenceIdeal.nD Cert.Ff2ReferenceIdeal.τ).loc Cert.Ff2ReferenceIdeal.main_arg0) = m' ((c.tc : Thread Cert.Ff2ReferenceIdeal.nD Cert.Ff2ReferenceIdeal.τ).loc Cert.Ff2ReferenceIdeal.main_arg0)
          ∧ r.2.mem ((c.tc : Thread Cert.Ff2ReferenceIdeal.nD Cert.Ff2ReferenceIdeal.τ).loc Cert.Ff2ReferenceIdeal.main_arg1) = m' ((c.tc : Thread Cert.Ff2ReferenceIdeal.nD Cert.Ff2ReferenceIdeal.τ).loc Cert.Ff2ReferenceIdeal.main_arg1)
          ∧ r.2.mem ((c.tc : Thread Cert.Ff2ReferenceIdeal.nD Cert.Ff2ReferenceIdeal.τ).loc Cert.Ff2ReferenceIdeal.main_arg2) = m' ((c.tc : Thread Cert.Ff2ReferenceIdeal.nD Cert.Ff2ReferenceIdeal.τ).loc Cert.Ff2ReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v3) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v36) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)
      ∧ m' ((c.tc : Thread Cert.GluReferenceIdeal.nD Cert.GluReferenceIdeal.τ).loc Cert.GluReferenceIdeal.main_arg4) = m ((c.tc : Thread Cert.GluKernelIdeal.nD Cert.GluKernelIdeal.τ).loc Cert.GluKernelIdeal.main_arg4)) →
    ∃ (v0 : (c : Dev Cert.GluKernelIdeal.nD) → Buf (Elt Ideal) ((c.tc : Thread Cert.GluKernelIdeal.nD Cert.GluKernelIdeal.τ).loc Cert.GluKernelIdeal.main_v3)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v3) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
          ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v32) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_DiffKernel_DiffKernelIdeal : Prop :=
  IdealRules.named_const.Statement Cert.DiffKernelIdeal.κ "log2e" .f32 0x3FB8AA3B#32 (((Real.log 2)⁻¹ : ℝ) : EReal)
  ∧ IdealRules.named_const.Statement Cert.DiffKernelIdeal.κ "scale" .f32 0x3E0293EE#32 (((Real.log 2)⁻¹ * (Real.sqrt 128)⁻¹ : ℝ) : EReal)
  ∧ IdealRules.named_const.Statement Cert.DiffKernelIdeal.κ "mask" .f32 0xF149F2CA#32 ⊥

def algebraic_DiffKernelIdeal_DiffReferenceIdeal_pre_diff_finite [hDiffKernelIdeal : Cert.DiffKernelIdeal.Facts] [hDiffReferenceIdeal : Cert.DiffReferenceIdeal.Facts] [hPre_diff_finite : Cert.Pre_diff_finite.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffKernelIdeal_diff_finite m →
    (∀ c : Dev Cert.DiffKernelIdeal.nD,
      m' ((c.tc : Thread Cert.DiffReferenceIdeal.nD Cert.DiffReferenceIdeal.τ).loc Cert.DiffReferenceIdeal.main_arg0) = m ((c.tc : Thread Cert.DiffKernelIdeal.nD Cert.DiffKernelIdeal.τ).loc Cert.DiffKernelIdeal.main_arg0)
      ∧ m' ((c.tc : Thread Cert.DiffReferenceIdeal.nD Cert.DiffReferenceIdeal.τ).loc Cert.DiffReferenceIdeal.main_arg1) = m ((c.tc : Thread Cert.DiffKernelIdeal.nD Cert.DiffKernelIdeal.τ).loc Cert.DiffKernelIdeal.main_arg1)
      ∧ m' ((c.tc : Thread Cert.DiffReferenceIdeal.nD Cert.DiffReferenceIdeal.τ).loc Cert.DiffReferenceIdeal.main_arg2) = m ((c.tc : Thread Cert.DiffKernelIdeal.nD Cert.DiffKernelIdeal.τ).loc Cert.DiffKernelIdeal.main_arg2)
      ∧ m' ((c.tc : Thread Cert.DiffReferenceIdeal.nD Cert.DiffReferenceIdeal.τ).loc Cert.DiffReferenceIdeal.main_arg3) = m ((c.tc : Thread Cert.DiffKernelIdeal.nD Cert.DiffKernelIdeal.τ).loc Cert.DiffKernelIdeal.main_arg3)
      ∧ m' ((c.tc : Thread Cert.DiffReferenceIdeal.nD Cert.DiffReferenceIdeal.τ).loc Cert.DiffReferenceIdeal.main_arg4) = m ((c.tc : Thread Cert.DiffKernelIdeal.nD Cert.DiffKernelIdeal.τ).loc Cert.DiffKernelIdeal.main_arg4)
      ∧ m' ((c.tc : Thread Cert.DiffReferenceIdeal.nD Cert.DiffReferenceIdeal.τ).loc Cert.DiffReferenceIdeal.main_arg5) = m ((c.tc : Thread Cert.DiffKernelIdeal.nD Cert.DiffKernelIdeal.τ).loc Cert.DiffKernelIdeal.main_arg5)
      ∧ m' ((c.tc : Thread Cert.DiffReferenceIdeal.nD Cert.DiffReferenceIdeal.τ).loc Cert.DiffReferenceIdeal.main_arg6) = m ((c.tc : Thread Cert.DiffKernelIdeal.nD Cert.DiffKernelIdeal.τ).loc Cert.DiffKernelIdeal.main_arg6)
      ∧ m' ((c.tc : Thread Cert.DiffReferenceIdeal.nD Cert.DiffReferenceIdeal.τ).loc Cert.DiffReferenceIdeal.main_arg7) = m ((c.tc : Thread Cert.DiffKernelIdeal.nD Cert.DiffKernelIdeal.τ).loc Cert.DiffKernelIdeal.main_arg7)) →
    ∃ (v0 : (c : Dev Cert.DiffKernelIdeal.nD) → Buf (Elt Ideal) ((c.tc : Thread Cert.DiffKernelIdeal.nD Cert.DiffKernelIdeal.τ).loc Cert.DiffKernelIdeal.main_v19)),
      θ_run (Cert.DiffKernelIdeal.defs (F := Ideal)) (onTc (τ := Cert.DiffKernelIdeal.τ) (Cert.DiffKernelIdeal.main (F := Ideal))) ⟨m, fun _ => 0, g⟩ (fun r => ∀ c : Dev Cert.DiffKernelIdeal.nD,
          r.2.mem ((c.tc : Thread Cert.DiffKernelIdeal.nD Cert.DiffKernelIdeal.τ).loc Cert.DiffKernelIdeal.main_v19) = v0 c
          ∧ r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
          ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
          ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
          ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3)
          ∧ r.2.mem ((c.tc : Thread Cert.DiffKernelIdeal.nD Cert.DiffKernelIdeal.τ).loc Cert.DiffKernelIdeal.main_arg4) = m ((c.tc : Thread Cert.DiffKernelIdeal.nD Cert.DiffKernelIdeal.τ).loc Cert.DiffKernelIdeal.main_arg4)
          ∧ r.2.mem ((c.tc : Thread Cert.DiffKernelIdeal.nD Cert.DiffKernelIdeal.τ).loc Cert.DiffKernelIdeal.main_arg5) = m ((c.tc : Thread Cert.DiffKernelIdeal.nD Cert.DiffKernelIdeal.τ).loc Cert.DiffKernelIdeal.main_arg5)
          ∧ r.2.mem ((c.tc : Thread Cert.DiffKernelIdeal.nD Cert.DiffKernelIdeal.τ).loc Cert.DiffKernelIdeal.main_arg6) = m ((c.tc : Thread Cert.DiffKernelIdeal.nD Cert.DiffKernelIdeal.τ).loc Cert.DiffKernelIdeal.main_arg6)
          ∧ r.2.mem ((c.tc : Thread Cert.DiffKernelIdeal.nD Cert.DiffKernelIdeal.τ).loc Cert.DiffKernelIdeal.main_arg7) = m ((c.tc : Thread Cert.DiffKernelIdeal.nD Cert.DiffKernelIdeal.τ).loc Cert.DiffKernelIdeal.main_arg7))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v114) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4)
          ∧ r.2.mem ((c.tc : Thread Cert.DiffReferenceIdeal.nD Cert.DiffReferenceIdeal.τ).loc Cert.DiffReferenceIdeal.main_arg5) = m' ((c.tc : Thread Cert.DiffReferenceIdeal.nD Cert.DiffReferenceIdeal.τ).loc Cert.DiffReferenceIdeal.main_arg5)
          ∧ r.2.mem ((c.tc : Thread Cert.DiffReferenceIdeal.nD Cert.DiffReferenceIdeal.τ).loc Cert.DiffReferenceIdeal.main_arg6) = m' ((c.tc : Thread Cert.DiffReferenceIdeal.nD Cert.DiffReferenceIdeal.τ).loc Cert.DiffReferenceIdeal.main_arg6)
          ∧ r.2.mem ((c.tc : Thread Cert.DiffReferenceIdeal.nD Cert.DiffReferenceIdeal.τ).loc Cert.DiffReferenceIdeal.main_arg7) = m' ((c.tc : Thread Cert.DiffReferenceIdeal.nD Cert.DiffReferenceIdeal.τ).loc Cert.DiffReferenceIdeal.main_arg7))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hFf1Kernel : Cert.Ff1Kernel.Facts) (hFf1KernelIdeal : Cert.Ff1KernelIdeal.Facts) (hFf1ReferenceIdeal : Cert.Ff1ReferenceIdeal.Facts) (hFf2Kernel : Cert.Ff2Kernel.Facts) (hFf2KernelIdeal : Cert.Ff2KernelIdeal.Facts) (hFf2ReferenceIdeal : Cert.Ff2ReferenceIdeal.Facts) (hOutKernel : Cert.OutKernel.Facts) (hOutKernelIdeal : Cert.OutKernelIdeal.Facts) (hOutReferenceIdeal : Cert.OutReferenceIdeal.Facts) (hMergeKernel : Cert.MergeKernel.Facts) (hMergeKernelIdeal : Cert.MergeKernelIdeal.Facts) (hMergeReferenceIdeal : Cert.MergeReferenceIdeal.Facts) (hNormKernel : Cert.NormKernel.Facts) (hNormKernelIdeal : Cert.NormKernelIdeal.Facts) (hNormReferenceIdeal : Cert.NormReferenceIdeal.Facts) (hGluKernel : Cert.GluKernel.Facts) (hGluKernelIdeal : Cert.GluKernelIdeal.Facts) (hGluReferenceIdeal : Cert.GluReferenceIdeal.Facts) (hDiffKernel : Cert.DiffKernel.Facts) (hDiffKernelIdeal : Cert.DiffKernelIdeal.Facts) (hDiffReferenceIdeal : Cert.DiffReferenceIdeal.Facts) (hPre_gains_and_bias_finite : Cert.Pre_gains_and_bias_finite.Facts) (hPre_diff_finite : Cert.Pre_diff_finite.Facts),
    quiescent_Kernel (hKernel := hKernel)
    ∧ quiescent_KernelIdeal (hKernelIdeal := hKernelIdeal)
    ∧ quiescent_KernelIdeal_pre_gains_and_bias_finite (hKernelIdeal := hKernelIdeal) (hPre_gains_and_bias_finite := hPre_gains_and_bias_finite)
    ∧ quiescent_ReferenceIdeal (hReferenceIdeal := hReferenceIdeal)
    ∧ quiescent_ReferenceIdeal_pre_gains_and_bias_finite (hReferenceIdeal := hReferenceIdeal) (hPre_gains_and_bias_finite := hPre_gains_and_bias_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_Ff1Kernel (hFf1Kernel := hFf1Kernel)
    ∧ quiescent_Ff1KernelIdeal (hFf1KernelIdeal := hFf1KernelIdeal)
    ∧ quiescent_Ff1ReferenceIdeal (hFf1ReferenceIdeal := hFf1ReferenceIdeal)
    ∧ quiescent_Ff2Kernel (hFf2Kernel := hFf2Kernel)
    ∧ quiescent_Ff2KernelIdeal (hFf2KernelIdeal := hFf2KernelIdeal)
    ∧ quiescent_Ff2ReferenceIdeal (hFf2ReferenceIdeal := hFf2ReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_DiffKernel (hDiffKernel := hDiffKernel)
    ∧ quiescent_DiffKernelIdeal (hDiffKernelIdeal := hDiffKernelIdeal)
    ∧ quiescent_DiffKernelIdeal_pre_diff_finite (hDiffKernelIdeal := hDiffKernelIdeal) (hPre_diff_finite := hPre_diff_finite)
    ∧ quiescent_DiffReferenceIdeal (hDiffReferenceIdeal := hDiffReferenceIdeal)
    ∧ quiescent_DiffReferenceIdeal_pre_diff_finite (hDiffReferenceIdeal := hDiffReferenceIdeal) (hPre_diff_finite := hPre_diff_finite)
    ∧ preserves_Kernel_KernelIdeal
    ∧ algebraic_KernelIdeal_ReferenceIdeal_pre_gains_and_bias_finite (hKernelIdeal := hKernelIdeal) (hReferenceIdeal := hReferenceIdeal) (hPre_gains_and_bias_finite := hPre_gains_and_bias_finite)
    ∧ preserves_InKernel_InKernelIdeal
    ∧ algebraic_InKernelIdeal_InReferenceIdeal (hInKernelIdeal := hInKernelIdeal) (hInReferenceIdeal := hInReferenceIdeal)
    ∧ preserves_Ff1Kernel_Ff1KernelIdeal
    ∧ algebraic_Ff1KernelIdeal_Ff1ReferenceIdeal (hFf1KernelIdeal := hFf1KernelIdeal) (hFf1ReferenceIdeal := hFf1ReferenceIdeal)
    ∧ preserves_Ff2Kernel_Ff2KernelIdeal
    ∧ algebraic_Ff2KernelIdeal_Ff2ReferenceIdeal (hFf2KernelIdeal := hFf2KernelIdeal) (hFf2ReferenceIdeal := hFf2ReferenceIdeal)
    ∧ preserves_OutKernel_OutKernelIdeal
    ∧ algebraic_OutKernelIdeal_OutReferenceIdeal (hOutKernelIdeal := hOutKernelIdeal) (hOutReferenceIdeal := hOutReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_NormKernel_NormKernelIdeal
    ∧ algebraic_NormKernelIdeal_NormReferenceIdeal (hNormKernelIdeal := hNormKernelIdeal) (hNormReferenceIdeal := hNormReferenceIdeal)
    ∧ preserves_GluKernel_GluKernelIdeal
    ∧ algebraic_GluKernelIdeal_GluReferenceIdeal (hGluKernelIdeal := hGluKernelIdeal) (hGluReferenceIdeal := hGluReferenceIdeal)
    ∧ preserves_DiffKernel_DiffKernelIdeal
    ∧ algebraic_DiffKernelIdeal_DiffReferenceIdeal_pre_diff_finite (hDiffKernelIdeal := hDiffKernelIdeal) (hDiffReferenceIdeal := hDiffReferenceIdeal) (hPre_diff_finite := hPre_diff_finite)
-- ==== Pre_diff_finite.lean ====
abbrev S8192x22528 : Shape := ⟨2, ![8192, 22528]⟩
abbrev S128 : Shape := ⟨1, ![128]⟩
abbrev S256 : Shape := ⟨1, ![256]⟩
abbrev S8192x1536 : Shape := ⟨2, ![8192, 1536]⟩
abbrev S_ : Shape := ⟨0, ![]⟩

class Facts : Prop where
  slices_S8192x22528_S8192x1536_0_8704 : S8192x22528.Slices ![0, 8704] S8192x1536
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v15 : IVec S_ 1) (main_v16 : FVec F S128 .f32) (main_cst_4 : FVec F S_ .f32) : IVec S_ 1 :=
  let main_v17 : FVec F S128 .f32 := broadcastInDim S128 ![] bcast_S_S128 main_cst_4
  let main_v18 : IVec S128 1 := cmpf .olt main_v16 main_v17
  let main_c_5 : IVec S_ 1 := constantI S_ 1 1#1
  let main_v19 : IVec S_ 1 := (fun x v => Host.reduce IntOp.andi x v reducesTo_S128_S_d0 h_S_) main_v18 main_c_5
  let main_v20 : IVec S_ 1 := andi main_v15 main_v19
  let main_v21 : FVec F S128 .f32 := Host.absf main_arg6
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_c_7 : IVec S_ 1 := constantI S_ 1 1#1
  let main_v24 : IVec S_ 1 := (fun x v => Host.reduce IntOp.andi x v reducesTo_S128_S_d0 h_S_) main_v23 main_c_7
  let main_v25 : IVec S_ 1 := andi main_v20 main_v24
  main_v25

def fn {F : FTy → Type} [FloatOps F] (main_arg0 : FVec F S8192x22528 .bf16) (main_arg1 : FVec F S128 .f32) (main_arg2 : FVec F S128 .f32) (main_arg3 : FVec F S128 .f32) (main_arg4 : FVec F S128 .f32) (main_arg5 : FVec F S128 .f32) (main_arg6 : FVec F S128 .f32) (main_arg7 : FVec F S256 .f32) : IVec S_ 1 :=
  let main_v0 : FVec F S8192x1536 .bf16 := (extractStridedSlice S8192x1536 ![0, 8704] · slices_S8192x22528_S8192x1536_0_8704) main_arg0
  let main_v1 : FVec F S8192x1536 .f32 := (extf .f32 · bitsLt_bf16_f32) main_v0
  let main_v2 : FVec F S8192x1536 .f32 := Host.absf main_v1
  let main_cst : FVec F S_ .f32 := constant S_ .f32 0x7F800000#32
  let main_v3 : FVec F S8192x1536 .f32 := broadcastInDim S8192x1536 ![] bcast_S_S8192x1536 main_cst
  let main_v4 : IVec S8192x1536 1 := cmpf .olt main_v2 main_v3
  let main_c : IVec S_ 1 := constantI S_ 1 1#1
  let main_v5 : IVec S_ 1 := (fun x v => Host.reduce IntOp.andi x v reducesTo_S8192x1536_S_d0_1 h_S_) main_v4 main_c
  let main_v6 : FVec F S128 .f32 := Host.absf main_arg3
  let main_cst_0 : FVec F S_ .f32 := constant S_ .f32 0x7F800000#32
  let main_v7 : FVec F S128 .f32 := broadcastInDim S128 ![] bcast_S_S128 main_cst_0
  let main_v8 : IVec S128 1 := cmpf .olt main_v6 main_v7
  let main_c_1 : IVec S_ 1 := constantI S_ 1 1#1
  let main_v9 : IVec S_ 1 := (fun x v => Host.reduce IntOp.andi x v reducesTo_S128_S_d0 h_S_) main_v8 main_c_1
  let main_v10 : IVec S_ 1 := andi main_v5 main_v9
  let main_v11 : FVec F S128 .f32 := Host.absf main_arg4
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_c_3 : IVec S_ 1 := constantI S_ 1 1#1
  let main_v14 : IVec S_ 1 := (fun x v => Host.reduce IntOp.andi x v reducesTo_S128_S_d0 h_S_) main_v13 main_c_3
  let main_v15 : IVec S_ 1 := andi main_v10 main_v14
  let main_v16 : FVec F S128 .f32 := Host.absf main_arg5
  let main_cst_4 : FVec F S_ .f32 := constant S_ .f32 0x7F800000#32
  fn_part1 (F := F) main_arg6 main_v15 main_v16 main_cst_4
-- ==== Pre_gains_and_bias_finite.lean ====
abbrev S8192x22528 : Shape := ⟨2, ![8192, 22528]⟩
abbrev S128 : Shape := ⟨1, ![128]⟩
abbrev S12x257 : Shape := ⟨2, ![12, 257]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S12x257 : S_.BroadcastsInDim S12x257 (![] : Fin 0 → Fin S12x257.rank)
  reducesTo_S12x257_S_d0_1 : S12x257.ReducesTo [0, 1] S_

variable [Facts]

def fn {F : FTy → Type} [FloatOps F] (main_arg0 : FVec F S8192x22528 .bf16) (main_arg1 : FVec F S128 .f32) (main_arg2 : FVec F S128 .f32) (main_arg3 : FVec F S12x257 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S12x257 .f32 := Host.absf main_arg3
  let main_cst_2 : FVec F S_ .f32 := constant S_ .f32 0x7F800000#32
  let main_v10 : FVec F S12x257 .f32 := broadcastInDim S12x257 ![] bcast_S_S12x257 main_cst_2
  let main_v11 : IVec S12x257 1 := cmpf .olt main_v9 main_v10
  let main_c_3 : IVec S_ 1 := constantI S_ 1 1#1
  let main_v12 : IVec S_ 1 := (fun x v => Host.reduce IntOp.andi x v reducesTo_S12x257_S_d0_1 h_S_) main_v11 main_c_3
  let main_v13 : IVec S_ 1 := andi main_v8 main_v12
  main_v13
-- ==== Kernel.lean ====
abbrev S8192x22528 : Shape := ⟨2, ![8192, 22528]⟩
abbrev S128 : Shape := ⟨1, ![128]⟩
abbrev S12x257 : Shape := ⟨2, ![12, 257]⟩
abbrev S3 : Shape := ⟨1, ![3]⟩
abbrev S3x1x1 : Shape := ⟨3, ![3, 1, 1]⟩
abbrev S_ : Shape := ⟨0, ![]⟩
abbrev S256 : Shape := ⟨1, ![256]⟩
abbrev S1x256x1 : Shape := ⟨3, ![1, 256, 1]⟩
abbrev S3x256x1 : Shape := ⟨3, ![3, 256, 1]⟩
abbrev S768 : Shape := ⟨1, ![768]⟩
abbrev S1x1x768 : Shape := ⟨3, ![1, 1, 768]⟩
abbrev S3x256x768 : Shape := ⟨3, ![3, 256, 768]⟩
abbrev S1024 : Shape := ⟨1, ![1024]⟩
abbrev S3x1 : Shape := ⟨2, ![3, 1]⟩
abbrev S1x1024 : Shape := ⟨2, ![1, 1024]⟩
abbrev S3x1024 : Shape := ⟨2, ![3, 1024]⟩
abbrev S3x1024x1 : Shape := ⟨3, ![3, 1024, 1]⟩
abbrev S12x3x1024 : Shape := ⟨3, ![12, 3, 1024]⟩
abbrev S1x12x1x3x1x1024 : Shape := ⟨6, ![1, 12, 1, 3, 1, 1024]⟩
abbrev S1x12x1x3x256x1024 : Shape := ⟨6, ![1, 12, 1, 3, 256, 1024]⟩
abbrev S12x3x262144 : Shape := ⟨3, ![12, 3, 262144]⟩
abbrev S12x3x261888 : Shape := ⟨3, ![12, 3, 261888]⟩
abbrev S12x3x256x1023 : Shape := ⟨4, ![12, 3, 256, 1023]⟩
abbrev S12x3x256x768 : Shape := ⟨4, ![12, 3, 256, 768]⟩
abbrev S1x3x256x768 : Shape := ⟨4, ![1, 3, 256, 768]⟩
abbrev S3x12x256x768 : Shape := ⟨4, ![3, 12, 256, 768]⟩
abbrev S1x128 : Shape := ⟨2, ![1, 128]⟩
abbrev S8192x1536 : Shape := ⟨2, ![8192, 1536]⟩
abbrev S4096x128 : Shape := ⟨2, ![4096, 128]⟩
abbrev S3x1x256x768 : Shape := ⟨4, ![3, 1, 256, 768]⟩
abbrev S4096 : Shape := ⟨1, ![4096]⟩
abbrev S4096x1 : Shape := ⟨2, ![4096, 1]⟩
abbrev S256x128 : Shape := ⟨2, ![256, 128]⟩
abbrev S256x1 : Shape := ⟨2, ![256, 1]⟩
abbrev S768x128 : Shape := ⟨2, ![768, 128]⟩
abbrev S256x768 : Shape := ⟨2, ![256, 768]⟩
abbrev S1x1x256x768 : Shape := ⟨4, ![1, 1, 256, 768]⟩

abbrev nBuf : Space → Nat
  | .hbm => 114
  | .vmem => 13
  | .smem => 0
  | _ => 0

abbrev bufTy : (tb : Table) → Fin (tcTables nBuf tb) → BufTy
  | .hbm, ⟨0, _⟩ => ⟨S8192x22528, .bf16⟩
  | .hbm, ⟨1, _⟩ => ⟨S128, .f32⟩
  | .hbm, ⟨2, _⟩ => ⟨S128, .f32⟩
  | .hbm, ⟨3, _⟩ => ⟨S12x257, .f32⟩
  | .hbm, ⟨4, _⟩ => ⟨S3, .i32⟩
  | .hbm, ⟨5, _⟩ => ⟨S3x1x1, .i32⟩
  | .hbm, ⟨6, _⟩ => ⟨S_, .i32⟩
  | .hbm, ⟨7, _⟩ => ⟨S3x1x1, .i32⟩
  | .hbm, ⟨8, _⟩ => ⟨S3x1x1, .i32⟩
  | .hbm, ⟨9, _⟩ => ⟨S256, .i32⟩
  | .hbm, ⟨10, _⟩ => ⟨S1x256x1, .i32⟩
  | .hbm, ⟨11, _⟩ => ⟨S3x256x1, .i32⟩
  | .hbm, ⟨12, _⟩ => ⟨S3x256x1, .i32⟩
  | .hbm, ⟨13, _⟩ => ⟨S3x256x1, .i32⟩
  | .hbm, ⟨14, _⟩ => ⟨S768, .i32⟩
  | .hbm, ⟨15, _⟩ => ⟨S1x1x768, .i32⟩
  | .hbm, ⟨16, _⟩ => ⟨S_, .i32⟩
  | .hbm, ⟨17, _⟩ => ⟨S_, .i32⟩
  | .hbm, ⟨18, _⟩ => ⟨S3x256x1, .i32⟩
  | .hbm, ⟨19, _⟩ => ⟨S3x256x1, .i32⟩
  | .hbm, ⟨20, _⟩ => ⟨S3x256x1, .i32⟩
  | .hbm, ⟨21, _⟩ => ⟨S_, .i32⟩
  | .hbm, ⟨22, _⟩ => ⟨S3x256x1, .i32⟩
  | .hbm, ⟨23, _⟩ => ⟨S3x256x1, .i1⟩
  | .hbm, ⟨24, _⟩ => ⟨S3x256x1, .i32⟩
  | .hbm, ⟨25, _⟩ => ⟨S3x256x1, .i32⟩
  | .hbm, ⟨26, _⟩ => ⟨S_, .i32⟩
  | .hbm, ⟨27, _⟩ => ⟨S3x256x1, .i32⟩
  | .hbm, ⟨28, _⟩ => ⟨S3x256x1, .i1⟩
  | .hbm, ⟨29, _⟩ => ⟨S3x256x1, .i1⟩
  | .hbm, ⟨30, _⟩ => ⟨S_, .i32⟩
  | .hbm, ⟨31, _⟩ => ⟨S3x256x1, .i32⟩
  | .hbm, ⟨32, _⟩ => ⟨S3x256x1, .i32⟩
  | .hbm, ⟨33, _⟩ => ⟨S3x256x1, .i32⟩
  | .hbm, ⟨34, _⟩ => ⟨S_, .i32⟩
  | .hbm, ⟨35, _⟩ => ⟨S_, .i32⟩
  | .hbm, ⟨36, _⟩ => ⟨S1x1x768, .i32⟩
  | .hbm, ⟨37, _⟩ => ⟨S1x1x768, .i32⟩
  | .hbm, ⟨38, _⟩ => ⟨S1x1x768, .i32⟩
  | .hbm, ⟨39, _⟩ => ⟨S_, .i32⟩
  | .hbm, ⟨40, _⟩ => ⟨S1x1x768, .i32⟩
  | .hbm, ⟨41, _⟩ => ⟨S1x1x768, .i1⟩
  | .hbm, ⟨42, _⟩ => ⟨S1x1x768, .i32⟩
  | .hbm, ⟨43, _⟩ => ⟨S1x1x768, .i32⟩
  | .hbm, ⟨44, _⟩ => ⟨S_, .i32⟩
  | .hbm, ⟨45, _⟩ => ⟨S1x1x768, .i32⟩
  | .hbm, ⟨46, _⟩ => ⟨S1x1x768, .i1⟩
  | .hbm, ⟨47, _⟩ => ⟨S1x1x768, .i1⟩
  | .hbm, ⟨48, _⟩ => ⟨S_, .i32⟩
  | .hbm, ⟨49, _⟩ => ⟨S1x1x768, .i32⟩
  | .hbm, ⟨50, _⟩ => ⟨S1x1x768, .i32⟩
  | .hbm, ⟨51, _⟩ => ⟨S1x1x768, .i32⟩
  | .hbm, ⟨52, _⟩ => ⟨S3x256x768, .i32⟩
  | .hbm, ⟨53, _⟩ => ⟨S3x256x768, .i32⟩
  | .hbm, ⟨54, _⟩ => ⟨S3x256x768, .i1⟩
  | .hbm, ⟨55, _⟩ => ⟨S_, .i32⟩
  | .hbm, ⟨56, _⟩ => ⟨S3x256x1, .i32⟩
  | .hbm, ⟨57, _⟩ => ⟨S3x256x1, .i32⟩
  | .hbm, ⟨58, _⟩ => ⟨S3x256x768, .i32⟩
  | .hbm, ⟨59, _⟩ => ⟨S3x256x768, .i32⟩
  | .hbm, ⟨60, _⟩ => ⟨S3x256x768, .i1⟩
  | .hbm, ⟨61, _⟩ => ⟨S3x256x768, .i1⟩
  | .hbm, ⟨62, _⟩ => ⟨S1024, .i32⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S_, .i32⟩
  | .hbm, ⟨67, _⟩ => ⟨S1024, .i32⟩
  | .hbm, ⟨68, _⟩ => ⟨S1024, .i32⟩
  | .hbm, ⟨69, _⟩ => ⟨S1024, .i32⟩
  | .hbm, ⟨70, _⟩ => ⟨S3x1, .i32⟩
  | .hbm, ⟨71, _⟩ => ⟨S_, .i32⟩
  | .hbm, ⟨72, _⟩ => ⟨S3x1, .i32⟩
  | .hbm, ⟨73, _⟩ => ⟨S3x1, .i32⟩
  | .hbm, ⟨74, _⟩ => ⟨S1x1024, .i32⟩
  | .hbm, ⟨75, _⟩ => ⟨S3x1024, .i32⟩
  | .hbm, ⟨76, _⟩ => ⟨S3x1024, .i32⟩
  | .hbm, ⟨77, _⟩ => ⟨S3x1024, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S3x1024, .i32⟩
  | .hbm, ⟨82, _⟩ => ⟨S3x1024, .i32⟩
  | .hbm, ⟨83, _⟩ => ⟨S_, .i32⟩
  | .hbm, ⟨84, _⟩ => ⟨S3x1024, .i32⟩
  | .hbm, ⟨85, _⟩ => ⟨S3x1024, .i32⟩
  | .hbm, ⟨86, _⟩ => ⟨S_, .i32⟩
  | .hbm, ⟨87, _⟩ => ⟨S3x1024, .i32⟩
  | .hbm, ⟨88, _⟩ => ⟨S3x1024, .i32⟩
  | .hbm, ⟨89, _⟩ => ⟨S_, .i32⟩
  | .hbm, ⟨90, _⟩ => ⟨S3x1024, .i32⟩
  | .hbm, ⟨91, _⟩ => ⟨S3x1024, .i1⟩
  | .hbm, ⟨92, _⟩ => ⟨S_, .i32⟩
  | .hbm, ⟨93, _⟩ => ⟨S3x1024, .i32⟩
  | .hbm, ⟨94, _⟩ => ⟨S3x1024, .i32⟩
  | .hbm, ⟨95, _⟩ => ⟨S3x1024, .i32⟩
  | .hbm, ⟨96, _⟩ => ⟨S3x1024x1, .i32⟩
  | .hbm, ⟨97, _⟩ => ⟨S12x3x1024, .f32⟩
  | .hbm, ⟨98, _⟩ => ⟨S1x12x1x3x1x1024, .f32⟩
  | .hbm, ⟨99, _⟩ => ⟨S1x12x1x3x256x1024, .f32⟩
  | .hbm, ⟨100, _⟩ => ⟨S12x3x262144, .f32⟩
  | .hbm, ⟨101, _⟩ => ⟨S12x3x261888, .f32⟩
  | .hbm, ⟨102, _⟩ => ⟨S12x3x256x1023, .f32⟩
  | .hbm, ⟨103, _⟩ => ⟨S12x3x256x768, .f32⟩
  | .hbm, ⟨104, _⟩ => ⟨S1x3x256x768, .i1⟩
  | .hbm, ⟨105, _⟩ => ⟨S_, .f32⟩
  | .hbm, ⟨106, _⟩ => ⟨S_, .f32⟩
  | .hbm, ⟨107, _⟩ => ⟨S12x3x256x768, .i1⟩
  | .hbm, ⟨108, _⟩ => ⟨S12x3x256x768, .f32⟩
  | .hbm, ⟨109, _⟩ => ⟨S12x3x256x768, .f32⟩
  | .hbm, ⟨110, _⟩ => ⟨S3x12x256x768, .f32⟩
  | .hbm, ⟨111, _⟩ => ⟨S1x128, .f32⟩
  | .hbm, ⟨112, _⟩ => ⟨S1x128, .f32⟩
  | .hbm, ⟨113, _⟩ => ⟨S8192x1536, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x1x256x768, .f32⟩
  | .local _ .vmem, ⟨7, _⟩ => ⟨S3x1x256x768, .f32⟩
  | .local _ .vmem, ⟨8, _⟩ => ⟨S1x128, .f32⟩
  | .local _ .vmem, ⟨9, _⟩ => ⟨S1x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | _, _ => ⟨S8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_2 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_3 : Ref sig .tc := ⟨.hbm, 63, rfl⟩
abbrev main_v23 : Ref sig .tc := ⟨.hbm, 64, rfl⟩
abbrev main_v24 : Ref sig .tc := ⟨.hbm, 65, rfl⟩
abbrev main_c_4 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_c_5 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c_6 : Ref sig .tc := ⟨.hbm, 78, rfl⟩
abbrev main_c_7 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v35 : Ref sig .tc := ⟨.hbm, 85, rfl⟩
abbrev main_c_8 : Ref sig .tc := ⟨.hbm, 86, rfl⟩
abbrev main_v36 : Ref sig .tc := ⟨.hbm, 87, rfl⟩
abbrev main_v37 : Ref sig .tc := ⟨.hbm, 88, rfl⟩
abbrev main_c_9 : Ref sig .tc := ⟨.hbm, 89, rfl⟩
abbrev main_v38 : Ref sig .tc := ⟨.hbm, 90, rfl⟩
abbrev main_v39 : Ref sig .tc := ⟨.hbm, 91, rfl⟩
abbrev main_c_10 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![12, 2], ![false, false]⟩

@[reducible] def k0_t1_loop : Scf.Loop 32 :=
  let c0_i32 : BitVec 32 := 0#32
  let c16_i32 : BitVec 32 := 16#32
  let v20 : BitVec 32 := Scalar.addi c0_i32 c16_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v21 : BitVec 32 := Scalar.muli arg10 c256_i32
  v21
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c2_i32 : BitVec 32 := 2#32
  let v23 : BitVec 32 := Scalar.subi arg10 c2_i32
  let c0_i32_8 : BitVec 32 := 0#32
  let v24 : BitVec 32 := Scalar.maxsi v23 c0_i32_8
  let c256_i32_9 : BitVec 32 := 256#32
  let v25 : BitVec 32 := Scalar.muli v24 c256_i32_9
  v25
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v21 : BitVec 32 := Scalar.muli arg10 c256_i32
  let v22 : BitVec 32 := v21
  let v27 : Index := Scalar.indexCast v22
  let c0_10 : Index := 0#32
  ![v27.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c2_i32 : BitVec 32 := 2#32
  let v23 : BitVec 32 := Scalar.subi arg10 c2_i32
  let c0_i32_8 : BitVec 32 := 0#32
  let v24 : BitVec 32 := Scalar.maxsi v23 c0_i32_8
  let c256_i32_9 : BitVec 32 := 256#32
  let v25 : BitVec 32 := Scalar.muli v24 c256_i32_9
  let v26 : BitVec 32 := v25
  let v47 : Index := Scalar.indexCast v26
  let c0_17 : Index := 0#32
  ![v47.toNat, 0]
def k0_off3 (k0_t1 : Fin k0_t1_loop.trips) : Fin 4 → Nat :=
  let c0_i32 : BitVec 32 := 0#32
  let c1_i32 : BitVec 32 := 1#32
  let arg10 : BitVec 32 := Scf.iv c0_i32 c1_i32 k0_t1
  let c2_i32_19 : BitVec 32 := 2#32
  let v50 : BitVec 32 := Scalar.minsi arg10 c2_i32_19
  let v51 : Index := Scalar.indexCast v50
  let c0_20 : Index := 0#32
  let c0_21 : Index := 0#32
  let c0_22 : Index := 0#32
  ![v51.toNat, 0, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((Real.log 2)⁻¹ * (Real.sqrt 128)⁻¹ : ℝ) : EReal)
  | _ => none
-- ==== ReferenceIdeal.lean ====
abbrev S8192x22528 : Shape := ⟨2, ![8192, 22528]⟩
abbrev S128 : Shape := ⟨1, ![128]⟩
abbrev S12x257 : Shape := ⟨2, ![12, 257]⟩
abbrev S2x4096x22528 : Shape := ⟨3, ![2, 4096, 22528]⟩
abbrev S2x4096x1536 : Shape := ⟨3, ![2, 4096, 1536]⟩
abbrev S2x4096x12x128 : Shape := ⟨4, ![2, 4096, 12, 128]⟩
abbrev S_ : Shape := ⟨0, ![]⟩
abbrev S2x4096x12 : Shape := ⟨3, ![2, 4096, 12]⟩
abbrev S2x4096x12x1 : Shape := ⟨4, ![2, 4096, 12, 1]⟩
abbrev S1x1x1x128 : Shape := ⟨4, ![1, 1, 1, 128]⟩
abbrev S2x4608x12x128 : Shape := ⟨4, ![2, 4608, 12, 128]⟩
abbrev S2x72x64x12x128 : Shape := ⟨5, ![2, 72, 64, 12, 128]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S2x64x9x64x12x128 : Shape := ⟨6, ![2, 64, 9, 64, 12, 128]⟩
abbrev S2x64x576x12x128 : Shape := ⟨5, ![2, 64, 576, 12, 128]⟩
abbrev S2x64x64x12x128 : Shape := ⟨5, ![2, 64, 64, 12, 128]⟩
abbrev S2x12x64x64x576 : Shape := ⟨5, ![2, 12, 64, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S12x64x576 : Shape := ⟨3, ![12, 64, 576]⟩
abbrev S1x12x1x64x576 : Shape := ⟨5, ![1, 12, 1, 64, 576]⟩
abbrev S1x1x64x1x576 : Shape := ⟨5, ![1, 1, 64, 1, 576]⟩
abbrev S2x12x64x64 : Shape := ⟨4, ![2, 12, 64, 64]⟩
abbrev S2x12x64x64x1 : Shape := ⟨5, ![2, 12, 64, 64, 1]⟩
abbrev S2x64x12x128x64 : Shape := ⟨5, ![2, 64, 12, 128, 64]⟩
abbrev S8192x1536 : Shape := ⟨2, ![8192, 1536]⟩

abbrev nBuf : Space → Nat
  | .hbm => 158
  | .vmem => 0
  | .smem => 0
  | _ => 0

abbrev hbmTy0_0 (i : Nat) : BufTy := match i % 128 with
  | 0 => ⟨S8192x22528, .bf16⟩
  | 1 => ⟨S128, .f32⟩
  | 2 => ⟨S128, .f32⟩
  | 3 => ⟨S12x257, .f32⟩
  | 4 => ⟨S8192x22528, .f32⟩
  | 5 => ⟨S2x4096x22528, .f32⟩
  | 6 => ⟨S2x4096x1536, .f32⟩
  | 7 => ⟨S2x4096x12x128, .f32⟩
  | 8 => ⟨S2x4096x1536, .f32⟩
  | 9 => ⟨S2x4096x12x128, .f32⟩
  | 10 => ⟨S2x4096x1536, .f32⟩
  | 11 => ⟨S2x4096x12x128, .f32⟩
  | 12 => ⟨S2x4096x12x128, .f32⟩
  | 13 => ⟨S_, .f32⟩
  | 14 => ⟨S2x4096x12, .f32⟩
  | 15 => ⟨S2x4096x12x1, .f32⟩
  | 16 => ⟨S_, .f32⟩
  | 17 => ⟨S2x4096x12x1, .f32⟩
  | 18 => ⟨S2x4096x12x1, .f32⟩
  | 19 => ⟨S_, .f32⟩
  | 20 => ⟨S2x4096x12x1, .f32⟩
  | 21 => ⟨S2x4096x12x1, .f32⟩
  | 22 => ⟨S2x4096x12x1, .f32⟩
  | 23 => ⟨S2x4096x12x128, .f32⟩
  | 24 => ⟨S2x4096x12x128, .f32⟩
  | 25 => ⟨S1x1x1x128, .f32⟩
  | 26 => ⟨S2x4096x12x128, .f32⟩
  | 27 => ⟨S2x4096x12x128, .f32⟩
  | 28 => ⟨S_, .f32⟩
  | 29 => ⟨S_, .f32⟩
  | 30 => ⟨S2x4096x12x128, .f32⟩
  | 31 => ⟨S2x4096x12x128, .f32⟩
  | 32 => ⟨S2x4096x12x128, .f32⟩
  | 33 => ⟨S_, .f32⟩
  | 34 => ⟨S2x4096x12, .f32⟩
  | 35 => ⟨S2x4096x12x1, .f32⟩
  | 36 => ⟨S_, .f32⟩
  | 37 => ⟨S2x4096x12x1, .f32⟩
  | 38 => ⟨S2x4096x12x1, .f32⟩
  | 39 => ⟨S_, .f32⟩
  | 40 => ⟨S2x4096x12x1, .f32⟩
  | 41 => ⟨S2x4096x12x1, .f32⟩
  | 42 => ⟨S2x4096x12x1, .f32⟩
  | 43 => ⟨S2x4096x12x128, .f32⟩
  | 44 => ⟨S2x4096x12x128, .f32⟩
  | 45 => ⟨S1x1x1x128, .f32⟩
  | 46 => ⟨S2x4096x12x128, .f32⟩
  | 47 => ⟨S2x4096x12x128, .f32⟩
  | 48 => ⟨S_, .i32⟩
  | 49 => ⟨S_, .f32⟩
  | 50 => ⟨S2x4608x12x128, .f32⟩
  | 51 => ⟨S2x72x64x12x128, .f32⟩
  | 52 => ⟨S_, .i32⟩
  | 53 => ⟨S_, .f32⟩
  | 54 => ⟨S2x4608x12x128, .f32⟩
  | 55 => ⟨S2x72x64x12x128, .f32⟩
  | 56 => ⟨S64, .i32⟩
  | 57 => ⟨S64x1, .i32⟩
  | 58 => ⟨S9, .i32⟩
  | 59 => ⟨S1x9, .i32⟩
  | 60 => ⟨S64x9, .i32⟩
  | 61 => ⟨S64x9, .i32⟩
  | 62 => ⟨S64x9, .i32⟩
  | 63 => ⟨S_, .i32⟩
  | 64 => ⟨S64x9, .i32⟩
  | 65 => ⟨S64x9, .i1⟩
  | 66 => ⟨S_, .i32⟩
  | 67 => ⟨S64x9, .i32⟩
  | 68 => ⟨S64x9, .i32⟩
  | 69 => ⟨S64x9, .i32⟩
  | 70 => ⟨S64x9x1, .i32⟩
  | 71 => ⟨S2x64x9x64x12x128, .f32⟩
  | 72 => ⟨S2x64x576x12x128, .f32⟩
  | 73 => ⟨S_, .i32⟩
  | 74 => ⟨S64x9, .i32⟩
  | 75 => ⟨S64x9, .i1⟩
  | 76 => ⟨S_, .i32⟩
  | 77 => ⟨S64x9, .i32⟩
  | 78 => ⟨S64x9, .i32⟩
  | 79 => ⟨S64x9, .i32⟩
  | 80 => ⟨S64x9x1, .i32⟩
  | 81 => ⟨S2x64x9x64x12x128, .f32⟩
  | 82 => ⟨S2x64x576x12x128, .f32⟩
  | 83 => ⟨S2x64x64x12x128, .f32⟩
  | 84 => ⟨S2x12x64x64x576, .f32⟩
  | 85 => ⟨S64, .i32⟩
  | 86 => ⟨S64x1, .i32⟩
  | 87 => ⟨S_, .i32⟩
  | 88 => ⟨S64x1, .i32⟩
  | 89 => ⟨S64x1, .i32⟩
  | 90 => ⟨S576, .i32⟩
  | 91 => ⟨S1x576, .i32⟩
  | 92 => ⟨S64x576, .i32⟩
  | 93 => ⟨S64x576, .i32⟩
  | 94 => ⟨S64x576, .i32⟩
  | 95 => ⟨S_, .i32⟩
  | 96 => ⟨S_, .i32⟩
  | 97 => ⟨S_, .i32⟩
  | 98 => ⟨S64x576, .i32⟩
  | 99 => ⟨S64x576, .i32⟩
  | 100 => ⟨S_, .i32⟩
  | 101 => ⟨S64x576, .i32⟩
  | 102 => ⟨S64x576, .i32⟩
  | 103 => ⟨S_, .i32⟩
  | 104 => ⟨S64x576, .i32⟩
  | 105 => ⟨S64x576, .i32⟩
  | 106 => ⟨S_, .i32⟩
  | 107 => ⟨S64x576, .i32⟩
  | 108 => ⟨S64x576, .i1⟩
  | 109 => ⟨S_, .i32⟩
  | 110 => ⟨S64x576, .i32⟩
  | 111 => ⟨S64x576, .i32⟩
  | 112 => ⟨S64x576, .i32⟩
  | 113 => ⟨S64x576x1, .i32⟩
  | 114 => ⟨S12x64x576, .f32⟩
  | 115 => ⟨S64, .i32⟩
  | 116 => ⟨S64x1, .i32⟩
  | 117 => ⟨S_, .i32⟩
  | 118 => ⟨S64x1, .i32⟩
  | 119 => ⟨S64x1, .i32⟩
  | 120 => ⟨S_, .i32⟩
  | 121 => ⟨S64x1, .i32⟩
  | 122 => ⟨S64x1, .i32⟩
  | 123 => ⟨S576, .i32⟩
  | 124 => ⟨S1x576, .i32⟩
  | 125 => ⟨S64x576, .i32⟩
  | 126 => ⟨S64x576, .i32⟩
  | 127 => ⟨S64x576, .i32⟩
  | _ => ⟨S8192x22528, .bf16⟩

abbrev hbmTy0_1 (i : Nat) : BufTy := match i % 128 with
  | 0 => ⟨S_, .i32⟩
  | 1 => ⟨S64x576, .i32⟩
  | 2 => ⟨S64x576, .i1⟩
  | 3 => ⟨S1x12x1x64x576, .f32⟩
  | 4 => ⟨S2x12x64x64x576, .f32⟩
  | 5 => ⟨S2x12x64x64x576, .f32⟩
  | 6 => ⟨S1x1x64x1x576, .i1⟩
  | 7 => ⟨S_, .f32⟩
  | 8 => ⟨S_, .f32⟩
  | 9 => ⟨S2x12x64x64x576, .i1⟩
  | 10 => ⟨S2x12x64x64x576, .f32⟩
  | 11 => ⟨S2x12x64x64x576, .f32⟩
  | 12 => ⟨S_, .f32⟩
  | 13 => ⟨S2x12x64x64, .f32⟩
  | 14 => ⟨S_, .f32⟩
  | 15 => ⟨S2x12x64x64, .f32⟩
  | 16 => ⟨S2x12x64x64, .f32⟩
  | 17 => ⟨S2x12x64x64x1, .f32⟩
  | 18 => ⟨S2x12x64x64x576, .f32⟩
  | 19 => ⟨S2x12x64x64x576, .f32⟩
  | 20 => ⟨S2x12x64x64x576, .f32⟩
  | 21 => ⟨S_, .f32⟩
  | 22 => ⟨S2x12x64x64, .f32⟩
  | 23 => ⟨S2x12x64x64x1, .f32⟩
  | 24 => ⟨S2x12x64x64x576, .f32⟩
  | 25 => ⟨S2x12x64x64x576, .f32⟩
  | 26 => ⟨S2x64x12x128x64, .f32⟩
  | 27 => ⟨S2x64x64x12x128, .f32⟩
  | 28 => ⟨S8192x1536, .f32⟩
  | 29 => ⟨S8192x1536, .bf16⟩
  | _ => ⟨S8192x22528, .bf16⟩

abbrev hbmTy (i : Nat) : BufTy := match i / 128 with
  | 0 => hbmTy0_0 i
  | 1 => hbmTy0_1 i
  | _ => ⟨S8192x22528, .bf16⟩

abbrev bufTy : (tb : Table) → Fin (tcTables nBuf tb) → BufTy
  | .hbm, ⟨i, _⟩ => hbmTy i
  | _, _ => ⟨S8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call0_v0 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_call1_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_7 : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_9 : Ref sig .tc := ⟨.hbm, 73, rfl⟩
abbrev main_v56 : Ref sig .tc := ⟨.hbm, 74, rfl⟩
abbrev main_v57 : Ref sig .tc := ⟨.hbm, 75, rfl⟩
abbrev main_c_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_11 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_12 : Ref sig .tc := ⟨.hbm, 95, rfl⟩
abbrev main_c_13 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_17 : Ref sig .tc := ⟨.hbm, 117, rfl⟩
abbrev main_v87 : Ref sig .tc := ⟨.hbm, 118, rfl⟩
abbrev main_v88 : Ref sig .tc := ⟨.hbm, 119, rfl⟩
abbrev main_c_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_19 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_20 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_cst_22 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_23 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩

abbrev nD : Nat := 1
abbrev τ : Topo := Topo.v7x

variable {F : FTy → Type} [FloatOps F]
-- ==== InKernel.lean ====
abbrev S8192x4096 : Shape := ⟨2, ![8192, 4096]⟩
abbrev S2x4096x22528 : Shape := ⟨3, ![2, 4096, 22528]⟩
abbrev S8192x22528 : Shape := ⟨2, ![8192, 22528]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2x4096x22528, .f32⟩
  | .hbm, ⟨2, _⟩ => ⟨S8192x22528, .bf16⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .bf16⟩
  | .local _ .vmem, ⟨4, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8192x4096 : Shape := ⟨2, ![8192, 4096]⟩
abbrev S2x4096x22528 : Shape := ⟨3, ![2, 4096, 22528]⟩
abbrev S1x4096x22528 : Shape := ⟨3, ![1, 4096, 22528]⟩
abbrev S4096x22528 : Shape := ⟨2, ![4096, 22528]⟩
abbrev S8192x22528 : Shape := ⟨2, ![8192, 22528]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22528, .f32⟩
  | .hbm, ⟨2, _⟩ => ⟨S8192x4096, .f32⟩
  | .hbm, ⟨3, _⟩ => ⟨S1x4096x22528, .f32⟩
  | .hbm, ⟨4, _⟩ => ⟨S4096x22528, .f32⟩
  | .hbm, ⟨5, _⟩ => ⟨S8192x22528, .f32⟩
  | .hbm, ⟨6, _⟩ => ⟨S8192x22528, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Ff1Kernel.lean ====
abbrev S8192x4096 : Shape := ⟨2, ![8192, 4096]⟩
abbrev S2x4096x16384 : Shape := ⟨3, ![2, 4096, 16384]⟩
abbrev S8192x16384 : Shape := ⟨2, ![8192, 16384]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S8192x16384, .bf16⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .bf16⟩
  | .local _ .vmem, ⟨4, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1ReferenceIdeal.lean ====
abbrev S8192x4096 : Shape := ⟨2, ![8192, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16384, .f32⟩
  | .hbm, ⟨2, _⟩ => ⟨S8192x4096, .f32⟩
  | .hbm, ⟨3, _⟩ => ⟨S1x4096x16384, .f32⟩
  | .hbm, ⟨4, _⟩ => ⟨S4096x16384, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ff2Kernel.lean ====
abbrev S8192x4096 : Shape := ⟨2, ![8192, 4096]⟩
abbrev S8192x16384 : Shape := ⟨2, ![8192, 16384]⟩
abbrev S2x16384x4096 : Shape := ⟨3, ![2, 16384, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x16384, .bf16⟩
  | .hbm, ⟨2, _⟩ => ⟨S2x16384x4096, .f32⟩
  | .hbm, ⟨3, _⟩ => ⟨S2x16384x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2ReferenceIdeal.lean ====
abbrev S8192x4096 : Shape := ⟨2, ![8192, 4096]⟩
abbrev S8192x16384 : Shape := ⟨2, ![8192, 16384]⟩
abbrev S2x16384x4096 : Shape := ⟨3, ![2, 16384, 4096]⟩
abbrev S1x16384x4096 : Shape := ⟨3, ![1, 16384, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x16384, .bf16⟩
  | .hbm, ⟨2, _⟩ => ⟨S2x16384x4096, .f32⟩
  | .hbm, ⟨3, _⟩ => ⟨S8192x16384, .f32⟩
  | .hbm, ⟨4, _⟩ => ⟨S1x16384x4096, .f32⟩
  | .hbm, ⟨5, _⟩ => ⟨S16384x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutKernel.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S2x4096x4096, .f32⟩
  | .hbm, ⟨3, _⟩ => ⟨S2x4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S2x4096x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MergeKernel.lean ====
abbrev S8192x22528 : Shape := ⟨2, ![8192, 22528]⟩
abbrev S8192x1024 : Shape := ⟨2, ![8192, 1024]⟩
abbrev S8192x1536 : Shape := ⟨2, ![8192, 1536]⟩
abbrev S2x1024x4096 : Shape := ⟨3, ![2, 1024, 4096]⟩
abbrev S2x1536x4096 : Shape := ⟨3, ![2, 1536, 4096]⟩
abbrev S8192x4096 : Shape := ⟨2, ![8192, 4096]⟩
abbrev S1024x1024 : Shape := ⟨2, ![1024, 1024]⟩
abbrev S1024x1536 : Shape := ⟨2, ![1024, 1536]⟩
abbrev S1x1024x1024 : Shape := ⟨3, ![1, 1024, 1024]⟩
abbrev S1x1536x1024 : Shape := ⟨3, ![1, 1536, 1024]⟩
abbrev S1536x1024 : Shape := ⟨2, ![1536, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x22528, .bf16⟩
  | .hbm, ⟨1, _⟩ => ⟨S8192x1024, .bf16⟩
  | .hbm, ⟨2, _⟩ => ⟨S8192x1536, .bf16⟩
  | .hbm, ⟨3, _⟩ => ⟨S8192x1536, .bf16⟩
  | .hbm, ⟨4, _⟩ => ⟨S2x1024x4096, .f32⟩
  | .hbm, ⟨5, _⟩ => ⟨S2x1536x4096, .f32⟩
  | .hbm, ⟨6, _⟩ => ⟨S2x1536x4096, .f32⟩
  | .hbm, ⟨7, _⟩ => ⟨S2x1024x4096, .bf16⟩
  | .hbm, ⟨8, _⟩ => ⟨S2x1536x4096, .bf16⟩
  | .hbm, ⟨9, _⟩ => ⟨S2x1536x4096, .bf16⟩
  | .hbm, ⟨10, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1536x1024, .bf16⟩
  | .local _ .vmem, ⟨9, _⟩ => ⟨S1x1536x1024, .bf16⟩
  | .local _ .vmem, ⟨10, _⟩ => ⟨S1x1536x1024, .bf16⟩
  | .local _ .vmem, ⟨11, _⟩ => ⟨S1x1536x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1536x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S8192x22528 : Shape := ⟨2, ![8192, 22528]⟩
abbrev S8192x1024 : Shape := ⟨2, ![8192, 1024]⟩
abbrev S8192x1536 : Shape := ⟨2, ![8192, 1536]⟩
abbrev S2x1024x4096 : Shape := ⟨3, ![2, 1024, 4096]⟩
abbrev S2x1536x4096 : Shape := ⟨3, ![2, 1536, 4096]⟩
abbrev S8192x12288 : Shape := ⟨2, ![8192, 12288]⟩
abbrev S2x4096x3x4096 : Shape := ⟨4, ![2, 4096, 3, 4096]⟩
abbrev S_ : Shape := ⟨0, ![]⟩
abbrev S2x4096x1024 : Shape := ⟨3, ![2, 4096, 1024]⟩
abbrev S2x4096x1536 : Shape := ⟨3, ![2, 4096, 1536]⟩
abbrev S2x4096x1x4096 : Shape := ⟨4, ![2, 4096, 1, 4096]⟩
abbrev S2x4096x4096 : Shape := ⟨3, ![2, 4096, 4096]⟩
abbrev S1x1024x4096 : Shape := ⟨3, ![1, 1024, 4096]⟩
abbrev S1024x4096 : Shape := ⟨2, ![1024, 4096]⟩
abbrev S1x1536x4096 : Shape := ⟨3, ![1, 1536, 4096]⟩
abbrev S1536x4096 : Shape := ⟨2, ![1536, 4096]⟩
abbrev S8192x4096 : Shape := ⟨2, ![8192, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8192x22528, .bf16⟩
  | .hbm, ⟨1, _⟩ => ⟨S8192x1024, .bf16⟩
  | .hbm, ⟨2, _⟩ => ⟨S8192x1536, .bf16⟩
  | .hbm, ⟨3, _⟩ => ⟨S8192x1536, .bf16⟩
  | .hbm, ⟨4, _⟩ => ⟨S2x1024x4096, .f32⟩
  | .hbm, ⟨5, _⟩ => ⟨S2x1536x4096, .f32⟩
  | .hbm, ⟨6, _⟩ => ⟨S2x1536x4096, .f32⟩
  | .hbm, ⟨7, _⟩ => ⟨S8192x12288, .bf16⟩
  | .hbm, ⟨8, _⟩ => ⟨S8192x12288, .f32⟩
  | .hbm, ⟨9, _⟩ => ⟨S2x4096x3x4096, .f32⟩
  | .hbm, ⟨10, _⟩ => ⟨S2x4096x3x4096, .f32⟩
  | .hbm, ⟨11, _⟩ => ⟨S2x4096x3x4096, .f32⟩
  | .hbm, ⟨12, _⟩ => ⟨S_, .f32⟩
  | .hbm, ⟨13, _⟩ => ⟨S2x4096x3x4096, .f32⟩
  | .hbm, ⟨14, _⟩ => ⟨S2x4096x3x4096, .f32⟩
  | .hbm, ⟨15, _⟩ => ⟨S_, .f32⟩
  | .hbm, ⟨16, _⟩ => ⟨S2x4096x3x4096, .f32⟩
  | .hbm, ⟨17, _⟩ => ⟨S2x4096x3x4096, .f32⟩
  | .hbm, ⟨18, _⟩ => ⟨S8192x1024, .f32⟩
  | .hbm, ⟨19, _⟩ => ⟨S2x4096x1024, .f32⟩
  | .hbm, ⟨20, _⟩ => ⟨S8192x1536, .f32⟩
  | .hbm, ⟨21, _⟩ => ⟨S2x4096x1536, .f32⟩
  | .hbm, ⟨22, _⟩ => ⟨S8192x1536, .f32⟩
  | .hbm, ⟨23, _⟩ => ⟨S2x4096x1536, .f32⟩
  | .hbm, ⟨24, _⟩ => ⟨S2x4096x1x4096, .f32⟩
  | .hbm, ⟨25, _⟩ => ⟨S2x4096x4096, .f32⟩
  | .hbm, ⟨26, _⟩ => ⟨S1x1024x4096, .f32⟩
  | .hbm, ⟨27, _⟩ => ⟨S1024x4096, .f32⟩
  | .hbm, ⟨28, _⟩ => ⟨S2x4096x4096, .f32⟩
  | .hbm, ⟨29, _⟩ => ⟨S2x4096x4096, .f32⟩
  | .hbm, ⟨30, _⟩ => ⟨S2x4096x1x4096, .f32⟩
  | .hbm, ⟨31, _⟩ => ⟨S2x4096x4096, .f32⟩
  | .hbm, ⟨32, _⟩ => ⟨S1x1536x4096, .f32⟩
  | .hbm, ⟨33, _⟩ => ⟨S1536x4096, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S2x4096x1x4096, .f32⟩
  | .hbm, ⟨38, _⟩ => ⟨S2x4096x4096, .f32⟩
  | .hbm, ⟨39, _⟩ => ⟨S1x1536x4096, .f32⟩
  | .hbm, ⟨40, _⟩ => ⟨S1536x4096, .f32⟩
  | .hbm, ⟨41, _⟩ => ⟨S2x4096x4096, .f32⟩
  | .hbm, ⟨42, _⟩ => ⟨S2x4096x4096, .f32⟩
  | .hbm, ⟨43, _⟩ => ⟨S2x4096x4096, .f32⟩
  | .hbm, ⟨44, _⟩ => ⟨S8192x4096, .f32⟩
  | .hbm, ⟨45, _⟩ => ⟨S8192x4096, .bf16⟩
  | _, _ => ⟨S8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== NormKernel.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GluKernel.lean ====
abbrev S8192x1024 : Shape := ⟨2, ![8192, 1024]⟩
abbrev S8192x22528 : Shape := ⟨2, ![8192, 22528]⟩
abbrev S1024 : Shape := ⟨1, ![1024]⟩
abbrev S2x1024x1024 : Shape := ⟨3, ![2, 1024, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x22528, .bf16⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S2x1024x1024, .bf16⟩
  | .hbm, ⟨6, _⟩ => ⟨S1x1024, .f32⟩
  | .hbm, ⟨7, _⟩ => ⟨S1x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluReferenceIdeal.lean ====
abbrev S8192x1024 : Shape := ⟨2, ![8192, 1024]⟩
abbrev S8192x22528 : Shape := ⟨2, ![8192, 22528]⟩
abbrev S1024 : Shape := ⟨1, ![1024]⟩
abbrev S2x1024x1024 : Shape := ⟨3, ![2, 1024, 1024]⟩
abbrev S1x1024 : Shape := ⟨2, ![1, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x22528, .bf16⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S8192x1024, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024x1024, .f32⟩
  | .hbm, ⟨29, _⟩ => ⟨S1024x1024, .f32⟩
  | .hbm, ⟨30, _⟩ => ⟨S8192x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== DiffKernel.lean ====
abbrev S8192x22528 : Shape := ⟨2, ![8192, 22528]⟩
abbrev S128 : Shape := ⟨1, ![128]⟩
abbrev S256 : Shape := ⟨1, ![256]⟩
abbrev S1x128 : Shape := ⟨2, ![1, 128]⟩
abbrev S4x128 : Shape := ⟨2, ![4, 128]⟩
abbrev S6 : Shape := ⟨1, ![6]⟩
abbrev S_ : Shape := ⟨0, ![]⟩
abbrev S6x1x1 : Shape := ⟨3, ![6, 1, 1]⟩
abbrev S6x1x128 : Shape := ⟨3, ![6, 1, 128]⟩
abbrev S1x256 : Shape := ⟨2, ![1, 256]⟩
abbrev S8192x1536 : Shape := ⟨2, ![8192, 1536]⟩
abbrev S4096x128 : Shape := ⟨2, ![4096, 128]⟩
abbrev S4096x256 : Shape := ⟨2, ![4096, 256]⟩
abbrev S1x1x128 : Shape := ⟨3, ![1, 1, 128]⟩
abbrev S2x4096x256 : Shape := ⟨3, ![2, 4096, 256]⟩
abbrev S1x1x1 : Shape := ⟨3, ![1, 1, 1]⟩
abbrev S1x1 : Shape := ⟨2, ![1, 1]⟩
abbrev S1 : Shape := ⟨1, ![1]⟩
abbrev S4096x1 : Shape := ⟨2, ![4096, 1]⟩
abbrev S4096 : Shape := ⟨1, ![4096]⟩
abbrev S1x4096x128 : Shape := ⟨3, ![1, 4096, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩

abbrev nBuf : Space → Nat
  | .hbm => 32
  | .vmem => 19
  | .smem => 0
  | _ => 0

abbrev bufTy : (tb : Table) → Fin (tcTables nBuf tb) → BufTy
  | .hbm, ⟨0, _⟩ => ⟨S8192x22528, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S4x128, .f32⟩
  | .hbm, ⟨13, _⟩ => ⟨S6, .f32⟩
  | .hbm, ⟨14, _⟩ => ⟨S_, .f32⟩
  | .hbm, ⟨15, _⟩ => ⟨S6, .f32⟩
  | .hbm, ⟨16, _⟩ => ⟨S6, .f32⟩
  | .hbm, ⟨17, _⟩ => ⟨S_, .f32⟩
  | .hbm, ⟨18, _⟩ => ⟨S6, .f32⟩
  | .hbm, ⟨19, _⟩ => ⟨S6, .f32⟩
  | .hbm, ⟨20, _⟩ => ⟨S_, .f32⟩
  | .hbm, ⟨21, _⟩ => ⟨S6, .f32⟩
  | .hbm, ⟨22, _⟩ => ⟨S6, .f32⟩
  | .hbm, ⟨23, _⟩ => ⟨S_, .f32⟩
  | .hbm, ⟨24, _⟩ => ⟨S6, .f32⟩
  | .hbm, ⟨25, _⟩ => ⟨S6, .f32⟩
  | .hbm, ⟨26, _⟩ => ⟨S6x1x1, .f32⟩
  | .hbm, ⟨27, _⟩ => ⟨S6x1x128, .f32⟩
  | .hbm, ⟨28, _⟩ => ⟨S1x128, .f32⟩
  | .hbm, ⟨29, _⟩ => ⟨S1x128, .f32⟩
  | .hbm, ⟨30, _⟩ => ⟨S1x256, .f32⟩
  | .hbm, ⟨31, _⟩ => ⟨S8192x1536, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x256, .bf16⟩
  | .local _ .vmem, ⟨9, _⟩ => ⟨S4096x256, .bf16⟩
  | .local _ .vmem, ⟨10, _⟩ => ⟨S1x128, .f32⟩
  | .local _ .vmem, ⟨11, _⟩ => ⟨S1x128, .f32⟩
  | .local _ .vmem, ⟨12, _⟩ => ⟨S4x128, .f32⟩
  | .local _ .vmem, ⟨13, _⟩ => ⟨S1x1x128, .f32⟩
  | .local _ .vmem, ⟨14, _⟩ => ⟨S1x1x128, .f32⟩
  | .local _ .vmem, ⟨15, _⟩ => ⟨S1x256, .f32⟩
  | .local _ .vmem, ⟨16, _⟩ => ⟨S4096x256, .bf16⟩
  | .local _ .vmem, ⟨17, _⟩ => ⟨S4096x256, .bf16⟩
  | .local _ .vmem, ⟨18, _⟩ => ⟨S2x4096x256, .bf16⟩
  | _, _ => ⟨S8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 6], ![false, false]⟩

@[reducible] def k0_t1_loop : Scf.Loop 32 :=
  let c0_i32_54 : BitVec 32 := 0#32
  let c8_i32 : BitVec 32 := 8#32
  let v173 : BitVec 32 := Scalar.addi c0_i32_54 c8_i32
  let c1_i32_55 : BitVec 32 := 1#32
  ⟨c0_i32_54, v173, c1_i32_55⟩
def k0_mult1 (k0_t1 : Fin k0_t1_loop.trips) : BitVec 32 :=
  let c0_i32_54 : BitVec 32 := 0#32
  let c1_i32_55 : BitVec 32 := 1#32
  let arg14 : BitVec 32 := Scf.iv c0_i32_54 c1_i32_55 k0_t1
  let c512_i32 : BitVec 32 := 512#32
  let v174 : BitVec 32 := Scalar.muli arg14 c512_i32
  v174
def k0_off1 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c512_i32 : BitVec 32 := 512#32
  let v174 : BitVec 32 := Scalar.muli arg14 c512_i32
  let v175 : BitVec 32 := v174
  let v176 : Index := Scalar.indexCast v175
  let c0_57 : Index := 0#32
  ![v176.toNat, 0]
@[reducible] def k0_t2_loop (k0_t1 : Fin k0_t1_loop.trips) : Scf.Loop 32 :=
  let c0_i32_105 : BitVec 32 := 0#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v290 : BitVec 32 := Scalar.subi v289 c0_i32_105
  let c1_i32_106 : BitVec 32 := 1#32
  let v292 : BitVec 32 := Scalar.divsi v290 c1_i32_106
  let v293 : BitVec 32 := Scalar.muli v292 c1_i32_106
  let v294 : BitVec 32 := Scalar.addi c0_i32_105 v293
  let c1_i32_107 : BitVec 32 := 1#32
  ⟨c0_i32_105, v294, c1_i32_107⟩
def k0_mult2 (k0_t1 : Fin k0_t1_loop.trips) (k0_t2 : Fin (k0_t2_loop k0_t1).trips) : BitVec 32 :=
  let c2_i32_186 : BitVec 32 := 2#32
  let c0_i32_105 : BitVec 32 := 0#32
  let c1_i32_107 : BitVec 32 := 1#32
  let arg15 : BitVec 32 := Scf.iv c0_i32_105 c1_i32_107 k0_t2
  let v521 : BitVec 32 := Scalar.muli c2_i32_186 arg15
  let c512_i32_187 : BitVec 32 := 512#32
  let v522 : BitVec 32 := Scalar.muli v521 c512_i32_187
  v522
def k0_off2 (k0_t1 : Fin k0_t1_loop.trips) (k0_t2 : Fin (k0_t2_loop k0_t1).trips) : Fin 3 → Nat :=
  let c0_188 : Index := 0#32
  let c2_i32_186 : BitVec 32 := 2#32
  let c0_i32_105 : BitVec 32 := 0#32
  let c1_i32_107 : BitVec 32 := 1#32
  let arg15 : BitVec 32 := Scf.iv c0_i32_105 c1_i32_107 k0_t2
  let v521 : BitVec 32 := Scalar.muli c2_i32_186 arg15
  let c512_i32_187 : BitVec 32 := 512#32
  let v522 : BitVec 32 := Scalar.muli v521 c512_i32_187
  let v523 : BitVec 32 := v522
  let v524 : Index := Scalar.indexCast v523
  let c0_189 : Index := 0#32
  ![0, v524.toNat, 0]
def k0_off3 (k0_t1 : Fin k0_t1_loop.trips) (k0_t2 : Fin (k0_t2_loop k0_t1).trips) : Fin 3 → Nat :=
  let c1_191 : Index := 1#32
  let c2_i32_186 : BitVec 32 := 2#32
  let c0_i32_105 : BitVec 32 := 0#32
  let c1_i32_107 : BitVec 32 := 1#32
  let arg15 : BitVec 32 := Scf.iv c0_i32_105 c1_i32_107 k0_t2
  let v521 : BitVec 32 := Scalar.muli c2_i32_186 arg15
  let c512_i32_187 : BitVec 32 := 512#32
  let v522 : BitVec 32 := Scalar.muli v521 c512_i32_187
  let v523 : BitVec 32 := v522
  let v536 : Index := Scalar.indexCast v523
  let c0_192 : Index := 0#32
  ![1, v536.toNat, 0]
def k0_mult3 (k0_t1 : Fin k0_t1_loop.trips) (k0_t2 : Fin (k0_t2_loop k0_t1).trips) : BitVec 32 :=
  let c2_i32_184 : BitVec 32 := 2#32
  let c0_i32_105 : BitVec 32 := 0#32
  let c1_i32_107 : BitVec 32 := 1#32
  let arg15 : BitVec 32 := Scf.iv c0_i32_105 c1_i32_107 k0_t2
  let v519 : BitVec 32 := Scalar.muli c2_i32_184 arg15
  let c1_i32_185 : BitVec 32 := 1#32
  let v520 : BitVec 32 := Scalar.addi v519 c1_i32_185
  let c512_i32_194 : BitVec 32 := 512#32
  let v548 : BitVec 32 := Scalar.muli v520 c512_i32_194
  v548
def k0_off4 (k0_t1 : Fin k0_t1_loop.trips) (k0_t2 : Fin (k0_t2_loop k0_t1).trips) : Fin 3 → Nat :=
  let c0_195 : Index := 0#32
  let c2_i32_184 : BitVec 32 := 2#32
  let c0_i32_105 : BitVec 32 := 0#32
  let c1_i32_107 : BitVec 32 := 1#32
  let arg15 : BitVec 32 := Scf.iv c0_i32_105 c1_i32_107 k0_t2
  let v519 : BitVec 32 := Scalar.muli c2_i32_184 arg15
  let c1_i32_185 : BitVec 32 := 1#32
  let v520 : BitVec 32 := Scalar.addi v519 c1_i32_185
  let c512_i32_194 : BitVec 32 := 512#32
  let v548 : BitVec 32 := Scalar.muli v520 c512_i32_194
  let v549 : BitVec 32 := v548
  let v550 : Index := Scalar.indexCast v549
  let c0_196 : Index := 0#32
  ![0, v550.toNat, 0]
def k0_off5 (k0_t1 : Fin k0_t1_loop.trips) (k0_t2 : Fin (k0_t2_loop k0_t1).trips) : Fin 3 → Nat :=
  let c1_198 : Index := 1#32
  let c2_i32_184 : BitVec 32 := 2#32
  let c0_i32_105 : BitVec 32 := 0#32
  let c1_i32_107 : BitVec 32 := 1#32
  let arg15 : BitVec 32 := Scf.iv c0_i32_105 c1_i32_107 k0_t2
  let v519 : BitVec 32 := Scalar.muli c2_i32_184 arg15
  let c1_i32_185 : BitVec 32 := 1#32
  let v520 : BitVec 32 := Scalar.addi v519 c1_i32_185
  let c512_i32_194 : BitVec 32 := 512#32
  let v548 : BitVec 32 := Scalar.muli v520 c512_i32_194
  let v549 : BitVec 32 := v548
  let v562 : Index := Scalar.indexCast v549
  let c0_199 : Index := 0#32
  ![1, v562.toNat, 0]
@[reducible] def k0_t3_loop (k0_t1 : Fin k0_t1_loop.trips) : Scf.Loop 32 :=
  let c0_i32_105 : BitVec 32 := 0#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v290 : BitVec 32 := Scalar.subi v289 c0_i32_105
  let c1_i32_106 : BitVec 32 := 1#32
  let v292 : BitVec 32 := Scalar.divsi v290 c1_i32_106
  let v293 : BitVec 32 := Scalar.muli v292 c1_i32_106
  let v294 : BitVec 32 := Scalar.addi c0_i32_105 v293
  let v291 : BitVec 32 := Scalar.addi c0_i32_105 v290
  let c1_i32_108 : BitVec 32 := 1#32
  ⟨v294, v291, c1_i32_108⟩
def k0_mult4 (k0_t1 : Fin k0_t1_loop.trips) (k0_t3 : Fin (k0_t3_loop k0_t1).trips) : BitVec 32 :=
  let c2_i32_186 : BitVec 32 := 2#32
  let c0_i32_105 : BitVec 32 := 0#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v290 : BitVec 32 := Scalar.subi v289 c0_i32_105
  let c1_i32_106 : BitVec 32 := 1#32
  let v292 : BitVec 32 := Scalar.divsi v290 c1_i32_106
  let v293 : BitVec 32 := Scalar.muli v292 c1_i32_106
  let v294 : BitVec 32 := Scalar.addi c0_i32_105 v293
  let c1_i32_108 : BitVec 32 := 1#32
  let arg15 : BitVec 32 := Scf.iv v294 c1_i32_108 k0_t3
  let v521 : BitVec 32 := Scalar.muli c2_i32_186 arg15
  let c512_i32_187 : BitVec 32 := 512#32
  let v522 : BitVec 32 := Scalar.muli v521 c512_i32_187
  v522
def k0_off6 (k0_t1 : Fin k0_t1_loop.trips) (k0_t3 : Fin (k0_t3_loop k0_t1).trips) : Fin 3 → Nat :=
  let c0_188 : Index := 0#32
  let c2_i32_186 : BitVec 32 := 2#32
  let c0_i32_105 : BitVec 32 := 0#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v290 : BitVec 32 := Scalar.subi v289 c0_i32_105
  let c1_i32_106 : BitVec 32 := 1#32
  let v292 : BitVec 32 := Scalar.divsi v290 c1_i32_106
  let v293 : BitVec 32 := Scalar.muli v292 c1_i32_106
  let v294 : BitVec 32 := Scalar.addi c0_i32_105 v293
  let c1_i32_108 : BitVec 32 := 1#32
  let arg15 : BitVec 32 := Scf.iv v294 c1_i32_108 k0_t3
  let v521 : BitVec 32 := Scalar.muli c2_i32_186 arg15
  let c512_i32_187 : BitVec 32 := 512#32
  let v522 : BitVec 32 := Scalar.muli v521 c512_i32_187
  let v523 : BitVec 32 := v522
  let v524 : Index := Scalar.indexCast v523
  let c0_189 : Index := 0#32
  ![0, v524.toNat, 0]
def k0_off7 (k0_t1 : Fin k0_t1_loop.trips) (k0_t3 : Fin (k0_t3_loop k0_t1).trips) : Fin 3 → Nat :=
  let c1_191 : Index := 1#32
  let c2_i32_186 : BitVec 32 := 2#32
  let c0_i32_105 : BitVec 32 := 0#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v290 : BitVec 32 := Scalar.subi v289 c0_i32_105
  let c1_i32_106 : BitVec 32 := 1#32
  let v292 : BitVec 32 := Scalar.divsi v290 c1_i32_106
  let v293 : BitVec 32 := Scalar.muli v292 c1_i32_106
  let v294 : BitVec 32 := Scalar.addi c0_i32_105 v293
  let c1_i32_108 : BitVec 32 := 1#32
  let arg15 : BitVec 32 := Scf.iv v294 c1_i32_108 k0_t3
  let v521 : BitVec 32 := Scalar.muli c2_i32_186 arg15
  let c512_i32_187 : BitVec 32 := 512#32
  let v522 : BitVec 32 := Scalar.muli v521 c512_i32_187
  let v523 : BitVec 32 := v522
  let v536 : Index := Scalar.indexCast v523
  let c0_192 : Index := 0#32
  ![1, v536.toNat, 0]
def k0_mult5 (k0_t1 : Fin k0_t1_loop.trips) (k0_t3 : Fin (k0_t3_loop k0_t1).trips) : BitVec 32 :=
  let c2_i32_184 : BitVec 32 := 2#32
  let c0_i32_105 : BitVec 32 := 0#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v290 : BitVec 32 := Scalar.subi v289 c0_i32_105
  let c1_i32_106 : BitVec 32 := 1#32
  let v292 : BitVec 32 := Scalar.divsi v290 c1_i32_106
  let v293 : BitVec 32 := Scalar.muli v292 c1_i32_106
  let v294 : BitVec 32 := Scalar.addi c0_i32_105 v293
  let c1_i32_108 : BitVec 32 := 1#32
  let arg15 : BitVec 32 := Scf.iv v294 c1_i32_108 k0_t3
  let v519 : BitVec 32 := Scalar.muli c2_i32_184 arg15
  let c1_i32_185 : BitVec 32 := 1#32
  let v520 : BitVec 32 := Scalar.addi v519 c1_i32_185
  let c512_i32_194 : BitVec 32 := 512#32
  let v548 : BitVec 32 := Scalar.muli v520 c512_i32_194
  v548
def k0_off8 (k0_t1 : Fin k0_t1_loop.trips) (k0_t3 : Fin (k0_t3_loop k0_t1).trips) : Fin 3 → Nat :=
  let c0_195 : Index := 0#32
  let c2_i32_184 : BitVec 32 := 2#32
  let c0_i32_105 : BitVec 32 := 0#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v290 : BitVec 32 := Scalar.subi v289 c0_i32_105
  let c1_i32_106 : BitVec 32 := 1#32
  let v292 : BitVec 32 := Scalar.divsi v290 c1_i32_106
  let v293 : BitVec 32 := Scalar.muli v292 c1_i32_106
  let v294 : BitVec 32 := Scalar.addi c0_i32_105 v293
  let c1_i32_108 : BitVec 32 := 1#32
  let arg15 : BitVec 32 := Scf.iv v294 c1_i32_108 k0_t3
  let v519 : BitVec 32 := Scalar.muli c2_i32_184 arg15
  let c1_i32_185 : BitVec 32 := 1#32
  let v520 : BitVec 32 := Scalar.addi v519 c1_i32_185
  let c512_i32_194 : BitVec 32 := 512#32
  let v548 : BitVec 32 := Scalar.muli v520 c512_i32_194
  let v549 : BitVec 32 := v548
  let v550 : Index := Scalar.indexCast v549
  let c0_196 : Index := 0#32
  ![0, v550.toNat, 0]
def k0_off9 (k0_t1 : Fin k0_t1_loop.trips) (k0_t3 : Fin (k0_t3_loop k0_t1).trips) : Fin 3 → Nat :=
  let c1_198 : Index := 1#32
  let c2_i32_184 : BitVec 32 := 2#32
  let c0_i32_105 : BitVec 32 := 0#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v290 : BitVec 32 := Scalar.subi v289 c0_i32_105
  let c1_i32_106 : BitVec 32 := 1#32
  let v292 : BitVec 32 := Scalar.divsi v290 c1_i32_106
  let v293 : BitVec 32 := Scalar.muli v292 c1_i32_106
  let v294 : BitVec 32 := Scalar.addi c0_i32_105 v293
  let c1_i32_108 : BitVec 32 := 1#32
  let arg15 : BitVec 32 := Scf.iv v294 c1_i32_108 k0_t3
  let v519 : BitVec 32 := Scalar.muli c2_i32_184 arg15
  let c1_i32_185 : BitVec 32 := 1#32
  let v520 : BitVec 32 := Scalar.addi v519 c1_i32_185
  let c512_i32_194 : BitVec 32 := 512#32
  let v548 : BitVec 32 := Scalar.muli v520 c512_i32_194
  let v549 : BitVec 32 := v548
  let v562 : Index := Scalar.indexCast v549
  let c0_199 : Index := 0#32
  ![1, v562.toNat, 0]
@[reducible] def k0_t4_loop (k0_t1 : Fin k0_t1_loop.trips) : Scf.Loop 32 :=
  let c2_i32_109 : BitVec 32 := 2#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v297 : BitVec 32 := Scalar.muli c2_i32_109 v289
  let v298 : BitVec 32 := Scalar.subi arg14 v297
  let c1_i32_110 : BitVec 32 := 1#32
  let v300 : BitVec 32 := Scalar.divsi v298 c1_i32_110
  let v301 : BitVec 32 := Scalar.muli v300 c1_i32_110
  let v302 : BitVec 32 := Scalar.addi v297 v301
  let c1_i32_111 : BitVec 32 := 1#32
  ⟨v297, v302, c1_i32_111⟩
def k0_mult6 (k0_t1 : Fin k0_t1_loop.trips) (k0_t4 : Fin (k0_t4_loop k0_t1).trips) : BitVec 32 :=
  let c2_i32_109 : BitVec 32 := 2#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v297 : BitVec 32 := Scalar.muli c2_i32_109 v289
  let c1_i32_111 : BitVec 32 := 1#32
  let arg15 : BitVec 32 := Scf.iv v297 c1_i32_111 k0_t4
  let c512_i32_184 : BitVec 32 := 512#32
  let v519 : BitVec 32 := Scalar.muli arg15 c512_i32_184
  v519
def k0_off10 (k0_t1 : Fin k0_t1_loop.trips) (k0_t4 : Fin (k0_t4_loop k0_t1).trips) : Fin 3 → Nat :=
  let c0_185 : Index := 0#32
  let c2_i32_109 : BitVec 32 := 2#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v297 : BitVec 32 := Scalar.muli c2_i32_109 v289
  let c1_i32_111 : BitVec 32 := 1#32
  let arg15 : BitVec 32 := Scf.iv v297 c1_i32_111 k0_t4
  let c512_i32_184 : BitVec 32 := 512#32
  let v519 : BitVec 32 := Scalar.muli arg15 c512_i32_184
  let v520 : BitVec 32 := v519
  let v521 : Index := Scalar.indexCast v520
  let c0_186 : Index := 0#32
  ![0, v521.toNat, 0]
def k0_off11 (k0_t1 : Fin k0_t1_loop.trips) (k0_t4 : Fin (k0_t4_loop k0_t1).trips) : Fin 3 → Nat :=
  let c1_188 : Index := 1#32
  let c2_i32_109 : BitVec 32 := 2#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v297 : BitVec 32 := Scalar.muli c2_i32_109 v289
  let c1_i32_111 : BitVec 32 := 1#32
  let arg15 : BitVec 32 := Scf.iv v297 c1_i32_111 k0_t4
  let c512_i32_184 : BitVec 32 := 512#32
  let v519 : BitVec 32 := Scalar.muli arg15 c512_i32_184
  let v520 : BitVec 32 := v519
  let v533 : Index := Scalar.indexCast v520
  let c0_189 : Index := 0#32
  ![1, v533.toNat, 0]
@[reducible] def k0_t5_loop (k0_t1 : Fin k0_t1_loop.trips) : Scf.Loop 32 :=
  let c2_i32_109 : BitVec 32 := 2#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v297 : BitVec 32 := Scalar.muli c2_i32_109 v289
  let v298 : BitVec 32 := Scalar.subi arg14 v297
  let c1_i32_110 : BitVec 32 := 1#32
  let v300 : BitVec 32 := Scalar.divsi v298 c1_i32_110
  let v301 : BitVec 32 := Scalar.muli v300 c1_i32_110
  let v302 : BitVec 32 := Scalar.addi v297 v301
  let v299 : BitVec 32 := Scalar.addi v297 v298
  let c1_i32_112 : BitVec 32 := 1#32
  ⟨v302, v299, c1_i32_112⟩
def k0_mult7 (k0_t1 : Fin k0_t1_loop.trips) (k0_t5 : Fin (k0_t5_loop k0_t1).trips) : BitVec 32 :=
  let c2_i32_109 : BitVec 32 := 2#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v297 : BitVec 32 := Scalar.muli c2_i32_109 v289
  let v298 : BitVec 32 := Scalar.subi arg14 v297
  let c1_i32_110 : BitVec 32 := 1#32
  let v300 : BitVec 32 := Scalar.divsi v298 c1_i32_110
  let v301 : BitVec 32 := Scalar.muli v300 c1_i32_110
  let v302 : BitVec 32 := Scalar.addi v297 v301
  let c1_i32_112 : BitVec 32 := 1#32
  let arg15 : BitVec 32 := Scf.iv v302 c1_i32_112 k0_t5
  let c512_i32_184 : BitVec 32 := 512#32
  let v519 : BitVec 32 := Scalar.muli arg15 c512_i32_184
  v519
def k0_off12 (k0_t1 : Fin k0_t1_loop.trips) (k0_t5 : Fin (k0_t5_loop k0_t1).trips) : Fin 3 → Nat :=
  let c0_185 : Index := 0#32
  let c2_i32_109 : BitVec 32 := 2#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v297 : BitVec 32 := Scalar.muli c2_i32_109 v289
  let v298 : BitVec 32 := Scalar.subi arg14 v297
  let c1_i32_110 : BitVec 32 := 1#32
  let v300 : BitVec 32 := Scalar.divsi v298 c1_i32_110
  let v301 : BitVec 32 := Scalar.muli v300 c1_i32_110
  let v302 : BitVec 32 := Scalar.addi v297 v301
  let c1_i32_112 : BitVec 32 := 1#32
  let arg15 : BitVec 32 := Scf.iv v302 c1_i32_112 k0_t5
  let c512_i32_184 : BitVec 32 := 512#32
  let v519 : BitVec 32 := Scalar.muli arg15 c512_i32_184
  let v520 : BitVec 32 := v519
  let v521 : Index := Scalar.indexCast v520
  let c0_186 : Index := 0#32
  ![0, v521.toNat, 0]
def k0_off13 (k0_t1 : Fin k0_t1_loop.trips) (k0_t5 : Fin (k0_t5_loop k0_t1).trips) : Fin 3 → Nat :=
  let c1_188 : Index := 1#32
  let c2_i32_109 : BitVec 32 := 2#32
  let c0_i32_54 : BitVec 32 := 0#32
  let c1_i32_55 : BitVec 32 := 1#32
  let arg14 : BitVec 32 := Scf.iv c0_i32_54 c1_i32_55 k0_t1
  let c0_i32_99 : BitVec 32 := 0#32
  let v274 : BitVec 1 := Scalar.cmpi .sgt arg14 c0_i32_99
  let v275 : BitVec 32 := Scalar.extui v274
  let c0_i32_100 : BitVec 32 := 0#32
  let v276 : BitVec 1 := Scalar.cmpi .slt arg14 c0_i32_100
  let v277 : BitVec 32 := Scalar.extui v276
  let v278 : BitVec 32 := Scalar.subi v275 v277
  let c2_i32_98 : BitVec 32 := 2#32
  let c0_i32_101 : BitVec 32 := 0#32
  let v279 : BitVec 1 := Scalar.cmpi .sgt c2_i32_98 c0_i32_101
  let v280 : BitVec 32 := Scalar.extui v279
  let c0_i32_102 : BitVec 32 := 0#32
  let v281 : BitVec 1 := Scalar.cmpi .slt c2_i32_98 c0_i32_102
  let v282 : BitVec 32 := Scalar.extui v281
  let v283 : BitVec 32 := Scalar.subi v280 v282
  let v284 : BitVec 1 := Scalar.cmpi .ne v278 v283
  let v285 : BitVec 32 := Scalar.remsi arg14 c2_i32_98
  let c0_i32_103 : BitVec 32 := 0#32
  let v286 : BitVec 1 := Scalar.cmpi .ne v285 c0_i32_103
  let v287 : BitVec 1 := Scalar.andi v284 v286
  let v273 : BitVec 32 := Scalar.divsi arg14 c2_i32_98
  let c1_i32_104 : BitVec 32 := 1#32
  let v288 : BitVec 32 := Scalar.subi v273 c1_i32_104
  let v289 : BitVec 32 := Scalar.select v287 v288 v273
  let v297 : BitVec 32 := Scalar.muli c2_i32_109 v289
  let v298 : BitVec 32 := Scalar.subi arg14 v297
  let c1_i32_110 : BitVec 32 := 1#32
  let v300 : BitVec 32 := Scalar.divsi v298 c1_i32_110
  let v301 : BitVec 32 := Scalar.muli v300 c1_i32_110
  let v302 : BitVec 32 := Scalar.addi v297 v301
  let c1_i32_112 : BitVec 32 := 1#32
  let arg15 : BitVec 32 := Scf.iv v302 c1_i32_112 k0_t5
  let c512_i32_184 : BitVec 32 := 512#32
  let v519 : BitVec 32 := Scalar.muli arg15 c512_i32_184
  let v520 : BitVec 32 := v519
  let v533 : Index := Scalar.indexCast v520
  let c0_189 : Index := 0#32
  ![1, v533.toNat, 0]
def k0_off14 (k0_t1 : Fin k0_t1_loop.trips) : Fin 3 → Nat :=
  let c0_114 : Index := 0#32
  let c0_i32_54 : BitVec 32 := 0#32
  let c1_i32_55 : BitVec 32 := 1#32
  let arg14 : BitVec 32 := Scf.iv c0_i32_54 c1_i32_55 k0_t1
  let c512_i32 : BitVec 32 := 512#32
  let v174 : BitVec 32 := Scalar.muli arg14 c512_i32
  let v175 : BitVec 32 := v174
  let v307 : Index := Scalar.indexCast v175
  let c0_115 : Index := 0#32
  ![0, v307.toNat, 0]
def k0_off15 (k0_t1 : Fin k0_t1_loop.trips) : Fin 3 → Nat :=
  let c1_120 : Index := 1#32
  let c0_i32_54 : BitVec 32 := 0#32
  let c1_i32_55 : BitVec 32 := 1#32
  let arg14 : BitVec 32 := Scf.iv c0_i32_54 c1_i32_55 k0_t1
  let c512_i32 : BitVec 32 := 512#32
  let v174 : BitVec 32 := Scalar.muli arg14 c512_i32
  let v175 : BitVec 32 := v174
  let v319 : Index := Scalar.indexCast v175
  let c0_121 : Index := 0#32
  ![1, v319.toNat, 0]
@[reducible] def k0_t6_loop (k0_t1 : Fin k0_t1_loop.trips) : Scf.Loop 32 :=
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let c1_i32_158 : BitVec 32 := 1#32
  ⟨c0_i32_156, v438, c1_i32_158⟩
def k0_mult8 (k0_t1 : Fin k0_t1_loop.trips) (k0_t6 : Fin (k0_t6_loop k0_t1).trips) : BitVec 32 :=
  let c2_i32_186 : BitVec 32 := 2#32
  let c0_i32_156 : BitVec 32 := 0#32
  let c1_i32_158 : BitVec 32 := 1#32
  let arg15 : BitVec 32 := Scf.iv c0_i32_156 c1_i32_158 k0_t6
  let v521 : BitVec 32 := Scalar.muli c2_i32_186 arg15
  let c512_i32_187 : BitVec 32 := 512#32
  let v522 : BitVec 32 := Scalar.muli v521 c512_i32_187
  v522
def k0_off16 (k0_t1 : Fin k0_t1_loop.trips) (k0_t6 : Fin (k0_t6_loop k0_t1).trips) : Fin 2 → Nat :=
  let c2_i32_186 : BitVec 32 := 2#32
  let c0_i32_156 : BitVec 32 := 0#32
  let c1_i32_158 : BitVec 32 := 1#32
  let arg15 : BitVec 32 := Scf.iv c0_i32_156 c1_i32_158 k0_t6
  let v521 : BitVec 32 := Scalar.muli c2_i32_186 arg15
  let c512_i32_187 : BitVec 32 := 512#32
  let v522 : BitVec 32 := Scalar.muli v521 c512_i32_187
  let v523 : BitVec 32 := v522
  let v524 : Index := Scalar.indexCast v523
  let c0_188 : Index := 0#32
  ![v524.toNat, 0]
def k0_off17 (k0_t1 : Fin k0_t1_loop.trips) (k0_t6 : Fin (k0_t6_loop k0_t1).trips) : Fin 3 → Nat :=
  let c0_189 : Index := 0#32
  let c2_i32_186 : BitVec 32 := 2#32
  let c0_i32_156 : BitVec 32 := 0#32
  let c1_i32_158 : BitVec 32 := 1#32
  let arg15 : BitVec 32 := Scf.iv c0_i32_156 c1_i32_158 k0_t6
  let v521 : BitVec 32 := Scalar.muli c2_i32_186 arg15
  let c512_i32_187 : BitVec 32 := 512#32
  let v522 : BitVec 32 := Scalar.muli v521 c512_i32_187
  let v523 : BitVec 32 := v522
  let v526 : Index := Scalar.indexCast v523
  let c0_190 : Index := 0#32
  ![0, v526.toNat, 0]
def k0_off18 (k0_t1 : Fin k0_t1_loop.trips) (k0_t6 : Fin (k0_t6_loop k0_t1).trips) : Fin 3 → Nat :=
  let c1_193 : Index := 1#32
  let c2_i32_186 : BitVec 32 := 2#32
  let c0_i32_156 : BitVec 32 := 0#32
  let c1_i32_158 : BitVec 32 := 1#32
  let arg15 : BitVec 32 := Scf.iv c0_i32_156 c1_i32_158 k0_t6
  let v521 : BitVec 32 := Scalar.muli c2_i32_186 arg15
  let c512_i32_187 : BitVec 32 := 512#32
  let v522 : BitVec 32 := Scalar.muli v521 c512_i32_187
  let v523 : BitVec 32 := v522
  let v542 : Index := Scalar.indexCast v523
  let c0_194 : Index := 0#32
  ![1, v542.toNat, 0]
def k0_mult9 (k0_t1 : Fin k0_t1_loop.trips) (k0_t6 : Fin (k0_t6_loop k0_t1).trips) : BitVec 32 :=
  let c2_i32_184 : BitVec 32 := 2#32
  let c0_i32_156 : BitVec 32 := 0#32
  let c1_i32_158 : BitVec 32 := 1#32
  let arg15 : BitVec 32 := Scf.iv c0_i32_156 c1_i32_158 k0_t6
  let v519 : BitVec 32 := Scalar.muli c2_i32_184 arg15
  let c1_i32_185 : BitVec 32 := 1#32
  let v520 : BitVec 32 := Scalar.addi v519 c1_i32_185
  let c512_i32_197 : BitVec 32 := 512#32
  let v558 : BitVec 32 := Scalar.muli v520 c512_i32_197
  v558
def k0_off19 (k0_t1 : Fin k0_t1_loop.trips) (k0_t6 : Fin (k0_t6_loop k0_t1).trips) : Fin 2 → Nat :=
  let c2_i32_184 : BitVec 32 := 2#32
  let c0_i32_156 : BitVec 32 := 0#32
  let c1_i32_158 : BitVec 32 := 1#32
  let arg15 : BitVec 32 := Scf.iv c0_i32_156 c1_i32_158 k0_t6
  let v519 : BitVec 32 := Scalar.muli c2_i32_184 arg15
  let c1_i32_185 : BitVec 32 := 1#32
  let v520 : BitVec 32 := Scalar.addi v519 c1_i32_185
  let c512_i32_197 : BitVec 32 := 512#32
  let v558 : BitVec 32 := Scalar.muli v520 c512_i32_197
  let v559 : BitVec 32 := v558
  let v560 : Index := Scalar.indexCast v559
  let c0_198 : Index := 0#32
  ![v560.toNat, 0]
def k0_off20 (k0_t1 : Fin k0_t1_loop.trips) (k0_t6 : Fin (k0_t6_loop k0_t1).trips) : Fin 3 → Nat :=
  let c0_199 : Index := 0#32
  let c2_i32_184 : BitVec 32 := 2#32
  let c0_i32_156 : BitVec 32 := 0#32
  let c1_i32_158 : BitVec 32 := 1#32
  let arg15 : BitVec 32 := Scf.iv c0_i32_156 c1_i32_158 k0_t6
  let v519 : BitVec 32 := Scalar.muli c2_i32_184 arg15
  let c1_i32_185 : BitVec 32 := 1#32
  let v520 : BitVec 32 := Scalar.addi v519 c1_i32_185
  let c512_i32_197 : BitVec 32 := 512#32
  let v558 : BitVec 32 := Scalar.muli v520 c512_i32_197
  let v559 : BitVec 32 := v558
  let v562 : Index := Scalar.indexCast v559
  let c0_200 : Index := 0#32
  ![0, v562.toNat, 0]
def k0_off21 (k0_t1 : Fin k0_t1_loop.trips) (k0_t6 : Fin (k0_t6_loop k0_t1).trips) : Fin 3 → Nat :=
  let c1_203 : Index := 1#32
  let c2_i32_184 : BitVec 32 := 2#32
  let c0_i32_156 : BitVec 32 := 0#32
  let c1_i32_158 : BitVec 32 := 1#32
  let arg15 : BitVec 32 := Scf.iv c0_i32_156 c1_i32_158 k0_t6
  let v519 : BitVec 32 := Scalar.muli c2_i32_184 arg15
  let c1_i32_185 : BitVec 32 := 1#32
  let v520 : BitVec 32 := Scalar.addi v519 c1_i32_185
  let c512_i32_197 : BitVec 32 := 512#32
  let v558 : BitVec 32 := Scalar.muli v520 c512_i32_197
  let v559 : BitVec 32 := v558
  let v578 : Index := Scalar.indexCast v559
  let c0_204 : Index := 0#32
  ![1, v578.toNat, 0]
@[reducible] def k0_t7_loop (k0_t1 : Fin k0_t1_loop.trips) : Scf.Loop 32 :=
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let v435 : BitVec 32 := Scalar.addi c0_i32_156 v434
  let c1_i32_159 : BitVec 32 := 1#32
  ⟨v438, v435, c1_i32_159⟩
def k0_mult10 (k0_t1 : Fin k0_t1_loop.trips) (k0_t7 : Fin (k0_t7_loop k0_t1).trips) : BitVec 32 :=
  let c2_i32_186 : BitVec 32 := 2#32
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let c1_i32_159 : BitVec 32 := 1#32
  let arg15 : BitVec 32 := Scf.iv v438 c1_i32_159 k0_t7
  let v521 : BitVec 32 := Scalar.muli c2_i32_186 arg15
  let c512_i32_187 : BitVec 32 := 512#32
  let v522 : BitVec 32 := Scalar.muli v521 c512_i32_187
  v522
def k0_off22 (k0_t1 : Fin k0_t1_loop.trips) (k0_t7 : Fin (k0_t7_loop k0_t1).trips) : Fin 2 → Nat :=
  let c2_i32_186 : BitVec 32 := 2#32
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let c1_i32_159 : BitVec 32 := 1#32
  let arg15 : BitVec 32 := Scf.iv v438 c1_i32_159 k0_t7
  let v521 : BitVec 32 := Scalar.muli c2_i32_186 arg15
  let c512_i32_187 : BitVec 32 := 512#32
  let v522 : BitVec 32 := Scalar.muli v521 c512_i32_187
  let v523 : BitVec 32 := v522
  let v524 : Index := Scalar.indexCast v523
  let c0_188 : Index := 0#32
  ![v524.toNat, 0]
def k0_off23 (k0_t1 : Fin k0_t1_loop.trips) (k0_t7 : Fin (k0_t7_loop k0_t1).trips) : Fin 3 → Nat :=
  let c0_189 : Index := 0#32
  let c2_i32_186 : BitVec 32 := 2#32
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let c1_i32_159 : BitVec 32 := 1#32
  let arg15 : BitVec 32 := Scf.iv v438 c1_i32_159 k0_t7
  let v521 : BitVec 32 := Scalar.muli c2_i32_186 arg15
  let c512_i32_187 : BitVec 32 := 512#32
  let v522 : BitVec 32 := Scalar.muli v521 c512_i32_187
  let v523 : BitVec 32 := v522
  let v526 : Index := Scalar.indexCast v523
  let c0_190 : Index := 0#32
  ![0, v526.toNat, 0]
def k0_off24 (k0_t1 : Fin k0_t1_loop.trips) (k0_t7 : Fin (k0_t7_loop k0_t1).trips) : Fin 3 → Nat :=
  let c1_193 : Index := 1#32
  let c2_i32_186 : BitVec 32 := 2#32
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let c1_i32_159 : BitVec 32 := 1#32
  let arg15 : BitVec 32 := Scf.iv v438 c1_i32_159 k0_t7
  let v521 : BitVec 32 := Scalar.muli c2_i32_186 arg15
  let c512_i32_187 : BitVec 32 := 512#32
  let v522 : BitVec 32 := Scalar.muli v521 c512_i32_187
  let v523 : BitVec 32 := v522
  let v542 : Index := Scalar.indexCast v523
  let c0_194 : Index := 0#32
  ![1, v542.toNat, 0]
def k0_mult11 (k0_t1 : Fin k0_t1_loop.trips) (k0_t7 : Fin (k0_t7_loop k0_t1).trips) : BitVec 32 :=
  let c2_i32_184 : BitVec 32 := 2#32
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let c1_i32_159 : BitVec 32 := 1#32
  let arg15 : BitVec 32 := Scf.iv v438 c1_i32_159 k0_t7
  let v519 : BitVec 32 := Scalar.muli c2_i32_184 arg15
  let c1_i32_185 : BitVec 32 := 1#32
  let v520 : BitVec 32 := Scalar.addi v519 c1_i32_185
  let c512_i32_197 : BitVec 32 := 512#32
  let v558 : BitVec 32 := Scalar.muli v520 c512_i32_197
  v558
def k0_off25 (k0_t1 : Fin k0_t1_loop.trips) (k0_t7 : Fin (k0_t7_loop k0_t1).trips) : Fin 2 → Nat :=
  let c2_i32_184 : BitVec 32 := 2#32
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let c1_i32_159 : BitVec 32 := 1#32
  let arg15 : BitVec 32 := Scf.iv v438 c1_i32_159 k0_t7
  let v519 : BitVec 32 := Scalar.muli c2_i32_184 arg15
  let c1_i32_185 : BitVec 32 := 1#32
  let v520 : BitVec 32 := Scalar.addi v519 c1_i32_185
  let c512_i32_197 : BitVec 32 := 512#32
  let v558 : BitVec 32 := Scalar.muli v520 c512_i32_197
  let v559 : BitVec 32 := v558
  let v560 : Index := Scalar.indexCast v559
  let c0_198 : Index := 0#32
  ![v560.toNat, 0]
def k0_off26 (k0_t1 : Fin k0_t1_loop.trips) (k0_t7 : Fin (k0_t7_loop k0_t1).trips) : Fin 3 → Nat :=
  let c0_199 : Index := 0#32
  let c2_i32_184 : BitVec 32 := 2#32
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let c1_i32_159 : BitVec 32 := 1#32
  let arg15 : BitVec 32 := Scf.iv v438 c1_i32_159 k0_t7
  let v519 : BitVec 32 := Scalar.muli c2_i32_184 arg15
  let c1_i32_185 : BitVec 32 := 1#32
  let v520 : BitVec 32 := Scalar.addi v519 c1_i32_185
  let c512_i32_197 : BitVec 32 := 512#32
  let v558 : BitVec 32 := Scalar.muli v520 c512_i32_197
  let v559 : BitVec 32 := v558
  let v562 : Index := Scalar.indexCast v559
  let c0_200 : Index := 0#32
  ![0, v562.toNat, 0]
def k0_off27 (k0_t1 : Fin k0_t1_loop.trips) (k0_t7 : Fin (k0_t7_loop k0_t1).trips) : Fin 3 → Nat :=
  let c1_203 : Index := 1#32
  let c2_i32_184 : BitVec 32 := 2#32
  let c0_i32_156 : BitVec 32 := 0#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v434 : BitVec 32 := Scalar.subi v433 c0_i32_156
  let c1_i32_157 : BitVec 32 := 1#32
  let v436 : BitVec 32 := Scalar.divsi v434 c1_i32_157
  let v437 : BitVec 32 := Scalar.muli v436 c1_i32_157
  let v438 : BitVec 32 := Scalar.addi c0_i32_156 v437
  let c1_i32_159 : BitVec 32 := 1#32
  let arg15 : BitVec 32 := Scf.iv v438 c1_i32_159 k0_t7
  let v519 : BitVec 32 := Scalar.muli c2_i32_184 arg15
  let c1_i32_185 : BitVec 32 := 1#32
  let v520 : BitVec 32 := Scalar.addi v519 c1_i32_185
  let c512_i32_197 : BitVec 32 := 512#32
  let v558 : BitVec 32 := Scalar.muli v520 c512_i32_197
  let v559 : BitVec 32 := v558
  let v578 : Index := Scalar.indexCast v559
  let c0_204 : Index := 0#32
  ![1, v578.toNat, 0]
@[reducible] def k0_t8_loop (k0_t1 : Fin k0_t1_loop.trips) : Scf.Loop 32 :=
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let v442 : BitVec 32 := Scalar.subi arg14 v441
  let c1_i32_161 : BitVec 32 := 1#32
  let v444 : BitVec 32 := Scalar.divsi v442 c1_i32_161
  let v445 : BitVec 32 := Scalar.muli v444 c1_i32_161
  let v446 : BitVec 32 := Scalar.addi v441 v445
  let c1_i32_162 : BitVec 32 := 1#32
  ⟨v441, v446, c1_i32_162⟩
def k0_mult12 (k0_t1 : Fin k0_t1_loop.trips) (k0_t8 : Fin (k0_t8_loop k0_t1).trips) : BitVec 32 :=
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let c1_i32_162 : BitVec 32 := 1#32
  let arg15 : BitVec 32 := Scf.iv v441 c1_i32_162 k0_t8
  let c512_i32_184 : BitVec 32 := 512#32
  let v519 : BitVec 32 := Scalar.muli arg15 c512_i32_184
  v519
def k0_off28 (k0_t1 : Fin k0_t1_loop.trips) (k0_t8 : Fin (k0_t8_loop k0_t1).trips) : Fin 2 → Nat :=
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let c1_i32_162 : BitVec 32 := 1#32
  let arg15 : BitVec 32 := Scf.iv v441 c1_i32_162 k0_t8
  let c512_i32_184 : BitVec 32 := 512#32
  let v519 : BitVec 32 := Scalar.muli arg15 c512_i32_184
  let v520 : BitVec 32 := v519
  let v521 : Index := Scalar.indexCast v520
  let c0_185 : Index := 0#32
  ![v521.toNat, 0]
def k0_off29 (k0_t1 : Fin k0_t1_loop.trips) (k0_t8 : Fin (k0_t8_loop k0_t1).trips) : Fin 3 → Nat :=
  let c0_186 : Index := 0#32
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let c1_i32_162 : BitVec 32 := 1#32
  let arg15 : BitVec 32 := Scf.iv v441 c1_i32_162 k0_t8
  let c512_i32_184 : BitVec 32 := 512#32
  let v519 : BitVec 32 := Scalar.muli arg15 c512_i32_184
  let v520 : BitVec 32 := v519
  let v523 : Index := Scalar.indexCast v520
  let c0_187 : Index := 0#32
  ![0, v523.toNat, 0]
def k0_off30 (k0_t1 : Fin k0_t1_loop.trips) (k0_t8 : Fin (k0_t8_loop k0_t1).trips) : Fin 3 → Nat :=
  let c1_190 : Index := 1#32
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let c1_i32_162 : BitVec 32 := 1#32
  let arg15 : BitVec 32 := Scf.iv v441 c1_i32_162 k0_t8
  let c512_i32_184 : BitVec 32 := 512#32
  let v519 : BitVec 32 := Scalar.muli arg15 c512_i32_184
  let v520 : BitVec 32 := v519
  let v539 : Index := Scalar.indexCast v520
  let c0_191 : Index := 0#32
  ![1, v539.toNat, 0]
@[reducible] def k0_t9_loop (k0_t1 : Fin k0_t1_loop.trips) : Scf.Loop 32 :=
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let v442 : BitVec 32 := Scalar.subi arg14 v441
  let c1_i32_161 : BitVec 32 := 1#32
  let v444 : BitVec 32 := Scalar.divsi v442 c1_i32_161
  let v445 : BitVec 32 := Scalar.muli v444 c1_i32_161
  let v446 : BitVec 32 := Scalar.addi v441 v445
  let v443 : BitVec 32 := Scalar.addi v441 v442
  let c1_i32_163 : BitVec 32 := 1#32
  ⟨v446, v443, c1_i32_163⟩
def k0_mult13 (k0_t1 : Fin k0_t1_loop.trips) (k0_t9 : Fin (k0_t9_loop k0_t1).trips) : BitVec 32 :=
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let v442 : BitVec 32 := Scalar.subi arg14 v441
  let c1_i32_161 : BitVec 32 := 1#32
  let v444 : BitVec 32 := Scalar.divsi v442 c1_i32_161
  let v445 : BitVec 32 := Scalar.muli v444 c1_i32_161
  let v446 : BitVec 32 := Scalar.addi v441 v445
  let c1_i32_163 : BitVec 32 := 1#32
  let arg15 : BitVec 32 := Scf.iv v446 c1_i32_163 k0_t9
  let c512_i32_184 : BitVec 32 := 512#32
  let v519 : BitVec 32 := Scalar.muli arg15 c512_i32_184
  v519
def k0_off31 (k0_t1 : Fin k0_t1_loop.trips) (k0_t9 : Fin (k0_t9_loop k0_t1).trips) : Fin 2 → Nat :=
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let v442 : BitVec 32 := Scalar.subi arg14 v441
  let c1_i32_161 : BitVec 32 := 1#32
  let v444 : BitVec 32 := Scalar.divsi v442 c1_i32_161
  let v445 : BitVec 32 := Scalar.muli v444 c1_i32_161
  let v446 : BitVec 32 := Scalar.addi v441 v445
  let c1_i32_163 : BitVec 32 := 1#32
  let arg15 : BitVec 32 := Scf.iv v446 c1_i32_163 k0_t9
  let c512_i32_184 : BitVec 32 := 512#32
  let v519 : BitVec 32 := Scalar.muli arg15 c512_i32_184
  let v520 : BitVec 32 := v519
  let v521 : Index := Scalar.indexCast v520
  let c0_185 : Index := 0#32
  ![v521.toNat, 0]
def k0_off32 (k0_t1 : Fin k0_t1_loop.trips) (k0_t9 : Fin (k0_t9_loop k0_t1).trips) : Fin 3 → Nat :=
  let c0_186 : Index := 0#32
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let v442 : BitVec 32 := Scalar.subi arg14 v441
  let c1_i32_161 : BitVec 32 := 1#32
  let v444 : BitVec 32 := Scalar.divsi v442 c1_i32_161
  let v445 : BitVec 32 := Scalar.muli v444 c1_i32_161
  let v446 : BitVec 32 := Scalar.addi v441 v445
  let c1_i32_163 : BitVec 32 := 1#32
  let arg15 : BitVec 32 := Scf.iv v446 c1_i32_163 k0_t9
  let c512_i32_184 : BitVec 32 := 512#32
  let v519 : BitVec 32 := Scalar.muli arg15 c512_i32_184
  let v520 : BitVec 32 := v519
  let v523 : Index := Scalar.indexCast v520
  let c0_187 : Index := 0#32
  ![0, v523.toNat, 0]
def k0_off33 (k0_t1 : Fin k0_t1_loop.trips) (k0_t9 : Fin (k0_t9_loop k0_t1).trips) : Fin 3 → Nat :=
  let c1_190 : Index := 1#32
  let c2_i32_160 : BitVec 32 := 2#32
  let c0_i32_54 : BitVec 32 := 0#32
  let c1_i32_55 : BitVec 32 := 1#32
  let arg14 : BitVec 32 := Scf.iv c0_i32_54 c1_i32_55 k0_t1
  let c0_i32_150 : BitVec 32 := 0#32
  let v418 : BitVec 1 := Scalar.cmpi .sgt arg14 c0_i32_150
  let v419 : BitVec 32 := Scalar.extui v418
  let c0_i32_151 : BitVec 32 := 0#32
  let v420 : BitVec 1 := Scalar.cmpi .slt arg14 c0_i32_151
  let v421 : BitVec 32 := Scalar.extui v420
  let v422 : BitVec 32 := Scalar.subi v419 v421
  let c2_i32_149 : BitVec 32 := 2#32
  let c0_i32_152 : BitVec 32 := 0#32
  let v423 : BitVec 1 := Scalar.cmpi .sgt c2_i32_149 c0_i32_152
  let v424 : BitVec 32 := Scalar.extui v423
  let c0_i32_153 : BitVec 32 := 0#32
  let v425 : BitVec 1 := Scalar.cmpi .slt c2_i32_149 c0_i32_153
  let v426 : BitVec 32 := Scalar.extui v425
  let v427 : BitVec 32 := Scalar.subi v424 v426
  let v428 : BitVec 1 := Scalar.cmpi .ne v422 v427
  let v429 : BitVec 32 := Scalar.remsi arg14 c2_i32_149
  let c0_i32_154 : BitVec 32 := 0#32
  let v430 : BitVec 1 := Scalar.cmpi .ne v429 c0_i32_154
  let v431 : BitVec 1 := Scalar.andi v428 v430
  let v417 : BitVec 32 := Scalar.divsi arg14 c2_i32_149
  let c1_i32_155 : BitVec 32 := 1#32
  let v432 : BitVec 32 := Scalar.subi v417 c1_i32_155
  let v433 : BitVec 32 := Scalar.select v431 v432 v417
  let v441 : BitVec 32 := Scalar.muli c2_i32_160 v433
  let v442 : BitVec 32 := Scalar.subi arg14 v441
  let c1_i32_161 : BitVec 32 := 1#32
  let v444 : BitVec 32 := Scalar.divsi v442 c1_i32_161
  let v445 : BitVec 32 := Scalar.muli v444 c1_i32_161
  let v446 : BitVec 32 := Scalar.addi v441 v445
  let c1_i32_163 : BitVec 32 := 1#32
  let arg15 : BitVec 32 := Scf.iv v446 c1_i32_163 k0_t9
  let c512_i32_184 : BitVec 32 := 512#32
  let v519 : BitVec 32 := Scalar.muli arg15 c512_i32_184
  let v520 : BitVec 32 := v519
  let v539 : Index := Scalar.indexCast v520
  let c0_191 : Index := 0#32
  ![1, v539.toNat, 0]
def k0_off34 (k0_t1 : Fin k0_t1_loop.trips) : Fin 2 → Nat :=
  let c0_i32_54 : BitVec 32 := 0#32
  let c1_i32_55 : BitVec 32 := 1#32
  let arg14 : BitVec 32 := Scf.iv c0_i32_54 c1_i32_55 k0_t1
  let c512_i32 : BitVec 32 := 512#32
  let v174 : BitVec 32 := Scalar.muli arg14 c512_i32
  let v175 : BitVec 32 := v174
  let v449 : Index := Scalar.indexCast v175
  let c0_164 : Index := 0#32
  ![v449.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c44_i32 : BitVec 32 := 44#32
  let v1 : BitVec 32 := Scalar.addi c44_i32 v0
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c45_i32 : BitVec 32 := 45#32
  let v1 : BitVec 32 := Scalar.addi c45_i32 v0
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c56_i32 : BitVec 32 := 56#32
  let v1 : BitVec 32 := Scalar.addi c56_i32 v0
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c57_i32 : BitVec 32 := 57#32
  let v1 : BitVec 32 := Scalar.addi c57_i32 v0
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== DiffKernelIdeal.lean ====
variable {F : FTy → Type} [FloatOps F] [Named F]
def κ : String → Option EReal := fun
  | "log2e" => some (((Real.log 2)⁻¹ : ℝ) : EReal)
  | "mask" => some ⊥
  | "scale" => some (((Real.log 2)⁻¹ * (Real.sqrt 128)⁻¹ : ℝ) : EReal)
  | _ => none
-- ==== DiffReferenceIdeal.lean ====
abbrev S8192x22528 : Shape := ⟨2, ![8192, 22528]⟩
abbrev S128 : Shape := ⟨1, ![128]⟩
abbrev S256 : Shape := ⟨1, ![256]⟩
abbrev S2x4096x22528 : Shape := ⟨3, ![2, 4096, 22528]⟩
abbrev S2x4096x1536 : Shape := ⟨3, ![2, 4096, 1536]⟩
abbrev S2x4096x6x2x128 : Shape := ⟨5, ![2, 4096, 6, 2, 128]⟩
abbrev S2x4096x6x256 : Shape := ⟨4, ![2, 4096, 6, 256]⟩
abbrev S_ : Shape := ⟨0, ![]⟩
abbrev S2x4096x6x2 : Shape := ⟨4, ![2, 4096, 6, 2]⟩
abbrev S2x4096x6x2x1 : Shape := ⟨5, ![2, 4096, 6, 2, 1]⟩
abbrev S1x1x1x1x128 : Shape := ⟨5, ![1, 1, 1, 1, 128]⟩
abbrev S6 : Shape := ⟨1, ![6]⟩
abbrev S4096 : Shape := ⟨1, ![4096]⟩
abbrev S2x6x2x4096x4096 : Shape := ⟨5, ![2, 6, 2, 4096, 4096]⟩
abbrev S4096x1 : Shape := ⟨2, ![4096, 1]⟩
abbrev S1x4096 : Shape := ⟨2, ![1, 4096]⟩
abbrev S4096x4096 : Shape := ⟨2, ![4096, 4096]⟩
abbrev S1x6x1x1x1 : Shape := ⟨5, ![1, 6, 1, 1, 1]⟩
abbrev S1x1x1x4096x4096 : Shape := ⟨5, ![1, 1, 1, 4096, 4096]⟩
abbrev S1x6x1x4096x4096 : Shape := ⟨5, ![1, 6, 1, 4096, 4096]⟩
abbrev S2x6x2x4096 : Shape := ⟨4, ![2, 6, 2, 4096]⟩
abbrev S2x6x2x4096x1 : Shape := ⟨5, ![2, 6, 2, 4096, 1]⟩
abbrev S2x6x1x4096x4096 : Shape := ⟨5, ![2, 6, 1, 4096, 4096]⟩
abbrev S2x6x4096x4096 : Shape := ⟨4, ![2, 6, 4096, 4096]⟩
abbrev S2x6x256x4096 : Shape := ⟨4, ![2, 6, 256, 4096]⟩
abbrev S2x4096x6 : Shape := ⟨3, ![2, 4096, 6]⟩
abbrev S2x4096x6x1 : Shape := ⟨4, ![2, 4096, 6, 1]⟩
abbrev S1x1x1x256 : Shape := ⟨4, ![1, 1, 1, 256]⟩
abbrev S8192x1536 : Shape := ⟨2, ![8192, 1536]⟩

abbrev nBuf : Space → Nat
  | .hbm => 182
  | .vmem => 0
  | .smem => 0
  | _ => 0

abbrev hbmTy0_0 (i : Nat) : BufTy := match i % 128 with
  | 0 => ⟨S8192x22528, .bf16⟩
  | 1 => ⟨S128, .f32⟩
  | 2 => ⟨S128, .f32⟩
  | 3 => ⟨S128, .f32⟩
  | 4 => ⟨S128, .f32⟩
  | 5 => ⟨S128, .f32⟩
  | 6 => ⟨S128, .f32⟩
  | 7 => ⟨S256, .f32⟩
  | 8 => ⟨S8192x22528, .f32⟩
  | 9 => ⟨S2x4096x22528, .f32⟩
  | 10 => ⟨S2x4096x1536, .f32⟩
  | 11 => ⟨S2x4096x1536, .f32⟩
  | 12 => ⟨S2x4096x1536, .f32⟩
  | 13 => ⟨S2x4096x6x2x128, .f32⟩
  | 14 => ⟨S2x4096x6x2x128, .f32⟩
  | 15 => ⟨S2x4096x6x256, .f32⟩
  | 16 => ⟨S2x4096x6x2x128, .f32⟩
  | 17 => ⟨S_, .f32⟩
  | 18 => ⟨S2x4096x6x2, .f32⟩
  | 19 => ⟨S2x4096x6x2x1, .f32⟩
  | 20 => ⟨S_, .f32⟩
  | 21 => ⟨S2x4096x6x2x1, .f32⟩
  | 22 => ⟨S2x4096x6x2x1, .f32⟩
  | 23 => ⟨S_, .f32⟩
  | 24 => ⟨S2x4096x6x2x1, .f32⟩
  | 25 => ⟨S2x4096x6x2x1, .f32⟩
  | 26 => ⟨S2x4096x6x2x1, .f32⟩
  | 27 => ⟨S2x4096x6x2x128, .f32⟩
  | 28 => ⟨S2x4096x6x2x128, .f32⟩
  | 29 => ⟨S1x1x1x1x128, .f32⟩
  | 30 => ⟨S2x4096x6x2x128, .f32⟩
  | 31 => ⟨S2x4096x6x2x128, .f32⟩
  | 32 => ⟨S_, .f32⟩
  | 33 => ⟨S_, .f32⟩
  | 34 => ⟨S2x4096x6x2x128, .f32⟩
  | 35 => ⟨S2x4096x6x2x128, .f32⟩
  | 36 => ⟨S2x4096x6x2x128, .f32⟩
  | 37 => ⟨S_, .f32⟩
  | 38 => ⟨S2x4096x6x2, .f32⟩
  | 39 => ⟨S2x4096x6x2x1, .f32⟩
  | 40 => ⟨S_, .f32⟩
  | 41 => ⟨S2x4096x6x2x1, .f32⟩
  | 42 => ⟨S2x4096x6x2x1, .f32⟩
  | 43 => ⟨S_, .f32⟩
  | 44 => ⟨S2x4096x6x2x1, .f32⟩
  | 45 => ⟨S2x4096x6x2x1, .f32⟩
  | 46 => ⟨S2x4096x6x2x1, .f32⟩
  | 47 => ⟨S2x4096x6x2x128, .f32⟩
  | 48 => ⟨S2x4096x6x2x128, .f32⟩
  | 49 => ⟨S1x1x1x1x128, .f32⟩
  | 50 => ⟨S2x4096x6x2x128, .f32⟩
  | 51 => ⟨S2x4096x6x2x128, .f32⟩
  | 52 => ⟨S128, .f32⟩
  | 53 => ⟨S_, .f32⟩
  | 54 => ⟨S_, .f32⟩
  | 55 => ⟨S_, .f32⟩
  | 56 => ⟨S128, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S6, .f32⟩
  | 64 => ⟨S_, .f32⟩
  | 65 => ⟨S6, .f32⟩
  | 66 => ⟨S6, .f32⟩
  | 67 => ⟨S_, .f32⟩
  | 68 => ⟨S6, .f32⟩
  | 69 => ⟨S6, .f32⟩
  | 70 => ⟨S_, .f32⟩
  | 71 => ⟨S6, .f32⟩
  | 72 => ⟨S6, .f32⟩
  | 73 => ⟨S_, .f32⟩
  | 74 => ⟨S6, .f32⟩
  | 75 => ⟨S6, .f32⟩
  | 76 => ⟨S4096, .i32⟩
  | 77 => ⟨S2x6x2x4096x4096, .f32⟩
  | 78 => ⟨S4096x1, .i32⟩
  | 79 => ⟨S1x4096, .i32⟩
  | 80 => ⟨S4096x4096, .i32⟩
  | 81 => ⟨S4096x4096, .i32⟩
  | 82 => ⟨S4096x4096, .i32⟩
  | 83 => ⟨S4096x4096, .i32⟩
  | 84 => ⟨S4096x4096, .f32⟩
  | 85 => ⟨S1x6x1x1x1, .f32⟩
  | 86 => ⟨S1x1x1x4096x4096, .f32⟩
  | 87 => ⟨S1x6x1x4096x4096, .f32⟩
  | 88 => ⟨S1x6x1x4096x4096, .f32⟩
  | 89 => ⟨S1x6x1x4096x4096, .f32⟩
  | 90 => ⟨S2x6x2x4096x4096, .f32⟩
  | 91 => ⟨S2x6x2x4096x4096, .f32⟩
  | 92 => ⟨S1x4096, .i32⟩
  | 93 => ⟨S_, .i32⟩
  | 94 => ⟨S_, .i32⟩
  | 95 => ⟨S1x4096, .i32⟩
  | 96 => ⟨S1x4096, .i32⟩
  | 97 => ⟨S1x4096, .i32⟩
  | 98 => ⟨S_, .i32⟩
  | 99 => ⟨S1x4096, .i32⟩
  | 100 => ⟨S1x4096, .i1⟩
  | 101 => ⟨S1x4096, .i32⟩
  | 102 => ⟨S1x4096, .i32⟩
  | 103 => ⟨S_, .i32⟩
  | 104 => ⟨S1x4096, .i32⟩
  | 105 => ⟨S1x4096, .i1⟩
  | 106 => ⟨S1x4096, .i1⟩
  | 107 => ⟨S_, .i32⟩
  | 108 => ⟨S1x4096, .i32⟩
  | 109 => ⟨S1x4096, .i32⟩
  | 110 => ⟨S1x4096, .i32⟩
  | 111 => ⟨S4096x1, .i32⟩
  | 112 => ⟨S_, .i32⟩
  | 113 => ⟨S_, .i32⟩
  | 114 => ⟨S4096x1, .i32⟩
  | 115 => ⟨S4096x1, .i32⟩
  | 116 => ⟨S4096x1, .i32⟩
  | 117 => ⟨S_, .i32⟩
  | 118 => ⟨S4096x1, .i32⟩
  | 119 => ⟨S4096x1, .i1⟩
  | 120 => ⟨S4096x1, .i32⟩
  | 121 => ⟨S4096x1, .i32⟩
  | 122 => ⟨S_, .i32⟩
  | 123 => ⟨S4096x1, .i32⟩
  | 124 => ⟨S4096x1, .i1⟩
  | 125 => ⟨S4096x1, .i1⟩
  | 126 => ⟨S_, .i32⟩
  | 127 => ⟨S4096x1, .i32⟩
  | _ => ⟨S8192x22528, .bf16⟩

abbrev hbmTy0_1 (i : Nat) : BufTy := match i % 128 with
  | 0 => ⟨S4096x1, .i32⟩
  | 1 => ⟨S4096x1, .i32⟩
  | 2 => ⟨S4096x4096, .i32⟩
  | 3 => ⟨S4096x4096, .i32⟩
  | 4 => ⟨S4096x4096, .i1⟩
  | 5 => ⟨S_, .f32⟩
  | 6 => ⟨S_, .f32⟩
  | 7 => ⟨S2x6x2x4096x4096, .i1⟩
  | 8 => ⟨S2x6x2x4096x4096, .f32⟩
  | 9 => ⟨S2x6x2x4096x4096, .f32⟩
  | 10 => ⟨S_, .f32⟩
  | 11 => ⟨S2x6x2x4096, .f32⟩
  | 12 => ⟨S_, .f32⟩
  | 13 => ⟨S2x6x2x4096, .f32⟩
  | 14 => ⟨S2x6x2x4096, .f32⟩
  | 15 => ⟨S2x6x2x4096x1, .f32⟩
  | 16 => ⟨S2x6x2x4096x4096, .f32⟩
  | 17 => ⟨S2x6x2x4096x4096, .f32⟩
  | 18 => ⟨S2x6x2x4096x4096, .f32⟩
  | 19 => ⟨S_, .f32⟩
  | 20 => ⟨S2x6x2x4096, .f32⟩
  | 21 => ⟨S2x6x2x4096x1, .f32⟩
  | 22 => ⟨S2x6x2x4096x4096, .f32⟩
  | 23 => ⟨S2x6x2x4096x4096, .f32⟩
  | 24 => ⟨S2x6x1x4096x4096, .f32⟩
  | 25 => ⟨S2x6x4096x4096, .f32⟩
  | 26 => ⟨S2x6x1x4096x4096, .f32⟩
  | 27 => ⟨S2x6x4096x4096, .f32⟩
  | 28 => ⟨S2x6x4096x4096, .f32⟩
  | 29 => ⟨S2x6x4096x4096, .f32⟩
  | 30 => ⟨S2x6x4096x4096, .f32⟩
  | 31 => ⟨S2x6x256x4096, .f32⟩
  | 32 => ⟨S2x4096x6x256, .f32⟩
  | 33 => ⟨S2x4096x6x256, .f32⟩
  | 34 => ⟨S_, .f32⟩
  | 35 => ⟨S2x4096x6, .f32⟩
  | 36 => ⟨S2x4096x6x1, .f32⟩
  | 37 => ⟨S_, .f32⟩
  | 38 => ⟨S2x4096x6x1, .f32⟩
  | 39 => ⟨S2x4096x6x1, .f32⟩
  | 40 => ⟨S_, .f32⟩
  | 41 => ⟨S2x4096x6x1, .f32⟩
  | 42 => ⟨S2x4096x6x1, .f32⟩
  | 43 => ⟨S2x4096x6x1, .f32⟩
  | 44 => ⟨S2x4096x6x256, .f32⟩
  | 45 => ⟨S2x4096x6x256, .f32⟩
  | 46 => ⟨S1x1x1x256, .f32⟩
  | 47 => ⟨S2x4096x6x256, .f32⟩
  | 48 => ⟨S2x4096x6x256, .f32⟩
  | 49 => ⟨S_, .f32⟩
  | 50 => ⟨S2x4096x6x256, .f32⟩
  | 51 => ⟨S2x4096x6x256, .f32⟩
  | 52 => ⟨S8192x1536, .f32⟩
  | 53 => ⟨S8192x1536, .bf16⟩
  | _ => ⟨S8192x22528, .bf16⟩

abbrev hbmTy (i : Nat) : BufTy := match i / 128 with
  | 0 => hbmTy0_0 i
  | 1 => hbmTy0_1 i
  | _ => ⟨S8192x22528, .bf16⟩

abbrev bufTy : (tb : Table) → Fin (tcTables nBuf tb) → BufTy
  | .hbm, ⟨i, _⟩ => hbmTy i
  | _, _ => ⟨S8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_v5 : Ref sig .tc := ⟨.hbm, 99, rfl⟩
abbrev main_call0_v6 : Ref sig .tc := ⟨.hbm, 100, rfl⟩
abbrev main_call0_v7 : Ref sig .tc := ⟨.hbm, 101, rfl⟩
abbrev main_call0_v8 : Ref sig .tc := ⟨.hbm, 102, rfl⟩
abbrev main_call0_c : Ref sig .tc := ⟨.hbm, 103, rfl⟩
abbrev main_call0_v9 : Ref sig .tc := ⟨.hbm, 104, rfl⟩
abbrev main_call0_v10 : Ref sig .tc := ⟨.hbm, 105, rfl⟩
abbrev main_call0_v11 : Ref sig .tc := ⟨.hbm, 106, rfl⟩
abbrev main_call0_c_0 : Ref sig .tc := ⟨.hbm, 107, rfl⟩
abbrev main_call0_v12 : Ref sig .tc := ⟨.hbm, 108, rfl⟩
abbrev main_call0_v13 : Ref sig .tc := ⟨.hbm, 109, rfl⟩
abbrev main_v71 : Ref sig .tc := ⟨.hbm, 110, rfl⟩
abbrev main_v72 : Ref sig .tc := ⟨.hbm, 111, rfl⟩
abbrev main_c_13 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_call1_c : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_c_0 : Ref sig .tc := ⟨.hbm, 126, rfl⟩
abbrev main_call1_v12 : Ref sig .tc := ⟨.hbm, 127, rfl⟩
abbrev main_call1_v13 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_14 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_v77 : Ref sig .tc := ⟨.hbm, 137, rfl⟩
abbrev main_cst_15 : Ref sig .tc := ⟨.hbm, 138, rfl⟩
abbrev main_v78 : Ref sig .tc := ⟨.hbm, 139, rfl⟩
abbrev main_cst_16 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_cst_17 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_cst_18 : Ref sig .tc := ⟨.hbm, 162, rfl⟩
abbrev main_v99 : Ref sig .tc := ⟨.hbm, 163, rfl⟩
abbrev main_v100 : Ref sig .tc := ⟨.hbm, 164, rfl⟩
abbrev main_cst_19 : Ref sig .tc := ⟨.hbm, 165, rfl⟩
abbrev main_v101 : Ref sig .tc := ⟨.hbm, 166, rfl⟩
abbrev main_v102 : Ref sig .tc := ⟨.hbm, 167, rfl⟩
abbrev main_cst_20 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_cst_21 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩

abbrev nD : Nat := 1
abbrev τ : Topo := Topo.v7x

variable {F : FTy → Type} [FloatOps F]
-- ==== Proof.Equation.lean ====
module
public import Idealize.ShloMosaic.PureOps.Ideal
public import Idealize.ShloMosaic.PureOps.Ideal.Laws
@[expose] public section
noncomputable section
namespace ChunkAttention
open Idealize.ShloMosaic
open scoped BigOperators

/-- A positive real coefficient comes out of a finite sum of extended reals, on the left. -/
theorem coe_mul_sum {ι : Type} (S : Finset ι) (K : ℝ) (hK : 0 ≤ K) (f : ι → EReal) :
    ∑ n ∈ S, (K : EReal) * f n = (K : EReal) * ∑ n ∈ S, f n := by
  classical
  induction S using Finset.induction_on with
  | empty => simp
  | insert a S h ih =>
    rw [Finset.sum_insert h, Finset.sum_insert h, ih,
      EReal.left_distrib_of_nonneg_of_ne_top (by exact_mod_cast hK) (EReal.coe_ne_top K)]

/-- The same, on the right. -/
theorem sum_mul_coe {ι : Type} (S : Finset ι) (K : ℝ) (hK : 0 ≤ K) (f : ι → EReal) :
    ∑ n ∈ S, f n * (K : EReal) = (∑ n ∈ S, f n) * (K : EReal) := by
  simp only [mul_comm _ (K : EReal)]; exact coe_mul_sum S K hK f

/-- A finite sum of reals, read as extended reals, is the real sum. -/
theorem coe_sum {ι : Type} (S : Finset ι) (f : ι → ℝ) :
    ∑ n ∈ S, (f n : EReal) = ((∑ n ∈ S, f n : ℝ) : EReal) := by
  classical
  induction S using Finset.induction_on with
  | empty => simp
  | insert a S h ih => rw [Finset.sum_insert h, Finset.sum_insert h, ih, EReal.coe_add]

/-- The maximum of scores that are real where `P` holds and `⊥` elsewhere is real, if `P` holds somewhere. -/
theorem max_real {ι : Type} [Fintype ι] (P : ι → Prop) [DecidablePred P] (a : ι → ℝ) (hP : ∃ n, P n) (s : ι → EReal)
    (hs : ∀ n, s n = if P n then (a n : EReal) else ⊥) :
    ∃ μ : ℝ, Finset.univ.fold max (⊥ : EReal) s = (μ : EReal) := by
  obtain ⟨n0, h0⟩ := hP
  have hlo : (a n0 : EReal) ≤ Finset.univ.fold max (⊥ : EReal) s := by
    rw [Finset.le_fold_max]; right; exact ⟨n0, Finset.mem_univ _, by rw [hs, if_pos h0]⟩
  have hhi : Finset.univ.fold max (⊥ : EReal) s < ⊤ := by
    rw [Finset.fold_max_lt]
    refine ⟨bot_lt_top, fun n _ => ?_⟩
    rw [hs]; split
    · exact EReal.coe_lt_top _
    · exact bot_lt_top
  have hbot : (⊥ : EReal) < Finset.univ.fold max (⊥ : EReal) s := lt_of_lt_of_le (EReal.bot_lt_coe _) hlo
  exact ⟨_, (EReal.coe_toReal hhi.ne hbot.ne').symm⟩

/-- A sum whose terms vanish where `P` fails is the sum over `P`. -/
theorem sum_filter_of {ι : Type} [Fintype ι] (P : ι → Prop) [DecidablePred P] (f g : ι → EReal)
    (h : ∀ n, f n = if P n then g n else 0) : ∑ n, f n = ∑ n ∈ Finset.univ.filter P, g n := by
  rw [Finset.sum_filter]; exact Finset.sum_congr rfl fun n _ => h n

/-- The weight `exp` gives a score, over the sum of the weights: what a softmax-weighted sum of `v` is when the scores are
    the reals `a` on `P` and nothing elsewhere. -/
def weighted {ι : Type} [Fintype ι] (P : ι → Prop) [DecidablePred P] (a : ι → ℝ) (v : ι → EReal) : EReal :=
  (∑ n ∈ Finset.univ.filter P, (Real.exp (a n) : EReal) * v n)
    * (((∑ n ∈ Finset.univ.filter P, Real.exp (a n))⁻¹ : ℝ) : EReal)

theorem sum_exp_pos {ι : Type} [Fintype ι] (P : ι → Prop) [DecidablePred P] (a : ι → ℝ) (hP : ∃ n, P n) :
    0 < ∑ n ∈ Finset.univ.filter P, Real.exp (a n) :=
  Finset.sum_pos (fun n _ => Real.exp_pos _) (hP.imp fun n h => Finset.mem_filter.2 ⟨Finset.mem_univ _, h⟩)

/-- Scores held in powers of two, normalised after the weighted sum. -/
theorem exp2_form {ι : Type} [Fintype ι] (P : ι → Prop) [DecidablePred P] (a : ι → ℝ) (v s : ι → EReal) (hP : ∃ n, P n)
    (hs : ∀ n, s n = if P n then ((a n * (Real.log 2)⁻¹ : ℝ) : EReal) else ⊥) :
    Ideal.div (∑ n, Ideal.exp2 (s n - Finset.univ.fold max (⊥ : EReal) s) * v n)
      (∑ n, Ideal.exp2 (s n - Finset.univ.fold max (⊥ : EReal) s)) = weighted P a v := by
  obtain ⟨μ, hμ⟩ := max_real P (fun n => a n * (Real.log 2)⁻¹) hP s hs
  have hl : Real.log 2 ≠ 0 := (Real.log_pos one_lt_two).ne'
  have hK : (0 : ℝ) < Real.exp (-(μ * Real.log 2)) := Real.exp_pos _
  have he : ∀ n, Ideal.exp2 (s n - Finset.univ.fold max (⊥ : EReal) s)
      = if P n then ((Real.exp (-(μ * Real.log 2)) * Real.exp (a n) : ℝ) : EReal) else 0 := by
    intro n
    rw [hμ, hs]
    split
    · rw [← EReal.coe_sub, Ideal.exp2_coe]
      congr 1
      show (2 : ℝ) ^ (a n * (Real.log 2)⁻¹ - μ) = _
      rw [Real.rpow_def_of_pos two_pos, ← Real.exp_add]
      congr 1
      field_simp
      ring
    · rw [EReal.bot_sub, Ideal.exp2_bot]
  have hZ := sum_exp_pos P a hP
  rw [sum_filter_of P _ (fun n => ((Real.exp (-(μ * Real.log 2)) : ℝ) : EReal) * ((Real.exp (a n) : EReal) * v n)) (by
      intro n; rw [he]; split
      · rw [EReal.coe_mul, mul_assoc]
      · rw [zero_mul]), coe_mul_sum _ _ hK.le,
    sum_filter_of P _ (fun n => ((Real.exp (-(μ * Real.log 2)) * Real.exp (a n) : ℝ) : EReal)) he, coe_sum, ← Finset.mul_sum,
    Ideal.div_coe (mul_pos hK hZ).ne', weighted, mul_comm ((Real.exp (-(μ * Real.log 2)) : ℝ) : EReal), mul_assoc, ← EReal.coe_mul]
  congr 2
  have := hK.ne'; have := hZ.ne'
  field_simp

/-- Scores held naturally, each weight normalised before the sum. -/
theorem exp_form {ι : Type} [Fintype ι] (P : ι → Prop) [DecidablePred P] (a : ι → ℝ) (v s : ι → EReal) (hP : ∃ n, P n)
    (hs : ∀ n, s n = if P n then (a n : EReal) else ⊥) :
    ∑ n, v n * Ideal.div (Ideal.exp (s n - Finset.univ.fold max (⊥ : EReal) s))
      (∑ l, Ideal.exp (s l - Finset.univ.fold max (⊥ : EReal) s)) = weighted P a v := by
  obtain ⟨μ, hμ⟩ := max_real P a hP s hs
  have hK : (0 : ℝ) < Real.exp (-μ) := Real.exp_pos _
  have he : ∀ n, Ideal.exp (s n - Finset.univ.fold max (⊥ : EReal) s)
      = if P n then ((Real.exp (-μ) * Real.exp (a n) : ℝ) : EReal) else 0 := by
    intro n
    rw [hμ, hs]
    split
    · rw [← EReal.coe_sub, Ideal.exp_coe, ← Real.exp_add]
      congr 2
      ring
    · rw [EReal.bot_sub, Ideal.exp_bot]
  have hZ := sum_exp_pos P a hP
  rw [sum_filter_of P (fun n => Ideal.exp (s n - Finset.univ.fold max (⊥ : EReal) s)) _ he, coe_sum, ← Finset.mul_sum,
    sum_filter_of P _ (fun n => ((Real.exp (a n) : EReal) * v n) *
      (((∑ n ∈ Finset.univ.filter P, Real.exp (a n))⁻¹ : ℝ) : EReal)) (by
      intro n; rw [he, Ideal.div_coe (mul_pos hK hZ).ne']; split
      · rw [mul_comm (v n), mul_assoc _ (v n), mul_comm (v n), ← mul_assoc, ← EReal.coe_mul, ← EReal.coe_mul]
        congr 2
        have := hK.ne'; have := hZ.ne'
        field_simp
      · rw [zero_mul, mul_zero]), sum_mul_coe _ _ (inv_pos.2 hZ).le, weighted]

/-- Scores and values matter only on `P`. -/
theorem weighted_eq {ι : Type} [Fintype ι] (P : ι → Prop) [DecidablePred P] (a b : ι → ℝ) (v w : ι → EReal)
    (ha : ∀ n, P n → a n = b n) (hv : ∀ n, P n → v n = w n) : weighted P a v = weighted P b w := by
  have h₁ : ∑ n ∈ Finset.univ.filter P, (Real.exp (a n) : EReal) * v n
      = ∑ n ∈ Finset.univ.filter P, (Real.exp (b n) : EReal) * w n :=
    Finset.sum_congr rfl fun n hn => by rw [ha n (Finset.mem_filter.1 hn).2, hv n (Finset.mem_filter.1 hn).2]
  have h₂ : ∑ n ∈ Finset.univ.filter P, Real.exp (a n) = ∑ n ∈ Finset.univ.filter P, Real.exp (b n) :=
    Finset.sum_congr rfl fun n hn => by rw [ha n (Finset.mem_filter.1 hn).2]
  rw [weighted, weighted, h₁, h₂]

/-- Two windows over the same places: the weighted sums are the same when the index maps carry `P` onto the same places. -/
theorem weighted_congr {N M : ℕ} (P : Fin N → Prop) [DecidablePred P] (Q : Fin M → Prop) [DecidablePred Q]
    (t : Fin N → ℕ) (u : Fin M → ℕ) (A : Finset ℕ) (a : ℕ → ℝ) (v : ℕ → EReal)
    (a₁ : Fin N → ℝ) (v₁ : Fin N → EReal) (a₂ : Fin M → ℝ) (v₂ : Fin M → EReal)
    (ha₁ : ∀ n, P n → a₁ n = a (t n)) (hv₁ : ∀ n, P n → v₁ n = v (t n))
    (ha₂ : ∀ n, Q n → a₂ n = a (u n)) (hv₂ : ∀ n, Q n → v₂ n = v (u n))
    (ht : Function.Injective t) (hu : Function.Injective u)
    (hP : ∀ x, x ∈ A ↔ ∃ n, P n ∧ t n = x) (hQ : ∀ x, x ∈ A ↔ ∃ n, Q n ∧ u n = x) :
    weighted P a₁ v₁ = weighted Q a₂ v₂ := by
  have key : ∀ {K : ℕ} (R : Fin K → Prop) [DecidablePred R] (w : Fin K → ℕ) (hw : Function.Injective w)
      (hR : ∀ x, x ∈ A ↔ ∃ n, R n ∧ w n = x) (β : Type) [AddCommMonoid β] (f : ℕ → β),
      ∑ n ∈ Finset.univ.filter R, f (w n) = ∑ x ∈ A, f x := by
    intro K R _ w hw hR β _ f
    refine Finset.sum_nbij w (fun n hn => (hR _).2 ⟨n, (Finset.mem_filter.1 hn).2, rfl⟩) hw.injOn (fun x hx => ?_) (fun _ _ => rfl)
    obtain ⟨n, hn, rfl⟩ := (hR x).1 hx
    exact ⟨n, Finset.mem_coe.2 (Finset.mem_filter.2 ⟨Finset.mem_univ _, hn⟩), rfl⟩
  rw [weighted_eq P a₁ (fun n => a (t n)) v₁ (fun n => v (t n)) ha₁ hv₁, weighted_eq Q a₂ (fun n => a (u n)) v₂ (fun n => v (u n)) ha₂ hv₂]
  unfold weighted
  rw [key P t ht hP EReal (fun x => (Real.exp (a x) : EReal) * v x), key P t ht hP ℝ (fun x => Real.exp (a x)),
    key Q u hu hQ EReal (fun x => (Real.exp (a x) : EReal) * v x), key Q u hu hQ ℝ (fun x => Real.exp (a x))]

end ChunkAttention
end
end
-- ==== Proof.Norm.lean ====
module
public import proofs.«01_k».proof.Proof.Equation
@[expose] public section
noncomputable section
namespace ChunkAttention
open Idealize.ShloMosaic
open scoped BigOperators

/-- The bit pattern of 128 denotes 128. -/
theorem of_128 : Ideal.ofBits .f32 0x43000000#32 = ((128 : ℝ) : EReal) := by
  simp [Ideal.ofBits, Ideal.ieee, -EReal.coe_mul]; norm_num

/-- The bit pattern of the norm's epsilon denotes a positive real. -/
theorem of_eps : ∃ ε : ℝ, 0 < ε ∧ Ideal.ofBits .f32 0x358637BD#32 = (ε : EReal) := by
  refine ⟨_, ?_, by simp [Ideal.ofBits, Ideal.ieee, -EReal.coe_mul]; rfl⟩
  positivity

/-- The bit pattern of minus infinity denotes `⊥`. -/
theorem of_neg_inf : Ideal.ofBits .f32 0xFF800000#32 = ⊥ := by simp [Ideal.ofBits, Ideal.ieee]

/-- A vector over the root of its mean square (plus epsilon), times a gain. -/
def nrm (x g : Fin 128 → EReal) (d : Fin 128) : EReal :=
  x d * Ideal.rsqrt (Ideal.div (∑ e, x e * x e) (Ideal.ofBits .f32 0x43000000#32) + Ideal.ofBits .f32 0x358637BD#32) * g d

theorem mul_self_nonneg' (x : EReal) : 0 ≤ x * x := by
  induction x with
  | bot => simp
  | top => simp
  | coe r => exact_mod_cast mul_self_nonneg r

/-- A normalised vector is real whatever the vector is, if the gain is real: an infinite entry makes the mean square
    infinite, and its inverse root zero. -/
theorem nrm_real (x g : Fin 128 → EReal) (γ : Fin 128 → ℝ) (hg : ∀ d, g d = (γ d : EReal)) :
    ∃ f : Fin 128 → ℝ, ∀ d, nrm x g d = (f d : EReal) := by
  obtain ⟨ε, hε, hε'⟩ := of_eps
  suffices h : ∀ d, ∃ r : ℝ, nrm x g d = (r : EReal) from ⟨fun d => (h d).choose, fun d => (h d).choose_spec⟩
  intro d
  unfold nrm
  rw [of_128, hε', hg, Ideal.div_coe (by norm_num)]
  have h0 : ∀ e, 0 ≤ x e * x e := fun e => mul_self_nonneg' _
  by_cases hx : ∀ e, ∃ r : ℝ, x e = (r : EReal)
  · choose y hy using hx
    have hs : ∑ e, x e * x e = ((∑ e, y e * y e : ℝ) : EReal) := by
      rw [← coe_sum]; exact Finset.sum_congr rfl fun e _ => by rw [hy, EReal.coe_mul]
    have hp : 0 < (∑ e, y e * y e) * (1 / 128) + ε := by
      have : 0 ≤ ∑ e, y e * y e := Finset.sum_nonneg fun e _ => mul_self_nonneg _
      positivity
    rw [hs, ← EReal.coe_mul, ← EReal.coe_add, Ideal.rsqrt_coe, if_neg hp.le.not_gt, if_neg hp.ne', hy, ← EReal.coe_mul, ← EReal.coe_mul]
    exact ⟨_, rfl⟩
  · push Not at hx
    obtain ⟨e, he⟩ := hx
    have ht : x e * x e = ⊤ := by
      induction h : x e with
      | bot => simp
      | top => simp
      | coe r => exact absurd h (he r)
    have hs : ∑ e, x e * x e = ⊤ := by
      refine top_le_iff.1 ?_
      rw [← ht]
      exact Finset.single_le_sum (f := fun e => x e * x e) (fun e _ => h0 e) (Finset.mem_univ e)
    rw [hs, EReal.top_mul_coe_of_pos (by norm_num), EReal.top_add_coe, Ideal.rsqrt_top, mul_zero, zero_mul]
    exact ⟨0, rfl⟩

/-- The score of normalised query and key with a real bias, in powers of two. -/
theorem score2_real (q k : Fin 128 → EReal) (f h : Fin 128 → ℝ) (β : ℝ) (hq : ∀ d, q d = (f d : EReal))
    (hk : ∀ d, k d = (h d : EReal)) :
    (∑ x, q x * (((Real.log 2)⁻¹ * (Real.sqrt 128)⁻¹ : ℝ) : EReal) * k x) + (((Real.log 2)⁻¹ : ℝ) : EReal) * (β : EReal)
      = ((((∑ x, f x * (1 / Real.sqrt 128) * h x) + β) * (Real.log 2)⁻¹ : ℝ) : EReal) := by
  simp only [hq, hk, ← EReal.coe_mul]
  rw [coe_sum, ← EReal.coe_add]
  congr 1
  rw [add_mul, Finset.sum_mul, mul_comm β]
  congr 1
  exact Finset.sum_congr rfl fun x _ => by ring

/-- A masked score in powers of two is `⊥`. -/
theorem score2_bot (q k : Fin 128 → EReal) (f h : Fin 128 → ℝ) (hq : ∀ d, q d = (f d : EReal))
    (hk : ∀ d, k d = (h d : EReal)) :
    (∑ x, q x * (((Real.log 2)⁻¹ * (Real.sqrt 128)⁻¹ : ℝ) : EReal) * k x) + (((Real.log 2)⁻¹ : ℝ) : EReal) * (⊥ : EReal) = ⊥ := by
  rw [EReal.coe_mul_bot_of_pos (inv_pos.2 (Real.log_pos one_lt_two)), EReal.add_bot]

/-- The score of normalised query and key with a real bias, natural. -/
theorem score_real (q k : Fin 128 → EReal) (f h : Fin 128 → ℝ) (β : ℝ) (hq : ∀ d, q d = (f d : EReal))
    (hk : ∀ d, k d = (h d : EReal)) :
    (∑ x, Ideal.div (q x) (Ideal.sqrt (Ideal.ofBits .f32 0x43000000#32)) * k x) + (β : EReal)
      = (((∑ x, f x * (1 / Real.sqrt 128) * h x) + β : ℝ) : EReal) := by
  have h128 : Real.sqrt 128 ≠ 0 := (Real.sqrt_pos.2 (by norm_num)).ne'
  have hs : Ideal.sqrt (Ideal.ofBits .f32 0x43000000#32) = (Real.sqrt 128 : EReal) := by
    rw [of_128, Ideal.sqrt_coe, if_neg (by norm_num)]
  simp only [hs, hq, hk, Ideal.div_coe h128, ← EReal.coe_mul]
  rw [coe_sum, ← EReal.coe_add]

/-- The place in the table of biases of a key at a place of the window, seen from a query at another. -/
def far (a b : ℕ) : Fin 257 := ⟨(max (-128) (min 128 ((a : ℤ) - b)) + 128).toNat, by omega⟩

/-- A word holding a place of the table is read back as that place. -/
theorem word_place (w : ℕ) (hw : w ≤ 256) : min (BitVec.ofNat 32 w).toInt.toNat 256 = w := by
  have h : ∀ w : Fin 257, min (BitVec.ofNat 32 w).toInt.toNat 256 = w := by decide +kernel
  exact h ⟨w, by omega⟩

end ChunkAttention
end
end
-- ==== Proof.Payload.lean ====
module
public import proofs.«01_k».proof.Proof.Gen.KernelIdeal.Skeleton
public import Idealize.ShloMosaic.Lib.Pointwise
public import proofs.«01_k».proof.Proof.Norm
@[expose] public section
set_option maxRecDepth 16384
noncomputable section
namespace ChunkAttention
open Idealize.ShloMosaic
open scoped BigOperators

/-- One query's score against one key, in powers of two: the scaled product of the normalised vectors and the scaled bias. -/
def score2 (q gq k : Fin 128 → EReal) (b : EReal) : EReal :=
  (∑ x, nrm q gq x * (((Real.log 2)⁻¹ * (Real.sqrt 128)⁻¹ : ℝ) : EReal) * k x) + (((Real.log 2)⁻¹ : ℝ) : EReal) * b

/-- One entry of one query's attention over a window of 768 keys. -/
def att2 (s v : Fin 768 → EReal) : EReal :=
  Ideal.div (∑ n, Ideal.exp2 (s n - Finset.univ.fold max (⊥ : EReal) s) * v n)
    (∑ n, Ideal.exp2 (s n - Finset.univ.fold max (⊥ : EReal) s))

end ChunkAttention

namespace Cert.KernelIdeal.Value
open Idealize.ShloMosaic Idealize.ShloMosaic.TcCoe Idealize.SL.Sem
open Cert.KernelIdeal Cert.KernelIdeal.Gen ChunkAttention

/-- The named scale is `1/ln 2` times `1/√128`. -/
theorem named_scale : Named.named (F := Ideal) κ "scale" (φ := .f32) 0x3E0293EE#32
    = (((Real.log 2)⁻¹ * (Real.sqrt 128)⁻¹ : ℝ) : EReal) := rfl
/-- The named constant is `1/ln 2`. -/
theorem named_log2e : Named.named (F := Ideal) κ "log2e" (φ := .f32) 0x3FB8AA3B#32
    = (((Real.log 2)⁻¹ : ℝ) : EReal) := rfl

/-- The keys the kernel keeps are the normalised keys. -/
theorem pay1_at (k : FVec Ideal S4096x128 .bf16) (g : FVec Ideal S1x128 .f32) (r : Fin 4096) (d : Fin 128) :
    k0_pay1 (F := Ideal) k g (ix2 r d : S4096x128.Idx)
      = nrm (fun e => k (ix2 r e : S4096x128.Idx)) (fun e => g (ix2 0 e : S1x128.Idx)) d := by
  pointwise [k0_pay1]
  rfl

/-- The scores less their row's maximum. -/
theorem pay3_at (q : FVec Ideal S256x128 .bf16) (g : FVec Ideal S1x128 .f32) (k : FVec Ideal S768x128 .bf16)
    (b : FVec Ideal S1x1x256x768 .f32) (r : Fin 256) (n : Fin 768) :
    k0_pay3 (F := Ideal) q g k b (ix2 r n : S256x768.Idx)
      = score2 (fun e => q (ix2 r e : S256x128.Idx)) (fun e => g (ix2 0 e : S1x128.Idx)) (fun e => k (ix2 n e : S768x128.Idx))
          (b (ix4 0 0 r n : S1x1x256x768.Idx))
        - Finset.univ.fold max (⊥ : EReal) fun l =>
            score2 (fun e => q (ix2 r e : S256x128.Idx)) (fun e => g (ix2 0 e : S1x128.Idx)) (fun e => k (ix2 l e : S768x128.Idx))
              (b (ix4 0 0 r l : S1x1x256x768.Idx)) := by
  pointwise [k0_pay3]
  rw [named_scale, named_log2e, of_neg_inf]
  rfl

/-- One entry of what a trip stores: the attention of one query over its window. -/
theorem trip_at (q : FVec Ideal S256x128 .bf16) (g : FVec Ideal S1x128 .f32) (k v : FVec Ideal S768x128 .bf16)
    (b : FVec Ideal S1x1x256x768 .f32) (r : Fin 256) (d : Fin 128) :
    k0_pay2 (F := Ideal) (k0_pay3 (F := Ideal) q g k b) v (ix2 r d : S256x128.Idx)
      = att2 (fun n => score2 (fun e => q (ix2 r e : S256x128.Idx)) (fun e => g (ix2 0 e : S1x128.Idx))
            (fun e => k (ix2 n e : S768x128.Idx)) (b (ix4 0 0 r n : S1x1x256x768.Idx)))
          (fun n => v (ix2 n d : S768x128.Idx)) := by
  pointwise [k0_pay2]
  simp only [pay3_at]
  rfl

end Cert.KernelIdeal.Value
end
end
-- ==== Proof.Block.lean ====
module
public import proofs.«01_k».proof.Proof.Gen.KernelIdeal.Value
public import proofs.«01_k».proof.Proof.Payload
public import Idealize.ShloMosaic.Lib.Pipeline.ValueKit
public import Idealize.ShloMosaic.Lib.Pointwise
public import Idealize.ShloMosaic.Lib.WholeRead
@[expose] public section
set_option maxRecDepth 16384
noncomputable section
namespace Cert.KernelIdeal.Value
open Idealize.ShloMosaic Idealize.ShloMosaic.TcCoe Idealize.SL.Sem
open Cert.KernelIdeal Cert.KernelIdeal.Gen ChunkAttention

/-- The key a query's window holds at place `n`. -/
def key (r : Fin 4096) (n : Fin 768) : Fin 4096 := ⟨256 * (r.val / 256 - 2) + n.val, by omega⟩

/-- What the body leaves in its output block: each row's attention over its window. -/
def blockOut (x0 x1 x2 : FVec Ideal S4096x128 .bf16) (b : FVec Ideal S3x1x256x768 .f32) (qg kg : FVec Ideal S1x128 .f32)
    (y : S4096x128.Idx) : EReal :=
  att2 (fun n => score2 (fun e => x0 (ix2 (y 0) e : S4096x128.Idx)) (fun e => qg (ix2 0 e : S1x128.Idx))
      (nrm (fun e => x1 (ix2 (key (y 0) n) e : S4096x128.Idx)) (fun e => kg (ix2 0 e : S1x128.Idx)))
      (b (ix4 ⟨min ((y 0 : Fin 4096).val / 256) 2, by omega⟩ 0 ⟨(y 0 : Fin 4096).val % 256, by omega⟩ n : S3x1x256x768.Idx)))
    (fun n => x2 (ix2 (key (y 0) n) (y 1) : S4096x128.Idx))

theorem off2_eq : ∀ k : Fin k0_t1_loop.trips, k0_off2 k = ![256 * (k.val - 2), 0] := by decide +kernel

theorem trips_lt (k : Fin k0_t1_loop.trips) : k.val < 16 := Nat.lt_of_lt_of_le k.isLt k0_t1_abs.2.1

/-- A trip's own rows of the block. -/
theorem rows_emb (k : Fin k0_t1_loop.trips) (h) (r : Fin 256) (d : Fin 128) :
    (Rect.unit (s := S4096x128) (k0_off1 k) S256x128.size h).emb (ix2 r d : S256x128.Idx)
      = (ix2 ⟨256 * k.val + r.val, by have := trips_lt k; omega⟩ d : S4096x128.Idx) := by
  have hk := k0_off1_eq k
  funext a
  refine Fin.ext ?_
  match a with
  | ⟨0, _⟩ => show k0_off1 k 0 + 1 * r.val = 256 * k.val + r.val; rw [hk]; show 256 * k.val + 1 * r.val = _; omega
  | ⟨1, _⟩ => show k0_off1 k 1 + 1 * d.val = d.val; rw [hk]; show 0 + 1 * d.val = _; omega

/-- A trip's window of the block. -/
theorem window_emb (k : Fin k0_t1_loop.trips) (h) (n : Fin 768) (d : Fin 128) :
    (Rect.unit (s := S4096x128) (k0_off2 k) S768x128.size h).emb (ix2 n d : S768x128.Idx)
      = (ix2 ⟨256 * (k.val - 2) + n.val, by have := trips_lt k; omega⟩ d : S4096x128.Idx) := by
  have hk := off2_eq k
  funext a
  refine Fin.ext ?_
  match a with
  | ⟨0, _⟩ => show k0_off2 k 0 + 1 * n.val = 256 * (k.val - 2) + n.val; rw [hk]; show 256 * (k.val - 2) + 1 * n.val = _; omega
  | ⟨1, _⟩ => show k0_off2 k 1 + 1 * d.val = d.val; rw [hk]; show 0 + 1 * d.val = _; omega

/-- A trip's plane of the bias. -/
theorem bias_emb (k : Fin k0_t1_loop.trips) (h) (r : Fin 256) (n : Fin 768) :
    (Rect.unit (s := S3x1x256x768) (k0_off3 k) S1x1x256x768.size h).emb (ix4 0 0 r n : S1x1x256x768.Idx)
      = (ix4 ⟨min k.val 2, by omega⟩ 0 r n : S3x1x256x768.Idx) := by
  have hk := k0_off3_eq k
  funext a
  refine Fin.ext ?_
  match a with
  | ⟨0, _⟩ => show k0_off3 k 0 + 1 * 0 = min k.val 2; rw [hk]; rfl
  | ⟨1, _⟩ => show k0_off3 k 1 + 1 * 0 = 0; rw [hk]; rfl
  | ⟨2, _⟩ => show k0_off3 k 2 + 1 * r.val = r.val; rw [hk]; show 0 + 1 * r.val = _; omega
  | ⟨3, _⟩ => show k0_off3 k 3 + 1 * n.val = n.val; rw [hk]; show 0 + 1 * n.val = _; omega

/-! Loads from staged blocks, entry by entry. -/

theorem ld_rows (a : Memref sig .tc .vmem S4096x128 .bf16) (ha : a.IsWhole) (X : Vec Ideal S4096x128 .bf16) (k : Fin k0_t1_loop.trips) (hb) (r : Fin 256) (d : Fin 128) :
    View.readAt (Elt Ideal) a.view (Rect.unit (s := S4096x128) (k0_off1 k) S256x128.size hb).toLoadRect (ha.unread X) (ix2 r d : S256x128.Idx)
      = X (ix2 ⟨256 * k.val + r.val, by have := trips_lt k; omega⟩ d : S4096x128.Idx) :=
  (Memref.IsWhole.readAt_unread (Val := Elt Ideal) ha X (Rect.unit (s := S4096x128) (k0_off1 k) S256x128.size hb).toLoadRect (ix2 r d : S256x128.Idx)).trans
    (congrArg X (rows_emb k hb r d))

theorem ld_window (a : Memref sig .tc .vmem S4096x128 .bf16) (ha : a.IsWhole) (X : Vec Ideal S4096x128 .bf16) (k : Fin k0_t1_loop.trips) (hb) (n : Fin 768) (d : Fin 128) :
    View.readAt (Elt Ideal) a.view (Rect.unit (s := S4096x128) (k0_off2 k) S768x128.size hb).toLoadRect (ha.unread X) (ix2 n d : S768x128.Idx)
      = X (ix2 ⟨256 * (k.val - 2) + n.val, by have := trips_lt k; omega⟩ d : S4096x128.Idx) :=
  (Memref.IsWhole.readAt_unread (Val := Elt Ideal) ha X (Rect.unit (s := S4096x128) (k0_off2 k) S768x128.size hb).toLoadRect (ix2 n d : S768x128.Idx)).trans
    (congrArg X (window_emb k hb n d))

theorem ld_bias (a : Memref sig .tc .vmem S3x1x256x768 .f32) (ha : a.IsWhole) (X : Vec Ideal S3x1x256x768 .f32) (k : Fin k0_t1_loop.trips) (hb) (r : Fin 256) (n : Fin 768) :
    View.readAt (Elt Ideal) a.view (Rect.unit (s := S3x1x256x768) (k0_off3 k) S1x1x256x768.size hb).toLoadRect (ha.unread X) (ix4 0 0 r n : S1x1x256x768.Idx)
      = X (ix4 ⟨min k.val 2, by omega⟩ 0 r n : S3x1x256x768.Idx) :=
  (Memref.IsWhole.readAt_unread (Val := Elt Ideal) ha X (Rect.unit (s := S3x1x256x768) (k0_off3 k) S1x1x256x768.size hb).toLoadRect (ix4 0 0 r n : S1x1x256x768.Idx)).trans
    (congrArg X (bias_emb k hb r n))

theorem ld_gain (a : Memref sig .tc .vmem S1x128 .f32) (ha : a.IsWhole) (X : Vec Ideal S1x128 .f32) (hb) :
    View.readAt (Elt Ideal) a.view (Rect.unit (s := S1x128) ![0, 0] S1x128.size hb).toLoadRect (ha.unread X) = X :=
  funext fun j => (Memref.IsWhole.readAt_unread (Val := Elt Ideal) ha X (Rect.unit (s := S1x128) ![0, 0] S1x128.size hb).toLoadRect j).trans
    (congrArg X (funext fun a => Fin.ext (by
      match a with
      | ⟨0, _⟩ => show 0 + 1 * (j 0).val = (j 0).val; omega
      | ⟨1, _⟩ => show 0 + 1 * (j 1).val = (j 1).val; omega)))

theorem ld_keys (a : Memref sig .tc .vmem S4096x128 .bf16) (ha : a.IsWhole) (X : Vec Ideal S4096x128 .bf16) (hb) :
    View.readAt (Elt Ideal) a.view (Rect.unit (s := S4096x128) ![0, 0] S4096x128.size hb).toLoadRect (ha.unread X) = X :=
  funext fun j => (Memref.IsWhole.readAt_unread (Val := Elt Ideal) ha X (Rect.unit (s := S4096x128) ![0, 0] S4096x128.size hb).toLoadRect j).trans
    (congrArg X (funext fun a => Fin.ext (by
      match a with
      | ⟨0, _⟩ => show 0 + 1 * (j 0).val = (j 0).val; omega
      | ⟨1, _⟩ => show 0 + 1 * (j 1).val = (j 1).val; omega)))

theorem att2_congr (s s' v v' : Fin 768 → EReal) (hs : ∀ n, s n = s' n) (hv : ∀ n, v n = v' n) : att2 s v = att2 s' v' := by
  rw [funext hs, funext hv]

theorem score2_congr (q q' g g' k k' : Fin 128 → EReal) (b b' : EReal) (hq : ∀ e, q e = q' e) (hg : ∀ e, g e = g' e)
    (hk : ∀ e, k e = k' e) (hb : b = b') : score2 q g k b = score2 q' g' k' b' := by
  rw [funext hq, funext hg, funext hk, hb]

/-- If each trip's pieces agree with one function of the block, so do the pieces of any number of trips. -/
theorem pieces_of_trips (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S3x1x256x768 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S4096x128 .bf16) (harg8 : arg8.IsWhole) (arg9 : Memref sig .tc .vmem S4096x128 .bf16) (harg9 : arg9.IsWhole) (X_arg2 : BufTy.Contents (Elt Ideal) arg2.view.ty) (X_arg4 : BufTy.Contents (Elt Ideal) arg4.view.ty) (X_arg5 : BufTy.Contents (Elt Ideal) arg5.view.ty) (X_arg6 : BufTy.Contents (Elt Ideal) arg6.view.ty) (X_arg9 : BufTy.Contents (Elt Ideal) arg9.view.ty)
    (G : S4096x128.Idx → Elt Ideal .bf16)
    (h : ∀ k, ∀ p ∈ tripL_k0_t1 (F := Ideal) 𝒱 c bd i arg2 harg2 arg3 harg3 arg4 harg4 arg5 harg5 arg6 harg6 arg7 harg7 arg8 harg8 arg9 harg9 X_arg2 X_arg4 X_arg5 X_arg6 X_arg9 k, ∀ x, p.2 x = G (p.1.emb x)) :
    ∀ n ≤ k0_t1_loop.trips, ∀ p ∈ pb_k0_t1 (F := Ideal) 𝒱 c bd i arg2 harg2 arg3 harg3 arg4 harg4 arg5 harg5 arg6 harg6 arg7 harg7 arg8 harg8 arg9 harg9 X_arg2 X_arg4 X_arg5 X_arg6 X_arg9 n, ∀ x, p.2 x = G (p.1.emb x)
  | 0, _, p, hp => by rw [pb_k0_t1.eq_1] at hp; exact absurd hp List.not_mem_nil
  | n + 1, hn, p, hp => by
    rw [show n + 1 = (⟨n, hn⟩ : Fin k0_t1_loop.trips).val + 1 from rfl, pb_k0_t1_succ] at hp
    rcases List.mem_append.1 hp with hp | hp
    · exact h _ p hp
    · exact pieces_of_trips 𝒱 c bd i arg2 harg2 arg3 harg3 arg4 harg4 arg5 harg5 arg6 harg6 arg7 harg7 arg8 harg8 arg9 harg9 X_arg2 X_arg4 X_arg5 X_arg6 X_arg9 G h n (by omega) p hp

/-- Each trip's piece is its rows of `blockOut`. -/
theorem trip_pieces (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S3x1x256x768 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S4096x128 .bf16) (harg8 : arg8.IsWhole) (arg9 : Memref sig .tc .vmem S4096x128 .bf16) (harg9 : arg9.IsWhole)
    (x0 x1 x2 : FVec Ideal S4096x128 .bf16) (b : FVec Ideal S3x1x256x768 .f32) (qg kg : FVec Ideal S1x128 .f32)
    (k : Fin k0_t1_loop.trips) :
    ∀ p ∈ tripL_k0_t1 (F := Ideal) 𝒱 c bd i arg2 harg2 arg3 harg3 arg4 harg4 arg5 harg5 arg6 harg6 arg7 harg7 arg8 harg8 arg9 harg9 (harg2.unread x0) (harg4.unread x2) (harg5.unread b) (harg6.unread qg)
        (arg9.view.writes (Elt Ideal) arg9.view.junk (kernelRun0_A.sl.HS0_1 (F := Ideal) c arg3 harg3 arg7 harg7 x1 kg)) k,
      ∀ x, p.2 x = blockOut x0 x1 x2 b qg kg (p.1.emb x) := by
  unfold tripL_k0_t1 trip_k0_t1
  dsimp only
  intro p hp
  rw [List.mem_singleton] at hp
  subst hp
  intro x
  dsimp only [trip_k0_t1.sl.r]
  have hk := trips_lt k
  obtain ⟨r, d, rfl⟩ : ∃ (r : Fin 256) (d : Fin 128), x = (ix2 r d : S256x128.Idx) := ⟨x 0, x 1, eq_ix2 x⟩
  refine (trip_at _ _ _ _ _ r d).trans ?_
  rw [rows_emb k _ r d]
  have hdiv : (256 * k.val + r.val) / 256 = k.val := by omega
  have hmod : (256 * k.val + r.val) % 256 = r.val := by omega
  unfold blockOut
  refine att2_congr _ _ _ _ (fun n => ?_) (fun n => ?_)
  · refine score2_congr _ _ _ _ _ _ _ _ (fun e => ?_) (fun e => ?_) (fun e => ?_) ?_
    · exact ld_rows arg2 harg2 x0 k _ r e
    · exact congrFun (ld_gain arg6 harg6 qg _) _
    · rw [View.readAt_writes_junk_eq_canon]
      refine (congrArg _ (window_emb k _ n e)).trans ?_
      unfold kernelRun0_A.sl.HS0_1
      rw [View.canon_unit_zero (by funext a; match a with | ⟨0, _⟩ => rfl | ⟨1, _⟩ => rfl), ld_gain, ld_keys, pay1_at]
      have hkey : (⟨256 * (k.val - 2) + n.val, by omega⟩ : Fin 4096) = key ⟨256 * k.val + r.val, by omega⟩ n :=
        Fin.ext (by show 256 * (k.val - 2) + n.val = 256 * ((256 * k.val + r.val) / 256 - 2) + n.val; rw [hdiv])
      rw [hkey]
      rfl
    · refine (ld_bias arg5 harg5 b k _ r n).trans (congrArg b ?_)
      refine congrArg₂ (fun o r => (ix4 o 0 r n : S3x1x256x768.Idx)) (Fin.ext ?_) (Fin.ext ?_)
      · show min k.val 2 = min ((256 * k.val + r.val) / 256) 2; rw [hdiv]
      · exact hmod.symm
  · refine (ld_window arg4 harg4 x2 k _ n d).trans (congrArg x2 ?_)
    refine congrArg (fun r => (ix2 r d : S4096x128.Idx)) (Fin.ext ?_)
    show 256 * (k.val - 2) + n.val = 256 * ((256 * k.val + r.val) / 256 - 2) + n.val; rw [hdiv]

variable (m : (ℓ : Loc nD τ sig) → Buf (Elt Ideal) ℓ)

/-- What the body leaves at a grid point is `blockOut` of the point's blocks. -/
theorem outsAt_eq (c : Dev nD) (t : Fin cfg0.N) :
    outsAt0 m c t = blockOut (iblk m c 0 t) (iblk m c 1 t) (iblk m c 2 t) (iblk m c 3 t) (iblk m c 4 t) (iblk m c 5 t) := by
  funext y
  unfold outsAt0 out0_A_6
  refine View.read_writes_apply_of_pieces (Val := Elt Ideal) _ _ (blockOut (iblk m c 0 t) (iblk m c 1 t) (iblk m c 2 t) (iblk m c 3 t) (iblk m c 4 t) (iblk m c 5 t)) _ ?_ y (cover0_A_6 c _ _ _ _ _ _ _ _ _ _ _ _ _ _ _ _ _ _ _ _ _ _ _ y)
  unfold kernelRun0_A
  dsimp only
  exact pieces_of_trips _ _ _ _ _ _ _ _ _ _ _ _ _ _ _ _ _ _ _ _ _ _ _ _ _ _ (fun k => trip_pieces _ _ _ _ _ _ _ _ _ _ _ _ _ _ _ _ _ _ _ _ _ _ _ _ _ _ k) _ (le_of_eq rfl)

end Cert.KernelIdeal.Value
end
end
-- ==== Proof.Array.lean ====
module
public import proofs.«01_k».proof.Proof.Block
public import Idealize.ShloMosaic.Lib.Claim
@[expose] public section
set_option maxRecDepth 16384
noncomputable section
namespace Cert.KernelIdeal.Value
open Idealize.ShloMosaic Idealize.ShloMosaic.TcCoe Idealize.SL.Sem
open Cert.KernelIdeal Cert.KernelIdeal.Gen ChunkAttention

/-- The place in the projection of batch `i / 4096`'s row `s`. -/
def row (i : Fin 8192) (s : Fin 4096) : Fin 8192 := ⟨4096 * (i.val / 4096) + s.val, by omega⟩
/-- A row's place in its sequence. -/
def seq (i : Fin 8192) : Fin 4096 := ⟨i.val % 4096, by omega⟩
/-- An output column's head. -/
def hd (j : Fin 1536) : Fin 12 := ⟨j.val / 128, by omega⟩
/-- Entry `e` of the head of an output column, in the part of the projection that begins at column `1024 + 1536 * p`. -/
def col (p : Fin 3) (j : Fin 1536) (e : Fin 128) : Fin 22528 := ⟨1024 + 1536 * p.val + 128 * (j.val / 128) + e.val, by omega⟩

/-- The array the kernel computes, from the projection, the bias planes and the gains. -/
def attOut (x : FVec Ideal S8192x22528 .bf16) (b : FVec Ideal S3x12x256x768 .f32) (qg kg : FVec Ideal S1x128 .f32)
    (i : S8192x1536.Idx) : EReal :=
  att2 (fun n => score2 (fun e => x (ix2 (i 0) (col 0 (i 1) e) : S8192x22528.Idx)) (fun e => qg (ix2 0 e : S1x128.Idx))
      (nrm (fun e => x (ix2 (row (i 0) (key (seq (i 0)) n)) (col 1 (i 1) e) : S8192x22528.Idx)) (fun e => kg (ix2 0 e : S1x128.Idx)))
      (b (ix4 ⟨min ((i 0 : Fin 8192).val % 4096 / 256) 2, by omega⟩ (hd (i 1)) ⟨(i 0 : Fin 8192).val % 4096 % 256, by omega⟩ n : S3x12x256x768.Idx)))
    (fun n => x (ix2 (row (i 0) (key (seq (i 0)) n)) (col 2 (i 1) ⟨(i 1 : Fin 1536).val % 128, by omega⟩) : S8192x22528.Idx))

theorem idx : ∀ t : Fin cfg0.N, win0_0.index t = ![t.val % 2, 8 + t.val / 2] ∧ win0_1.index t = ![t.val % 2, 20 + t.val / 2]
    ∧ win0_2.index t = ![t.val % 2, 32 + t.val / 2] ∧ win0_3.index t = ![0, t.val / 2, 0, 0] ∧ win0_4.index t = ![0, 0]
    ∧ win0_5.index t = ![0, 0] ∧ win0_6.index t = ![t.val % 2, t.val / 2] ∧ t.val / 2 < 12 :=
  (by decide +kernel : ∀ t : Fin grid0.N, _)

variable (m : (ℓ : Loc nD τ sig) → Buf (Elt Ideal) ℓ)

theorem blk0 (c : Dev nD) (t : Fin cfg0.N) (r : Fin 4096) (e : Fin 128) : iblk m c 0 t (ix2 r e : S4096x128.Idx)
    = m ((c : Thread nD τ).loc main_arg0) (ix2 ⟨4096 * (t.val % 2) + r.val, by omega⟩ ⟨128 * (8 + t.val / 2) + e.val, by have := (idx t).2.2.2.2.2.2.2; omega⟩ : S8192x22528.Idx) := by
  blk_ext [iblk, V, idx t]
theorem blk1 (c : Dev nD) (t : Fin cfg0.N) (r : Fin 4096) (e : Fin 128) : iblk m c 1 t (ix2 r e : S4096x128.Idx)
    = m ((c : Thread nD τ).loc main_arg0) (ix2 ⟨4096 * (t.val % 2) + r.val, by omega⟩ ⟨128 * (20 + t.val / 2) + e.val, by have := (idx t).2.2.2.2.2.2.2; omega⟩ : S8192x22528.Idx) := by
  blk_ext [iblk, V, idx t]
theorem blk2 (c : Dev nD) (t : Fin cfg0.N) (r : Fin 4096) (e : Fin 128) : iblk m c 2 t (ix2 r e : S4096x128.Idx)
    = m ((c : Thread nD τ).loc main_arg0) (ix2 ⟨4096 * (t.val % 2) + r.val, by omega⟩ ⟨128 * (32 + t.val / 2) + e.val, by have := (idx t).2.2.2.2.2.2.2; omega⟩ : S8192x22528.Idx) := by
  blk_ext [iblk, V, idx t]
theorem blk3 (c : Dev nD) (t : Fin cfg0.N) (o : Fin 3) (q : Fin 256) (n : Fin 768) : iblk m c 3 t (ix4 o 0 q n : S3x1x256x768.Idx)
    = V m c main_v53 (ix4 o ⟨t.val / 2, (idx t).2.2.2.2.2.2.2⟩ q n : S3x12x256x768.Idx) := by
  blk_ext [iblk, idx t]
theorem blk4 (c : Dev nD) (t : Fin cfg0.N) (e : Fin 128) : iblk m c 4 t (ix2 0 e : S1x128.Idx)
    = V m c main_v54 (ix2 0 e : S1x128.Idx) := by
  blk_ext [iblk, idx t]
theorem blk5 (c : Dev nD) (t : Fin cfg0.N) (e : Fin 128) : iblk m c 5 t (ix2 0 e : S1x128.Idx)
    = V m c main_v55 (ix2 0 e : S1x128.Idx) := by
  blk_ext [iblk, idx t]

theorem emb6 (t : Fin cfg0.N) (r : Fin 4096) (d : Fin 128) : (win0_6.blk t).view.emb (ix2 r d : S4096x128.Idx)
    = (ix2 ⟨4096 * (t.val % 2) + r.val, by omega⟩ ⟨128 * (t.val / 2) + d.val, by have := (idx t).2.2.2.2.2.2.2; omega⟩ : S8192x1536.Idx) := by
  blk_ext [idx t]

/-- The array after the run. -/
theorem final (c : Dev nD) : (dats m 0 c).arrAt 6 (cfgs 0).N
    = attOut (m ((c : Thread nD τ).loc main_arg0)) (V m c main_v53) (V m c main_v54) (V m c main_v55) := by
  refine (dats m 0 c).arrAt_eq_of_covers 6 _ (by decide +kernel) fun t _ y => ?_
  blk_simp
  rw [after0_6, outsAt_eq]
  obtain ⟨r, d, rfl⟩ : ∃ (r : Fin 4096) (d : Fin 128), y = (ix2 r d : S4096x128.Idx) := ⟨y 0, y 1, eq_ix2 y⟩
  have ht := (idx t).2.2.2.2.2.2.2
  refine Eq.trans ?_ (congrArg (attOut (m ((c : Thread nD τ).loc main_arg0)) (V m c main_v53) (V m c main_v54) (V m c main_v55)) (emb6 t r d)).symm
  unfold blockOut attOut
  have e1 : (4096 * (t.val % 2) + r.val) / 4096 = t.val % 2 := by omega
  have e2 : (4096 * (t.val % 2) + r.val) % 4096 = r.val := by omega
  have e3 : (128 * (t.val / 2) + d.val) / 128 = t.val / 2 := by omega
  have e4 : (128 * (t.val / 2) + d.val) % 128 = d.val := by omega
  have hs : seq ⟨4096 * (t.val % 2) + r.val, by omega⟩ = r := Fin.ext e2
  have hrow : ∀ s, row ⟨4096 * (t.val % 2) + r.val, by omega⟩ s = ⟨4096 * (t.val % 2) + s.val, by omega⟩ := fun s =>
    Fin.ext (by show 4096 * ((4096 * (t.val % 2) + r.val) / 4096) + s.val = _; rw [e1])
  have hrow' : ∀ n, row ⟨4096 * (t.val % 2) + r.val, by omega⟩ (key (seq ⟨4096 * (t.val % 2) + r.val, by omega⟩) n)
      = ⟨4096 * (t.val % 2) + (key r n).val, by omega⟩ := fun n => by rw [hs, hrow]
  refine att2_congr _ _ _ _ (fun n => ?_) (fun n => ?_)
  · refine score2_congr _ _ _ _ _ _ _ _ (fun e => ?_) (fun e => ?_) (fun e => ?_) ?_
    · refine (blk0 m c t r e).trans (congrArg (fun j => m ((c : Thread nD τ).loc main_arg0) (ix2 ⟨4096 * (t.val % 2) + r.val, by omega⟩ j : S8192x22528.Idx)) (Fin.ext ?_))
      show 128 * (8 + t.val / 2) + e.val = 1024 + 1536 * 0 + 128 * ((128 * (t.val / 2) + d.val) / 128) + e.val
      rw [e3]; omega
    · exact blk4 m c t e
    · refine congrArg₂ (fun f g => nrm f g e) (funext fun e => ?_) (funext fun e => blk5 m c t e)
      refine (blk1 m c t _ e).trans (congrArg₂ (fun i j => m ((c : Thread nD τ).loc main_arg0) (ix2 i j : S8192x22528.Idx)) ?_ (Fin.ext ?_))
      · exact (hrow' n).symm
      · show 128 * (20 + t.val / 2) + e.val = 1024 + 1536 * 1 + 128 * ((128 * (t.val / 2) + d.val) / 128) + e.val
        rw [e3]; omega
    · refine (blk3 m c t _ _ n).trans (congrArg (V m c main_v53) ?_)
      refine (ix4_inj ..).2 ⟨Fin.ext ?_, Fin.ext e3.symm, Fin.ext ?_, rfl⟩
      · show min (r.val / 256) 2 = min ((4096 * (t.val % 2) + r.val) % 4096 / 256) 2; rw [e2]
      · show r.val % 256 = (4096 * (t.val % 2) + r.val) % 4096 % 256; rw [e2]
  · refine (blk2 m c t _ d).trans (congrArg₂ (fun i j => m ((c : Thread nD τ).loc main_arg0) (ix2 i j : S8192x22528.Idx)) ?_ (Fin.ext ?_))
    · exact (hrow' n).symm
    · show 128 * (32 + t.val / 2) + d.val = 1024 + 1536 * 2 + 128 * ((128 * (t.val / 2) + d.val) / 128) + (128 * (t.val / 2) + d.val) % 128
      rw [e3, e4]; omega

end Cert.KernelIdeal.Value
end
end
-- ==== Proof.GatherK.lean ====
module
public import proofs.«01_k».proof.Proof.Gen.KernelIdeal.Value
public import Idealize.ShloMosaic.Lib.Pointwise
public import Idealize.ShloMosaic.Lib.Claim
public import Idealize.ShloMosaic.Lib.StableHlo.Run
@[expose] public section
set_option maxRecDepth 16384
noncomputable section
namespace Cert.KernelIdeal.Value
open Idealize.ShloMosaic Idealize.ShloMosaic.TcCoe Idealize.SL.Sem
open Cert.KernelIdeal Cert.KernelIdeal.Gen
/-- The table of biases read at a head and a computed place. -/
theorem gather_at {α : Type} (x : S12x257.Idx → α) (idx : IVec S3x1024x1 32) (h : Fin 12) (o : Fin 3) (n : Fin 1024) :
    Host.gather gather_S12x257_S3x1024x1_S12x3x1024_0_1_n_n_1_2_121 x idx (ix3 h o n : S12x3x1024.Idx) = x (ix2 h ⟨min (idx (ix3 o n 0 : S3x1024x1.Idx)).toInt.toNat 256, by omega⟩ : S12x257.Idx) := by
  unfold Host.gather
  congr 1
  funext a
  refine Fin.ext ?_
  match a with
  | ⟨0, _⟩ =>
    show GatherDims.start gather_S12x257_S3x1024x1_S12x3x1024_0_1_n_n_1_2_121 _ idx 0 + GatherDims.batchCoord gather_S12x257_S3x1024x1_S12x3x1024_0_1_n_n_1_2_121 _ 0 + GatherDims.offCoord gather_S12x257_S3x1024x1_S12x3x1024_0_1_n_n_1_2_121 _ 0 = _
    rw [GatherDims.batchCoord_eq_zero _ _ _ (show (0 : Fin 2) ∉ ([] : List (Fin 2)) by decide)]
    unfold GatherDims.start
    rw [dif_neg (show ¬ (0 : Fin 2) ∈ GatherDims.startIndexMap gather_S12x257_S3x1024x1_S12x3x1024_0_1_n_n_1_2_121 from (show ¬ (0 : Fin 2) ∈ ([1] : List (Fin 2)) by decide))]
    show 0 + 0 + _ = _
    rw [Nat.add_zero, Nat.zero_add]
    rfl
  | ⟨1, _⟩ =>
    show GatherDims.start gather_S12x257_S3x1024x1_S12x3x1024_0_1_n_n_1_2_121 _ idx 1 + GatherDims.batchCoord gather_S12x257_S3x1024x1_S12x3x1024_0_1_n_n_1_2_121 _ 1 + GatherDims.offCoord gather_S12x257_S3x1024x1_S12x3x1024_0_1_n_n_1_2_121 _ 1 = _
    rw [GatherDims.batchCoord_eq_zero _ _ _ (show (1 : Fin 2) ∉ ([] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S12x257_S3x1024x1_S12x3x1024_0_1_n_n_1_2_121 from List.mem_singleton.mpr rfl)]
    have hsi : GatherDims.siIdx gather_S12x257_S3x1024x1_S12x3x1024_0_1_n_n_1_2_121 (ix3 h o n : S12x3x1024.Idx) ⟨List.idxOf (1 : Fin 2) (GatherDims.startIndexMap gather_S12x257_S3x1024x1_S12x3x1024_0_1_n_n_1_2_121),
        List.idxOf_lt_length_iff.2 (show (1 : Fin 2) ∈ GatherDims.startIndexMap gather_S12x257_S3x1024x1_S12x3x1024_0_1_n_n_1_2_121 from List.mem_singleton.mpr rfl)⟩ = (ix3 o n 0 : S3x1024x1.Idx) := by
      funext b; refine Fin.ext ?_
      match b with
      | ⟨0, _⟩ => rfl
      | ⟨1, _⟩ => rfl
      | ⟨2, _⟩ => rfl
    exact congrArg (fun j => min (idx j).toInt.toNat 256) hsi

end Cert.KernelIdeal.Value
end
end
-- ==== Proof.Bias.lean ====
module
public import proofs.«01_k».proof.Proof.GatherK
public import proofs.«01_k».proof.Proof.Norm
@[expose] public section
set_option maxRecDepth 16384
noncomputable section
namespace Cert.KernelIdeal.Value
open Idealize.ShloMosaic Idealize.ShloMosaic.TcCoe Idealize.SL.Sem
open Cert.KernelIdeal Cert.KernelIdeal.Gen ChunkAttention

/-- The places of the queries of a block of 256 in a window: 256 times the block, and the row. -/
def qPlace : IVec S3x256x1 32 :=
  addi (broadcastInDim S3x256x1 ![0, 1, 2] bcast_S3x1x1_S3x256x1_0_1_2
      (muli (broadcastInDim S3x1x1 ![0] bcast_S3_S3x1x1_0 (iotaInDim S3 32 0)) (broadcastInDim S3x1x1 ![] bcast_S_S3x1x1 (constantI S_ 32 256#32))))
    (broadcastInDim S3x256x1 ![0, 1, 2] bcast_S1x256x1_S3x256x1_0_1_2
      (broadcastInDim S1x256x1 ![1] bcast_S256_S1x256x1_1 (iotaInDim S256 32 0)))

/-- The chunks of the queries: their places divided by 64, rounded down. -/
def qChunk : IVec S3x256x1 32 :=
  select (andi (cmpi .ne (signi qPlace) (broadcastInDim S3x256x1 ![] bcast_S_S3x256x1 (signi (id (constantI S_ 32 64#32)))))
      (cmpi .ne (Host.remsi qPlace (broadcastInDim S3x256x1 ![] bcast_S_S3x256x1 (id (constantI S_ 32 64#32))))
        (broadcastInDim S3x256x1 ![] bcast_S_S3x256x1 (constantI S_ 32 0#32))))
    (subi (Host.divsi qPlace (broadcastInDim S3x256x1 ![] bcast_S_S3x256x1 (id (constantI S_ 32 64#32))))
      (broadcastInDim S3x256x1 ![] bcast_S_S3x256x1 (constantI S_ 32 1#32)))
    (Host.divsi qPlace (broadcastInDim S3x256x1 ![] bcast_S_S3x256x1 (id (constantI S_ 32 64#32))))

/-- The places of the keys of a window. -/
def kPlace : IVec S1x1x768 32 := broadcastInDim S1x1x768 ![2] bcast_S768_S1x1x768_2 (iotaInDim S768 32 0)

/-- The chunks of the keys. -/
def kChunk : IVec S1x1x768 32 :=
  select (andi (cmpi .ne (signi kPlace) (broadcastInDim S1x1x768 ![] bcast_S_S1x1x768 (signi (id (constantI S_ 32 64#32)))))
      (cmpi .ne (Host.remsi kPlace (broadcastInDim S1x1x768 ![] bcast_S_S1x1x768 (id (constantI S_ 32 64#32))))
        (broadcastInDim S1x1x768 ![] bcast_S_S1x1x768 (constantI S_ 32 0#32))))
    (subi (Host.divsi kPlace (broadcastInDim S1x1x768 ![] bcast_S_S1x1x768 (id (constantI S_ 32 64#32))))
      (broadcastInDim S1x1x768 ![] bcast_S_S1x1x768 (constantI S_ 32 1#32)))
    (Host.divsi kPlace (broadcastInDim S1x1x768 ![] bcast_S_S1x1x768 (id (constantI S_ 32 64#32))))

/-- Which keys a query sees: those of its own chunk and of the eight before it. -/
def seen : IVec S3x256x768 1 :=
  andi (cmpi .sle (broadcastInDim S3x256x768 ![0, 1, 2] bcast_S1x1x768_S3x256x768_0_1_2 kChunk)
      (broadcastInDim S3x256x768 ![0, 1, 2] bcast_S3x256x1_S3x256x768_0_1_2 qChunk))
    (cmpi .sge (broadcastInDim S3x256x768 ![0, 1, 2] bcast_S1x1x768_S3x256x768_0_1_2 kChunk)
      (broadcastInDim S3x256x768 ![0, 1, 2] bcast_S3x256x1_S3x256x768_0_1_2
        (subi qChunk (broadcastInDim S3x256x1 ![] bcast_S_S3x256x1 (constantI S_ 32 8#32)))))

/-- The clipped distances, moved into the range of the table of biases. -/
def dist : IVec S3x1024 32 :=
  addi (minsi (broadcastInDim S3x1024 ![] bcast_S_S3x1024 (id (constantI S_ 32 128#32)))
      (maxsi (broadcastInDim S3x1024 ![] bcast_S_S3x1024 (id (constantI S_ 32 4294967168#32)))
        (subi (broadcastInDim S3x1024 ![0, 1] bcast_S3x1_S3x1024_0_1
            (muli (fun i => shapeCast main_v28.ty.shape (broadcastInDim S3x1x1 ![0] bcast_S3_S3x1x1_0 (iotaInDim S3 32 0)) shapeCasts_S3x1x1_S3x1 i)
              (broadcastInDim S3x1 ![] bcast_S_S3x1 (constantI S_ 32 256#32))))
          (broadcastInDim S3x1024 ![0, 1] bcast_S1x1024_S3x1024_0_1
            (broadcastInDim S1x1024 ![1] bcast_S1024_S1x1024_1
              (select (cmpi .slt (iotaInDim S1024 32 0) (broadcastInDim S1024 ![] bcast_S_S1024 (constantI S_ 32 768#32)))
                (iotaInDim S1024 32 0)
                (subi (iotaInDim S1024 32 0) (broadcastInDim S1024 ![] bcast_S_S1024 (constantI S_ 32 1024#32)))))))))
    (broadcastInDim S3x1024 ![] bcast_S_S3x1024 (constantI S_ 32 128#32))

/-- The places read from the table of biases. -/
def places : IVec S3x1024x1 32 :=
  broadcastInDim S3x1024x1 ![0, 1] bcast_S3x1024_S3x1024x1_0_1
    (select (cmpi .slt dist (broadcastInDim S3x1024 ![] bcast_S_S3x1024 (constantI S_ 32 0#32)))
      (addi dist (broadcastInDim S3x1024 ![] bcast_S_S3x1024 (constantI S_ 32 257#32))) dist)

/-- The planes of biases made of the lines: each line is laid out 256 times, less its end, and cut into rows one
    shorter than it, so that every row is moved by one against the row before. -/
def planes (line : FVec Ideal S12x3x1024 .f32) : FVec Ideal S12x3x256x768 .f32 :=
  extractStridedSlice S12x3x256x768 ![0, 0, 0, 0]
    (fun i => shapeCast main_v49.ty.shape (extractStridedSlice S12x3x261888 ![0, 0, 0]
      (fun i => shapeCast main_v47.ty.shape (broadcastInDim S1x12x1x3x256x1024 ![0, 1, 2, 3, 4, 5] bcast_S1x12x1x3x1x1024_S1x12x1x3x256x1024_0_1_2_3_4_5
        (fun i => shapeCast main_v45.ty.shape line shapeCasts_S12x3x1024_S1x12x1x3x1x1024 i)) shapeCasts_S1x12x1x3x256x1024_S12x3x262144 i)
      slices_S12x3x262144_S12x3x261888_0_0_0) shapeCasts_S12x3x261888_S12x3x256x1023 i)
    slices_S12x3x256x1023_S12x3x256x768_0_0_0_0

variable (m : (ℓ : Loc nD τ sig) → Buf (Elt Ideal) ℓ)
set_option maxHeartbeats 2000000 in
/-- The planes of biases the host prepares. -/
theorem v53_eq (c : Dev nD) : V m c main_v53 =
    (transpose S3x12x256x768 [1, 0, 2, 3] (select (broadcastInDim S12x3x256x768 ![0, 1, 2, 3] bcast_S1x3x256x768_S12x3x256x768_0_1_2_3
      (broadcastInDim S1x3x256x768 ![1, 2, 3] bcast_S3x256x768_S1x3x256x768_1_2_3 seen))
      (planes (Host.gather gather_S12x257_S3x1024x1_S12x3x1024_0_1_n_n_1_2_121 (m ((c.tc : Thread nD τ).loc main_arg3) : FVec Ideal S12x257 .f32) places))
      (broadcastInDim S12x3x256x768 ![] bcast_S_S12x3x256x768 (id (constant S_ .f32 0xFF800000#32))) : FVec Ideal S12x3x256x768 .f32)
      transposes_S12x3x256x768_S3x12x256x768_1_0_2_3 : FVec Ideal S3x12x256x768 .f32) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  rfl

/-- The places of the queries, at an index. -/
theorem qPlace_at (o : Fin 3) (q : Fin 256) : qPlace (ix3 o q 0 : S3x256x1.Idx) = BitVec.ofNat 32 (256 * o + q) := by
  unfold qPlace
  pointwise []
  revert o q
  decide +kernel
/-- The chunks of the queries, at an index. -/
theorem qChunk_at (o : Fin 3) (q : Fin 256) : qChunk (ix3 o q 0 : S3x256x1.Idx) = BitVec.ofNat 32 ((256 * o + q) / 64) := by
  unfold qChunk
  pointwise [qPlace_at]
  revert o q
  decide +kernel
/-- The places of the keys, at an index. -/
theorem kPlace_at (n : Fin 768) : kPlace (ix3 0 0 n : S1x1x768.Idx) = BitVec.ofNat 32 n := by
  unfold kPlace
  pointwise []
/-- The chunks of the keys, at an index. -/
theorem kChunk_at (n : Fin 768) : kChunk (ix3 0 0 n : S1x1x768.Idx) = BitVec.ofNat 32 (n / 64) := by
  unfold kChunk
  pointwise [kPlace_at]
  revert n
  decide +kernel
/-- The two comparisons of chunks, as one condition. -/
theorem seen_word : ∀ a b : Fin 12, IntOp.andi (IntOp.cmpi CmpIPredicate.sle (BitVec.ofNat 32 a) (BitVec.ofNat 32 b))
    (IntOp.cmpi CmpIPredicate.sge (BitVec.ofNat 32 a) (IntOp.subi (BitVec.ofNat 32 b) 8#32)) =
    if (a : ℕ) ≤ b ∧ (b : ℕ) ≤ a + 8 then 1#1 else 0#1 := by decide +kernel
/-- Whether a query sees a key, at an index. -/
theorem seen_at (o : Fin 3) (q : Fin 256) (n : Fin 768) : seen (ix3 o q n : S3x256x768.Idx) =
    if (n : ℕ) / 64 ≤ (256 * o + q) / 64 ∧ (256 * (o : ℕ) + q) / 64 ≤ n / 64 + 8 then 1#1 else 0#1 := by
  unfold seen
  pointwise [kChunk_at, qChunk_at]
  exact seen_word ⟨n / 64, by omega⟩ ⟨(256 * o + q) / 64, by omega⟩
/-- The clipped distance, at an index. -/
theorem dist_at (o : Fin 3) (n : Fin 1024) : dist (ix2 o n : S3x1024.Idx) = BitVec.ofNat 32 (((max (-128) (min 128 ((256 * o : ℤ) - (if (n : ℕ) < 768 then (n : ℤ) else n - 1024)))) + 128).toNat) := by
  unfold dist
  pointwise []
  revert o n
  decide +kernel
/-- The place read from the table, at an index. -/
theorem places_at (o : Fin 3) (n : Fin 1024) : places (ix3 o n 0 : S3x1024x1.Idx) = BitVec.ofNat 32 (((max (-128) (min 128 ((256 * o : ℤ) - (if (n : ℕ) < 768 then (n : ℤ) else n - 1024)))) + 128).toNat) := by
  unfold places
  pointwise [dist_at]
  revert o n
  decide +kernel
/-- The laid out lines at an index: the line of the block, read at the difference modulo the period. -/
theorem planes_at (line : FVec Ideal S12x3x1024 .f32) (h : Fin 12) (o : Fin 3) (q : Fin 256) (n : Fin 768) :
    planes line (ix4 h o q n : S12x3x256x768.Idx) = line (ix3 h o ⟨(q * 1023 + n) % 1024, Nat.mod_lt _ (by decide)⟩ : S12x3x1024.Idx) := by
  unfold planes
  pointwise []

/-- The place read by the laid out lines is that of the distance. -/
theorem far_place (o : Fin 3) (q : Fin 256) (n : Fin 768) :
    min (BitVec.ofNat 32 (max (-128) (min 128 (256 * ((o : ℕ) : ℤ) - if ((q : ℕ) * 1023 + n) % 1024 < 768
      then ((((q : ℕ) * 1023 + n) % 1024 : ℕ) : ℤ) else ((((q : ℕ) * 1023 + n) % 1024 : ℕ) : ℤ) - 1024)) + 128).toNat).toInt.toNat 256
      = (far (256 * o + q) n : ℕ) := by
  rw [word_place _ (by omega)]
  unfold far
  show _ = (max (-128) (min 128 (((256 * (o : ℕ) + q : ℕ) : ℤ) - ((n : ℕ) : ℤ))) + 128).toNat
  rcases Nat.lt_or_ge (n : ℕ) q with h | h
  · have : ((q : ℕ) * 1023 + n) % 1024 = n + 1024 - q := by omega
    rw [this, if_neg (by omega)]
    omega
  · have : ((q : ℕ) * 1023 + n) % 1024 = n - q := by omega
    rw [this, if_pos (by omega)]
    omega

/-- The planes at an index: the bias of the distance where the query sees the key, −∞ elsewhere. -/
theorem v53_at (c : Dev nD) (o : Fin 3) (h : Fin 12) (q : Fin 256) (n : Fin 768) :
    (V m c main_v53 : FVec Ideal S3x12x256x768 .f32) (ix4 o h q n : S3x12x256x768.Idx) =
      if (n : ℕ) / 64 ≤ (256 * o + q) / 64 ∧ (256 * (o : ℕ) + q) / 64 ≤ n / 64 + 8
      then (m ((c.tc : Thread nD τ).loc main_arg3) : FVec Ideal S12x257 .f32) (ix2 h (far (256 * o + q) n) : S12x257.Idx) else (⊥ : EReal) := by
  rw [v53_eq]
  pointwise [seen_at, planes_at, gather_at, places_at]
  by_cases hs : (n : ℕ) / 64 ≤ (256 * o + q) / 64 ∧ (256 * (o : ℕ) + q) / 64 ≤ n / 64 + 8
  · rw [if_pos hs, if_pos hs]
    exact congrArg (fun p => (m ((c.tc : Thread nD τ).loc main_arg3) : FVec Ideal S12x257 .f32) (ix2 h p : S12x257.Idx)) (Fin.ext (far_place o q n))
  · rw [if_neg hs, if_neg hs]
    exact ChunkAttention.of_neg_inf

set_option maxHeartbeats 2000000 in
/-- The gain of the queries as a row. -/
theorem v54_at (c : Dev nD) (e : Fin 128) : (V m c main_v54 : FVec Ideal S1x128 .f32) (ix2 0 e : S1x128.Idx) =
    (m ((c.tc : Thread nD τ).loc main_arg1) : FVec Ideal S128 .f32) (ix1 e : S128.Idx) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  pointwise []

set_option maxHeartbeats 2000000 in
/-- The gain of the keys as a row. -/
theorem v55_at (c : Dev nD) (e : Fin 128) : (V m c main_v55 : FVec Ideal S1x128 .f32) (ix2 0 e : S1x128.Idx) =
    (m ((c.tc : Thread nD τ).loc main_arg2) : FVec Ideal S128 .f32) (ix1 e : S128.Idx) := by
  unfold V
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  pointwise []
end Cert.KernelIdeal.Value
end
end
-- ==== Proof.RefTerms.lean ====
module
public import proofs.«01_k».proof.Proof.Gen.ReferenceIdeal.Run
public import proofs.«01_k».proof.Proof.Norm
public import Idealize.ShloMosaic.Lib.Pointwise
@[expose] public section
set_option maxRecDepth 16384
noncomputable section
namespace Cert.ReferenceIdeal.Value
open Idealize.ShloMosaic Idealize.ShloMosaic.TcCoe Idealize.SL.Sem
open Cert.ReferenceIdeal Cert.ReferenceIdeal.Gen
/-- The table of biases read at a head and a computed place. -/
theorem gather_at {α : Type} (x : S12x257.Idx → α) (idx : IVec S64x576x1 32) (h : Fin 12) (o : Fin 64) (n : Fin 576) :
    Host.gather gather_S12x257_S64x576x1_S12x64x576_0_1_n_n_1_2_121 x idx (ix3 h o n : S12x64x576.Idx) = x (ix2 h ⟨min (idx (ix3 o n 0 : S64x576x1.Idx)).toInt.toNat 256, by omega⟩ : S12x257.Idx) := by
  unfold Host.gather
  congr 1
  funext a
  refine Fin.ext ?_
  match a with
  | ⟨0, _⟩ =>
    show GatherDims.start gather_S12x257_S64x576x1_S12x64x576_0_1_n_n_1_2_121 _ idx 0 + GatherDims.batchCoord gather_S12x257_S64x576x1_S12x64x576_0_1_n_n_1_2_121 _ 0 + GatherDims.offCoord gather_S12x257_S64x576x1_S12x64x576_0_1_n_n_1_2_121 _ 0 = _
    rw [GatherDims.batchCoord_eq_zero _ _ _ (show (0 : Fin 2) ∉ ([] : List (Fin 2)) by decide)]
    unfold GatherDims.start
    rw [dif_neg (show ¬ (0 : Fin 2) ∈ GatherDims.startIndexMap gather_S12x257_S64x576x1_S12x64x576_0_1_n_n_1_2_121 from (show ¬ (0 : Fin 2) ∈ ([1] : List (Fin 2)) by decide))]
    show 0 + 0 + _ = _
    rw [Nat.add_zero, Nat.zero_add]
    rfl
  | ⟨1, _⟩ =>
    show GatherDims.start gather_S12x257_S64x576x1_S12x64x576_0_1_n_n_1_2_121 _ idx 1 + GatherDims.batchCoord gather_S12x257_S64x576x1_S12x64x576_0_1_n_n_1_2_121 _ 1 + GatherDims.offCoord gather_S12x257_S64x576x1_S12x64x576_0_1_n_n_1_2_121 _ 1 = _
    rw [GatherDims.batchCoord_eq_zero _ _ _ (show (1 : Fin 2) ∉ ([] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S12x257_S64x576x1_S12x64x576_0_1_n_n_1_2_121 from List.mem_singleton.mpr rfl)]
    have hsi : GatherDims.siIdx gather_S12x257_S64x576x1_S12x64x576_0_1_n_n_1_2_121 (ix3 h o n : S12x64x576.Idx) ⟨List.idxOf (1 : Fin 2) (GatherDims.startIndexMap gather_S12x257_S64x576x1_S12x64x576_0_1_n_n_1_2_121),
        List.idxOf_lt_length_iff.2 (show (1 : Fin 2) ∈ GatherDims.startIndexMap gather_S12x257_S64x576x1_S12x64x576_0_1_n_n_1_2_121 from List.mem_singleton.mpr rfl)⟩ = (ix3 o n 0 : S64x576x1.Idx) := by
      funext b; refine Fin.ext ?_
      match b with
      | ⟨0, _⟩ => rfl
      | ⟨1, _⟩ => rfl
      | ⟨2, _⟩ => rfl
    exact congrArg (fun j => min (idx j).toInt.toNat 256) hsi

/-- The keys' chunks read at a computed chunk. -/
theorem band_at {α : Type} (x : S2x72x64x12x128.Idx → α) (idx : IVec S64x9x1 32) (b : Fin 2) (c : Fin 64) (l : Fin 9) (r : Fin 64) (h : Fin 12) (d : Fin 128) :
    Host.gather gather_S2x72x64x12x128_S64x9x1_S2x64x9x64x12x128_0345_1_n_n_1_2_216412128 x idx (ix6 b c l r h d : S2x64x9x64x12x128.Idx) =
      x (ix5 b ⟨min (idx (ix3 c l 0 : S64x9x1.Idx)).toInt.toNat 71, by omega⟩ r h d : S2x72x64x12x128.Idx) := by
  unfold Host.gather
  congr 1
  funext a
  refine Fin.ext ?_
  match a with
  | ⟨0, _⟩ =>
    show GatherDims.start gather_S2x72x64x12x128_S64x9x1_S2x64x9x64x12x128_0345_1_n_n_1_2_216412128 _ idx 0 + GatherDims.batchCoord gather_S2x72x64x12x128_S64x9x1_S2x64x9x64x12x128_0345_1_n_n_1_2_216412128 _ 0 + GatherDims.offCoord gather_S2x72x64x12x128_S64x9x1_S2x64x9x64x12x128_0345_1_n_n_1_2_216412128 _ 0 = _
    rw [GatherDims.batchCoord_eq_zero _ _ _ (show (0 : Fin 5) ∉ ([] : List (Fin 5)) by decide)]
    unfold GatherDims.start
    rw [dif_neg (show ¬ (0 : Fin 5) ∈ GatherDims.startIndexMap gather_S2x72x64x12x128_S64x9x1_S2x64x9x64x12x128_0345_1_n_n_1_2_216412128 from (show ¬ (0 : Fin 5) ∈ ([1] : List (Fin 5)) by decide))]
    show 0 + 0 + _ = _
    rw [Nat.add_zero, Nat.zero_add]
    rfl
  | ⟨1, _⟩ =>
    show GatherDims.start gather_S2x72x64x12x128_S64x9x1_S2x64x9x64x12x128_0345_1_n_n_1_2_216412128 _ idx 1 + GatherDims.batchCoord gather_S2x72x64x12x128_S64x9x1_S2x64x9x64x12x128_0345_1_n_n_1_2_216412128 _ 1 + GatherDims.offCoord gather_S2x72x64x12x128_S64x9x1_S2x64x9x64x12x128_0345_1_n_n_1_2_216412128 _ 1 = _
    rw [GatherDims.batchCoord_eq_zero _ _ _ (show (1 : Fin 5) ∉ ([] : List (Fin 5)) by decide),
      GatherDims.offCoord_eq_zero _ _ _ (fun h => ((GatherDims.mem_sKept _ _).mp h).1 (List.mem_singleton.mpr rfl))]
    simp only [Nat.add_zero]
    unfold GatherDims.start
    rw [dif_pos (show (1 : Fin 5) ∈ GatherDims.startIndexMap gather_S2x72x64x12x128_S64x9x1_S2x64x9x64x12x128_0345_1_n_n_1_2_216412128 from List.mem_singleton.mpr rfl)]
    have hsi : GatherDims.siIdx gather_S2x72x64x12x128_S64x9x1_S2x64x9x64x12x128_0345_1_n_n_1_2_216412128 (ix6 b c l r h d : S2x64x9x64x12x128.Idx) ⟨List.idxOf (1 : Fin 5) (GatherDims.startIndexMap gather_S2x72x64x12x128_S64x9x1_S2x64x9x64x12x128_0345_1_n_n_1_2_216412128),
        List.idxOf_lt_length_iff.2 (show (1 : Fin 5) ∈ GatherDims.startIndexMap gather_S2x72x64x12x128_S64x9x1_S2x64x9x64x12x128_0345_1_n_n_1_2_216412128 from List.mem_singleton.mpr rfl)⟩ = (ix3 c l 0 : S64x9x1.Idx) := by
      funext b; refine Fin.ext ?_
      match b with
      | ⟨0, _⟩ => rfl
      | ⟨1, _⟩ => rfl
      | ⟨2, _⟩ => rfl
    exact congrArg (fun j => min (idx j).toInt.toNat 71) hsi
  | ⟨2, _⟩ =>
    show GatherDims.start gather_S2x72x64x12x128_S64x9x1_S2x64x9x64x12x128_0345_1_n_n_1_2_216412128 _ idx 2 + GatherDims.batchCoord gather_S2x72x64x12x128_S64x9x1_S2x64x9x64x12x128_0345_1_n_n_1_2_216412128 _ 2 + GatherDims.offCoord gather_S2x72x64x12x128_S64x9x1_S2x64x9x64x12x128_0345_1_n_n_1_2_216412128 _ 2 = _
    rw [GatherDims.batchCoord_eq_zero _ _ _ (show (2 : Fin 5) ∉ ([] : List (Fin 5)) by decide)]
    unfold GatherDims.start
    rw [dif_neg (show ¬ (2 : Fin 5) ∈ GatherDims.startIndexMap gather_S2x72x64x12x128_S64x9x1_S2x64x9x64x12x128_0345_1_n_n_1_2_216412128 from (show ¬ (2 : Fin 5) ∈ ([1] : List (Fin 5)) by decide))]
    show 0 + 0 + _ = _
    rw [Nat.add_zero, Nat.zero_add]
    rfl
  | ⟨3, _⟩ =>
    show GatherDims.start gather_S2x72x64x12x128_S64x9x1_S2x64x9x64x12x128_0345_1_n_n_1_2_216412128 _ idx 3 + GatherDims.batchCoord gather_S2x72x64x12x128_S64x9x1_S2x64x9x64x12x128_0345_1_n_n_1_2_216412128 _ 3 + GatherDims.offCoord gather_S2x72x64x12x128_S64x9x1_S2x64x9x64x12x128_0345_1_n_n_1_2_216412128 _ 3 = _
    rw [GatherDims.batchCoord_eq_zero _ _ _ (show (3 : Fin 5) ∉ ([] : List (Fin 5)) by decide)]
    unfold GatherDims.start
    rw [dif_neg (show ¬ (3 : Fin 5) ∈ GatherDims.startIndexMap gather_S2x72x64x12x128_S64x9x1_S2x64x9x64x12x128_0345_1_n_n_1_2_216412128 from (show ¬ (3 : Fin 5) ∈ ([1] : List (Fin 5)) by decide))]
    show 0 + 0 + _ = _
    rw [Nat.add_zero, Nat.zero_add]
    rfl
  | ⟨4, _⟩ =>
    show GatherDims.start gather_S2x72x64x12x128_S64x9x1_S2x64x9x64x12x128_0345_1_n_n_1_2_216412128 _ idx 4 + GatherDims.batchCoord gather_S2x72x64x12x128_S64x9x1_S2x64x9x64x12x128_0345_1_n_n_1_2_216412128 _ 4 + GatherDims.offCoord gather_S2x72x64x12x128_S64x9x1_S2x64x9x64x12x128_0345_1_n_n_1_2_216412128 _ 4 = _
    rw [GatherDims.batchCoord_eq_zero _ _ _ (show (4 : Fin 5) ∉ ([] : List (Fin 5)) by decide)]
    unfold GatherDims.start
    rw [dif_neg (show ¬ (4 : Fin 5) ∈ GatherDims.startIndexMap gather_S2x72x64x12x128_S64x9x1_S2x64x9x64x12x128_0345_1_n_n_1_2_216412128 from (show ¬ (4 : Fin 5) ∈ ([1] : List (Fin 5)) by decide))]
    show 0 + 0 + _ = _
    rw [Nat.add_zero, Nat.zero_add]
    rfl

/-- The projection, batch by batch. -/
def proj (x : FVec Ideal S8192x22528 .bf16) : FVec Ideal S2x4096x22528 .f32 :=
  shapeCast _ (extf .f32 x bitsLt_bf16_f32) shapeCasts_S8192x22528_S2x4096x22528

/-- The queries, by head. -/
def qPart (x : FVec Ideal S8192x22528 .bf16) : FVec Ideal S2x4096x12x128 .f32 :=
  shapeCast _ (extractStridedSlice S2x4096x1536 ![0, 0, 1024] (proj x) slices_S2x4096x22528_S2x4096x1536_0_0_1024) shapeCasts_S2x4096x1536_S2x4096x12x128

/-- The keys, by head. -/
def kPart (x : FVec Ideal S8192x22528 .bf16) : FVec Ideal S2x4096x12x128 .f32 :=
  shapeCast _ (extractStridedSlice S2x4096x1536 ![0, 0, 2560] (proj x) slices_S2x4096x22528_S2x4096x1536_0_0_2560) shapeCasts_S2x4096x1536_S2x4096x12x128

/-- The values, by head. -/
def vPart (x : FVec Ideal S8192x22528 .bf16) : FVec Ideal S2x4096x12x128 .f32 :=
  shapeCast _ (extractStridedSlice S2x4096x1536 ![0, 0, 4096] (proj x) slices_S2x4096x22528_S2x4096x1536_0_0_4096) shapeCasts_S2x4096x1536_S2x4096x12x128

/-- The normalisation of every row of a head. -/
def rNorm (y : FVec Ideal S2x4096x12x128 .f32) (g : FVec Ideal S128 .f32) : FVec Ideal S2x4096x12x128 .f32 :=
  mulf (mulf y (broadcastInDim S2x4096x12x128 ![0, 1, 2, 3] bcast_S2x4096x12x1_S2x4096x12x128_0_1_2_3
    (Host.rsqrt (addf (Host.divf (broadcastInDim S2x4096x12x1 ![0, 1, 2] bcast_S2x4096x12_S2x4096x12x1_0_1_2
      (Host.reduceAdd (mulf y y) (constant S_ .f32 0x00000000#32) reducesTo_S2x4096x12x128_S2x4096x12_d3 h_S_))
      (broadcastInDim S2x4096x12x1 ![] bcast_S_S2x4096x12x1 (constant S_ .f32 0x43000000#32)))
      (broadcastInDim S2x4096x12x1 ![] bcast_S_S2x4096x12x1 (constant S_ .f32 0x358637BD#32))))))
    (broadcastInDim S2x4096x12x128 ![0, 1, 2, 3] bcast_S1x1x1x128_S2x4096x12x128_0_1_2_3 (broadcastInDim S1x1x1x128 ![3] bcast_S128_S1x1x1x128_3 g))

/-- The numbers of the chunks in each band, before the wrap of negative ones. -/
def chunkSum : IVec S64x9 32 :=
  addi (broadcastInDim S64x9 ![0, 1] bcast_S64x1_S64x9_0_1 (broadcastInDim S64x1 ![0] bcast_S64_S64x1_0 (iotaInDim S64 32 0)))
    (broadcastInDim S64x9 ![0, 1] bcast_S1x9_S64x9_0_1 (broadcastInDim S1x9 ![1] bcast_S9_S1x9_1 (iotaInDim S9 32 0)))

/-- The numbers of the chunks in each band. -/
def chunks : IVec S64x9x1 32 :=
  broadcastInDim S64x9x1 ![0, 1] bcast_S64x9_S64x9x1_0_1 (select (cmpi .slt chunkSum (broadcastInDim S64x9 ![] bcast_S_S64x9 (constantI S_ 32 0#32)))
    (addi chunkSum (broadcastInDim S64x9 ![] bcast_S_S64x9 (constantI S_ 32 72#32))) chunkSum)

/-- The bands: nine chunks of rows for each chunk, of the rows padded in front by 512 rows of zeros. -/
def band (y : FVec Ideal S2x4096x12x128 .f32) : FVec Ideal S2x64x576x12x128 .f32 :=
  shapeCast _ (Host.gather gather_S2x72x64x12x128_S64x9x1_S2x64x9x64x12x128_0345_1_n_n_1_2_216412128
    (shapeCast _ (pad S2x4608x12x128 ![0, 512, 0, 0] ![0, 0, 0, 0] ![0, 0, 0, 0] y (sitofp .f32 (constantI S_ 32 0#32)) pads_S2x4096x12x128_S2x4608x12x128_000_51200_000_000 h_S_ : FVec Ideal S2x4608x12x128 .f32)
      shapeCasts_S2x4608x12x128_S2x72x64x12x128) chunks) shapeCasts_S2x64x9x64x12x128_S2x64x576x12x128

/-- The clipped distances, moved into the range of the table. -/
def dist : IVec S64x576 32 :=
  addi (minsi (broadcastInDim S64x576 ![] bcast_S_S64x576 (id (constantI S_ 32 128#32)))
    (maxsi (broadcastInDim S64x576 ![] bcast_S_S64x576 (id (constantI S_ 32 4294967168#32)))
      (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0))))
        (broadcastInDim S64x576 ![0, 1] bcast_S1x576_S64x576_0_1 (broadcastInDim S1x576 ![1] bcast_S576_S1x576_1 (iotaInDim S576 32 0))))))
    (broadcastInDim S64x576 ![] bcast_S_S64x576 (constantI S_ 32 128#32))

/-- The places read from the table. -/
def places : IVec S64x576x1 32 :=
  broadcastInDim S64x576x1 ![0, 1] bcast_S64x576_S64x576x1_0_1 (select (cmpi .slt dist (broadcastInDim S64x576 ![] bcast_S_S64x576 (constantI S_ 32 0#32)))
    (addi dist (broadcastInDim S64x576 ![] bcast_S_S64x576 (constantI S_ 32 257#32))) dist)

/-- Which rows of a band are no padding. -/
def valid : IVec S64x576 1 :=
  cmpi .sge (addi (broadcastInDim S64x576 ![0, 1] bcast_S64x1_S64x576_0_1 (muli (subi (broadcastInDim S64x1 ![0] bcast_S64_S64x1_0 (iotaInDim S64 32 0)) (broadcastInDim S64x1 ![] bcast_S_S64x1 (constantI S_ 32 8#32))) (broadcastInDim S64x1 ![] bcast_S_S64x1 (constantI S_ 32 64#32))))
    (broadcastInDim S64x576 ![0, 1] bcast_S1x576_S64x576_0_1 (broadcastInDim S1x576 ![1] bcast_S576_S1x576_1 (iotaInDim S576 32 0))))
    (broadcastInDim S64x576 ![] bcast_S_S64x576 (constantI S_ 32 0#32))

/-- The scores, −∞ at the padding. -/
def masked (q k : FVec Ideal S2x4096x12x128 .f32) (t : FVec Ideal S12x257 .f32) : FVec Ideal S2x12x64x64x576 .f32 :=
  select (broadcastInDim S2x12x64x64x576 ![0, 1, 2, 3, 4] bcast_S1x1x64x1x576_S2x12x64x64x576_0_1_2_3_4 (broadcastInDim S1x1x64x1x576 ![2, 4] bcast_S64x576_S1x1x64x1x576_2_4 valid))
    (addf (Host.dotGeneral dot_S2x64x64x12x128_S2x64x576x12x128_S2x12x64x64x576_4_4_2_2_031_031 none
        (shapeCast _ (Host.divf q (broadcastInDim S2x4096x12x128 ![] bcast_S_S2x4096x12x128 (Host.sqrt (constant S_ .f32 0x43000000#32)))) shapeCasts_S2x4096x12x128_S2x64x64x12x128 : FVec Ideal S2x64x64x12x128 .f32) (band k))
      (broadcastInDim S2x12x64x64x576 ![0, 1, 2, 3, 4] bcast_S1x12x1x64x576_S2x12x64x64x576_0_1_2_3_4 (broadcastInDim S1x12x1x64x576 ![1, 3, 4] bcast_S12x64x576_S1x12x1x64x576_1_3_4
        (Host.gather gather_S12x257_S64x576x1_S12x64x576_0_1_n_n_1_2_121 t places))))
    (broadcastInDim S2x12x64x64x576 ![] bcast_S_S2x12x64x64x576 (id (constant S_ .f32 0xFF800000#32)))

/-- One number for each row, repeated along the row. -/
def spread (u : FVec Ideal S2x12x64x64 .f32) : FVec Ideal S2x12x64x64x576 .f32 :=
  broadcastInDim S2x12x64x64x576 ![0, 1, 2, 3, 4] bcast_S2x12x64x64x1_S2x12x64x64x576_0_1_2_3_4
    (broadcastInDim S2x12x64x64x1 ![0, 1, 2, 3] bcast_S2x12x64x64_S2x12x64x64x1_0_1_2_3 u)

/-- The largest score of each row. -/
def tops (s : FVec Ideal S2x12x64x64x576 .f32) : FVec Ideal S2x12x64x64 .f32 :=
  maximumf (broadcastInDim S2x12x64x64 ![] bcast_S_S2x12x64x64 (constant S_ .f32 0xFF800000#32))
    (Host.reduce FloatOps.maximumf s (constant S_ .f32 0xFF800000#32) reducesTo_S2x12x64x64x576_S2x12x64x64_d4 h_S_)

/-- The exponentials of the scores less their largest. -/
def exps (s : FVec Ideal S2x12x64x64x576 .f32) : FVec Ideal S2x12x64x64x576 .f32 := Host.exp (subf s (spread (tops s)))

/-- The weights: the exponentials over their sum. -/
def soft (s : FVec Ideal S2x12x64x64x576 .f32) : FVec Ideal S2x12x64x64x576 .f32 :=
  Host.divf (exps s) (spread (Host.reduceAdd (exps s) (constant S_ .f32 0x00000000#32) reducesTo_S2x12x64x64x576_S2x12x64x64_d4 h_S_))

set_option maxHeartbeats 4000000 in
/-- The reference's result in these pieces. -/
theorem res_eq (m : (ℓ : Loc nD τ sig) → Buf (Elt Ideal) ℓ) (c : Dev nD) : res_out0 m c =
    (truncf .bf16 (shapeCast _ (transpose S2x64x64x12x128 [0, 1, 4, 2, 3]
      (Host.dotGeneral dot_S2x64x576x12x128_S2x12x64x64x576_S2x64x12x128x64_2_4_4_3_013_021 none
        (band (vPart (m ((c.tc : Thread nD τ).loc main_arg0))))
        (soft (masked (rNorm (qPart (m ((c.tc : Thread nD τ).loc main_arg0))) (m ((c.tc : Thread nD τ).loc main_arg1)))
          (rNorm (kPart (m ((c.tc : Thread nD τ).loc main_arg0))) (m ((c.tc : Thread nD τ).loc main_arg2))) (m ((c.tc : Thread nD τ).loc main_arg3)))) : FVec Ideal S2x64x12x128x64 .f32)
      transposes_S2x64x12x128x64_S2x64x64x12x128_0_1_4_2_3 : FVec Ideal S2x64x64x12x128 .f32) shapeCasts_S2x64x64x12x128_S8192x1536 : FVec Ideal S8192x1536 .f32) bitsLt_bf16_f32 : FVec Ideal S8192x1536 .bf16) := rfl
end Cert.ReferenceIdeal.Value
end
end
-- ==== Proof.RefParts.lean ====
module
public import proofs.«01_k».proof.Proof.RefTerms
@[expose] public section
set_option maxRecDepth 16384
noncomputable section
namespace Cert.ReferenceIdeal.Value
open Idealize.ShloMosaic Idealize.ShloMosaic.TcCoe Idealize.SL.Sem
open Cert.ReferenceIdeal Cert.ReferenceIdeal.Gen ChunkAttention

/-- The queries at an index: a column of the projection. -/
theorem qPart_at (x : FVec Ideal S8192x22528 .bf16) (b : Fin 2) (s : Fin 4096) (h : Fin 12) (d : Fin 128) :
    qPart x (ix4 b s h d : S2x4096x12x128.Idx) = x (ix2 ⟨b * 4096 + s, by omega⟩ ⟨1024 + (h * 128 + d), by omega⟩ : S8192x22528.Idx) := by
  unfold qPart proj
  pointwise []

/-- The keys at an index. -/
theorem kPart_at (x : FVec Ideal S8192x22528 .bf16) (b : Fin 2) (s : Fin 4096) (h : Fin 12) (d : Fin 128) :
    kPart x (ix4 b s h d : S2x4096x12x128.Idx) = x (ix2 ⟨b * 4096 + s, by omega⟩ ⟨2560 + (h * 128 + d), by omega⟩ : S8192x22528.Idx) := by
  unfold kPart proj
  pointwise []

/-- The values at an index. -/
theorem vPart_at (x : FVec Ideal S8192x22528 .bf16) (b : Fin 2) (s : Fin 4096) (h : Fin 12) (d : Fin 128) :
    vPart x (ix4 b s h d : S2x4096x12x128.Idx) = x (ix2 ⟨b * 4096 + s, by omega⟩ ⟨4096 + (h * 128 + d), by omega⟩ : S8192x22528.Idx) := by
  unfold vPart proj
  pointwise []

/-- The normalised rows at an index. -/
theorem rNorm_at (y : FVec Ideal S2x4096x12x128 .f32) (g : FVec Ideal S128 .f32) (b : Fin 2) (s : Fin 4096) (h : Fin 12) (d : Fin 128) :
    rNorm y g (ix4 b s h d : S2x4096x12x128.Idx) = nrm (fun e => y (ix4 b s h e : S2x4096x12x128.Idx)) (fun e => g (ix1 e : S128.Idx)) d := by
  unfold rNorm nrm
  pointwise []

/-- The sum of the chunk's number and the place in its band. -/
theorem chunkSum_at (c : Fin 64) (l : Fin 9) : chunkSum (ix2 c l : S64x9.Idx) = BitVec.ofNat 32 (c + l) := by
  unfold chunkSum
  pointwise []
  revert c l
  decide +kernel

/-- The number of a band's chunk, counted with the padding. -/
theorem chunks_at (c : Fin 64) (l : Fin 9) : chunks (ix3 c l 0 : S64x9x1.Idx) = BitVec.ofNat 32 (c + l) := by
  unfold chunks
  pointwise [chunkSum_at]
  revert c l
  decide +kernel

/-- The position in the sequence of row `n` of the band of chunk `c`, where it is no padding. -/
def kpos (c : Fin 64) (n : Fin 576) : Fin 4096 := ⟨64 * c + n - 512, by omega⟩

/-- The row read from the padded sequence. -/
theorem band_place (c : Fin 64) (n : Fin 576) : min (BitVec.ofNat 32 ((c : ℕ) + n / 64)).toInt.toNat 71 * 64 + n % 64 = 64 * c + n := by
  have h : ∀ w : Fin 72, min (BitVec.ofNat 32 w).toInt.toNat 71 = w := by decide +kernel
  have := h ⟨c + n / 64, by omega⟩
  simp only at this
  rw [this]
  omega

/-- A row of a band: the row of the sequence, or zero in the padding. -/
theorem band_value (y : FVec Ideal S2x4096x12x128 .f32) (b : Fin 2) (c : Fin 64) (n : Fin 576) (h : Fin 12) (d : Fin 128) :
    band y (ix5 b c n h d : S2x64x576x12x128.Idx) = (if 512 ≤ 64 * (c : ℕ) + n then y (ix4 b (kpos c n) h d : S2x4096x12x128.Idx) else 0 : EReal) := by
  unfold band
  pointwise [band_at, chunks_at]
  have hz : (FloatOps.sitofp (F := Ideal) FTy.f32 (0#32 : BitVec 32) : EReal) = 0 := by
    show (((0#32 : BitVec 32).toInt : ℝ) : EReal) = 0
    simp
  have hp := band_place c n
  by_cases hn : 512 ≤ 64 * (c : ℕ) + n
  · rw [dif_pos ⟨by omega, by omega⟩, if_pos hn]
    exact congrArg (fun p => y (ix4 b p h d : S2x4096x12x128.Idx)) (Fin.ext (by show _ - 512 = 64 * (c : ℕ) + n - 512; omega))
  · rw [dif_neg (by omega), if_neg hn]
    exact hz
end Cert.ReferenceIdeal.Value
end
end
-- ==== Proof.RefMask.lean ====
module
public import proofs.«01_k».proof.Proof.RefParts
@[expose] public section
set_option maxRecDepth 16384
noncomputable section
namespace Cert.ReferenceIdeal.Value
open Idealize.ShloMosaic Idealize.ShloMosaic.TcCoe Idealize.SL.Sem
open Cert.ReferenceIdeal Cert.ReferenceIdeal.Gen ChunkAttention

/-- The clipped distance, at an index. -/
theorem dist_at (o : Fin 64) (n : Fin 576) : dist (ix2 o n : S64x576.Idx) = BitVec.ofNat 32 (((max (-128) (min 128 ((512 + o : ℤ) - n))) + 128).toNat) := by
  unfold dist
  pointwise []
  revert o n
  decide +kernel

/-- The place read from the table, at an index. -/
theorem places_at (o : Fin 64) (n : Fin 576) : places (ix3 o n 0 : S64x576x1.Idx) = BitVec.ofNat 32 (((max (-128) (min 128 ((512 + o : ℤ) - n))) + 128).toNat) := by
  unfold places
  pointwise [dist_at]
  revert o n
  decide +kernel

/-- Whether a row of a band is no padding, at an index. -/
theorem valid_at (o : Fin 64) (n : Fin 576) : valid (ix2 o n : S64x576.Idx) = if 512 ≤ 64 * (o : ℕ) + n then 1#1 else 0#1 := by
  unfold valid
  pointwise []
  revert o n
  decide +kernel

/-- The masked scores at an index. -/
theorem masked_at (q k : FVec Ideal S2x4096x12x128 .f32) (t : FVec Ideal S12x257 .f32) (b : Fin 2) (h : Fin 12) (c r : Fin 64) (n : Fin 576) :
    masked q k t (ix5 b h c r n : S2x12x64x64x576.Idx) = (if 512 ≤ 64 * (c : ℕ) + n then
      (∑ x : Fin 128, Ideal.div (q (ix4 b ⟨c * 64 + r, by omega⟩ h x : S2x4096x12x128.Idx)) (Ideal.sqrt (Ideal.ofBits .f32 0x43000000#32))
        * k (ix4 b (kpos c n) h x : S2x4096x12x128.Idx)) + t (ix2 h (far (512 + r) n) : S12x257.Idx) else ⊥ : EReal) := by
  unfold masked
  pointwise [valid_at, gather_at, places_at]
  by_cases hn : 512 ≤ 64 * (c : ℕ) + n
  · rw [if_pos hn, if_pos hn]
    refine congrArg₂ (fun u v : EReal => u + v) (Finset.sum_congr rfl fun x _ => ?_) ?_
    · rw [band_value, if_pos hn]
    · refine congrArg (fun p => t (ix2 h p : S12x257.Idx)) (Fin.ext ?_)
      show min (BitVec.ofNat 32 _).toInt.toNat 256 = _
      rw [word_place _ (by omega)]
      unfold far
      show _ = (max (-128) (min 128 (((512 + (r : ℕ) : ℕ) : ℤ) - ((n : ℕ) : ℤ))) + 128).toNat
      omega
  · rw [if_neg hn, if_neg hn]
    exact of_neg_inf
end Cert.ReferenceIdeal.Value
end
end
-- ==== Proof.RefSoft.lean ====
module
public import proofs.«01_k».proof.Proof.RefTerms
@[expose] public section
set_option maxRecDepth 16384
noncomputable section
namespace Cert.ReferenceIdeal.Value
open Idealize.ShloMosaic Idealize.ShloMosaic.TcCoe Idealize.SL.Sem
open Cert.ReferenceIdeal Cert.ReferenceIdeal.Gen ChunkAttention

/-- The largest score of a row. -/
theorem top_at (s : FVec Ideal S2x12x64x64x576 .f32) (b : Fin 2) (h : Fin 12) (c r : Fin 64) :
    (Host.reduce FloatOps.maximumf s (constant S_ .f32 0xFF800000#32) reducesTo_S2x12x64x64x576_S2x12x64x64_d4 h_S_ : FVec Ideal S2x12x64x64 .f32)
      (ix4 b h c r : S2x12x64x64.Idx) = Finset.univ.fold max (⊥ : EReal) (fun n : Fin 576 => s (ix5 b h c r n : S2x12x64x64x576.Idx)) := by
  pointwise []
  rw [of_neg_inf]

/-- The sum of a row. -/
theorem tot_at (s : FVec Ideal S2x12x64x64x576 .f32) (b : Fin 2) (h : Fin 12) (c r : Fin 64) :
    (Host.reduceAdd s (constant S_ .f32 0x00000000#32) reducesTo_S2x12x64x64x576_S2x12x64x64_d4 h_S_ : FVec Ideal S2x12x64x64 .f32)
      (ix4 b h c r : S2x12x64x64.Idx) = ∑ n : Fin 576, (s (ix5 b h c r n : S2x12x64x64x576.Idx) : EReal) := by
  pointwise []

/-- A repeated number at an index. -/
theorem spread_at (u : FVec Ideal S2x12x64x64 .f32) (b : Fin 2) (h : Fin 12) (c r : Fin 64) (n : Fin 576) :
    spread u (ix5 b h c r n : S2x12x64x64x576.Idx) = u (ix4 b h c r : S2x12x64x64.Idx) := by
  unfold spread
  pointwise []

/-- The larger of two arrays at an index. -/
theorem larger_at {S : Shape} (x y : FVec Ideal S .f32) (i : S.Idx) : (maximumf x y i : EReal) = max (x i : EReal) (y i : EReal) := rfl

/-- The array of −∞ at an index. -/
theorem low_at (i : S2x12x64x64.Idx) : (broadcastInDim S2x12x64x64 ![] bcast_S_S2x12x64x64 (constant (F := Ideal) S_ .f32 0xFF800000#32) i : EReal) = ⊥ :=
  of_neg_inf

/-- The largest score of a row, at an index. -/
theorem tops_at (s : FVec Ideal S2x12x64x64x576 .f32) (b : Fin 2) (h : Fin 12) (c r : Fin 64) :
    tops s (ix4 b h c r : S2x12x64x64.Idx) = Finset.univ.fold max (⊥ : EReal) (fun n : Fin 576 => s (ix5 b h c r n : S2x12x64x64x576.Idx)) := by
  unfold tops
  rw [larger_at, low_at, top_at]
  exact bot_sup_eq _

/-- The exponentials at an index. -/
theorem exps_at (s : FVec Ideal S2x12x64x64x576 .f32) (b : Fin 2) (h : Fin 12) (c r : Fin 64) (n : Fin 576) :
    exps s (ix5 b h c r n : S2x12x64x64x576.Idx) = Ideal.exp (s (ix5 b h c r n : S2x12x64x64x576.Idx) -
      Finset.univ.fold max (⊥ : EReal) (fun n : Fin 576 => s (ix5 b h c r n : S2x12x64x64x576.Idx))) := by
  show Ideal.exp (s (ix5 b h c r n : S2x12x64x64x576.Idx) - spread (tops s) (ix5 b h c r n : S2x12x64x64x576.Idx)) = _
  rw [spread_at, tops_at]

/-- The weights at an index. -/
theorem soft_at (s : FVec Ideal S2x12x64x64x576 .f32) (b : Fin 2) (h : Fin 12) (c r : Fin 64) (n : Fin 576) :
    soft s (ix5 b h c r n : S2x12x64x64x576.Idx) = Ideal.div (Ideal.exp (s (ix5 b h c r n : S2x12x64x64x576.Idx) -
      Finset.univ.fold max (⊥ : EReal) (fun n : Fin 576 => s (ix5 b h c r n : S2x12x64x64x576.Idx))))
      (∑ l : Fin 576, Ideal.exp (s (ix5 b h c r l : S2x12x64x64x576.Idx) -
      Finset.univ.fold max (⊥ : EReal) (fun n : Fin 576 => s (ix5 b h c r n : S2x12x64x64x576.Idx)))) := by
  show Ideal.div (exps s (ix5 b h c r n : S2x12x64x64x576.Idx)) (spread (Host.reduceAdd (exps s) (constant S_ .f32 0x00000000#32)
    reducesTo_S2x12x64x64x576_S2x12x64x64_d4 h_S_) (ix5 b h c r n : S2x12x64x64x576.Idx)) = _
  rw [spread_at, tot_at, exps_at]
  exact congrArg (Ideal.div _) (Finset.sum_congr rfl fun l _ => exps_at s b h c r l)

/-- The reference's result at an index: the weighted values of the band. -/
theorem out_at (m : (ℓ : Loc nD τ sig) → Buf (Elt Ideal) ℓ) (c : Dev nD) (i : Fin 8192) (j : Fin 1536) :
    (res_out0 m c : FVec Ideal S8192x1536 .bf16) (ix2 i j : S8192x1536.Idx) =
    ∑ n : Fin 576, (band (vPart (m ((c.tc : Thread nD τ).loc main_arg0))) (ix5 ⟨i / 4096, by omega⟩ ⟨i / 64 % 64, by omega⟩ n ⟨j / 128, by omega⟩ ⟨j % 128, by omega⟩ : S2x64x576x12x128.Idx) : EReal) *
        soft (masked (rNorm (qPart (m ((c.tc : Thread nD τ).loc main_arg0))) (m ((c.tc : Thread nD τ).loc main_arg1)))
            (rNorm (kPart (m ((c.tc : Thread nD τ).loc main_arg0))) (m ((c.tc : Thread nD τ).loc main_arg2))) (m ((c.tc : Thread nD τ).loc main_arg3)))
          (ix5 ⟨i / 4096, by omega⟩ ⟨j / 128, by omega⟩ ⟨i / 64 % 64, by omega⟩ ⟨i % 64, by omega⟩ n : S2x12x64x64x576.Idx) := by
  rw [res_eq]
  pointwise []
end Cert.ReferenceIdeal.Value
end
end
-- ==== Proof.Meet.lean ====
module
public import proofs.«01_k».proof.Proof.Array
public import proofs.«01_k».proof.Proof.Bias
public import proofs.«01_k».proof.Proof.RefMask
public import proofs.«01_k».proof.Proof.RefSoft
@[expose] public section
set_option maxRecDepth 16384
noncomputable section
namespace ChunkAttention
open Idealize.ShloMosaic
open Cert.KernelIdeal.Value (key)
open Cert.ReferenceIdeal.Value (kpos)

/-- The place in the table depends on the difference alone. -/
theorem far_congr (a b c d : ℕ) (h : a + d = c + b) : far a b = far c d := by
  unfold far
  congr 4
  omega

/-- The keys a query sees, counted from 512 before the sequence. -/
def seenKeys (s : Fin 4096) : Finset ℕ :=
  (Finset.range 5000).filter fun y => 512 ≤ y ∧ (y - 512) / 64 ≤ (s : ℕ) / 64 ∧ (s : ℕ) / 64 ≤ (y - 512) / 64 + 8

/-- The window of 768 keys, masked, and the band of 576 keys, padded, give one query the same attention: both are the
    softmax over the keys the query sees. -/
theorem sides (s : Fin 4096) (q qg kg : Fin 128 → EReal) (kk : Fin 4096 → Fin 128 → EReal) (vv : Fin 4096 → EReal) (tab : Fin 257 → EReal)
    (γq γk : Fin 128 → ℝ) (β : Fin 257 → ℝ) (hq : ∀ e, qg e = (γq e : EReal)) (hk : ∀ e, kg e = (γk e : EReal)) (hb : ∀ e, tab e = (β e : EReal))
    (sk : Fin 768 → EReal) (vr : Fin 576 → EReal) (sr : Fin 576 → EReal) (o p : ℕ) (c : Fin 64) (r : ℕ)
    (ho : o = min ((s : ℕ) / 256) 2) (hp : p = (s : ℕ) % 256) (hc : (c : ℕ) = (s : ℕ) / 64) (hr : r = (s : ℕ) % 64)
    (hsk : ∀ n, sk n = score2 q qg (nrm (kk (key s n)) kg) (if (n : ℕ) / 64 ≤ (256 * o + p) / 64 ∧ (256 * o + p) / 64 ≤ (n : ℕ) / 64 + 8 then tab (far (256 * o + p) n) else ⊥))
    (hvr : ∀ n : Fin 576, vr n = if 512 ≤ 64 * (c : ℕ) + n then vv (kpos c n) else 0)
    (hsr : ∀ n : Fin 576, sr n = if 512 ≤ 64 * (c : ℕ) + n then
      (∑ x : Fin 128, Ideal.div (nrm q qg x) (Ideal.sqrt (Ideal.ofBits .f32 0x43000000#32)) * nrm (kk (kpos c n)) kg x) + tab (far (512 + r) n) else ⊥) :
    att2 sk (fun n => vv (key s n)) = ∑ n, vr n * Ideal.div (Ideal.exp (sr n - Finset.univ.fold max (⊥ : EReal) sr))
      (∑ l, Ideal.exp (sr l - Finset.univ.fold max (⊥ : EReal) sr)) := by
  obtain ⟨f, hf⟩ := nrm_real q qg γq hq
  have hh : ∀ t, ∃ g : Fin 128 → ℝ, ∀ d, nrm (kk t) kg d = (g d : EReal) := fun t => nrm_real (kk t) kg γk hk
  choose g hg using hh
  let sc : Fin 4096 → ℝ := fun t => (∑ x, f x * (1 / Real.sqrt 128) * g t x) + β (far s t)
  have hk1 : ∀ n : Fin 768, ((key s n : Fin 4096) : ℕ) = 256 * ((s : ℕ) / 256 - 2) + n := fun n => rfl
  have hk2 : ∀ n : Fin 576, ((kpos c n : Fin 4096) : ℕ) = 64 * (c : ℕ) + n - 512 := fun n => rfl
  unfold att2
  rw [exp2_form (fun n : Fin 768 => (n : ℕ) / 64 ≤ (256 * o + p) / 64 ∧ (256 * o + p) / 64 ≤ (n : ℕ) / 64 + 8) (fun n => sc (key s n)) _ sk
      ⟨⟨256 * o + p, by omega⟩, by constructor <;> simp only <;> omega⟩ ?_,
    exp_form (fun n : Fin 576 => 512 ≤ 64 * (c : ℕ) + n) (fun n => sc (kpos c n)) vr sr ⟨⟨575, by omega⟩, by simp only; omega⟩ ?_]
  · refine weighted_congr _ _ (fun n => (key s n : ℕ) + 512) (fun n => 64 * (c : ℕ) + n) (seenKeys s)
      (fun y => if h : y - 512 < 4096 then sc ⟨y - 512, h⟩ else 0) (fun y => if h : y - 512 < 4096 then vv ⟨y - 512, h⟩ else 0)
      _ _ _ _ ?_ ?_ ?_ ?_ ?_ ?_ ?_ ?_
    · intro n _
      have := (key s n).isLt
      rw [dif_pos (by omega)]
      rfl
    · intro n _
      have := (key s n).isLt
      rw [dif_pos (by omega)]
      rfl
    · intro n _
      rw [dif_pos (by omega)]
      rfl
    · intro n hn
      rw [dif_pos (by omega), hvr, if_pos hn]
      rfl
    · intro a b h
      simp only [hk1] at h
      exact Fin.ext (by omega)
    · intro a b h
      simp only at h
      exact Fin.ext (by omega)
    · intro y
      simp only [seenKeys, Finset.mem_filter, Finset.mem_range, hk1]
      constructor
      · rintro ⟨h1, h2, h3, h4⟩
        exact ⟨⟨y - 512 - 256 * ((s : ℕ) / 256 - 2), by omega⟩, by simp only; omega, by simp only; omega⟩
      · rintro ⟨n, ⟨h1, h2⟩, h3⟩
        omega
    · intro y
      simp only [seenKeys, Finset.mem_filter, Finset.mem_range]
      constructor
      · rintro ⟨h1, h2, h3, h4⟩
        exact ⟨⟨y - 64 * (c : ℕ), by omega⟩, by simp only; omega, by simp only; omega⟩
      · rintro ⟨n, h1, h3⟩
        omega
  · intro n
    rw [hsr]
    by_cases h : 512 ≤ 64 * (c : ℕ) + n
    · rw [if_pos h, if_pos h, hb, score_real _ _ f (g (kpos c n)) _ hf (hg _), far_congr (512 + r) n s (kpos c n) (by rw [hk2]; omega)]
    · rw [if_neg h, if_neg h]
  · intro n
    rw [hsk]
    unfold score2
    by_cases h : (n : ℕ) / 64 ≤ (256 * o + p) / 64 ∧ (256 * o + p) / 64 ≤ (n : ℕ) / 64 + 8
    · rw [if_pos h, if_pos h, hb, score2_real _ _ f (g (key s n)) _ hf (hg _), far_congr (256 * o + p) n s (key s n) (by rw [hk1]; omega)]
    · rw [if_neg h, if_neg h, score2_bot _ _ f (g (key s n)) hf (hg _)]

end ChunkAttention
end
end
-- ==== Proof.Equal.lean ====
module
public import proofs.«01_k».proof.Proof.Meet
@[expose] public section
set_option maxRecDepth 16384
set_option maxHeartbeats 1000000
noncomputable section
namespace ChunkAttention
open Idealize.ShloMosaic Idealize.ShloMosaic.TcCoe
open Cert.KernelIdeal.Value (row seq hd col attOut)

theorem read_congr (x : FVec Ideal Cert.KernelIdeal.S8192x22528 .bf16) {a a' : Fin 8192} {b b' : Fin 22528} (h : a = a') (h' : b = b') :
    x (ix2 a b : Cert.KernelIdeal.S8192x22528.Idx) = x (ix2 a' b' : Cert.KernelIdeal.S8192x22528.Idx) := by rw [h, h']

/-- From equal arguments, with real gains and biases, the kernel's array and the reference's result are equal. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (x : FVec Ideal Cert.KernelIdeal.S8192x22528 .bf16) (g1 g2 : FVec Ideal Cert.KernelIdeal.S128 .f32)
    (tb : FVec Ideal Cert.KernelIdeal.S12x257 .f32)
    (hk0 : m ((c.tc : Thread Cert.KernelIdeal.nD Cert.KernelIdeal.τ).loc Cert.KernelIdeal.main_arg0) = x)
    (hk1 : m ((c.tc : Thread Cert.KernelIdeal.nD Cert.KernelIdeal.τ).loc Cert.KernelIdeal.main_arg1) = g1)
    (hk2 : m ((c.tc : Thread Cert.KernelIdeal.nD Cert.KernelIdeal.τ).loc Cert.KernelIdeal.main_arg2) = g2)
    (hk3 : m ((c.tc : Thread Cert.KernelIdeal.nD Cert.KernelIdeal.τ).loc Cert.KernelIdeal.main_arg3) = tb)
    (hr0 : m' ((c.tc : Thread Cert.ReferenceIdeal.nD Cert.ReferenceIdeal.τ).loc Cert.ReferenceIdeal.main_arg0) = x)
    (hr1 : m' ((c.tc : Thread Cert.ReferenceIdeal.nD Cert.ReferenceIdeal.τ).loc Cert.ReferenceIdeal.main_arg1) = g1)
    (hr2 : m' ((c.tc : Thread Cert.ReferenceIdeal.nD Cert.ReferenceIdeal.τ).loc Cert.ReferenceIdeal.main_arg2) = g2)
    (hr3 : m' ((c.tc : Thread Cert.ReferenceIdeal.nD Cert.ReferenceIdeal.τ).loc Cert.ReferenceIdeal.main_arg3) = tb)
    (h1 : ∀ i, ∃ r : ℝ, (g1 i : EReal) = (r : EReal)) (h2 : ∀ i, ∃ r : ℝ, (g2 i : EReal) = (r : EReal)) (h3 : ∀ i, ∃ r : ℝ, (tb i : EReal) = (r : EReal))
    (i : Fin 8192) (j : Fin 1536) :
    attOut (m ((c.tc : Thread Cert.KernelIdeal.nD Cert.KernelIdeal.τ).loc Cert.KernelIdeal.main_arg0)) (Cert.KernelIdeal.Gen.V m c Cert.KernelIdeal.main_v53)
      (Cert.KernelIdeal.Gen.V m c Cert.KernelIdeal.main_v54) (Cert.KernelIdeal.Gen.V m c Cert.KernelIdeal.main_v55) (ix2 i j : Cert.KernelIdeal.S8192x1536.Idx)
    = (Cert.ReferenceIdeal.Value.res_out0 m' c : FVec Ideal Cert.ReferenceIdeal.S8192x1536 .bf16) (ix2 i j : Cert.ReferenceIdeal.S8192x1536.Idx) := by
  choose γ1 hγ1 using h1
  choose γ2 hγ2 using h2
  choose β hβ using h3
  rw [Cert.ReferenceIdeal.Value.out_at, hr0, hr1, hr2, hr3, hk0]
  refine Eq.trans ?_ (Finset.sum_congr rfl fun n _ => by rw [Cert.ReferenceIdeal.Value.soft_at]).symm
  unfold attOut
  refine sides (seq i) (fun e => x (ix2 i (col 0 j e))) (fun e => g1 (ix1 e)) (fun e => g2 (ix1 e)) (fun t e => x (ix2 (row i t) (col 1 j e)))
    (fun t => x (ix2 (row i t) (col 2 j ⟨j.val % 128, by omega⟩))) (fun e => tb (ix2 (hd j) e)) (fun e => γ1 (ix1 e)) (fun e => γ2 (ix1 e)) (fun e => β (ix2 (hd j) e))
    (fun _ => hγ1 _) (fun _ => hγ2 _) (fun _ => hβ _) _ _ _ (min (i.val % 4096 / 256) 2) (i.val % 4096 % 256) ⟨i.val / 64 % 64, by omega⟩ (i.val % 64)
    rfl rfl ?_ ?_ ?_ ?_ ?_
  · show i.val / 64 % 64 = i.val % 4096 / 64
    omega
  · show i.val % 64 = i.val % 4096 % 64
    omega
  · intro n
    have hb := Cert.KernelIdeal.Value.v53_at m c ⟨min (i.val % 4096 / 256) 2, by omega⟩ (hd j) ⟨i.val % 4096 % 256, by omega⟩ n
    rw [hk3] at hb
    have h54 : (fun e => (Cert.KernelIdeal.Gen.V m c Cert.KernelIdeal.main_v54 : FVec Ideal Cert.KernelIdeal.S1x128 .f32) (ix2 0 e : Cert.KernelIdeal.S1x128.Idx)) = fun e => g1 (ix1 e) :=
      funext fun e => by rw [Cert.KernelIdeal.Value.v54_at, hk1]
    have h55 : (fun e => (Cert.KernelIdeal.Gen.V m c Cert.KernelIdeal.main_v55 : FVec Ideal Cert.KernelIdeal.S1x128 .f32) (ix2 0 e : Cert.KernelIdeal.S1x128.Idx)) = fun e => g2 (ix1 e) :=
      funext fun e => by rw [Cert.KernelIdeal.Value.v55_at, hk2]
    show score2 _ _ (nrm _ _) _ = _
    rw [h54, h55]
    exact congrArg _ hb
  · intro n
    rw [Cert.ReferenceIdeal.Value.band_value]
    refine if_congr Iff.rfl ?_ rfl
    rw [Cert.ReferenceIdeal.Value.vPart_at]
    refine read_congr x (Fin.ext ?_) (Fin.ext ?_) <;> simp only [row, col] <;> omega
  · intro n
    refine (Cert.ReferenceIdeal.Value.masked_at _ _ _ _ _ _ _ _).trans (if_congr Iff.rfl (congrArg₂ _ (Finset.sum_congr rfl fun e _ => congrArg₂ _ (congrArg₂ _ ?_ rfl) ?_) rfl) rfl)
    · rw [Cert.ReferenceIdeal.Value.rNorm_at]
      refine congrFun (congrArg₂ nrm (funext fun e => ?_) rfl) _
      rw [Cert.ReferenceIdeal.Value.qPart_at]
      refine read_congr x (Fin.ext ?_) (Fin.ext ?_) <;> simp only [row, col] <;> omega
    · rw [Cert.ReferenceIdeal.Value.rNorm_at]
      refine congrFun (congrArg₂ nrm (funext fun e => ?_) rfl) _
      rw [Cert.ReferenceIdeal.Value.kPart_at]
      refine read_congr x (Fin.ext ?_) (Fin.ext ?_) <;> simp only [row, col] <;> omega

end ChunkAttention
end
end
-- ==== Proof.Finite.lean ====
module
public import proofs.«01_k».proof.Pre_gains_and_bias_finite
public import Idealize.ShloMosaic.Lib.ReduceAll
public import Idealize.ShloMosaic.Lib.Affine
public import Idealize.ShloMosaic.PureOps.Ideal
@[expose] public section
noncomputable section
namespace Cert.Pre_gains_and_bias_finite
open Idealize.ShloMosaic

/-- The facts the precondition's operations state. -/
theorem facts : Facts where
  bcast_S_S128 := by decide
  reducesTo_S128_S_d0 := by decide
  h_S_ := by decide
  bcast_S_S12x257 := by decide
  reducesTo_S12x257_S_d0_1 := by decide

/-- An extended real whose absolute value is below +∞ is real. -/
theorem real_of_abs {S : Shape} (x y : FVec Ideal S .f32) (i : S.Idx) (hy : (y i : EReal) = ⊤) (h : cmpf .olt (Host.absf x) y i = 1#1) :
    ∃ r : ℝ, (x i : EReal) = (r : EReal) := by
  have h' : Ideal.cmp .olt (max (x i : EReal) (-(x i : EReal))) (y i : EReal) = 1#1 := h
  rw [hy] at h'
  generalize (x i : EReal) = z at h' ⊢
  induction z using EReal.rec with
  | coe r => exact ⟨r, rfl⟩
  | bot => simp [Ideal.cmp] at h'
  | top => simp [Ideal.cmp] at h'

instance : Subsingleton S_.Idx := ⟨fun a b => funext fun k => k.elim0⟩

/-- The bit pattern of +∞. -/
theorem of_inf : Ideal.ofBits .f32 0x7F800000#32 = ⊤ := by simp [Ideal.ofBits, Ideal.ieee]

/-- What the precondition gives: the gains and the biases are real. -/
theorem real_of_pre [Facts] (a0 : FVec Ideal S8192x22528 .bf16) (a1 a2 : FVec Ideal S128 .f32) (a3 : FVec Ideal S12x257 .f32)
    (h : fn a0 a1 a2 a3 = fun _ => 1#1) :
    (∀ i, ∃ r : ℝ, (a1 i : EReal) = (r : EReal)) ∧ (∀ i, ∃ r : ℝ, (a2 i : EReal) = (r : EReal)) ∧ (∀ i, ∃ r : ℝ, (a3 i : EReal) = (r : EReal)) := by
  have h0 := congrFun h (fun k => k.elim0)
  unfold fn at h0
  obtain ⟨h12, h3⟩ := IntOp.andi_eq_one.1 h0
  obtain ⟨h1, h2⟩ := IntOp.andi_eq_one.1 h12
  exact ⟨fun i => real_of_abs _ _ i of_inf (Host.reduce_andi_all _ _ _ _ _ h1 i), fun i => real_of_abs _ _ i of_inf (Host.reduce_andi_all _ _ _ _ _ h2 i),
    fun i => real_of_abs _ _ i of_inf (Host.reduce_andi_all _ _ _ _ _ h3 i)⟩
end Cert.Pre_gains_and_bias_finite
end
end
-- ==== Proof.InProduct.lean ====
module
public import proofs.«01_k».proof.Proof.Gen.InKernelIdeal.Frame
public import proofs.«01_k».proof.Proof.Gen.InKernelIdeal.Value
public import proofs.«01_k».proof.Proof.Gen.InReferenceIdeal.Run
public import Idealize.ShloMosaic.Lib.Pipeline.ValueKit
public import Idealize.ShloMosaic.Lib.Claim
public import proofs.«01_k».proof.Defs
@[expose] public section
set_option maxRecDepth 16384
noncomputable section
namespace Cert.InKernelIdeal.Value
open Idealize.ShloMosaic Idealize.ShloMosaic.TcCoe Idealize.SL.Sem
open Cert.InKernelIdeal Cert.InKernelIdeal.Gen
variable (m : (ℓ : Loc nD τ sig) → Buf (Elt Ideal) ℓ)

/-- The projection: the rows times the last layer's weights. -/
def product (x : FVec Ideal S8192x4096 .bf16) (w : FVec Ideal S2x4096x22528 .f32) (i : S8192x22528.Idx) : EReal :=
  ∑ k : Fin 4096, x (ix2 (i 0) k : S8192x4096.Idx) * w (ix3 1 k (i 1) : S2x4096x22528.Idx)

theorem idx : ∀ t : Fin cfg0.N, win0_0.index t = ![t.val / 44, 0] ∧ win0_1.index t = ![1, 0, t.val % 44]
    ∧ win0_2.index t = ![t.val / 44, t.val % 44] :=
  (by decide +kernel : ∀ t : Fin grid0.N, _)

/-- The array that the kernel returns is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product]
  blk_point [iblk, V, idx t]

end Cert.InKernelIdeal.Value
namespace Cert.Proof
open Idealize.ShloMosaic Idealize.ShloMosaic.TcCoe Idealize.SL.Sem

/-- Kernel and reference agree. -/
theorem algebraic_InKernelIdeal : Cert.algebraic_InKernelIdeal_InReferenceIdeal := by
  pair_intro
  · run_from Cert.InKernelIdeal.Value.run_blocks m g
  · run_from Cert.InReferenceIdeal.Value.run m' g'
    rw [Cert.InKernelIdeal.Value.final]
    funext i
    idx_vars i
    pointwise [Cert.InKernelIdeal.Value.product]

end Cert.Proof
end
end
-- ==== Proof.Ff1Product.lean ====
module
public import proofs.«01_k».proof.Proof.Gen.Ff1KernelIdeal.Frame
public import proofs.«01_k».proof.Proof.Gen.Ff1KernelIdeal.Value
public import proofs.«01_k».proof.Proof.Gen.Ff1ReferenceIdeal.Run
public import Idealize.ShloMosaic.Lib.Pipeline.ValueKit
public import Idealize.ShloMosaic.Lib.Claim
public import proofs.«01_k».proof.Defs
@[expose] public section
set_option maxRecDepth 16384
noncomputable section
namespace Cert.Ff1KernelIdeal.Value
open Idealize.ShloMosaic Idealize.ShloMosaic.TcCoe Idealize.SL.Sem
open Cert.Ff1KernelIdeal Cert.Ff1KernelIdeal.Gen
variable (m : (ℓ : Loc nD τ sig) → Buf (Elt Ideal) ℓ)

/-- The first product of the feed-forward part, and the square of its positive part. -/
def product (x : FVec Ideal S8192x4096 .bf16) (w : FVec Ideal S2x4096x16384 .f32) (i : S8192x16384.Idx) : EReal :=
  max (∑ k : Fin 4096, x (ix2 (i 0) k : S8192x4096.Idx) * w (ix3 1 k (i 1) : S2x4096x16384.Idx)) 0
    * max (∑ k : Fin 4096, x (ix2 (i 0) k : S8192x4096.Idx) * w (ix3 1 k (i 1) : S2x4096x16384.Idx)) 0

theorem idx : ∀ t : Fin cfg0.N, win0_0.index t = ![t.val / 32, 0] ∧ win0_1.index t = ![1, 0, t.val % 32]
    ∧ win0_2.index t = ![t.val / 32, t.val % 32] :=
  (by decide +kernel : ∀ t : Fin grid0.N, _)

/-- The array that the kernel returns is the squared positive part of the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product]
  blk_point [iblk, V, idx t]

end Cert.Ff1KernelIdeal.Value
namespace Cert.Proof
open Idealize.ShloMosaic Idealize.ShloMosaic.TcCoe Idealize.SL.Sem

/-- Kernel and reference agree. -/
theorem algebraic_Ff1KernelIdeal : Cert.algebraic_Ff1KernelIdeal_Ff1ReferenceIdeal := by
  pair_intro
  · run_from Cert.Ff1KernelIdeal.Value.run_blocks m g
  · run_from Cert.Ff1ReferenceIdeal.Value.run m' g'
    rw [Cert.Ff1KernelIdeal.Value.final]
    funext i
    idx_vars i
    pointwise [Cert.Ff1KernelIdeal.Value.product]

end Cert.Proof
end
end
-- ==== Proof.Ff2Product.lean ====
module
public import proofs.«01_k».proof.Proof.Gen.Ff2KernelIdeal.Frame
public import proofs.«01_k».proof.Proof.Gen.Ff2KernelIdeal.Value
public import proofs.«01_k».proof.Proof.Gen.Ff2ReferenceIdeal.Run
public import Idealize.ShloMosaic.Lib.Pipeline.ValueKit
public import Idealize.ShloMosaic.Lib.Claim
public import proofs.«01_k».proof.Defs
@[expose] public section
set_option maxRecDepth 16384
noncomputable section
namespace Cert.Ff2KernelIdeal.Value
open Idealize.ShloMosaic Idealize.ShloMosaic.TcCoe Idealize.SL.Sem
open Cert.Ff2KernelIdeal Cert.Ff2KernelIdeal.Gen
variable (m : (ℓ : Loc nD τ sig) → Buf (Elt Ideal) ℓ)

/-- The activations times the last layer's weights, added to the residual stream. -/
def product (r : FVec Ideal S8192x4096 .f32) (x : FVec Ideal S8192x16384 .bf16) (w : FVec Ideal S2x16384x4096 .f32) (i : S8192x4096.Idx) : EReal :=
  r (ix2 (i 0) (i 1) : S8192x4096.Idx) + ∑ k : Fin 16384, x (ix2 (i 0) k : S8192x16384.Idx) * w (ix3 1 k (i 1) : S2x16384x4096.Idx)

theorem idx : ∀ t : Fin cfg0.N, win0_0.index t = ![t.val / 4 % 8, t.val % 4] ∧ win0_1.index t = ![1, t.val % 4, t.val / 32]
    ∧ win0_2.index t = ![t.val / 4 % 8, t.val / 32] ∧ win0_3.index t = ![t.val / 4 % 8, t.val / 32] :=
  (by decide +kernel : ∀ t : Fin grid0.N, _)

/-- What the first step of a run stores. -/
theorem first_at (x : FVec Ideal S1024x4096 .bf16) (w : FVec Ideal S1x4096x1024 .bf16) (r : FVec Ideal S1024x1024 .f32) (j : S1024x1024.Idx) :
    (show EReal from k0_pay2 (F := Ideal) x w r j) = (∑ k : Fin 4096, x (ix2 (j 0) k : S1024x4096.Idx) * w (ix3 0 k (j 1) : S1x4096x1024.Idx)) + r j := by
  pointwise [k0_pay1, k0_pay2]

/-- What a later step of a run stores. -/
theorem later_at (x : FVec Ideal S1024x4096 .bf16) (w : FVec Ideal S1x4096x1024 .bf16) (r : FVec Ideal S1024x1024 .f32) (j : S1024x1024.Idx) :
    (show EReal from k0_pay3 (F := Ideal) x w r j) = (show EReal from r j) + ∑ k : Fin 4096, x (ix2 (j 0) k : S1024x4096.Idx) * w (ix3 0 k (j 1) : S1x4096x1024.Idx) := by
  pointwise [k0_pay1, k0_pay3]

/-- What a step adds: its part of the product, and at the first step the residual stream. -/
def part (c : Dev nD) (t : Fin cfg0.N) (j : S1024x1024.Idx) : EReal :=
  (∑ k : Fin 4096, (show FVec Ideal S1024x4096 .bf16 from iblk m c 0 t) (ix2 (j 0) k : S1024x4096.Idx)
      * (show FVec Ideal S1x4096x1024 .bf16 from iblk m c 1 t) (ix3 0 k (j 1) : S1x4096x1024.Idx))
    + if t.val % 4 = 0 then (show FVec Ideal S1024x1024 .f32 from iblk m c 2 t) j else (0 : EReal)

/-- The array that the kernel returns is the residual stream plus the product. -/
theorem final (c : Dev nD) : (dats m 0 c).arrAt 3 (cfgs 0).N
    = product (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => outsAt0 m c n h) 4 (fun _ => 0) (part m c)
    (fun t h j => by rw [outsAt0_A m c t h (by omega)]; frame_out; exact (first_at _ _ _ _).trans (by rw [part, if_pos h]; exact (zero_add _).symm))
    (fun t h j => by rw [outsAt0_B m c t h (by omega)]; frame_out; exact (later_at _ _ _ _).trans (by rw [part, if_neg h]; exact congrArg _ (add_zero _).symm))
    t ((flush0_3 t).mp hf) _, zero_add]
  show (∑ s : Fin 4, part m c _ y : EReal) = _
  unfold part product
  rw [Finset.sum_add_distrib, add_comm]
  refine congrArg₂ (fun a b : EReal => a + b) ?_ ?_
  · rw [Finset.sum_eq_single (0 : Fin 4)]
    · rw [if_pos (by show (4 * (t.val / 4) + 0) % 4 = 0; omega)]
      blk_point [iblk, V, idx t, idx ⟨_, Pipeline.run_point_lt_of_flush t ((flush0_3 t).mp hf) 0⟩]
    · intro s _ hs
      rw [if_neg (by show ¬ (4 * (t.val / 4) + s.val) % 4 = 0; have := Fin.val_ne_of_ne hs; have := s.isLt; simp at *; omega)]
    · intro h; exact absurd (Finset.mem_univ _) h
  · refine Fin.sum_mul_add_congr fun s k hl => ?_
    blk_point [iblk, V, idx t, idx ⟨_, Pipeline.run_point_lt_of_flush t ((flush0_3 t).mp hf) s⟩]

end Cert.Ff2KernelIdeal.Value
namespace Cert.Proof
open Idealize.ShloMosaic Idealize.ShloMosaic.TcCoe Idealize.SL.Sem

/-- Kernel and reference agree. -/
theorem algebraic_Ff2KernelIdeal : Cert.algebraic_Ff2KernelIdeal_Ff2ReferenceIdeal := by
  pair_intro
  · run_from Cert.Ff2KernelIdeal.Value.run_blocks m g
  · run_from Cert.Ff2ReferenceIdeal.Value.run m' g'
    rw [Cert.Ff2KernelIdeal.Value.final]
    funext i
    idx_vars i
    pointwise [Cert.Ff2KernelIdeal.Value.product]

end Cert.Proof
end
end
-- ==== Proof.OutProduct.lean ====
module
public import proofs.«01_k».proof.Proof.Gen.OutKernelIdeal.Frame
public import proofs.«01_k».proof.Proof.Gen.OutKernelIdeal.Value
public import proofs.«01_k».proof.Proof.Gen.OutReferenceIdeal.Run
public import Idealize.ShloMosaic.Lib.Pipeline.ValueKit
public import Idealize.ShloMosaic.Lib.Claim
public import proofs.«01_k».proof.Defs
@[expose] public section
set_option maxRecDepth 16384
noncomputable section
namespace Cert.OutKernelIdeal.Value
open Idealize.ShloMosaic Idealize.ShloMosaic.TcCoe Idealize.SL.Sem
open Cert.OutKernelIdeal Cert.OutKernelIdeal.Gen
variable (m : (ℓ : Loc nD τ sig) → Buf (Elt Ideal) ℓ)

/-- The merged branches times the last layer's output weights, added to the residual stream. -/
def product (r : FVec Ideal S8192x4096 .f32) (x : FVec Ideal S8192x4096 .bf16) (w : FVec Ideal S2x4096x4096 .f32) (i : S8192x4096.Idx) : EReal :=
  r (ix2 (i 0) (i 1) : S8192x4096.Idx) + ∑ k : Fin 4096, x (ix2 (i 0) k : S8192x4096.Idx) * w (ix3 1 k (i 1) : S2x4096x4096.Idx)

theorem idx : ∀ t : Fin cfg0.N, win0_0.index t = ![t.val % 8, 0] ∧ win0_1.index t = ![1, 0, t.val / 8]
    ∧ win0_2.index t = ![t.val % 8, t.val / 8] ∧ win0_3.index t = ![t.val % 8, t.val / 8] :=
  (by decide +kernel : ∀ t : Fin grid0.N, _)

/-- The array that the kernel returns is the residual stream plus the product. -/
theorem final (c : Dev nD) : (dats m 0 c).arrAt 3 (cfgs 0).N
    = product (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, product]
  rw [add_comm]
  blk_point [iblk, V, idx t]

end Cert.OutKernelIdeal.Value
namespace Cert.Proof
open Idealize.ShloMosaic Idealize.ShloMosaic.TcCoe Idealize.SL.Sem

/-- Kernel and reference agree. -/
theorem algebraic_OutKernelIdeal : Cert.algebraic_OutKernelIdeal_OutReferenceIdeal := by
  pair_intro
  · run_from Cert.OutKernelIdeal.Value.run_blocks m g
  · run_from Cert.OutReferenceIdeal.Value.run m' g'
    rw [Cert.OutKernelIdeal.Value.final]
    funext i
    idx_vars i
    pointwise [Cert.OutKernelIdeal.Value.product]

end Cert.Proof
end
end
-- ==== Proof.Merge.lean ====
module
public import proofs.«01_k».proof.Proof.Gen.MergeKernelIdeal.Frame
public import proofs.«01_k».proof.Proof.Gen.MergeKernelIdeal.Value
public import proofs.«01_k».proof.Proof.Gen.MergeReferenceIdeal.Run
public import Idealize.ShloMosaic.Lib.Pipeline.ValueKit
public import Idealize.ShloMosaic.Lib.Claim
public import proofs.«01_k».proof.Defs
@[expose] public section
set_option maxRecDepth 16384
noncomputable section
namespace Cert.MergeKernelIdeal.Value
open Idealize.ShloMosaic Idealize.ShloMosaic.TcCoe Idealize.SL.Sem
open Cert.MergeKernelIdeal Cert.MergeKernelIdeal.Gen
variable (m : (ℓ : Loc nD τ sig) → Buf (Elt Ideal) ℓ)

/-- The logistic function. -/
def gate (z : EReal) : EReal := Ideal.div (Ideal.ofBits .f32 0x3F800000#32) (Ideal.ofBits .f32 0x3F800000#32 + Ideal.exp (-z))

/-- The column of a gate. -/
def col (o : Nat) (ho : o ≤ 18432) (j : Fin 4096) : Fin 22528 := ⟨o + j.val, by omega⟩

/-- The first branch. -/
def branchA (o : Nat) (ho : o ≤ 18432) (p : FVec Ideal S8192x22528 .bf16) (y : FVec Ideal S8192x1024 .bf16) (w : FVec Ideal S2x1024x4096 .f32) (r : Fin 8192) (j : Fin 4096) : EReal :=
  gate (p (ix2 r (col o ho j) : S8192x22528.Idx)) * (∑ k : Fin 1024, y (ix2 r k : S8192x1024.Idx) * w (ix3 1 k j : S2x1024x4096.Idx))

/-- The second and the third branch. -/
def branchB (o : Nat) (ho : o ≤ 18432) (p : FVec Ideal S8192x22528 .bf16) (y : FVec Ideal S8192x1536 .bf16) (w : FVec Ideal S2x1536x4096 .f32) (r : Fin 8192) (j : Fin 4096) : EReal :=
  gate (p (ix2 r (col o ho j) : S8192x22528.Idx)) * (∑ k : Fin 1536, y (ix2 r k : S8192x1536.Idx) * w (ix3 1 k j : S2x1536x4096.Idx))

/-- The three branches, each times its output weights and its gate, and their sum. -/
def merged (p : FVec Ideal S8192x22528 .bf16) (ya : FVec Ideal S8192x1024 .bf16) (yb yc : FVec Ideal S8192x1536 .bf16)
    (wa : FVec Ideal S2x1024x4096 .f32) (wb wc : FVec Ideal S2x1536x4096 .f32) (i : S8192x4096.Idx) : EReal :=
  branchA 10240 (by decide) p ya wa (i 0) (i 1) + branchB 14336 (by decide) p yb wb (i 0) (i 1) + branchB 18432 (by decide) p yc wc (i 0) (i 1)

theorem idx : ∀ t : Fin cfg0.N, win0_0.index t = ![t.val % 8, 0] ∧ win0_1.index t = ![t.val % 8, 0] ∧ win0_2.index t = ![t.val % 8, 0]
    ∧ win0_3.index t = ![1, 0, t.val / 8] ∧ win0_4.index t = ![1, 0, t.val / 8] ∧ win0_5.index t = ![1, 0, t.val / 8]
    ∧ win0_6.index t = ![t.val % 8, 10 + t.val / 8] ∧ win0_7.index t = ![t.val % 8, 14 + t.val / 8] ∧ win0_8.index t = ![t.val % 8, 18 + t.val / 8]
    ∧ win0_9.index t = ![t.val % 8, t.val / 8] :=
  (by decide +kernel : ∀ t : Fin grid0.N, _)

/-- The array that the kernel returns is the merge. -/
theorem final (c : Dev nD) : (dats m 0 c).arrAt 9 (cfgs 0).N
    = merged (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  frame_out
  pointwise [k0_pay1, k0_pay2, merged, branchA, branchB, gate, col, zero_sub]
  blk_point [iblk, V, idx t]

end Cert.MergeKernelIdeal.Value
namespace Cert.MergeReferenceIdeal.Value
open Idealize.ShloMosaic Idealize.ShloMosaic.TcCoe Idealize.SL.Sem Cert.MergeReferenceIdeal Cert.MergeReferenceIdeal.Gen
open Cert.MergeKernelIdeal.Value (gate branchA branchB merged col)

/-- The reference's gates before the logistic function. -/
def cols (p : FVec Ideal S8192x22528 .bf16) : FVec Ideal S2x4096x3x4096 .f32 :=
  shapeCast _ (extf .f32 (extractStridedSlice S8192x12288 ![0, 10240] p slices_S8192x22528_S8192x12288_0_10240) bitsLt_bf16_f32) shapeCasts_S8192x12288_S2x4096x3x4096

/-- The reference's gates. -/
def gates (p : FVec Ideal S8192x22528 .bf16) : FVec Ideal S2x4096x3x4096 .f32 :=
  Host.divf (broadcastInDim S2x4096x3x4096 ![] bcast_S_S2x4096x3x4096 (constant S_ .f32 0x3F800000#32)) (addf (broadcastInDim S2x4096x3x4096 ![] bcast_S_S2x4096x3x4096 (constant S_ .f32 0x3F800000#32)) (Host.exp (Host.negf (cols p))))

theorem gates_at (p : FVec Ideal S8192x22528 .bf16) (a : Fin 2) (b : Fin 4096) (n : Fin 3) (j : Fin 4096) :
    gates p (ix4 a b n j : S2x4096x3x4096.Idx) = gate (p (ix2 ⟨a.val * 4096 + b.val, by omega⟩ ⟨10240 + (n.val * 4096 + j.val), by omega⟩ : S8192x22528.Idx)) := by
  pointwise [gates, gate, cols]

/-- A gate of the reference, over the rows of all batches. -/
def gateA (p : FVec Ideal S8192x22528 .bf16) : FVec Ideal S2x4096x4096 .f32 :=
  shapeCast _ (extractStridedSlice S2x4096x1x4096 ![0, 0, 0, 0] (gates p) slices_S2x4096x3x4096_S2x4096x1x4096_0_0_0_0) shapeCasts_S2x4096x1x4096_S2x4096x4096
def gateB (p : FVec Ideal S8192x22528 .bf16) : FVec Ideal S2x4096x4096 .f32 :=
  shapeCast _ (extractStridedSlice S2x4096x1x4096 ![0, 0, 1, 0] (gates p) slices_S2x4096x3x4096_S2x4096x1x4096_0_0_1_0) shapeCasts_S2x4096x1x4096_S2x4096x4096
def gateC (p : FVec Ideal S8192x22528 .bf16) : FVec Ideal S2x4096x4096 .f32 :=
  shapeCast _ (extractStridedSlice S2x4096x1x4096 ![0, 0, 2, 0] (gates p) slices_S2x4096x3x4096_S2x4096x1x4096_0_0_2_0) shapeCasts_S2x4096x1x4096_S2x4096x4096

theorem gateA_at (p : FVec Ideal S8192x22528 .bf16) (a : Fin 2) (b : Fin 4096) (j : Fin 4096) :
    gateA p (ix3 a b j : S2x4096x4096.Idx) = gate (p (ix2 ⟨a.val * 4096 + b.val, by omega⟩ (col 10240 (by decide) j) : S8192x22528.Idx)) := by
  have h := gates_at p a b 0 j
  pointwise [gateA, col, h]
theorem gateB_at (p : FVec Ideal S8192x22528 .bf16) (a : Fin 2) (b : Fin 4096) (j : Fin 4096) :
    gateB p (ix3 a b j : S2x4096x4096.Idx) = gate (p (ix2 ⟨a.val * 4096 + b.val, by omega⟩ (col 14336 (by decide) j) : S8192x22528.Idx)) := by
  have h := gates_at p a b 1 j
  pointwise [gateB, col, h]
  refine congrArg gate (congrArg p (congrArg (ix2 _) (Fin.ext ?_)))
  show 10240 + (4096 + j.val) = 14336 + j.val
  omega
theorem gateC_at (p : FVec Ideal S8192x22528 .bf16) (a : Fin 2) (b : Fin 4096) (j : Fin 4096) :
    gateC p (ix3 a b j : S2x4096x4096.Idx) = gate (p (ix2 ⟨a.val * 4096 + b.val, by omega⟩ (col 18432 (by decide) j) : S8192x22528.Idx)) := by
  have h := gates_at p a b 2 j
  pointwise [gateC, col, h]
  refine congrArg gate (congrArg p (congrArg (ix2 _) (Fin.ext ?_)))
  show 10240 + (8192 + j.val) = 18432 + j.val
  omega

/-- The reference's products. -/
def dotA (y : FVec Ideal S8192x1024 .bf16) (w : FVec Ideal S2x1024x4096 .f32) : FVec Ideal S2x4096x4096 .f32 :=
  Host.dotGeneral dot_S2x4096x1024_S1024x4096_S2x4096x4096_2_0_01_1_n_n none (shapeCast _ (extf .f32 y bitsLt_bf16_f32) shapeCasts_S8192x1024_S2x4096x1024) (shapeCast _ (extractStridedSlice S1x1024x4096 ![1, 0, 0] w slices_S2x1024x4096_S1x1024x4096_1_0_0) shapeCasts_S1x1024x4096_S1024x4096)
def dotB (y : FVec Ideal S8192x1536 .bf16) (w : FVec Ideal S2x1536x4096 .f32) : FVec Ideal S2x4096x4096 .f32 :=
  Host.dotGeneral dot_S2x4096x1536_S1536x4096_S2x4096x4096_2_0_01_1_n_n none (shapeCast _ (extf .f32 y bitsLt_bf16_f32) shapeCasts_S8192x1536_S2x4096x1536) (shapeCast _ (extractStridedSlice S1x1536x4096 ![1, 0, 0] w slices_S2x1536x4096_S1x1536x4096_1_0_0) shapeCasts_S1x1536x4096_S1536x4096)

theorem dotA_at (y : FVec Ideal S8192x1024 .bf16) (w : FVec Ideal S2x1024x4096 .f32) (a : Fin 2) (b : Fin 4096) (j : Fin 4096) :
    dotA y w (ix3 a b j : S2x4096x4096.Idx) = (∑ k : Fin 1024, y (ix2 ⟨a.val * 4096 + b.val, by omega⟩ k : S8192x1024.Idx) * w (ix3 1 k j : S2x1024x4096.Idx) : EReal) := by
  pointwise [dotA]
theorem dotB_at (y : FVec Ideal S8192x1536 .bf16) (w : FVec Ideal S2x1536x4096 .f32) (a : Fin 2) (b : Fin 4096) (j : Fin 4096) :
    dotB y w (ix3 a b j : S2x4096x4096.Idx) = (∑ k : Fin 1536, y (ix2 ⟨a.val * 4096 + b.val, by omega⟩ k : S8192x1536.Idx) * w (ix3 1 k j : S2x1536x4096.Idx) : EReal) := by
  pointwise [dotB]

/-- What the reference returns. -/
def result (p : FVec Ideal S8192x22528 .bf16) (ya : FVec Ideal S8192x1024 .bf16) (yb yc : FVec Ideal S8192x1536 .bf16)
    (wa : FVec Ideal S2x1024x4096 .f32) (wb wc : FVec Ideal S2x1536x4096 .f32) : FVec Ideal S8192x4096 .bf16 :=
  truncf .bf16 (shapeCast _ (addf (addf (mulf (gateA p) (dotA ya wa)) (mulf (gateB p) (dotB yb wb))) (mulf (gateC p) (dotB yc wc))) shapeCasts_S2x4096x4096_S8192x4096) bitsLt_bf16_f32

theorem result_at (p : FVec Ideal S8192x22528 .bf16) (ya : FVec Ideal S8192x1024 .bf16) (yb yc : FVec Ideal S8192x1536 .bf16)
    (wa : FVec Ideal S2x1024x4096 .f32) (wb wc : FVec Ideal S2x1536x4096 .f32) (r : Fin 8192) (j : Fin 4096) :
    result p ya yb yc wa wb wc (ix2 r j : S8192x4096.Idx) = merged p ya yb yc wa wb wc (ix2 r j) := by
  have hr : (⟨r.val / 4096 * 4096 + r.val % 4096, by omega⟩ : Fin 8192) = r := Fin.ext (by show r.val / 4096 * 4096 + r.val % 4096 = r.val; omega)
  have ga := gateA_at p ⟨r.val / 4096, by omega⟩ ⟨r.val % 4096, by omega⟩ j
  have gb := gateB_at p ⟨r.val / 4096, by omega⟩ ⟨r.val % 4096, by omega⟩ j
  have gc := gateC_at p ⟨r.val / 4096, by omega⟩ ⟨r.val % 4096, by omega⟩ j
  have da := dotA_at ya wa ⟨r.val / 4096, by omega⟩ ⟨r.val % 4096, by omega⟩ j
  have db := dotB_at yb wb ⟨r.val / 4096, by omega⟩ ⟨r.val % 4096, by omega⟩ j
  have dc := dotB_at yc wc ⟨r.val / 4096, by omega⟩ ⟨r.val % 4096, by omega⟩ j
  simp only [hr] at ga gb gc da db dc
  refine Eq.trans (b := (gateA p (ix3 ⟨r.val / 4096, by omega⟩ ⟨r.val % 4096, by omega⟩ j : S2x4096x4096.Idx) * dotA ya wa (ix3 ⟨r.val / 4096, by omega⟩ ⟨r.val % 4096, by omega⟩ j : S2x4096x4096.Idx)
    + gateB p (ix3 ⟨r.val / 4096, by omega⟩ ⟨r.val % 4096, by omega⟩ j : S2x4096x4096.Idx) * dotB yb wb (ix3 ⟨r.val / 4096, by omega⟩ ⟨r.val % 4096, by omega⟩ j : S2x4096x4096.Idx)
    + gateC p (ix3 ⟨r.val / 4096, by omega⟩ ⟨r.val % 4096, by omega⟩ j : S2x4096x4096.Idx) * dotB yc wc (ix3 ⟨r.val / 4096, by omega⟩ ⟨r.val % 4096, by omega⟩ j : S2x4096x4096.Idx) : EReal)) ?_ ?_
  · pointwise [result]
  · rw [ga, gb, gc, da, db, dc]; rfl

end Cert.MergeReferenceIdeal.Value
namespace Cert.MergeKernelIdeal.Value

end Cert.MergeKernelIdeal.Value
namespace Cert.Proof
open Idealize.ShloMosaic Idealize.ShloMosaic.TcCoe Idealize.SL.Sem

/-- Kernel and reference agree. -/
theorem algebraic_MergeKernelIdeal : Cert.algebraic_MergeKernelIdeal_MergeReferenceIdeal := by
  pair_intro
  · run_from Cert.MergeKernelIdeal.Value.run_blocks m g
  · run_from Cert.MergeReferenceIdeal.Value.run m' g'
    rw [Cert.MergeKernelIdeal.Value.final]
    funext i
    idx_vars i
    refine Eq.trans (b := Cert.MergeReferenceIdeal.Value.result _ _ _ _ _ _ _ _) rfl ((Cert.MergeReferenceIdeal.Value.result_at _ _ _ _ _ _ _ _ _).trans ?_)
    rfl

end Cert.Proof
end
end
-- ==== Proof.RowNorm.lean ====
module
public import proofs.«01_k».proof.Proof.Gen.NormKernelIdeal.Frame
public import proofs.«01_k».proof.Proof.Gen.NormKernelIdeal.Value
public import proofs.«01_k».proof.Proof.Gen.NormReferenceIdeal.Run
public import Idealize.ShloMosaic.Lib.Pipeline.ValueKit
public import Idealize.ShloMosaic.Lib.Claim
public import proofs.«01_k».proof.Defs
@[expose] public section
set_option maxRecDepth 16384
noncomputable section
namespace Cert.NormKernelIdeal.Value
open Idealize.ShloMosaic Idealize.ShloMosaic.TcCoe Idealize.SL.Sem
open Cert.NormKernelIdeal Cert.NormKernelIdeal.Gen
variable (m : (ℓ : Loc nD τ sig) → Buf (Elt Ideal) ℓ)

/-- A row divided by the root of its mean square, times the gain. -/
def normed (x : FVec Ideal S8192x4096 .f32) (g : FVec Ideal S4096 .f32) (i : S8192x4096.Idx) : EReal :=
  x (ix2 (i 0) (i 1) : S8192x4096.Idx)
    * Ideal.rsqrt (Ideal.div (∑ k : Fin 4096, x (ix2 (i 0) k : S8192x4096.Idx) * x (ix2 (i 0) k : S8192x4096.Idx)) (Ideal.ofBits .f32 0x45800000#32)
      + Ideal.ofBits .f32 0x358637BD#32) * g (ix1 (i 1) : S4096.Idx)

theorem idx : ∀ t : Fin cfg0.N, win0_0.index t = ![t.val, 0] ∧ win0_1.index t = ![0, 0] ∧ win0_2.index t = ![t.val, 0] :=
  (by decide +kernel : ∀ t : Fin grid0.N, _)

/-- The array that the kernel returns is the normed rows. -/
theorem final (c : Dev nD) : (dats m 0 c).arrAt 2 (cfgs 0).N
    = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, normed]
  blk_point [iblk, V, idx t]

end Cert.NormKernelIdeal.Value
namespace Cert.Proof
open Idealize.ShloMosaic Idealize.ShloMosaic.TcCoe Idealize.SL.Sem

/-- Kernel and reference agree. -/
theorem algebraic_NormKernelIdeal : Cert.algebraic_NormKernelIdeal_NormReferenceIdeal := by
  pair_intro
  · run_from Cert.NormKernelIdeal.Value.run_blocks m g
  · run_from Cert.NormReferenceIdeal.Value.run m' g'
    rw [Cert.NormKernelIdeal.Value.final]
    funext i
    idx_vars i
    pointwise [Cert.NormKernelIdeal.Value.normed]

end Cert.Proof
end
end
-- ==== Proof.Glu.lean ====
module
public import proofs.«01_k».proof.Proof.Gen.GluKernelIdeal.Frame
public import proofs.«01_k».proof.Proof.Gen.GluKernelIdeal.Value
public import proofs.«01_k».proof.Proof.Gen.GluReferenceIdeal.Run
public import Idealize.ShloMosaic.Lib.Pipeline.ValueKit
public import Idealize.ShloMosaic.Lib.Claim
public import proofs.«01_k».proof.Defs
@[expose] public section
set_option maxRecDepth 16384
noncomputable section
namespace Cert.GluKernelIdeal.Value
open Idealize.ShloMosaic Idealize.ShloMosaic.TcCoe Idealize.SL.Sem
open Cert.GluKernelIdeal Cert.GluKernelIdeal.Gen
variable (m : (ℓ : Loc nD τ sig) → Buf (Elt Ideal) ℓ)

/-- The scan's output plus the skipped input. -/
def skipped (y : FVec Ideal S8192x1024 .f32) (p : FVec Ideal S8192x22528 .bf16) (d : FVec Ideal S1024 .f32) (r : Fin 8192) (k : Fin 1024) : EReal :=
  y (ix2 r k : S8192x1024.Idx) + d (ix1 k : S1024.Idx) * p (ix2 r ⟨k.val, by omega⟩ : S8192x22528.Idx)

/-- The gelu, by its approximation with the hyperbolic tangent. -/
def gelu (z : EReal) : EReal :=
  z * (Ideal.ofBits .f32 0x3F000000#32 * (Ideal.ofBits .f32 0x3F800000#32 + Ideal.tanh (Ideal.ofBits .f32 0x3F4C422A#32
    * (z + Ideal.ofBits .f32 0x3D372713#32 * (z * z * z)))))

/-- The activation times its own gate. -/
def gated (y : FVec Ideal S8192x1024 .f32) (p : FVec Ideal S8192x22528 .bf16) (d : FVec Ideal S1024 .f32) (w : FVec Ideal S2x1024x1024 .f32)
    (b : FVec Ideal S1024 .f32) (i : S8192x1024.Idx) : EReal :=
  gelu (skipped y p d (i 0) (i 1)) * Ideal.div (Ideal.ofBits .f32 0x3F800000#32) (Ideal.ofBits .f32 0x3F800000#32
    + Ideal.exp (-((∑ k : Fin 1024, gelu (skipped y p d (i 0) k) * w (ix3 1 k (i 1) : S2x1024x1024.Idx)) + b (ix1 (i 1) : S1024.Idx))))

theorem idx : ∀ t : Fin cfg0.N, win0_0.index t = ![t.val, 0] ∧ win0_1.index t = ![t.val, 0] ∧ win0_2.index t = ![0, 0]
    ∧ win0_3.index t = ![1, 0, 0] ∧ win0_4.index t = ![0, 0] ∧ win0_5.index t = ![t.val, 0] :=
  (by decide +kernel : ∀ t : Fin grid0.N, _)

/-- The array that the kernel returns. -/
theorem final (c : Dev nD) : (dats m 0 c).arrAt 5 (cfgs 0).N
    = gated (m ((c : Thread nD τ).loc main_arg0)) (m ((c : Thread nD τ).loc main_arg1)) (m ((c : Thread nD τ).loc main_arg2)) (m ((c : Thread nD τ).loc main_arg3))
      (m ((c : Thread nD τ).loc main_arg4)) := by
  refine (dats m 0 c).arrAt_eq_of_covers 5 _ (by decide +kernel) fun t _ y => ?_
  blk_simp
  rw [after0_5]
  frame_out
  pointwise [k0_pay1, gated, gelu, skipped, zero_sub]
  blk_point [iblk, V, idx t]

end Cert.GluKernelIdeal.Value
namespace Cert.Proof
open Idealize.ShloMosaic Idealize.ShloMosaic.TcCoe Idealize.SL.Sem

/-- Kernel and reference agree. -/
theorem algebraic_GluKernelIdeal : Cert.algebraic_GluKernelIdeal_GluReferenceIdeal := by
  pair_intro
  · run_from Cert.GluKernelIdeal.Value.run_blocks m g
  · run_from Cert.GluReferenceIdeal.Value.run m' g'
    rw [Cert.GluKernelIdeal.Value.final]
    funext i
    idx_vars i
    rw [Cert.GluReferenceIdeal.Value.res_main_v32]
    pointwise [Cert.GluKernelIdeal.Value.gated, Cert.GluKernelIdeal.Value.gelu, Cert.GluKernelIdeal.Value.skipped]
    obtain ⟨a0, a1, a2, a3, a4⟩ := hagree c
    rw [a0, a1, a2, a3, a4]

end Cert.Proof
end
end
-- ==== Proof.DiffLoopsIdeal.lean ====
module
public import proofs.«01_k».proof.Proof.Gen.DiffKernelIdeal.Loops
public import proofs.«01_k».proof.Proof.Gen.DiffKernelIdeal.Frame
@[expose] public section
set_option maxRecDepth 8192
set_option maxHeartbeats 4000000
noncomputable section
namespace Cert.DiffKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What one pass over a block of rows touches: what it reads at its contents, what it writes at any. -/
abbrev Trip_k0_t1 (c : Dev nD) (arg2 : Memref sig .tc .vmem S4096x128 .bf16) (arg3 : Memref sig .tc .vmem S4096x128 .bf16) (arg6 : Memref sig .tc .vmem S4096x256 .bf16) (arg7 : Memref sig .tc .vmem S1x128 .f32) (arg11 : Memref sig .tc .vmem S1x256 .f32) (arg13 : Memref sig .tc .vmem S2x4096x256 .bf16) (arg12 : Memref sig .tc .vmem S4096x256 .bf16) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg11 : BufTy.Contents (Elt F) arg11.view.ty) (X_arg13 : BufTy.Contents (Elt F) arg13.view.ty) (f_arg12 : BufTy.Contents (Elt F) arg12.view.ty) : sProp (MT nD τ sig Unit (Elt F) ℕ (UR sig nD τ) ℕ) :=
  iprop((arg2.view.loc (c : Thread nD τ) ↦[arg2.view.set]{fullShare} X_arg2) ∗ (arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg11.view.loc (c : Thread nD τ) ↦[arg11.view.set]{fullShare} X_arg11) ∗ (arg13.view.loc (c : Thread nD τ) ↦[arg13.view.set]{fullShare} X_arg13) ∗ (arg12.view.loc (c : Thread nD τ) ↦[arg12.view.set]{fullShare} f_arg12))

/-- One pass over a block of rows, and the piece it writes. -/
@[irreducible] def trip_k0_t1 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole) (v22 : FVec F S1x1 .f32) (v123 : FVec F S512x512 .f32) (v147 : IVec S512x512 32) (v149 : IVec S512x512 32) (v163 : IVec S512x512 1) (v167 : IVec S512x512 1) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg11 : BufTy.Contents (Elt F) arg11.view.ty) (X_arg13 : BufTy.Contents (Elt F) arg13.view.ty) (k : Fin k0_t1_loop.trips) :
    { L_arg12 : List (View.Piece (Elt F) S4096x256 .bf16) // ∀ (E : Set ℕ) (f_arg12 : BufTy.Contents (Elt F) arg12.view.ty),
      Trip_k0_t1 (F := F) c arg2 arg3 arg6 arg7 arg11 arg13 arg12 X_arg2 X_arg3 X_arg6 X_arg7 X_arg11 X_arg13 f_arg12
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v22 v123 v147 v149 v163 v167 k PUnit.unit)
          (fun _ => Trip_k0_t1 (F := F) c arg2 arg3 arg6 arg7 arg11 arg13 arg12 X_arg2 X_arg3 X_arg6 X_arg7 X_arg11 X_arg13 (arg12.view.writes (Elt F) f_arg12 L_arg12)) } := by
  have hk : k.val < 8 := Nat.lt_of_lt_of_le k.isLt k0_t1_abs.2.1
  refine ⟨?_, fun E f_arg12 => ?run⟩
  case run =>
    unfold k0_t1_body
    iintro ⟨HR_arg2, HR_arg3, HR_arg6, HR_arg7, HR_arg11, HR_arg13, HW_arg12⟩
    sl_exec
    sl_step
    sl_close

/-- The pieces of one pass. -/
abbrev tripL_k0_t1 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole) (v22 : FVec F S1x1 .f32) (v123 : FVec F S512x512 .f32) (v147 : IVec S512x512 32) (v149 : IVec S512x512 32) (v163 : IVec S512x512 1) (v167 : IVec S512x512 1) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg11 : BufTy.Contents (Elt F) arg11.view.ty) (X_arg13 : BufTy.Contents (Elt F) arg13.view.ty) (k : Fin k0_t1_loop.trips) : List (View.Piece (Elt F) S4096x256 .bf16) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 k).1

/-- One pass's pieces before those of the passes before it. -/
@[irreducible] def pb_k0_t1Step (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole) (v22 : FVec F S1x1 .f32) (v123 : FVec F S512x512 .f32) (v147 : IVec S512x512 32) (v149 : IVec S512x512 32) (v163 : IVec S512x512 1) (v167 : IVec S512x512 1) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg11 : BufTy.Contents (Elt F) arg11.view.ty) (X_arg13 : BufTy.Contents (Elt F) arg13.view.ty) (k : ℕ) (prev : List (View.Piece (Elt F) S4096x256 .bf16)) : List (View.Piece (Elt F) S4096x256 .bf16) :=
  if h : k < k0_t1_loop.trips then (tripL_k0_t1 (F := F) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 ⟨k, h⟩) ++ prev else prev

/-- The pieces of the passes before the `k`-th, the last first. -/
def pb_k0_t1 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole) (v22 : FVec F S1x1 .f32) (v123 : FVec F S512x512 .f32) (v147 : IVec S512x512 32) (v149 : IVec S512x512 32) (v163 : IVec S512x512 1) (v167 : IVec S512x512 1) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg11 : BufTy.Contents (Elt F) arg11.view.ty) (X_arg13 : BufTy.Contents (Elt F) arg13.view.ty) : ℕ → List (View.Piece (Elt F) S4096x256 .bf16)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 k (pb_k0_t1 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 k)

theorem pb_k0_t1_succ (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole) (v22 : FVec F S1x1 .f32) (v123 : FVec F S512x512 .f32) (v147 : IVec S512x512 32) (v149 : IVec S512x512 32) (v163 : IVec S512x512 1) (v167 : IVec S512x512 1) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg11 : BufTy.Contents (Elt F) arg11.view.ty) (X_arg13 : BufTy.Contents (Elt F) arg13.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 (k.val + 1) = (tripL_k0_t1 (F := F) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 k.val) := by
  rw [pb_k0_t1.eq_2]; unfold pb_k0_t1Step; exact dif_pos k.isLt

/-- Before the `k`-th pass the output holds the pieces of the passes before it. -/
abbrev inv_k0_t1 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole) (v22 : FVec F S1x1 .f32) (v123 : FVec F S512x512 .f32) (v147 : IVec S512x512 32) (v149 : IVec S512x512 32) (v163 : IVec S512x512 1) (v167 : IVec S512x512 1) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg11 : BufTy.Contents (Elt F) arg11.view.ty) (X_arg13 : BufTy.Contents (Elt F) arg13.view.ty) (G_arg12 : BufTy.Contents (Elt F) arg12.view.ty) (k : ℕ) (acc : Unit) : sProp (MT nD τ sig Unit (Elt F) ℕ (UR sig nD τ) ℕ) :=
  iprop((arg2.view.loc (c : Thread nD τ) ↦[arg2.view.set]{fullShare} X_arg2) ∗ (arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg11.view.loc (c : Thread nD τ) ↦[arg11.view.set]{fullShare} X_arg11) ∗ (arg13.view.loc (c : Thread nD τ) ↦[arg13.view.set]{fullShare} X_arg13) ∗ (∃ f, (arg12.view.loc (c : Thread nD τ) ↦[arg12.view.set]{fullShare} f) ∗ ⌜f = arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 k)⌝))

set_option warn.classDefReducibility false in
/-- The passes over the blocks of rows, one after the other. -/
@[sl_loop] def loopInv_k0_t1 (𝒱 : Variants) (c : Dev nD) (bd : Option 𝒱.V) (E : Set ℕ) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole) (v22 : FVec F S1x1 .f32) (v123 : FVec F S512x512 .f32) (v147 : IVec S512x512 32) (v149 : IVec S512x512 32) (v163 : IVec S512x512 1) (v167 : IVec S512x512 1) (X_arg2 : BufTy.Contents (Elt F) arg2.view.ty) (X_arg3 : BufTy.Contents (Elt F) arg3.view.ty) (X_arg6 : BufTy.Contents (Elt F) arg6.view.ty) (X_arg7 : BufTy.Contents (Elt F) arg7.view.ty) (X_arg11 : BufTy.Contents (Elt F) arg11.view.ty) (X_arg13 : BufTy.Contents (Elt F) arg13.view.ty) (G_arg12 : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v22 v123 v147 v149 v163 v167 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 G_arg12
  step k acc := by
    iintro ⟨HR_arg2, HR_arg3, HR_arg6, HR_arg7, HR_arg11, HR_arg13, ⟨%f_arg12, HW_arg12, %h_arg12⟩⟩
    iapply (wp_wand_r Idealize.ShloMosaic.frame (wpE (defs₀ (F := F)) 𝒱 (c : Thread nD τ) bd) E)
    isplitl [HR_arg2 HR_arg3 HR_arg6 HR_arg7 HR_arg11 HR_arg13 HW_arg12]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X_arg2 X_arg3 X_arg6 X_arg7 X_arg11 X_arg13 k).2 E f_arg12)
      isplitl [HR_arg2]; · iexact HR_arg2
      isplitl [HR_arg3]; · iexact HR_arg3
      isplitl [HR_arg6]; · iexact HR_arg6
      isplitl [HR_arg7]; · iexact HR_arg7
      isplitl [HR_arg11]; · iexact HR_arg11
      isplitl [HR_arg13]; · iexact HR_arg13
      iexact HW_arg12
    · iintro %_ ⟨HR_arg2, HR_arg3, HR_arg6, HR_arg7, HR_arg11, HR_arg13, HW_arg12⟩
      isplitl [HR_arg2]; · iexact HR_arg2
      isplitl [HR_arg3]; · iexact HR_arg3
      isplitl [HR_arg6]; · iexact HR_arg6
      isplitl [HR_arg7]; · iexact HR_arg7
      isplitl [HR_arg11]; · iexact HR_arg11
      isplitl [HR_arg13]; · iexact HR_arg13
      rw [pb_k0_t1_succ]
      iexists _; isplitl [HW_arg12]; · iexact HW_arg12
      ipureintro; rw [h_arg12, ← View.writes_append]

end Cert.DiffKernelIdeal.Gen
end
end
-- ==== Proof.DiffRunIdeal.lean ====
module
public import proofs.«01_k».proof.Proof.DiffLoopsIdeal
public import Idealize.ShloMosaic.Lib.Claim
public import Idealize.ShloMosaic.Lib.Pipeline.Value
@[expose] public section
set_option maxRecDepth 16384
noncomputable section
namespace Cert.DiffKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- The output's staging view. -/
abbrev VO0_10 : View sig .tc .vmem S4096x256 .bf16 := (Memref.whole cc0_stg10_0 : Memref sig .tc .vmem S4096x256 .bf16).view
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4096x256 .bf16 := win0_10.stage (cfg0.slots t 10)
abbrev hs0_10 (t : Fin cfg0.N) : (ms0_10 t).IsWhole := hstage0_10 ((cfg0.slots t 10).cast nbuf0_10)
/-- The scratch buffer. -/
abbrev scM0_0 : Memref sig .tc .vmem S2x4096x256 .bf16 := Memref.whole cc0_scratch0

/-- What every point keeps: the scratch at some contents, and the generator register. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 4000000 in
/-- The body's run: the pieces it leaves in the output, found by the run. -/
noncomputable def kernelRun0_A (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole)
    (x0 : Vec F S4096x128 .bf16) (x1 : Vec F S4096x128 .bf16) (x2 : Vec F S4096x128 .bf16) (x3 : Vec F S4096x128 .bf16) (x4 : Vec F S4096x256 .bf16) (x5 : Vec F S1x128 .f32) (x6 : Vec F S1x128 .f32) (x7 : Vec F S4x128 .f32) (x8 : Vec F S1x1x128 .f32) (x9 : Vec F S1x256 .f32) :
    { L10 : List (View.Piece (Elt F) S4096x256 .bf16) //
      ∀ (E : Set ℕ) (K : PUnit → (sProp (MT nD τ sig Unit (Elt F) ℕ (UR sig nD τ) ℕ))),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ d, owns (c : Thread nD τ) arg13 fullShare d)) -∗ K ⟨⟩))
          ⊢ wp frame (wpE (defs₀ (F := F)) Variants.none c none) E (cc0__da_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__da_kernel_eq_skeleton]; unfold cc0__da_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _, _; isplitr; swap; · iexact HS0
    ipureintro; rfl

/-- The pieces tile the output's block. -/
theorem cover0_A_10 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole)
    (x0 : Vec F S4096x128 .bf16) (x1 : Vec F S4096x128 .bf16) (x2 : Vec F S4096x128 .bf16) (x3 : Vec F S4096x128 .bf16) (x4 : Vec F S4096x256 .bf16) (x5 : Vec F S1x128 .f32) (x6 : Vec F S1x128 .f32) (x7 : Vec F S4x128 .f32) (x8 : Vec F S1x1x128 .f32) (x9 : Vec F S1x256 .f32) (y : S4096x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 S512x256.size (by sl_kernel_rfl) y

/-- What the run leaves in the output's buffer. -/
def out0_A_10 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole)
    (x0 : Vec F S4096x128 .bf16) (x1 : Vec F S4096x128 .bf16) (x2 : Vec F S4096x128 .bf16) (x3 : Vec F S4096x128 .bf16) (x4 : Vec F S4096x256 .bf16) (x5 : Vec F S1x128 .f32) (x6 : Vec F S1x128 .f32) (x7 : Vec F S4x128 .f32) (x8 : Vec F S1x1x128 .f32) (x9 : Vec F S1x256 .f32) : Vec F S4096x256 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1)

/-- What the output's buffer holds after the body at point `t`. -/
def outsAt0 (c : Dev nD) (t : Fin cfg0.N) : Vec F S4096x256 .bf16 :=
  out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold outsAt0
  unfold out0_A_10
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, H9, ⟨%e10, H10⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover0_A_10 c _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole call. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-- What point `t` writes back. -/
theorem flushed10 (c : Dev nD) (t : Fin cfg0.N) :
    (dats m 0 c).flushed 10 t = (cfg0.win 10).cut (grid0.coords t) (outsAt0 m c t) := by
  show (cfg0.win 10).cut (grid0.coords t) ((dats m 0 c).after 10 t) = _
  rw [after0_10]

theorem idx_inj10 : ∀ t t' : Fin cfg0.N, win0_10.index t = win0_10.index t' → t = t' :=
  (by decide +kernel : ∀ t t' : Fin grid0.N, win0_10.index t = win0_10.index t' → t = t')

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- Block `t` of the final array is what point `t` wrote back. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

theorem post10 (r : PUnit × MemSt nD τ sig (Elt F)) (h : Pipeline.FramePost cfgs (dats m) 0 (V m) r) (c : Dev nD) :
    r.2.mem ((c : Thread nD τ).loc main_v19) = (dats m 0 c).arrAt 10 cfg0.N :=
  (h c).1 10

/-- The run with the output array named. -/
theorem run_blocks : θ_run defs (onTc (τ := τ) (main (F := F))) ⟨m, fun _ => 0, ρ⟩ fun r => ∀ c : Dev nD,
      r.2.mem ((c : Thread nD τ).loc main_v19) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  θ_run_and ((θ_run defs _ _).mono (fun r h c => post10 m r h c) (run_main m ρ)) (unchanged m ρ) |> (θ_run defs _ _).mono (fun r h c => ⟨h.1 c, h.2 c⟩)

end Cert.DiffKernelIdeal.Gen
end
end
-- ==== Proof.DiffPayload.lean ====
module
public import proofs.«01_k».proof.Proof.Gen.DiffKernelIdeal.Skeleton
public import Idealize.ShloMosaic.Lib.Pointwise
public import proofs.«01_k».proof.Proof.Norm
@[expose] public section
set_option maxRecDepth 16384
noncomputable section
namespace ChunkAttention
open Idealize.ShloMosaic
open scoped BigOperators

/-- The sum of the four entries a lane holds of a row of 512. -/
def lanes (f : Fin 512 → EReal) (l : Fin 128) : EReal :=
  (f ⟨l.val, by omega⟩ + f ⟨128 + l.val, by omega⟩) + (f ⟨256 + l.val, by omega⟩ + f ⟨384 + l.val, by omega⟩)

/-- The largest of the four entries a lane holds of a row of 512. -/
def laneMax (f : Fin 512 → EReal) (l : Fin 128) : EReal :=
  max (max (f ⟨l.val, by omega⟩) (f ⟨128 + l.val, by omega⟩)) (max (f ⟨256 + l.val, by omega⟩) (f ⟨384 + l.val, by omega⟩))

end ChunkAttention

namespace Cert.DiffKernelIdeal.Value
open Idealize.ShloMosaic Idealize.ShloMosaic.TcCoe Idealize.SL.Sem
open Cert.DiffKernelIdeal Cert.DiffKernelIdeal.Gen ChunkAttention

/-- A row of extended queries against a row of extended keys. -/
def dot (x : FVec Ideal S512x256 .bf16) (k : FVec Ideal S1x512x256 .bf16) (r n : Fin 512) : EReal :=
  ∑ e : Fin 256, x (ix2 r e : S512x256.Idx) * k (ix3 0 n e : S1x512x256.Idx)

theorem pay62_at (x : FVec Ideal S512x256 .bf16) (a : FVec Ideal S512x128 .f32) (k : FVec Ideal S1x512x256 .bf16) (r : Fin 512) (l : Fin 128) :
    k0_pay62 x a k (ix2 r l : S512x128.Idx) = (a (ix2 r l : S512x128.Idx) : EReal) + lanes (fun n => Ideal.exp2 (dot x k r n)) l := by
  pointwise [k0_pay62, k0_pay61]
  rfl

theorem pay63_at (x : FVec Ideal S512x256 .bf16) (a : FVec Ideal S512x256 .f32) (v : FVec Ideal S512x256 .bf16) (k : FVec Ideal S1x512x256 .bf16) (r : Fin 512) (d : Fin 256) :
    k0_pay63 x a v k (ix2 r d : S512x256.Idx) = (a (ix2 r d : S512x256.Idx) : EReal) + ∑ n : Fin 512, Ideal.exp2 (dot x k r n) * v (ix2 n d : S512x256.Idx) := by
  pointwise [k0_pay63, k0_pay61]
  rfl

theorem pay26_at (x : FVec Ideal S512x256 .bf16) (a : FVec Ideal S512x128 .f32) (k : FVec Ideal S1x512x256 .bf16) (r : Fin 512) (l : Fin 128) :
    k0_pay26 x a k (ix2 r l : S512x128.Idx) = max (a (ix2 r l : S512x128.Idx) : EReal) (laneMax (dot x k r) l) := by
  pointwise [k0_pay26]
  rfl

theorem named_mask : Named.named (F := Ideal) κ "mask" (φ := .f32) 0xF149F2CA#32 = (⊥ : EReal) := rfl
theorem named_scale : Named.named (F := Ideal) κ "scale" (φ := .f32) 0x3E0293EE#32
    = (((Real.log 2)⁻¹ * (Real.sqrt 128)⁻¹ : ℝ) : EReal) := rfl
theorem named_log2e : Named.named (F := Ideal) κ "log2e" (φ := .f32) 0x3FB8AA3B#32
    = (((Real.log 2)⁻¹ : ℝ) : EReal) := rfl

/-- The masked scores of the diagonal block. -/
def diag (h : FVec Ideal S512x512 .f32) (p : IVec S512x512 1) (x : FVec Ideal S512x256 .bf16) (k : FVec Ideal S1x512x256 .bf16) (r n : Fin 512) : EReal :=
  Scalar.select (p (ix2 r n : S512x512.Idx)) (dot x k r n + h (ix2 r n : S512x512.Idx)) (⊥ : EReal)

theorem pay30_at (h : FVec Ideal S512x512 .f32) (p : IVec S512x512 1) (x : FVec Ideal S512x256 .bf16) (a : FVec Ideal S512x128 .f32) (k : FVec Ideal S1x512x256 .bf16) (r : Fin 512) :
    k0_pay30 h p x a k (ix2 r 0 : S512x1.Idx) = max (Finset.univ.fold max (⊥ : EReal) fun l : Fin 128 => (a (ix2 r l : S512x128.Idx) : EReal))
      (Finset.univ.fold max (⊥ : EReal) fun n : Fin 512 => diag h p x k r n) := by
  pointwise [k0_pay30]
  rw [named_mask, of_neg_inf]
  rfl

theorem pay31_at (h : FVec Ideal S512x512 .f32) (p : IVec S512x512 1) (x : FVec Ideal S512x256 .bf16) (a : FVec Ideal S512x128 .f32) (k : FVec Ideal S1x512x256 .bf16) (r : Fin 512) :
    k0_pay31 h p x a k (ix2 r 0 : S512x1.Idx) = -max (Finset.univ.fold max (⊥ : EReal) fun l : Fin 128 => (a (ix2 r l : S512x128.Idx) : EReal))
      (Finset.univ.fold max (⊥ : EReal) fun n : Fin 512 => diag h p x k r n) := by
  pointwise [k0_pay31, zero_sub]
  rw [named_mask, of_neg_inf]
  rfl

theorem pay39_at (a : FVec Ideal S512x1 .f32) (r : Fin 512) : k0_pay39 (F := Ideal) a (ix2 r 0 : S512x1.Idx) = -(a (ix2 r 0 : S512x1.Idx) : EReal) := by
  pointwise [k0_pay39, zero_sub]

theorem pay73_at (h : FVec Ideal S512x512 .f32) (p : IVec S512x512 1) (x : FVec Ideal S512x256 .bf16) (a : FVec Ideal S512x128 .f32) (b : FVec Ideal S512x256 .f32)
    (v : FVec Ideal S512x256 .bf16) (k : FVec Ideal S1x512x256 .bf16) (r : Fin 512) (d : Fin 256) :
    k0_pay73 h p x a b v k (ix2 r d : S512x256.Idx) = Ideal.div
      ((b (ix2 r d : S512x256.Idx) : EReal) + ∑ n : Fin 512, Ideal.exp2 (diag h p x k r n) * v (ix2 n d : S512x256.Idx))
      (∑ l : Fin 128, ((a (ix2 r l : S512x128.Idx) : EReal) + lanes (fun n => Ideal.exp2 (diag h p x k r n)) l)) := by
  pointwise [k0_pay73]
  rw [named_mask]
  rfl

/-- The norm of a row of 256, its gain, and the constant after it. -/
def nrm256 (x : Fin 256 → EReal) (g : Fin 256 → EReal) (d : Fin 256) : EReal :=
  x d * Ideal.rsqrt (Ideal.div (∑ e, x e * x e) (Ideal.ofBits .f32 0x43800000#32) + Ideal.ofBits .f32 0x358637BD#32) * g d
    * Ideal.ofBits .f32 0x3F24FD5C#32

theorem pay74_at (w : FVec Ideal S1x1 .f32) (h : FVec Ideal S512x512 .f32) (p : IVec S512x512 1) (x : FVec Ideal S512x256 .bf16) (a : FVec Ideal S512x128 .f32) (b : FVec Ideal S512x256 .f32)
    (v : FVec Ideal S512x256 .bf16) (u : FVec Ideal S512x256 .f32) (k : FVec Ideal S1x512x256 .bf16) (g : FVec Ideal S1x256 .f32) (r : Fin 512) (d : Fin 256) :
    k0_pay74 w h p x a b v u k g (ix2 r d : S512x256.Idx) = nrm256 (fun d => (u (ix2 r d : S512x256.Idx) : EReal)
      - w (ix2 0 0 : S1x1.Idx) * Ideal.div
      ((b (ix2 r d : S512x256.Idx) : EReal) + ∑ n : Fin 512, Ideal.exp2 (diag h p x k r n) * v (ix2 n d : S512x256.Idx))
      (∑ l : Fin 128, ((a (ix2 r l : S512x128.Idx) : EReal) + lanes (fun n => Ideal.exp2 (diag h p x k r n)) l)))
      (fun d => g (ix2 0 d : S1x256.Idx)) d := by
  pointwise [k0_pay74]
  rw [named_mask]
  rfl

theorem pay18_at (q : FVec Ideal S512x128 .bf16) (g : FVec Ideal S1x128 .f32) (r : Fin 512) (d : Fin 128) :
    k0_pay18 (F := Ideal) q g (ix2 r d : S512x128.Idx) = (nrm (fun e => q (ix2 r e : S512x128.Idx)) (fun e => g (ix2 0 e : S1x128.Idx)) d
      * (((Real.log 2)⁻¹ * (Real.sqrt 128)⁻¹ : ℝ) : EReal) : EReal) := by
  pointwise [k0_pay18]
  rw [named_scale]
  rfl

theorem pay86_at (q : FVec Ideal S4096x128 .bf16) (g : FVec Ideal S1x128 .f32) (r : Fin 4096) (d : Fin 128) :
    k0_pay86 (F := Ideal) q g (ix2 r d : S4096x128.Idx) = (nrm (fun e => q (ix2 r e : S4096x128.Idx)) (fun e => g (ix2 0 e : S1x128.Idx)) d : EReal) := by
  pointwise [k0_pay86]
  rfl

/-- The six numbers kept in the first lanes. -/
def six (a b c d e f : EReal) (l : Fin 128) : EReal :=
  if l.val = 5 then f else if l.val = 4 then e else if l.val = 3 then d else if l.val = 2 then c else if l.val = 1 then b else if l.val = 0 then a else 0

/-- A choice by the number of a lane. -/
theorem sel_lane (l : Fin 128) (j : Fin 6) (x y : EReal) :
    Scalar.select (IntOp.cmpi .eq (BitVec.ofNat 32 l.val) (BitVec.ofNat 32 j.val)) x y = if l.val = j.val then x else y := by
  have h : ∀ (l : Fin 128) (j : Fin 6), IntOp.cmpi .eq (BitVec.ofNat 32 l.val) (BitVec.ofNat 32 j.val) = if l.val = j.val then 1#1 else 0#1 := by decide +kernel
  rw [h]
  split <;> rfl

/-- Choices by lane after one another. -/
theorem six_eq (a b c d e f : EReal) (l : Fin 128) :
    Scalar.select (IntOp.cmpi .eq (BitVec.ofNat 32 l.val) 5#32) f
      (Scalar.select (IntOp.cmpi .eq (BitVec.ofNat 32 l.val) 4#32) e
        (Scalar.select (IntOp.cmpi .eq (BitVec.ofNat 32 l.val) 3#32) d
          (Scalar.select (IntOp.cmpi .eq (BitVec.ofNat 32 l.val) 2#32) c
            (Scalar.select (IntOp.cmpi .eq (BitVec.ofNat 32 l.val) 1#32) b
              (Scalar.select (IntOp.cmpi .eq (BitVec.ofNat 32 l.val) 0#32) a 0))))) = six a b c d e f l := by
  refine (sel_lane l 5 _ _).trans (if_congr Iff.rfl rfl ((sel_lane l 4 _ _).trans (if_congr Iff.rfl rfl ((sel_lane l 3 _ _).trans (if_congr Iff.rfl rfl
    ((sel_lane l 2 _ _).trans (if_congr Iff.rfl rfl ((sel_lane l 1 _ _).trans (if_congr Iff.rfl rfl (sel_lane l 0 _ _))))))))))

theorem pay38_lo (x : FVec Ideal S512x128 .bf16) (a b c : FVec Ideal S512x1 .bf16) (r : Fin 512) (d : Fin 128) :
    k0_pay38 x a b c (iota .tc S512x128 32 [1] iota_S512x128_d1_w32) (k0_pay36 (F := Ideal)) k0_pay37 (ix2 r ⟨d.val, by omega⟩ : S512x256.Idx) = x (ix2 r d : S512x128.Idx) := by
  pointwise [k0_pay38]

theorem pay38_hi (x : FVec Ideal S512x128 .bf16) (a b c : FVec Ideal S512x1 .bf16) (r : Fin 512) (d : Fin 128) :
    k0_pay38 x a b c (iota .tc S512x128 32 [1] iota_S512x128_d1_w32) (k0_pay36 (F := Ideal)) k0_pay37 (ix2 r ⟨128 + d.val, by omega⟩ : S512x256.Idx)
      = six 1 1 1 (a (ix2 r 0 : S512x1.Idx)) (b (ix2 r 0 : S512x1.Idx)) (c (ix2 r 0 : S512x1.Idx)) d := by
  pointwise [k0_pay38, k0_pay36, k0_pay37]
  exact six_eq _ _ _ _ _ _ d

theorem pay46_lo (x : FVec Ideal S512x128 .bf16) (a b c : FVec Ideal S512x1 .bf16) (r : Fin 512) (d : Fin 128) :
    k0_pay46 x a b c (iota .tc S512x128 32 [1] iota_S512x128_d1_w32) (k0_pay44 (F := Ideal)) k0_pay45 (ix2 r ⟨d.val, by omega⟩ : S512x256.Idx) = x (ix2 r d : S512x128.Idx) := by
  pointwise [k0_pay46]

theorem pay46_hi (x : FVec Ideal S512x128 .bf16) (a b c : FVec Ideal S512x1 .bf16) (r : Fin 512) (d : Fin 128) :
    k0_pay46 x a b c (iota .tc S512x128 32 [1] iota_S512x128_d1_w32) (k0_pay44 (F := Ideal)) k0_pay45 (ix2 r ⟨128 + d.val, by omega⟩ : S512x256.Idx)
      = six 1 1 1 (a (ix2 r 0 : S512x1.Idx)) (b (ix2 r 0 : S512x1.Idx)) (c (ix2 r 0 : S512x1.Idx)) d := by
  pointwise [k0_pay46, k0_pay44, k0_pay45]
  exact six_eq _ _ _ _ _ _ d

theorem pay20_lo (x : FVec Ideal S512x128 .bf16) (r : Fin 512) (d : Fin 128) :
    k0_pay20 (F := Ideal) x (iota .tc S512x128 32 [1] iota_S512x128_d1_w32) (Scalar.ofBits .f32 0x00000000#32) (ix2 r ⟨d.val, by omega⟩ : S512x256.Idx) = x (ix2 r d : S512x128.Idx) := by
  pointwise [k0_pay20]

theorem pay20_hi (x : FVec Ideal S512x128 .bf16) (r : Fin 512) (d : Fin 128) :
    k0_pay20 (F := Ideal) x (iota .tc S512x128 32 [1] iota_S512x128_d1_w32) (Scalar.ofBits .f32 0x00000000#32) (ix2 r ⟨128 + d.val, by omega⟩ : S512x256.Idx)
      = six 1 1 1 0 0 0 d := by
  pointwise [k0_pay20]
  exact six_eq _ _ _ _ _ _ d

theorem pay22_lo (x : FVec Ideal S512x128 .bf16) (r : Fin 512) (d : Fin 128) :
    k0_pay22 (F := Ideal) x (iota .tc S512x128 32 [1] iota_S512x128_d1_w32) k0_pay21 (ix2 r ⟨d.val, by omega⟩ : S512x256.Idx) = x (ix2 r d : S512x128.Idx) := by
  pointwise [k0_pay22]

theorem pay22_hi (x : FVec Ideal S512x128 .bf16) (r : Fin 512) (d : Fin 128) :
    k0_pay22 (F := Ideal) x (iota .tc S512x128 32 [1] iota_S512x128_d1_w32) k0_pay21 (ix2 r ⟨128 + d.val, by omega⟩ : S512x256.Idx)
      = six 1 1 1 0 0 0 d := by
  pointwise [k0_pay22, k0_pay21]
  exact six_eq _ _ _ _ _ _ d

theorem word_int : ∀ n : Fin 4096, (BitVec.ofNat 32 n.val).toInt = (n.val : ℤ) := by decide +kernel

theorem word_int' (n : Fin 512) : (BitVec.ofNat 32 n.val).toInt = (n.val : ℤ) := word_int ⟨n.val, by omega⟩

theorem word_lt (r n : Fin 512) : IntOp.cmpi .sgt (BitVec.ofNat 32 n.val) (BitVec.ofNat 32 r.val) = if r.val < n.val then 1#1 else 0#1 := by
  show BitVec.ofBool (BitVec.slt (BitVec.ofNat 32 r.val) (BitVec.ofNat 32 n.val)) = _
  rw [BitVec.slt, word_int', word_int']
  by_cases h : r.val < n.val
  · rw [if_pos h, decide_eq_true (by omega)]; rfl
  · rw [if_neg h, decide_eq_false (by omega)]; rfl

theorem word_sub (r n : Fin 512) : (IntOp.subi (BitVec.ofNat 32 r.val) (BitVec.ofNat 32 n.val)).toInt = (r.val : ℤ) - n.val := by
  show (BitVec.ofNat 32 r.val - BitVec.ofNat 32 n.val).toInt = _
  rw [BitVec.toInt_sub, word_int', word_int']
  have := r.isLt; have := n.isLt
  simp only [Int.bmod]
  split <;> omega

/-- The word of two is two. -/
theorem of_two : Ideal.ofBits .f32 0x40000000#32 = (2 : EReal) := by
  simp [Ideal.ofBits, Ideal.ieee, -EReal.coe_mul]; norm_num; rfl

/-- The head's slope in powers of two. -/
theorem pay75_at (s : FVec Ideal S1x1x1 .f32) : k0_pay75 (F := Ideal) s (ix2 0 0 : S1x1.Idx) = ((((Real.log 2)⁻¹ : ℝ) : EReal) * s (ix3 0 0 0 : S1x1x1.Idx) : EReal) := by
  pointwise [k0_pay75]
  rw [named_log2e]

/-- A key's share of the distance. -/
theorem pay77_at (s : FVec Ideal S1x1x1 .f32) (n : Fin 4096) :
    k0_pay77 (F := Ideal) s (ix2 n 0 : S4096x1.Idx) = ((((Real.log 2)⁻¹ : ℝ) : EReal) * s (ix3 0 0 0 : S1x1x1.Idx) * (((n.val : ℕ) : ℝ) : EReal) : EReal) := by
  pointwise [k0_pay77, pay75_at]
  show _ * (((BitVec.ofNat 32 n.val).toInt : ℝ) : EReal) = _
  rw [word_int, Int.cast_natCast]

theorem pay85_at (a b c : FVec Ideal S4096x1 .bf16) (s : FVec Ideal S1x1x1 .f32) (n : Fin 4096) (l : Fin 128) :
    k0_pay85 (F := Ideal) b c (iota .tc S4096x128 32 [1] iota_S4096x128_d1_w32) k0_pay82 k0_pay83 (k0_pay84 s) (ix2 n l : S4096x128.Idx)
      = six (k0_pay77 (F := Ideal) s (ix2 n 0 : S4096x1.Idx)) (b (ix2 n 0 : S4096x1.Idx)) (c (ix2 n 0 : S4096x1.Idx)) 1 1 1 l := by
  rw [← six_eq]
  pointwise [k0_pay85, k0_pay82, k0_pay83, k0_pay84, k0_pay78]

theorem pay79_at (s : FVec Ideal S1x1x1 .f32) (n : Fin 4096) :
    k0_pay79 (F := Ideal) s (ix2 n 0 : S4096x1.Idx) = (k0_pay77 (F := Ideal) s (ix2 n 0 : S4096x1.Idx) : EReal) - (k0_pay77 (F := Ideal) s (ix2 n 0 : S4096x1.Idx) : EReal) := by
  pointwise [k0_pay79, k0_pay78]

theorem pay81_at (s : FVec Ideal S1x1x1 .f32) (n : Fin 4096) :
    k0_pay81 (F := Ideal) s (ix2 n 0 : S4096x1.Idx) = (k0_pay79 (F := Ideal) s (ix2 n 0 : S4096x1.Idx) : EReal) - (k0_pay79 (F := Ideal) s (ix2 n 0 : S4096x1.Idx) : EReal) := by
  pointwise [k0_pay81, k0_pay80]

theorem pay93_at (v : FVec Ideal S1x1 .f32) (r n : Fin 512) : k0_pay93 (F := Ideal) k0_pay91 (k0_pay92 v) (ix2 r n : S512x512.Idx)
    = if r.val < n.val then (2 : EReal) * v (ix2 0 0 : S1x1.Idx) * (((r.val : ℝ) - (n.val : ℝ) : ℝ) : EReal) else 0 := by
  pointwise [k0_pay93, k0_pay92, k0_pay91]
  rw [word_lt, of_two]
  by_cases h : r.val < n.val
  · rw [if_pos h, if_pos h]
    show _ * (((IntOp.subi (BitVec.ofNat 32 r.val) (BitVec.ofNat 32 n.val)).toInt : ℝ) : EReal) = _
    rw [word_sub, Int.cast_sub, Int.cast_natCast, Int.cast_natCast]
  · rw [if_neg h, if_neg h]; rfl

theorem word_block : ∀ n : Fin 512, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by decide +kernel

theorem word_le : ∀ a b : Fin 8, IntOp.cmpi .sle (BitVec.ofNat 32 a.val) (BitVec.ofNat 32 b.val) = if a.val ≤ b.val then 1#1 else 0#1 := by decide +kernel

/-- The keys of the diagonal block a row may see. -/
theorem allowed_at (r n : Fin 512) : k0_pay1 (k0_pay94 (iota .tc S512x512 32 [1] iota_S512x512_d1_w32)) (k0_pay95 (iota .tc S512x512 32 [0] iota_S512x512_d0_w32))
    (k0_pay96 (iota .tc S512x512 32 [0] iota_S512x512_d0_w32)) (k0_pay97 (iota .tc S512x512 32 [0] iota_S512x512_d0_w32)) (ix2 r n : S512x512.Idx)
    = if n.val / 64 ≤ r.val / 64 then 1#1 else 0#1 := by
  pointwise [k0_pay1, k0_pay94, k0_pay95, k0_pay96, k0_pay97]
  rw [word_block, word_block]
  exact word_le ⟨n.val / 64, by omega⟩ ⟨r.val / 64, by omega⟩

end Cert.DiffKernelIdeal.Value
end
end
-- ==== Proof.DiffMath.lean ====
module
public import proofs.«01_k».proof.Proof.DiffPayload
@[expose] public section
noncomputable section
namespace ChunkAttention
open Idealize.ShloMosaic
open scoped BigOperators

/-- A row of 512 read in four parts by lane. -/
theorem lanes_sum (f : Fin 512 → EReal) : ∑ l, lanes f l = ∑ n, f n := by
  have h : ∑ n, f n = (∑ l : Fin 128, f ⟨l.val, by omega⟩ + ∑ l : Fin 128, f ⟨128 + l.val, by omega⟩)
      + (∑ l : Fin 128, f ⟨256 + l.val, by omega⟩ + ∑ l : Fin 128, f ⟨384 + l.val, by omega⟩) := by
    rw [Fin.sum_univ_add (a := 256) (b := 256), Fin.sum_univ_add (a := 128) (b := 128), Fin.sum_univ_add (a := 128) (b := 128)]
    refine congrArg₂ (· + ·) rfl (congrArg₂ (· + ·) rfl (Finset.sum_congr rfl fun l _ => congrArg f (Fin.ext ?_)))
    show 256 + (128 + l.val) = 384 + l.val
    omega
  rw [h, ← Finset.sum_add_distrib, ← Finset.sum_add_distrib, ← Finset.sum_add_distrib]
  rfl

theorem lanes_add (a : Fin 128 → EReal) (f : Fin 512 → EReal) : ∑ l, (a l + lanes f l) = ∑ l, a l + ∑ n, f n := by
  rw [Finset.sum_add_distrib, lanes_sum]

/-- One more block of 512 in a running sum. -/
theorem block_sum (F : ℕ → EReal) (J : ℕ) :
    ∑ n ∈ Finset.range (512 * (J + 1)), F n = ∑ n ∈ Finset.range (512 * J), F n + ∑ n : Fin 512, F (512 * J + n.val) := by
  rw [Nat.mul_add, Nat.mul_one, Finset.sum_range_add, Finset.sum_range (fun x => F (512 * J + x))]

/-- A sum over all keys that ends with a block. -/
theorem all_sum (F : ℕ → EReal) (k : ℕ) (hk : k < 8) (h : ∀ n, 512 * (k + 1) ≤ n → F n = 0) :
    ∑ n : Fin 4096, F n.val = ∑ n ∈ Finset.range (512 * k), F n + ∑ n : Fin 512, F (512 * k + n.val) := by
  rw [← block_sum, ← Finset.sum_range]
  symm
  refine Finset.sum_subset (fun n hn => ?_) (fun n _ hn => h n ?_)
  · rw [Finset.mem_range] at hn ⊢; omega
  · rw [Finset.mem_range] at hn; omega

/-- Scores in powers of two moved by a real, normalised after the weighted sum. -/
theorem ratio_form {ι : Type} [Fintype ι] (P : ι → Prop) [DecidablePred P] (a : ι → ℝ) (τ : ℝ) (v s : ι → EReal) (hP : ∃ n, P n)
    (hs : ∀ n, s n = if P n then ((a n * (Real.log 2)⁻¹ + τ : ℝ) : EReal) else ⊥) :
    Ideal.div (∑ n, Ideal.exp2 (s n) * v n) (∑ n, Ideal.exp2 (s n)) = weighted P a v := by
  have hl : Real.log 2 ≠ 0 := (Real.log_pos one_lt_two).ne'
  have hK : (0 : ℝ) < Real.exp (τ * Real.log 2) := Real.exp_pos _
  have he : ∀ n, Ideal.exp2 (s n) = if P n then ((Real.exp (τ * Real.log 2) * Real.exp (a n) : ℝ) : EReal) else 0 := by
    intro n
    rw [hs]
    split
    · rw [Ideal.exp2_coe]
      congr 1
      show (2 : ℝ) ^ (a n * (Real.log 2)⁻¹ + τ) = _
      rw [Real.rpow_def_of_pos two_pos, ← Real.exp_add]
      congr 1
      field_simp
      ring
    · rw [Ideal.exp2_bot]
  have hZ := sum_exp_pos P a hP
  rw [sum_filter_of P _ (fun n => ((Real.exp (τ * Real.log 2) : ℝ) : EReal) * ((Real.exp (a n) : EReal) * v n)) (by
      intro n; rw [he]; split
      · rw [EReal.coe_mul, mul_assoc]
      · rw [zero_mul]), coe_mul_sum _ _ hK.le,
    sum_filter_of P _ (fun n => ((Real.exp (τ * Real.log 2) * Real.exp (a n) : ℝ) : EReal)) he, coe_sum, ← Finset.mul_sum,
    Ideal.div_coe (mul_pos hK hZ).ne', weighted, mul_comm ((Real.exp (τ * Real.log 2) : ℝ) : EReal), mul_assoc, ← EReal.coe_mul]
  congr 2
  have := hK.ne'; have := hZ.ne'
  field_simp

/-- A softmax weight is real. -/
theorem soft_real {ι : Type} [Fintype ι] (P : ι → Prop) [DecidablePred P] (a : ι → ℝ) (s : ι → EReal) (hP : ∃ n, P n)
    (hs : ∀ n, s n = if P n then (a n : EReal) else ⊥) :
    ∃ p : ι → ℝ, ∀ n, Ideal.div (Ideal.exp (s n - Finset.univ.fold max (⊥ : EReal) s))
      (∑ l, Ideal.exp (s l - Finset.univ.fold max (⊥ : EReal) s)) = (p n : EReal) := by
  obtain ⟨μ, hμ⟩ := max_real P a hP s hs
  have he : ∀ n, Ideal.exp (s n - Finset.univ.fold max (⊥ : EReal) s) = if P n then ((Real.exp (a n - μ) : ℝ) : EReal) else 0 := by
    intro n
    rw [hμ, hs]
    split
    · rw [← EReal.coe_sub, Ideal.exp_coe]
    · rw [EReal.bot_sub, Ideal.exp_bot]
  have hZ := sum_exp_pos P (fun n => a n - μ) hP
  refine ⟨fun n => (if P n then Real.exp (a n - μ) else 0) * (1 / ∑ n ∈ Finset.univ.filter P, Real.exp (a n - μ)), fun n => ?_⟩
  rw [sum_filter_of P (fun n => Ideal.exp (s n - Finset.univ.fold max (⊥ : EReal) s)) _ he, coe_sum, Ideal.div_coe hZ.ne', he]
  by_cases h : P n
  · simp only [if_pos h]; rw [← EReal.coe_mul]
  · simp only [if_neg h]; rw [zero_mul, zero_mul, EReal.coe_zero]

/-- A weighted sum of a difference of weights is the difference of the weighted sums, over the reals. -/
theorem mix {ι : Type} [Fintype ι] (v p q : ι → EReal) (l : EReal) (v' p' q' : ι → ℝ) (l' : ℝ) (hv : ∀ n, v n = (v' n : EReal))
    (hp : ∀ n, p n = (p' n : EReal)) (hq : ∀ n, q n = (q' n : EReal)) (hl : l = (l' : EReal)) :
    ∑ n, v n * (p n - l * q n) = ∑ n, v n * p n - l * ∑ n, v n * q n := by
  simp only [hv, hp, hq, hl, ← EReal.coe_mul, ← EReal.coe_sub]
  rw [coe_sum, coe_sum, coe_sum, ← EReal.coe_mul, ← EReal.coe_sub]
  congr 1
  rw [Finset.mul_sum, ← Finset.sum_sub_distrib]
  exact Finset.sum_congr rfl fun n _ => by ring

/-- The largest of a row of 512 by lane, over what the lanes held before. -/
theorem lanes_max (a : Fin 128 → EReal) (f : Fin 512 → EReal) :
    (Finset.univ.fold max (⊥ : EReal) fun l => max (a l) (laneMax f l)) = max (Finset.univ.fold max (⊥ : EReal) a) (Finset.univ.fold max (⊥ : EReal) f) := by
  refine eq_of_forall_ge_iff fun c => ?_
  simp only [laneMax, Finset.fold_max_le, max_le_iff, bot_le, true_and, Finset.mem_univ, forall_true_left]
  refine ⟨fun h => ⟨fun l => (h l).1, fun n => ?_⟩, fun h l => ⟨h.1 l, ⟨h.2 _, h.2 _⟩, h.2 _, h.2 _⟩⟩
  have hn := n.isLt
  obtain ⟨l, hl | hl | hl | hl⟩ : ∃ l : Fin 128, n.val = l.val ∨ n.val = 128 + l.val ∨ n.val = 256 + l.val ∨ n.val = 384 + l.val :=
    ⟨⟨n.val % 128, by omega⟩, by show n.val = n.val % 128 ∨ n.val = 128 + n.val % 128 ∨ n.val = 256 + n.val % 128 ∨ n.val = 384 + n.val % 128; omega⟩
  · exact (congrArg f (Fin.ext hl)).le.trans (h l).2.1.1
  · exact (congrArg f (Fin.ext hl)).le.trans (h l).2.1.2
  · exact (congrArg f (Fin.ext hl)).le.trans (h l).2.2.1
  · exact (congrArg f (Fin.ext hl)).le.trans (h l).2.2.2

/-- One more block of 512 in a running maximum. -/
theorem block_max (F : ℕ → EReal) (J : ℕ) : (Finset.range (512 * (J + 1))).fold max (⊥ : EReal) F
    = max ((Finset.range (512 * J)).fold max (⊥ : EReal) F) (Finset.univ.fold max (⊥ : EReal) fun n : Fin 512 => F (512 * J + n.val)) := by
  refine eq_of_forall_ge_iff fun c => ?_
  simp only [Finset.fold_max_le, max_le_iff, bot_le, true_and, Finset.mem_univ, forall_true_left, Finset.mem_range]
  refine ⟨fun h => ⟨fun n hn => h n (by omega), fun n => h _ (by omega)⟩, fun h n hn => ?_⟩
  by_cases h1 : n < 512 * J
  · exact h.1 n h1
  · have h2 := h.2 ⟨n - 512 * J, by omega⟩
    rwa [show 512 * J + (n - 512 * J) = n from by omega] at h2

/-- A maximum over all keys that ends with a block. -/
theorem all_max (F : ℕ → EReal) (k : ℕ) (hk : k < 8) (h : ∀ n, 512 * (k + 1) ≤ n → F n = ⊥) : (Finset.univ.fold max (⊥ : EReal) fun n : Fin 4096 => F n.val)
    = max ((Finset.range (512 * k)).fold max (⊥ : EReal) F) (Finset.univ.fold max (⊥ : EReal) fun n : Fin 512 => F (512 * k + n.val)) := by
  rw [← block_max]
  refine eq_of_forall_ge_iff fun c => ?_
  simp only [Finset.fold_max_le, bot_le, true_and, Finset.mem_univ, forall_true_left, Finset.mem_range]
  refine ⟨fun hc n hn => hc ⟨n, by omega⟩, fun hc n => ?_⟩
  by_cases h1 : n.val < 512 * (k + 1)
  · exact hc n.val h1
  · rw [h n.val (by omega)]; exact bot_le

end ChunkAttention

namespace Cert.DiffKernelIdeal.Value
open Idealize.ShloMosaic Idealize.ShloMosaic.TcCoe Idealize.SL.Sem
open Cert.DiffKernelIdeal Cert.DiffKernelIdeal.Gen ChunkAttention

/-- The product of the six kept lanes of a query and of a key. -/
theorem six_sum (s0 s1 s2 t : EReal) : ∑ l : Fin 128, six 1 1 1 s0 s1 s2 l * six t 0 0 1 1 1 l = t + (s0 + s1 + s2) := by
  rw [Fin.sum_univ_add (a := 6) (b := 122), Fin.sum_univ_six]
  have hz : ∑ i : Fin 122, six 1 1 1 s0 s1 s2 (Fin.natAdd 6 i) * six t 0 0 1 1 1 (Fin.natAdd 6 i) = 0 := by
    refine Finset.sum_eq_zero fun i _ => ?_
    have h : ((Fin.natAdd 6 i : Fin (6 + 122)) : ℕ) = 6 + i := rfl
    simp only [six, h]
    rw [if_neg (by omega), if_neg (by omega), if_neg (by omega), if_neg (by omega), if_neg (by omega), if_neg (by omega), zero_mul]
  rw [hz]
  simp [six, add_assoc]

/-- A row of an extended query against a row of an extended key. -/
theorem ext_sum (x y : Fin 256 → EReal) (α β : Fin 128 → EReal) (s0 s1 s2 t : EReal)
    (hx : ∀ d : Fin 128, x ⟨d.val, by omega⟩ = α d) (hx' : ∀ d : Fin 128, x ⟨128 + d.val, by omega⟩ = six 1 1 1 s0 s1 s2 d)
    (hy : ∀ d : Fin 128, y ⟨d.val, by omega⟩ = β d) (hy' : ∀ d : Fin 128, y ⟨128 + d.val, by omega⟩ = six t 0 0 1 1 1 d) :
    ∑ e, x e * y e = ∑ d, α d * β d + (t + (s0 + s1 + s2)) := by
  rw [Fin.sum_univ_add (a := 128) (b := 128), ← six_sum]
  refine congrArg₂ (· + ·) (Finset.sum_congr rfl fun d _ => ?_) (Finset.sum_congr rfl fun d _ => ?_)
  · rw [← hx, ← hy]; rfl
  · rw [← hx', ← hy']; rfl

end Cert.DiffKernelIdeal.Value
end
end
-- ==== Proof.DiffAny.lean ====
module
public import proofs.«01_k».proof.Proof.DiffMath
@[expose] public section
noncomputable section
namespace ChunkAttention
open Idealize.ShloMosaic
open scoped BigOperators

/-- The largest of the allowed scores. -/
def top {ι : Type} [Fintype ι] (P : ι → Prop) [DecidablePred P] (A : ι → EReal) : EReal :=
  Finset.univ.fold max (⊥ : EReal) fun n => if P n then A n else ⊥

open Classical in
/-- A row of attention with scores that may be infinite: where the largest is real, the weighted sum over the keys whose score is real. -/
def comp {ι : Type} [Fintype ι] (P : ι → Prop) [DecidablePred P] (A v : ι → EReal) : EReal :=
  if ∃ μ : ℝ, top P A = (μ : EReal) then weighted (fun n => P n ∧ A n ≠ ⊥) (fun n => (A n).toReal) v else ⊥

theorem le_top' {ι : Type} [Fintype ι] (P : ι → Prop) [DecidablePred P] (A : ι → EReal) (n : ι) (h : P n) : A n ≤ top P A := by
  unfold top
  rw [Finset.le_fold_max]
  exact Or.inr ⟨n, Finset.mem_univ _, by rw [if_pos h]⟩

/-- If the largest score is real, the others are real or `⊥`, and some are real. -/
theorem seen_some {ι : Type} [Fintype ι] (P : ι → Prop) [DecidablePred P] (A : ι → EReal) (μ : ℝ) (h : top P A = (μ : EReal)) : ∃ n, P n ∧ A n ≠ ⊥ := by
  by_contra hc
  push Not at hc
  have : top P A ≤ ⊥ := by
    unfold top
    rw [Finset.fold_max_le]
    refine ⟨le_rfl, fun n _ => ?_⟩
    split
    · rename_i hn; exact (hc n hn).le
    · exact le_rfl
  rw [h] at this
  exact EReal.coe_ne_bot _ (le_bot_iff.1 this)

theorem seen_real {ι : Type} [Fintype ι] (P : ι → Prop) [DecidablePred P] (A : ι → EReal) (μ : ℝ) (h : top P A = (μ : EReal)) (n : ι) (hn : P n)
    (hb : A n ≠ ⊥) : (((A n).toReal : ℝ) : EReal) = A n := by
  refine EReal.coe_toReal (fun ht => ?_) hb
  have := le_top' P A n hn
  rw [h, ht, top_le_iff] at this
  exact EReal.coe_ne_top _ this

/-- A score in powers of two, moved by a real. -/
def line (c τ : ℝ) (x : EReal) : EReal := x * (c : EReal) + (τ : EReal)

theorem line_bot (c τ : ℝ) (hc : 0 < c) : line c τ ⊥ = ⊥ := by
  rw [line, EReal.bot_mul_coe_of_pos hc, EReal.bot_add]
theorem line_top (c τ : ℝ) (hc : 0 < c) : line c τ ⊤ = ⊤ := by
  rw [line, EReal.top_mul_coe_of_pos hc, EReal.top_add_coe]
theorem line_coe (c τ x : ℝ) : line c τ (x : EReal) = ((x * c + τ : ℝ) : EReal) := by
  rw [line, EReal.coe_add, EReal.coe_mul]

theorem line_mono (c τ : ℝ) (hc : 0 < c) : Monotone (line c τ) := fun x y h =>
  add_le_add (mul_le_mul_of_nonneg_right h (by exact_mod_cast hc.le)) le_rfl

theorem top_line {ι : Type} [Fintype ι] (P : ι → Prop) [DecidablePred P] (A : ι → EReal) (c τ : ℝ) (hc : 0 < c) :
    top P (fun n => line c τ (A n)) = line c τ (top P A) := by
  unfold top
  have h := Finset.fold_hom (op := max) (op' := max) (s := (Finset.univ : Finset ι)) (b := (⊥ : EReal)) (f := fun n => if P n then A n else ⊥) (m := line c τ)
    (fun x y => (line_mono c τ hc).map_max)
  rw [← h, line_bot c τ hc]
  refine Finset.fold_congr fun n _ => ?_
  split
  · rfl
  · exact (line_bot c τ hc).symm

/-- The negated maximum, in three parts. -/
def shift (M : EReal) : EReal := -M + (-M - -M) + ((-M - -M) - (-M - -M))

theorem shift_coe (μ : ℝ) : shift (μ : EReal) = ((-μ : ℝ) : EReal) := by
  unfold shift
  rw [← EReal.coe_neg, ← EReal.coe_sub, ← EReal.coe_sub, ← EReal.coe_add, ← EReal.coe_add]
  congr 1
  ring

theorem shift_top : shift ⊤ = ⊥ := by simp [shift]
theorem shift_bot : shift ⊥ = ⊥ := by simp [shift]

/-- Scores in powers of two with the negated maximum added, normalised after the weighted sum. -/
theorem ratio_any {ι : Type} [Fintype ι] (P : ι → Prop) [DecidablePred P] (A : ι → EReal) (τ : ℝ) (v s : ι → EReal)
    (hs : ∀ n, s n = if P n then line (Real.log 2)⁻¹ τ (A n) + shift (line (Real.log 2)⁻¹ τ (top P A)) else ⊥) :
    Ideal.div (∑ n, Ideal.exp2 (s n) * v n) (∑ n, Ideal.exp2 (s n)) = comp P A v := by
  classical
  have hc : 0 < (Real.log 2)⁻¹ := inv_pos.2 (Real.log_pos one_lt_two)
  have bad : shift (line (Real.log 2)⁻¹ τ (top P A)) = ⊥ → (¬ ∃ μ : ℝ, top P A = (μ : EReal)) →
      Ideal.div (∑ n, Ideal.exp2 (s n) * v n) (∑ n, Ideal.exp2 (s n)) = comp P A v := fun h hn => by
    have he : ∀ n, Ideal.exp2 (s n) = 0 := fun n => by
      rw [hs, h, EReal.add_bot, ite_self, Ideal.exp2_bot]
    simp only [he, zero_mul, Finset.sum_const_zero]
    rw [comp, if_neg hn]
    simp [Ideal.div]
  induction ht : top P A with
  | bot => exact bad (by rw [ht, line_bot _ _ hc, shift_bot]) (by rw [ht]; rintro ⟨μ, h⟩; exact EReal.bot_ne_coe _ h)
  | top => exact bad (by rw [ht, line_top _ _ hc, shift_top]) (by rw [ht]; rintro ⟨μ, h⟩; exact EReal.top_ne_coe _ h)
  | coe μ =>
    rw [comp, if_pos ⟨μ, ht⟩]
    refine ratio_form (fun n => P n ∧ A n ≠ ⊥) (fun n => (A n).toReal) (τ + -(μ * (Real.log 2)⁻¹ + τ)) v s (seen_some P A μ ht) fun n => ?_
    rw [hs, ht, line_coe, shift_coe]
    by_cases hp : P n
    · by_cases hb : A n = ⊥
      · rw [if_pos hp, if_neg (fun h => h.2 hb), hb, line_bot _ _ hc, EReal.bot_add]
      · rw [if_pos hp, if_pos ⟨hp, hb⟩, ← seen_real P A μ ht n hp hb, line_coe, ← EReal.coe_add, EReal.toReal_coe, add_assoc]
    · rw [if_neg hp, if_neg (fun h => hp h.1)]

/-- The weights of a softmax over scores that may be infinite. -/
theorem soft_any {ι : Type} [Fintype ι] (P : ι → Prop) [DecidablePred P] (A : ι → EReal) (w : ι → EReal)
    (hw : ∀ n, w n = Ideal.div (Ideal.exp ((if P n then A n else ⊥) - top P A)) (∑ l, Ideal.exp ((if P l then A l else ⊥) - top P A))) :
    (∃ p : ι → ℝ, (∀ n, w n = (p n : EReal)) ∧ ∀ v, ∑ n, v n * w n = comp P A v) ∨ ((∀ n, w n = ⊥) ∧ ∀ v, comp P A v = ⊥) := by
  classical
  by_cases h : ∃ μ : ℝ, top P A = (μ : EReal)
  · obtain ⟨μ, ht⟩ := h
    have hs : ∀ n, (if P n then A n else ⊥) = if P n ∧ A n ≠ ⊥ then (((A n).toReal : ℝ) : EReal) else ⊥ := fun n => by
      by_cases hp : P n
      · by_cases hb : A n = ⊥
        · rw [if_pos hp, if_neg (fun h => h.2 hb), hb]
        · rw [if_pos hp, if_pos ⟨hp, hb⟩, seen_real P A μ ht n hp hb]
      · rw [if_neg hp, if_neg (fun h => hp h.1)]
    obtain ⟨p, hp⟩ := soft_real (fun n => P n ∧ A n ≠ ⊥) (fun n => (A n).toReal) _ (seen_some P A μ ht) hs
    refine Or.inl ⟨p, fun n => (hw n).trans (hp n), fun v => ?_⟩
    rw [comp, if_pos ⟨μ, ht⟩, ← exp_form (fun n => P n ∧ A n ≠ ⊥) (fun n => (A n).toReal) v _ (seen_some P A μ ht) hs]
    exact Finset.sum_congr rfl fun n _ => congrArg _ (hw n)
  · have hz : ∀ n, Ideal.exp ((if P n then A n else ⊥) - top P A) = 0 := fun n => by
      induction ht : top P A with
      | bot =>
        have hb : (if P n then A n else ⊥) = ⊥ := by
          split
          · rename_i hn; have := le_top' P A n hn; rw [ht] at this; exact le_bot_iff.1 this
          · rfl
        rw [hb, EReal.bot_sub, Ideal.exp_bot]
      | top => rw [sub_eq_add_neg, EReal.neg_top, EReal.add_bot, Ideal.exp_bot]
      | coe μ => exact absurd ⟨μ, ht⟩ h
    refine Or.inr ⟨fun n => ?_, fun v => by rw [comp, if_neg h]⟩
    rw [hw]
    simp only [hz, Finset.sum_const_zero]
    simp [Ideal.div]

theorem of_256 : Ideal.ofBits .f32 0x43800000#32 = ((256 : ℝ) : EReal) := by
  simp [Ideal.ofBits, Ideal.ieee, -EReal.coe_mul]; norm_num

/-- Sums of zeros and infinities are zero or infinite. -/
theorem sum_inf {ι : Type} (S : Finset ι) (f : ι → EReal) (h : ∀ n ∈ S, f n = 0 ∨ f n = ⊥ ∨ f n = ⊤) : ∑ n ∈ S, f n = 0 ∨ ∑ n ∈ S, f n = ⊥ ∨ ∑ n ∈ S, f n = ⊤ := by
  classical
  induction S using Finset.induction_on with
  | empty => simp
  | insert a S ha ih =>
    rw [Finset.sum_insert ha]
    have h1 := h a (Finset.mem_insert_self _ _)
    have h2 := ih fun n hn => h n (Finset.mem_insert_of_mem hn)
    rcases h1 with h1 | h1 | h1 <;> rcases h2 with h2 | h2 | h2 <;> rw [h1, h2] <;> simp

theorem mul_inf (x : ℝ) (y : EReal) (h : y = ⊥ ∨ y = ⊤) : (x : EReal) * y = 0 ∨ (x : EReal) * y = ⊥ ∨ (x : EReal) * y = ⊤ := by
  rcases lt_trichotomy x 0 with hx | hx | hx <;> rcases h with h | h <;> subst h
  · simp [EReal.coe_mul_bot_of_neg hx]
  · simp [EReal.coe_mul_top_of_neg hx]
  · simp [hx]
  · simp [hx]
  · simp [EReal.coe_mul_bot_of_pos hx]
  · simp [EReal.coe_mul_top_of_pos hx]

end ChunkAttention

namespace Cert.DiffKernelIdeal.Value
open Idealize.ShloMosaic ChunkAttention
open scoped BigOperators

/-- A row of zeros and infinities is zero after the last norm. -/
theorem nrm256_zero (y g : Fin 256 → EReal) (h : ∀ d, y d = 0 ∨ y d = ⊥ ∨ y d = ⊤) (d : Fin 256) : nrm256 y g d = 0 := by
  unfold nrm256
  obtain ⟨ε, hε, hε'⟩ := of_eps
  rw [of_256, hε', Ideal.div_coe (by norm_num)]
  rcases h d with hd | hd
  · rw [hd, zero_mul, zero_mul, zero_mul]
  · have ht : y d * y d = ⊤ := by rcases hd with hd | hd <;> rw [hd] <;> simp
    have hs : ∑ e, y e * y e = ⊤ := by
      refine top_le_iff.1 ?_
      rw [← ht]
      exact Finset.single_le_sum (f := fun e => y e * y e) (fun e _ => mul_self_nonneg' _) (Finset.mem_univ d)
    rw [hs, EReal.top_mul_coe_of_pos (by norm_num), EReal.top_add_coe, Ideal.rsqrt_top, mul_zero, zero_mul, zero_mul]

/-- The values weighed by a difference of weights, and the difference of the weighted values: the last norm makes them equal. -/
theorem mixed_any {ι : Type} [Fintype ι] (P : ι → Prop) [DecidablePred P] (A B w u : ι → EReal) (v : Fin 256 → ι → EReal) (l : EReal) (l' : ℝ) (hl : l = (l' : EReal))
    (hv : ∀ d n, ∃ x : ℝ, v d n = (x : EReal))
    (hw : ∀ n, w n = Ideal.div (Ideal.exp ((if P n then A n else ⊥) - top P A)) (∑ l, Ideal.exp ((if P l then A l else ⊥) - top P A)))
    (hu : ∀ n, u n = Ideal.div (Ideal.exp ((if P n then B n else ⊥) - top P B)) (∑ l, Ideal.exp ((if P l then B l else ⊥) - top P B)))
    (g : Fin 256 → EReal) (d : Fin 256) :
    nrm256 (fun d => ∑ n, v d n * (w n - l * u n)) g d = nrm256 (fun d => comp P A (v d) - l * comp P B (v d)) g d := by
  choose v' hv' using hv
  have inf : ∀ y : EReal, (y = ⊥ ∨ y = ⊤) → (∀ n, w n - l * u n = y) → (∀ d, comp P A (v d) - l * comp P B (v d) = y) →
      nrm256 (fun d => ∑ n, v d n * (w n - l * u n)) g d = nrm256 (fun d => comp P A (v d) - l * comp P B (v d)) g d := fun y hy h1 h2 => by
    rw [nrm256_zero _ g (fun d => sum_inf _ _ fun n _ => by rw [h1, hv']; exact mul_inf _ _ hy) d,
      nrm256_zero _ g (fun d => by rw [h2]; exact Or.inr hy) d]
  rcases soft_any P A w hw with ⟨p, hp, hA⟩ | ⟨hp, hA⟩
  · rcases soft_any P B u hu with ⟨q, hq, hB⟩ | ⟨hq, hB⟩
    · refine congrArg (fun f => nrm256 f g d) (funext fun d => ?_)
      rw [← hA, ← hB]
      exact mix (v d) w u l (v' d) p q l' (hv' d) hp hq hl
    · have hc : ∀ d, ∃ x : ℝ, comp P A (v d) = (x : EReal) := fun d => by
        rw [← hA]
        simp only [hp, hv', ← EReal.coe_mul]
        exact ⟨_, coe_sum _ _⟩
      choose x hx using hc
      rcases lt_trichotomy l' 0 with hn | hz | hn
      · refine inf ⊥ (Or.inl rfl) (fun n => ?_) fun d => ?_
        · rw [hp, hq, hl, EReal.coe_mul_bot_of_neg hn]; simp
        · rw [hx, hB, hl, EReal.coe_mul_bot_of_neg hn]; simp
      · refine congrArg (fun f => nrm256 f g d) (funext fun d => ?_)
        rw [← hA, hl, hz, EReal.coe_zero, zero_mul, sub_zero]
        exact Finset.sum_congr rfl fun n _ => by rw [zero_mul, sub_zero]
      · refine inf ⊤ (Or.inr rfl) (fun n => ?_) fun d => ?_
        · rw [hp, hq, hl, EReal.coe_mul_bot_of_pos hn]; simp
        · rw [hx, hB, hl, EReal.coe_mul_bot_of_pos hn]; simp
  · refine inf ⊥ (Or.inl rfl) (fun n => ?_) fun d => ?_
    · rw [hp, EReal.bot_sub]
    · rw [hA, EReal.bot_sub]

end Cert.DiffKernelIdeal.Value
end
end
-- ==== Proof.DiffTrip.lean ====
module
public import proofs.«01_k».proof.Proof.DiffRunIdeal
public import proofs.«01_k».proof.Proof.DiffAny
public import Idealize.ShloMosaic.Lib.WholeRead
@[expose] public section
set_option maxRecDepth 16384
noncomputable section
namespace Cert.DiffKernelIdeal.Value
open Idealize.ShloMosaic Idealize.ShloMosaic.TcCoe Idealize.SL.Sem
open Cert.DiffKernelIdeal Cert.DiffKernelIdeal.Gen ChunkAttention

theorem outer_lt (k : Fin k0_t1_loop.trips) : k.val < 8 := Nat.lt_of_lt_of_le k.isLt (by decide +kernel)
theorem trips2 : ∀ k : Fin k0_t1_loop.trips, (k0_t2_loop k).trips = k.val / 2 := by decide +kernel
theorem trips3 : ∀ k : Fin k0_t1_loop.trips, (k0_t3_loop k).trips = 0 := by decide +kernel
theorem trips4 : ∀ k : Fin k0_t1_loop.trips, (k0_t4_loop k).trips = k.val % 2 := by decide +kernel
theorem trips5 : ∀ k : Fin k0_t1_loop.trips, (k0_t5_loop k).trips = 0 := by decide +kernel
theorem trips6 : ∀ k : Fin k0_t1_loop.trips, (k0_t6_loop k).trips = k.val / 2 := by decide +kernel
theorem trips7 : ∀ k : Fin k0_t1_loop.trips, (k0_t7_loop k).trips = 0 := by decide +kernel
theorem trips8 : ∀ k : Fin k0_t1_loop.trips, (k0_t8_loop k).trips = k.val % 2 := by decide +kernel
theorem trips9 : ∀ k : Fin k0_t1_loop.trips, (k0_t9_loop k).trips = 0 := by decide +kernel
theorem off1_at : ∀ k : Fin k0_t1_loop.trips, k0_off1 k = ![512 * k.val, 0] := by decide +kernel
theorem off2_at : ∀ (k : Fin k0_t1_loop.trips) (t : Fin (k0_t2_loop k).trips), k0_off2 k t = ![0, 512 * (2 * t.val), 0] := by decide +kernel
theorem off3_at : ∀ (k : Fin k0_t1_loop.trips) (t : Fin (k0_t2_loop k).trips), k0_off3 k t = ![1, 512 * (2 * t.val), 0] := by decide +kernel
theorem off4_at : ∀ (k : Fin k0_t1_loop.trips) (t : Fin (k0_t2_loop k).trips), k0_off4 k t = ![0, 512 * (2 * t.val + 1), 0] := by decide +kernel
theorem off5_at : ∀ (k : Fin k0_t1_loop.trips) (t : Fin (k0_t2_loop k).trips), k0_off5 k t = ![1, 512 * (2 * t.val + 1), 0] := by decide +kernel
theorem off10_at : ∀ (k : Fin k0_t1_loop.trips) (t : Fin (k0_t4_loop k).trips), k0_off10 k t = ![0, 512 * (2 * (k.val / 2) + t.val), 0] := by decide +kernel
theorem off11_at : ∀ (k : Fin k0_t1_loop.trips) (t : Fin (k0_t4_loop k).trips), k0_off11 k t = ![1, 512 * (2 * (k.val / 2) + t.val), 0] := by decide +kernel
theorem off14_at : ∀ (k : Fin k0_t1_loop.trips), k0_off14 k = ![0, 512 * k.val, 0] := by decide +kernel
theorem off15_at : ∀ (k : Fin k0_t1_loop.trips), k0_off15 k = ![1, 512 * k.val, 0] := by decide +kernel
theorem off16_at : ∀ (k : Fin k0_t1_loop.trips) (t : Fin (k0_t6_loop k).trips), k0_off16 k t = ![512 * (2 * t.val), 0] := by decide +kernel
theorem off17_at : ∀ (k : Fin k0_t1_loop.trips) (t : Fin (k0_t6_loop k).trips), k0_off17 k t = ![0, 512 * (2 * t.val), 0] := by decide +kernel
theorem off18_at : ∀ (k : Fin k0_t1_loop.trips) (t : Fin (k0_t6_loop k).trips), k0_off18 k t = ![1, 512 * (2 * t.val), 0] := by decide +kernel
theorem off19_at : ∀ (k : Fin k0_t1_loop.trips) (t : Fin (k0_t6_loop k).trips), k0_off19 k t = ![512 * (2 * t.val + 1), 0] := by decide +kernel
theorem off20_at : ∀ (k : Fin k0_t1_loop.trips) (t : Fin (k0_t6_loop k).trips), k0_off20 k t = ![0, 512 * (2 * t.val + 1), 0] := by decide +kernel
theorem off21_at : ∀ (k : Fin k0_t1_loop.trips) (t : Fin (k0_t6_loop k).trips), k0_off21 k t = ![1, 512 * (2 * t.val + 1), 0] := by decide +kernel
theorem off28_at : ∀ (k : Fin k0_t1_loop.trips) (t : Fin (k0_t8_loop k).trips), k0_off28 k t = ![512 * (2 * (k.val / 2) + t.val), 0] := by decide +kernel
theorem off29_at : ∀ (k : Fin k0_t1_loop.trips) (t : Fin (k0_t8_loop k).trips), k0_off29 k t = ![0, 512 * (2 * (k.val / 2) + t.val), 0] := by decide +kernel
theorem off30_at : ∀ (k : Fin k0_t1_loop.trips) (t : Fin (k0_t8_loop k).trips), k0_off30 k t = ![1, 512 * (2 * (k.val / 2) + t.val), 0] := by decide +kernel
theorem off34_at : ∀ (k : Fin k0_t1_loop.trips), k0_off34 k = ![512 * k.val, 0] := by decide +kernel

/-- A block of 512 rows of the scratch. -/
theorem scr_idx (off : Fin 3 → ℕ) (p : Fin 2) (J : ℕ) (hJ : J < 8) (ho : off = ![p.val, 512 * J, 0]) (h) (n : Fin 512) (e : Fin 256) :
    (Rect.unit (s := S2x4096x256) off S1x512x256.size h).toLoadRect.idx (ix3 0 n e : S1x512x256.Idx)
      = (ix3 p ⟨512 * J + n.val, by omega⟩ e : S2x4096x256.Idx) := by
  subst ho
  funext a
  refine Fin.ext ?_
  match a with
  | ⟨0, _⟩ => show p.val + 1 * 0 = p.val; omega
  | ⟨1, _⟩ => show 512 * J + 1 * n.val = 512 * J + n.val; omega
  | ⟨2, _⟩ => show 0 + 1 * e.val = e.val; omega

/-- A block of 512 rows of the values. -/
theorem val_idx (off : Fin 2 → ℕ) (J : ℕ) (hJ : J < 8) (ho : off = ![512 * J, 0]) (h) (n : Fin 512) (d : Fin 256) :
    (Rect.unit (s := S4096x256) off S512x256.size h).toLoadRect.idx (ix2 n d : S512x256.Idx)
      = (ix2 ⟨512 * J + n.val, by omega⟩ d : S4096x256.Idx) := by
  subst ho
  funext a
  refine Fin.ext ?_
  match a with
  | ⟨0, _⟩ => show 512 * J + 1 * n.val = 512 * J + n.val; omega
  | ⟨1, _⟩ => show 0 + 1 * d.val = d.val; omega

/-- The exponent of a query's row and a key. -/
def ex (x : FVec Ideal S512x256 .bf16) (T : FVec Ideal S2x4096x256 .bf16) (p : Fin 2) (r : Fin 512) (n : Fin 4096) : EReal :=
  ∑ e : Fin 256, x (ix2 r e : S512x256.Idx) * T (ix3 p n e : S2x4096x256.Idx)

/-- The weight of a key, by its number. -/
def wt (x : FVec Ideal S512x256 .bf16) (T : FVec Ideal S2x4096x256 .bf16) (p : Fin 2) (r : Fin 512) (n : ℕ) : EReal :=
  if h : n < 4096 then Ideal.exp2 (ex x T p r ⟨n, h⟩) else 0

/-- An entry of a value, by the number of its key. -/
def vl (v : FVec Ideal S4096x256 .bf16) (d : Fin 256) (n : ℕ) : EReal :=
  if h : n < 4096 then v (ix2 ⟨n, h⟩ d : S4096x256.Idx) else 0

/-- What the running sums hold after `J` blocks of keys. -/
def acc (x : FVec Ideal S512x256 .bf16) (T : FVec Ideal S2x4096x256 .bf16) (p : Fin 2) (v : FVec Ideal S4096x256 .bf16) (J : ℕ)
    (a : FVec Ideal S512x128 .f32) (b : FVec Ideal S512x256 .f32) : Prop :=
  (∀ r, ∑ l : Fin 128, (a (ix2 r l : S512x128.Idx) : EReal) = ∑ n ∈ Finset.range (512 * J), wt x T p r n)
  ∧ ∀ r d, (b (ix2 r d : S512x256.Idx) : EReal) = ∑ n ∈ Finset.range (512 * J), wt x T p r n * vl v d n

/-- The exponents of a block are the scratch's. -/
theorem dot_eq (x : FVec Ideal S512x256 .bf16) (T : FVec Ideal S2x4096x256 .bf16) (p : Fin 2) (J : ℕ) (hJ : J < 8) (K : FVec Ideal S1x512x256 .bf16)
    (hK : ∀ (n : Fin 512) e, K (ix3 0 n e : S1x512x256.Idx) = T (ix3 p ⟨512 * J + n.val, by omega⟩ e : S2x4096x256.Idx)) (r n : Fin 512) :
    dot x K r n = ex x T p r ⟨512 * J + n.val, by omega⟩ :=
  Finset.sum_congr rfl fun e _ => by rw [hK]

theorem acc_step (x : FVec Ideal S512x256 .bf16) (T : FVec Ideal S2x4096x256 .bf16) (p : Fin 2) (v : FVec Ideal S4096x256 .bf16) (J : ℕ) (hJ : J < 8)
    (a : FVec Ideal S512x128 .f32) (b : FVec Ideal S512x256 .f32) (K : FVec Ideal S1x512x256 .bf16) (w : FVec Ideal S512x256 .bf16)
    (hK : ∀ (n : Fin 512) e, K (ix3 0 n e : S1x512x256.Idx) = T (ix3 p ⟨512 * J + n.val, by omega⟩ e : S2x4096x256.Idx))
    (hw : ∀ (n : Fin 512) d, w (ix2 n d : S512x256.Idx) = v (ix2 ⟨512 * J + n.val, by omega⟩ d : S4096x256.Idx))
    (h : acc x T p v J a b) : acc x T p v (J + 1) (k0_pay62 x a K) (k0_pay63 x b w K) := by
  have he : ∀ r (n : Fin 512), Ideal.exp2 (dot x K r n) = wt x T p r (512 * J + n.val) := fun r n => by
    rw [dot_eq x T p J hJ K hK, wt, dif_pos (by omega)]
  refine ⟨fun r => ?_, fun r d => ?_⟩
  · rw [block_sum, ← h.1 r]
    simp only [pay62_at]
    rw [lanes_add]
    exact congrArg _ (Finset.sum_congr rfl fun n _ => he r n)
  · rw [block_sum, ← h.2 r d, pay63_at]
    refine congrArg _ (Finset.sum_congr rfl fun n _ => ?_)
    rw [he, hw, vl, dif_pos (by omega)]

/-- The exponent of a key, by its number. -/
def pk (x : FVec Ideal S512x256 .bf16) (T : FVec Ideal S2x4096x256 .bf16) (p : Fin 2) (r : Fin 512) (n : ℕ) : EReal :=
  if h : n < 4096 then ex x T p r ⟨n, h⟩ else ⊥

/-- What the running largest exponents hold after `J` blocks of keys. -/
def peak (x : FVec Ideal S512x256 .bf16) (T : FVec Ideal S2x4096x256 .bf16) (p : Fin 2) (J : ℕ) (a : FVec Ideal S512x128 .f32) : Prop :=
  ∀ r, (Finset.univ.fold max (⊥ : EReal) fun l : Fin 128 => (a (ix2 r l : S512x128.Idx) : EReal)) = (Finset.range (512 * J)).fold max (⊥ : EReal) (pk x T p r)

theorem peak_step (x : FVec Ideal S512x256 .bf16) (T : FVec Ideal S2x4096x256 .bf16) (p : Fin 2) (J : ℕ) (hJ : J < 8)
    (a : FVec Ideal S512x128 .f32) (K : FVec Ideal S1x512x256 .bf16)
    (hK : ∀ (n : Fin 512) e, K (ix3 0 n e : S1x512x256.Idx) = T (ix3 p ⟨512 * J + n.val, by omega⟩ e : S2x4096x256.Idx))
    (h : peak x T p J a) : peak x T p (J + 1) (k0_pay26 x a K) := fun r => by
  rw [block_max, ← h r]
  simp only [pay26_at]
  rw [lanes_max]
  refine congrArg _ (Finset.fold_congr fun n _ => ?_)
  rw [dot_eq x T p J hJ K hK, pk, dif_pos (by omega)]

/-- The two running largest exponents after `J` blocks of keys. -/
def peaks (x y : FVec Ideal S512x256 .bf16) (T : FVec Ideal S2x4096x256 .bf16) (J : ℕ) (s : FVec Ideal S512x128 .f32 × FVec Ideal S512x128 .f32) : Prop :=
  peak x T 0 J s.1 ∧ peak y T 1 J s.2

section Loops
variable (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole)
variable (X_arg6 : BufTy.Contents (Elt Ideal) arg6.view.ty) (X_arg13 : BufTy.Contents (Elt Ideal) arg13.view.ty)
  (T : FVec Ideal S2x4096x256 .bf16) (v : FVec Ideal S4096x256 .bf16)

/-- What a load of the scratch gives. -/
theorem scr_ld (hT : ∀ (B : LoadRect S2x4096x256) j, View.readAt (Elt Ideal) arg13.view B X_arg13 j = T (B.idx j)) (off : Fin 3 → ℕ) (p : Fin 2) (J : ℕ) (hJ : J < 8) (ho : off = ![p.val, 512 * J, 0]) (h) (n : Fin 512) (e : Fin 256) :
    View.readAt (Elt Ideal) arg13.view (Rect.unit (s := S2x4096x256) off S1x512x256.size h).toLoadRect X_arg13 (ix3 0 n e : S1x512x256.Idx)
      = T (ix3 p ⟨512 * J + n.val, by omega⟩ e : S2x4096x256.Idx) :=
  (hT _ _).trans (congrArg T (scr_idx off p J hJ ho h n e))

/-- What a load of the values gives. -/
theorem val_ld (hV : ∀ (B : LoadRect S4096x256) j, View.readAt (Elt Ideal) arg6.view B X_arg6 j = v (B.idx j)) (off : Fin 2 → ℕ) (J : ℕ) (hJ : J < 8) (ho : off = ![512 * J, 0]) (h) (n : Fin 512) (d : Fin 256) :
    View.readAt (Elt Ideal) arg6.view (Rect.unit (s := S4096x256) off S512x256.size h).toLoadRect X_arg6 (ix2 n d : S512x256.Idx)
      = v (ix2 ⟨512 * J + n.val, by omega⟩ d : S4096x256.Idx) :=
  (hV _ _).trans (congrArg v (val_idx off J hJ ho h n d))

theorem loop2 (k : Fin k0_t1_loop.trips) (arg14 : BitVec 32) (v215 : FVec Ideal S512x128 .bf16) (v243 : FVec Ideal S512x256 .bf16) (v244 : IVec S512x128 32) (v257 : FVec Ideal S512x128 .f32)
    (s0 : FVec Ideal S512x128 .f32 × FVec Ideal S512x128 .f32)
    (hT : ∀ (B : LoadRect S2x4096x256) j, View.readAt (Elt Ideal) arg13.view B X_arg13 j = T (B.idx j)) (hs : peaks v243 (k0_pay22 (F := Ideal) v215 v244 v257) T 0 s0) : ∀ n ≤ (k0_t2_loop k).trips, peaks v243 (k0_pay22 (F := Ideal) v215 v244 v257) T (2 * n) (st_k0_t2 (F := Ideal) 𝒱 c bd i arg2 harg2 arg3 harg3 arg4 harg4 arg5 harg5 arg6 harg6 arg7 harg7 arg8 harg8 arg9 harg9 arg10 harg10 arg11 harg11 arg12 harg12 arg13 harg13 k arg14 v215 v243 v244 v257 X_arg13 s0 n)
  | 0, _ => hs
  | n + 1, hn => by
    rw [show n + 1 = (⟨n, hn⟩ : Fin (k0_t2_loop k).trips).val + 1 from rfl, st_k0_t2_succ]
    dsimp only
    have ih := loop2 k arg14 v215 v243 v244 v257 s0 hT hs n (by omega)
    generalize st_k0_t2 (F := Ideal) 𝒱 c bd i arg2 harg2 arg3 harg3 arg4 harg4 arg5 harg5 arg6 harg6 arg7 harg7 arg8 harg8 arg9 harg9 arg10 harg10 arg11 harg11 arg12 harg12 arg13 harg13 k arg14 v215 v243 v244 v257 X_arg13 s0 n = s at ih ⊢
    unfold tripR_k0_t2 trip_k0_t2
    dsimp only
    have hk := outer_lt k
    have hn' := trips2 k
    rw [show 2 * (n + 1) = 2 * n + 1 + 1 from rfl]
    refine ⟨?_, ?_⟩
    · exact peak_step v243 T 0 (2 * n + 1) (by omega) (k0_pay26 v243 s.1 _) _ (scr_ld arg13 X_arg13 T hT _ 0 (2 * n + 1) (by omega) (off4_at k ⟨n, hn⟩) _)
        (peak_step v243 T 0 (2 * n) (by omega) s.1 _ (scr_ld arg13 X_arg13 T hT _ 0 (2 * n) (by omega) (off2_at k ⟨n, hn⟩) _) ih.1)
    · exact peak_step (k0_pay22 (F := Ideal) v215 v244 v257) T 1 (2 * n + 1) (by omega) (k0_pay26 (k0_pay22 (F := Ideal) v215 v244 v257) s.2 _) _ (scr_ld arg13 X_arg13 T hT _ 1 (2 * n + 1) (by omega) (off5_at k ⟨n, hn⟩) _)
        (peak_step (k0_pay22 (F := Ideal) v215 v244 v257) T 1 (2 * n) (by omega) s.2 _ (scr_ld arg13 X_arg13 T hT _ 1 (2 * n) (by omega) (off3_at k ⟨n, hn⟩) _) ih.2)

theorem loop4 (v123 : FVec Ideal S512x512 .f32) (v172 : IVec S512x512 1) (k : Fin k0_t1_loop.trips) (v175 : BitVec 32) (v243 v271 : FVec Ideal S512x256 .bf16) (w0 w1 : FVec Ideal S512x128 .f32) (v297 v298 : BitVec 32)
    (s0 : FVec Ideal S512x128 .f32 × FVec Ideal S512x128 .f32)
    (hT : ∀ (B : LoadRect S2x4096x256) j, View.readAt (Elt Ideal) arg13.view B X_arg13 j = T (B.idx j)) (hs : peaks v243 v271 T (2 * (k.val / 2)) s0) : ∀ n ≤ (k0_t4_loop k).trips, peaks v243 v271 T (2 * (k.val / 2) + n) (st_k0_t4 (F := Ideal) 𝒱 c bd i arg2 harg2 arg3 harg3 arg4 harg4 arg5 harg5 arg6 harg6 arg7 harg7 arg8 harg8 arg9 harg9 arg10 harg10 arg11 harg11 arg12 harg12 arg13 harg13 v123 v172 k v175 v243 v271 w0 w1 v297 v298 X_arg13 s0 n)
  | 0, _ => hs
  | n + 1, hn => by
    rw [show n + 1 = (⟨n, hn⟩ : Fin (k0_t4_loop k).trips).val + 1 from rfl, st_k0_t4_succ]
    dsimp only
    have ih := loop4 v123 v172 k v175 v243 v271 w0 w1 v297 v298 s0 hT hs n (by omega)
    generalize st_k0_t4 (F := Ideal) 𝒱 c bd i arg2 harg2 arg3 harg3 arg4 harg4 arg5 harg5 arg6 harg6 arg7 harg7 arg8 harg8 arg9 harg9 arg10 harg10 arg11 harg11 arg12 harg12 arg13 harg13 v123 v172 k v175 v243 v271 w0 w1 v297 v298 X_arg13 s0 n = s at ih ⊢
    unfold tripR_k0_t4 trip_k0_t4
    dsimp only
    have hk := outer_lt k
    have hn' := trips4 k
    refine ⟨?_, ?_⟩
    · exact peak_step v243 T 0 (2 * (k.val / 2) + n) (by omega) s.1 _ (scr_ld arg13 X_arg13 T hT _ 0 (2 * (k.val / 2) + n) (by omega) (off10_at k ⟨n, hn⟩) _) ih.1
    · exact peak_step v271 T 1 (2 * (k.val / 2) + n) (by omega) s.2 _ (scr_ld arg13 X_arg13 T hT _ 1 (2 * (k.val / 2) + n) (by omega) (off11_at k ⟨n, hn⟩) _) ih.2

/-- The four running sums after `J` blocks of keys. -/
def acc4 (x y : FVec Ideal S512x256 .bf16) (T : FVec Ideal S2x4096x256 .bf16) (v : FVec Ideal S4096x256 .bf16) (J : ℕ)
    (s : FVec Ideal S512x128 .f32 × FVec Ideal S512x256 .f32 × FVec Ideal S512x128 .f32 × FVec Ideal S512x256 .f32) : Prop :=
  acc x T 0 v J s.1 s.2.1 ∧ acc y T 1 v J s.2.2.1 s.2.2.2

theorem loop6 (v123 : FVec Ideal S512x512 .f32) (v172 : IVec S512x512 1) (k : Fin k0_t1_loop.trips) (arg14 v175 : BitVec 32) (v371 v414 : FVec Ideal S512x256 .bf16) (v415 : FVec Ideal S512x128 .f32) (v416 : FVec Ideal S512x256 .f32) (v417 : BitVec 32) (v431 : BitVec 1) (v432 : BitVec 32)
    (s0 : FVec Ideal S512x128 .f32 × FVec Ideal S512x256 .f32 × FVec Ideal S512x128 .f32 × FVec Ideal S512x256 .f32)
    (hT : ∀ (B : LoadRect S2x4096x256) j, View.readAt (Elt Ideal) arg13.view B X_arg13 j = T (B.idx j)) (hV : ∀ (B : LoadRect S4096x256) j, View.readAt (Elt Ideal) arg6.view B X_arg6 j = v (B.idx j)) (hs : acc4 v371 v414 T v 0 s0) : ∀ n ≤ (k0_t6_loop k).trips, acc4 v371 v414 T v (2 * n) (st_k0_t6 (F := Ideal) 𝒱 c bd i arg2 harg2 arg3 harg3 arg4 harg4 arg5 harg5 arg6 harg6 arg7 harg7 arg8 harg8 arg9 harg9 arg10 harg10 arg11 harg11 arg12 harg12 arg13 harg13 v123 v172 k arg14 v175 v371 v414 v415 v416 v417 v431 v432 X_arg6 X_arg13 s0 n)
  | 0, _ => hs
  | n + 1, hn => by
    rw [show n + 1 = (⟨n, hn⟩ : Fin (k0_t6_loop k).trips).val + 1 from rfl, st_k0_t6_succ]
    dsimp only
    have ih := loop6 v123 v172 k arg14 v175 v371 v414 v415 v416 v417 v431 v432 s0 hT hV hs n (by omega)
    generalize st_k0_t6 (F := Ideal) 𝒱 c bd i arg2 harg2 arg3 harg3 arg4 harg4 arg5 harg5 arg6 harg6 arg7 harg7 arg8 harg8 arg9 harg9 arg10 harg10 arg11 harg11 arg12 harg12 arg13 harg13 v123 v172 k arg14 v175 v371 v414 v415 v416 v417 v431 v432 X_arg6 X_arg13 s0 n = s at ih ⊢
    unfold tripR_k0_t6 trip_k0_t6
    dsimp only
    have hk := outer_lt k
    have hn' := trips6 k
    rw [show 2 * (n + 1) = 2 * n + 1 + 1 from rfl]
    refine ⟨?_, ?_⟩
    · exact acc_step v371 T 0 v (2 * n + 1) (by omega) (k0_pay62 v371 s.1 _) (k0_pay63 v371 s.2.1 _ _) _ _ (scr_ld arg13 X_arg13 T hT _ 0 (2 * n + 1) (by omega) (off20_at k ⟨n, hn⟩) _) (val_ld arg6 X_arg6 v hV _ (2 * n + 1) (by omega) (off19_at k ⟨n, hn⟩) _)
        (acc_step v371 T 0 v (2 * n) (by omega) s.1 s.2.1 _ _ (scr_ld arg13 X_arg13 T hT _ 0 (2 * n) (by omega) (off17_at k ⟨n, hn⟩) _) (val_ld arg6 X_arg6 v hV _ (2 * n) (by omega) (off16_at k ⟨n, hn⟩) _) ih.1)
    · exact acc_step v414 T 1 v (2 * n + 1) (by omega) (k0_pay62 v414 s.2.2.1 _) (k0_pay63 v414 s.2.2.2 _ _) _ _ (scr_ld arg13 X_arg13 T hT _ 1 (2 * n + 1) (by omega) (off21_at k ⟨n, hn⟩) _) (val_ld arg6 X_arg6 v hV _ (2 * n + 1) (by omega) (off19_at k ⟨n, hn⟩) _)
        (acc_step v414 T 1 v (2 * n) (by omega) s.2.2.1 s.2.2.2 _ _ (scr_ld arg13 X_arg13 T hT _ 1 (2 * n) (by omega) (off18_at k ⟨n, hn⟩) _) (val_ld arg6 X_arg6 v hV _ (2 * n) (by omega) (off16_at k ⟨n, hn⟩) _) ih.2)

theorem loop8 (v123 : FVec Ideal S512x512 .f32) (v172 : IVec S512x512 1) (k : Fin k0_t1_loop.trips) (arg14 v175 : BitVec 32) (v371 v414 : FVec Ideal S512x256 .bf16) (v415 : FVec Ideal S512x128 .f32) (v416 : FVec Ideal S512x256 .f32) (v417 : BitVec 32) (v431 : BitVec 1) (v432 : BitVec 32)
    (s0 : FVec Ideal S512x128 .f32 × FVec Ideal S512x256 .f32 × FVec Ideal S512x128 .f32 × FVec Ideal S512x256 .f32)
    (hT : ∀ (B : LoadRect S2x4096x256) j, View.readAt (Elt Ideal) arg13.view B X_arg13 j = T (B.idx j)) (hV : ∀ (B : LoadRect S4096x256) j, View.readAt (Elt Ideal) arg6.view B X_arg6 j = v (B.idx j)) (hs : acc4 v371 v414 T v (2 * (k.val / 2)) s0) : ∀ n ≤ (k0_t8_loop k).trips, acc4 v371 v414 T v (2 * (k.val / 2) + n) (st_k0_t8 (F := Ideal) 𝒱 c bd i arg2 harg2 arg3 harg3 arg4 harg4 arg5 harg5 arg6 harg6 arg7 harg7 arg8 harg8 arg9 harg9 arg10 harg10 arg11 harg11 arg12 harg12 arg13 harg13 v123 v172 k arg14 v175 v371 v414 v415 v416 v417 v431 v432 X_arg6 X_arg13 s0 n)
  | 0, _ => hs
  | n + 1, hn => by
    rw [show n + 1 = (⟨n, hn⟩ : Fin (k0_t8_loop k).trips).val + 1 from rfl, st_k0_t8_succ]
    dsimp only
    have ih := loop8 v123 v172 k arg14 v175 v371 v414 v415 v416 v417 v431 v432 s0 hT hV hs n (by omega)
    generalize st_k0_t8 (F := Ideal) 𝒱 c bd i arg2 harg2 arg3 harg3 arg4 harg4 arg5 harg5 arg6 harg6 arg7 harg7 arg8 harg8 arg9 harg9 arg10 harg10 arg11 harg11 arg12 harg12 arg13 harg13 v123 v172 k arg14 v175 v371 v414 v415 v416 v417 v431 v432 X_arg6 X_arg13 s0 n = s at ih ⊢
    unfold tripR_k0_t8 trip_k0_t8
    dsimp only
    have hk := outer_lt k
    have hn' := trips8 k
    refine ⟨?_, ?_⟩
    · exact acc_step v371 T 0 v (2 * (k.val / 2) + n) (by omega) s.1 s.2.1 _ _ (scr_ld arg13 X_arg13 T hT _ 0 (2 * (k.val / 2) + n) (by omega) (off29_at k ⟨n, hn⟩) _) (val_ld arg6 X_arg6 v hV _ (2 * (k.val / 2) + n) (by omega) (off28_at k ⟨n, hn⟩) _) ih.1
    · exact acc_step v414 T 1 v (2 * (k.val / 2) + n) (by omega) s.2.2.1 s.2.2.2 _ _ (scr_ld arg13 X_arg13 T hT _ 1 (2 * (k.val / 2) + n) (by omega) (off30_at k ⟨n, hn⟩) _) (val_ld arg6 X_arg6 v hV _ (2 * (k.val / 2) + n) (by omega) (off28_at k ⟨n, hn⟩) _) ih.2

end Loops
end Cert.DiffKernelIdeal.Value
end
end
-- ==== Proof.DiffRow.lean ====
module
public import proofs.«01_k».proof.Proof.DiffTrip
@[expose] public section
set_option maxRecDepth 16384
noncomputable section
namespace Cert.DiffKernelIdeal.Value
open Idealize.ShloMosaic Idealize.ShloMosaic.TcCoe Idealize.SL.Sem
open Cert.DiffKernelIdeal Cert.DiffKernelIdeal.Gen ChunkAttention

/-- What the scratch holds of one group of keys: the keys and, beside them, what they add to an exponent. -/
structure Keys (T : FVec Ideal S2x4096x256 .bf16) (p : Fin 2) (g : Fin 4096 → Fin 128 → EReal) (σ : ℝ) : Prop where
  lo : ∀ n (d : Fin 128), T (ix3 p n ⟨d.val, by omega⟩ : S2x4096x256.Idx) = g n d
  hi : ∀ n (d : Fin 128), T (ix3 p n ⟨128 + d.val, by omega⟩ : S2x4096x256.Idx) = six (((Real.log 2)⁻¹ * σ * (n.val : ℝ) : ℝ) : EReal) 0 0 1 1 1 d

/-- What a block of extended queries holds: the scaled queries and, beside them, a negated number for each row, in three parts. -/
structure Query (x : FVec Ideal S512x256 .bf16) (f : Fin 512 → Fin 128 → EReal) (M : Fin 512 → EReal) : Prop where
  lo : ∀ r (d : Fin 128), x (ix2 r ⟨d.val, by omega⟩ : S512x256.Idx) = f r d * (((Real.log 2)⁻¹ * (Real.sqrt 128)⁻¹ : ℝ) : EReal)
  hi : ∀ r (d : Fin 128), x (ix2 r ⟨128 + d.val, by omega⟩ : S512x256.Idx) = six 1 1 1 (-M r) (-M r - -M r) ((-M r - -M r) - (-M r - -M r)) d

/-- A row's score with a key: the product of the query and the key over the root of 128, less the slope times the distance. -/
def natAt (f : Fin 128 → EReal) (g : Fin 4096 → Fin 128 → EReal) (σ : ℝ) (r : ℕ) (n : Fin 4096) : EReal :=
  (∑ e, f e * ((1 / Real.sqrt 128 : ℝ) : EReal) * g n e) + ((-(σ * |(r : ℝ) - (n.val : ℝ)|) : ℝ) : EReal)

/-- A product scaled for powers of two. -/
theorem scaled (f g : Fin 128 → EReal) : ∑ d, f d * (((Real.log 2)⁻¹ * (Real.sqrt 128)⁻¹ : ℝ) : EReal) * g d
    = (∑ e, f e * ((1 / Real.sqrt 128 : ℝ) : EReal) * g e) * (((Real.log 2)⁻¹ : ℝ) : EReal) := by
  have hc : (0 : ℝ) ≤ (Real.log 2)⁻¹ := (inv_pos.2 (Real.log_pos one_lt_two)).le
  refine Eq.trans ?_ (mul_comm _ _)
  rw [← coe_mul_sum _ _ hc]
  refine Finset.sum_congr rfl fun d _ => ?_
  rw [EReal.coe_mul, one_div]
  ac_rfl

theorem line_add (c τ β : ℝ) (hc : 0 < c) (R : EReal) : line c τ (R + (β : EReal)) = R * (c : EReal) + ((β * c + τ : ℝ) : EReal) := by
  induction R with
  | bot => rw [EReal.bot_add, line_bot _ _ hc, EReal.bot_mul_coe_of_pos hc, EReal.bot_add]
  | top => rw [EReal.top_add_coe, line_top _ _ hc, EReal.top_mul_coe_of_pos hc, EReal.top_add_coe]
  | coe x =>
    rw [← EReal.coe_add, line_coe, ← EReal.coe_mul, ← EReal.coe_add]
    congr 1
    ring

/-- The real that a row adds to its exponents. -/
def rowAdd (σ : ℝ) (r : ℕ) : ℝ := (Real.log 2)⁻¹ * σ * (r : ℝ)

theorem ex_any (x : FVec Ideal S512x256 .bf16) (T : FVec Ideal S2x4096x256 .bf16) (p : Fin 2) (f : Fin 512 → Fin 128 → EReal) (M : Fin 512 → EReal)
    (g : Fin 4096 → Fin 128 → EReal) (σ : ℝ) (hx : Query x f M) (hT : Keys T p g σ) (r : Fin 512) (n : Fin 4096) :
    ex x T p r n = (∑ e, f r e * ((1 / Real.sqrt 128 : ℝ) : EReal) * g n e) * (((Real.log 2)⁻¹ : ℝ) : EReal)
      + ((((Real.log 2)⁻¹ * σ * (n.val : ℝ) : ℝ) : EReal) + shift (M r)) :=
  (ext_sum (fun e => x (ix2 r e : S512x256.Idx)) (fun e => T (ix3 p n e : S2x4096x256.Idx)) _ _ _ _ _ _ (hx.lo r) (hx.hi r) (hT.lo n) (hT.hi n)).trans
    (congrArg₂ (· + ·) (scaled _ _) rfl)

/-- The exponent of a key that is not after the row. -/
theorem ex_low (x : FVec Ideal S512x256 .bf16) (T : FVec Ideal S2x4096x256 .bf16) (p : Fin 2) (f : Fin 512 → Fin 128 → EReal) (M : Fin 512 → EReal)
    (g : Fin 4096 → Fin 128 → EReal) (σ : ℝ) (hx : Query x f M) (hT : Keys T p g σ) (r : Fin 512) (q : ℕ) (n : Fin 4096) (hn : n.val ≤ q) :
    ex x T p r n = line (Real.log 2)⁻¹ (rowAdd σ q) (natAt (f r) g σ q n) + shift (M r) := by
  have h1 : (n.val : ℝ) ≤ (q : ℝ) := by exact_mod_cast hn
  rw [ex_any x T p f M g σ hx hT, natAt, line_add _ _ _ (inv_pos.2 (Real.log_pos one_lt_two)), add_assoc]
  congr 3
  rw [rowAdd, abs_of_nonneg (by linarith)]
  ring

theorem regroup (R s : EReal) (t z b : ℝ) (h : t + z = b) : R + ((t : EReal) + s) + (z : EReal) = R + (b : EReal) + s := by
  rw [← h, EReal.coe_add]
  ac_rfl

/-- The exponent of a key after the row, with what the diagonal's block adds. -/
theorem ex_high (x : FVec Ideal S512x256 .bf16) (T : FVec Ideal S2x4096x256 .bf16) (p : Fin 2) (f : Fin 512 → Fin 128 → EReal) (M : Fin 512 → EReal)
    (g : Fin 4096 → Fin 128 → EReal) (σ : ℝ) (hx : Query x f M) (hT : Keys T p g σ) (r : Fin 512) (q : ℕ) (n : Fin 4096) (hn : q < n.val) :
    ex x T p r n + ((2 * ((Real.log 2)⁻¹ * σ) * ((q : ℝ) - (n.val : ℝ)) : ℝ) : EReal)
      = line (Real.log 2)⁻¹ (rowAdd σ q) (natAt (f r) g σ q n) + shift (M r) := by
  have h1 : (q : ℝ) < (n.val : ℝ) := by exact_mod_cast hn
  rw [ex_any x T p f M g σ hx hT, natAt, line_add _ _ _ (inv_pos.2 (Real.log_pos one_lt_two))]
  refine regroup _ _ _ _ _ ?_
  rw [rowAdd, abs_of_neg (by linarith)]
  ring

/-- What the block of the diagonal adds for the keys after the query. -/
def Ahead (h : FVec Ideal S512x512 .f32) (σ : ℝ) : Prop :=
  ∀ r n : Fin 512, h (ix2 r n : S512x512.Idx) = (if r.val < n.val then (2 : EReal) * (((Real.log 2)⁻¹ * σ : ℝ) : EReal) * (((r.val : ℝ) - (n.val : ℝ) : ℝ) : EReal) else 0 : EReal)

/-- Which keys of the diagonal's block a row may see. -/
def Seen (P : IVec S512x512 1) : Prop :=
  ∀ r n : Fin 512, P (ix2 r n : S512x512.Idx) = if n.val / 64 ≤ r.val / 64 then 1#1 else 0#1

theorem diag_any (h : FVec Ideal S512x512 .f32) (P : IVec S512x512 1) (x : FVec Ideal S512x256 .bf16) (K : FVec Ideal S1x512x256 .bf16) (T : FVec Ideal S2x4096x256 .bf16) (p : Fin 2)
    (f : Fin 512 → Fin 128 → EReal) (M : Fin 512 → EReal) (g : Fin 4096 → Fin 128 → EReal) (σ : ℝ) (hx : Query x f M) (hT : Keys T p g σ) (hh : Ahead h σ) (hP : Seen P)
    (k : ℕ) (hk : k < 8) (hK : ∀ (n : Fin 512) e, K (ix3 0 n e : S1x512x256.Idx) = T (ix3 p ⟨512 * k + n.val, by omega⟩ e : S2x4096x256.Idx)) (r n : Fin 512) :
    diag h P x K r n = if (512 * k + n.val) / 64 ≤ (512 * k + r.val) / 64
      then line (Real.log 2)⁻¹ (rowAdd σ (512 * k + r.val)) (natAt (f r) g σ (512 * k + r.val) ⟨512 * k + n.val, by omega⟩) + shift (M r) else ⊥ := by
  unfold diag
  rw [hP, dot_eq x T p k hk K hK, hh]
  have hiff : n.val / 64 ≤ r.val / 64 ↔ (512 * k + n.val) / 64 ≤ (512 * k + r.val) / 64 := by omega
  by_cases h1 : n.val / 64 ≤ r.val / 64
  · rw [if_pos h1, if_pos (hiff.1 h1)]
    show _ + _ = _
    by_cases h2 : r.val < n.val
    · rw [if_pos h2, ← ex_high x T p f M g σ hx hT r (512 * k + r.val) ⟨512 * k + n.val, by omega⟩ (by show _ < 512 * k + n.val; omega)]
      refine congrArg _ ?_
      rw [show (((512 * k + r.val : ℕ) : ℝ) - ((⟨512 * k + n.val, by omega⟩ : Fin 4096).val : ℝ)) = (r.val : ℝ) - (n.val : ℝ) from by push_cast; ring, EReal.coe_mul, EReal.coe_mul]
      rfl
    · rw [if_neg h2, ex_low x T p f M g σ hx hT r (512 * k + r.val) ⟨512 * k + n.val, by omega⟩ (by show 512 * k + n.val ≤ _; omega)]
      exact add_zero _
  · rw [if_neg h1, if_neg (fun h => h1 (hiff.2 h))]; rfl

/-- A row's largest score, in powers of two. -/
def rowTop (f : Fin 512 → Fin 128 → EReal) (g : Fin 4096 → Fin 128 → EReal) (σ : ℝ) (k : ℕ) (r : Fin 512) : EReal :=
  line (Real.log 2)⁻¹ (rowAdd σ (512 * k + r.val)) (top (fun n : Fin 4096 => n.val / 64 ≤ (512 * k + r.val) / 64) (natAt (f r) g σ (512 * k + r.val)))

/-- The largest exponent of a row. -/
theorem max_row (h : FVec Ideal S512x512 .f32) (P : IVec S512x512 1) (x : FVec Ideal S512x256 .bf16) (K : FVec Ideal S1x512x256 .bf16) (T : FVec Ideal S2x4096x256 .bf16) (p : Fin 2)
    (f : Fin 512 → Fin 128 → EReal) (M : Fin 512 → EReal) (g : Fin 4096 → Fin 128 → EReal) (σ : ℝ) (hx : Query x f M) (hT : Keys T p g σ) (hh : Ahead h σ) (hP : Seen P)
    (k : ℕ) (hk : k < 8) (hK : ∀ (n : Fin 512) e, K (ix3 0 n e : S1x512x256.Idx) = T (ix3 p ⟨512 * k + n.val, by omega⟩ e : S2x4096x256.Idx))
    (hM : ∀ r, M r = 0) (a : FVec Ideal S512x128 .f32) (ha : peak x T p k a) (r : Fin 512) :
    max (Finset.univ.fold max (⊥ : EReal) fun l : Fin 128 => (a (ix2 r l : S512x128.Idx) : EReal)) (Finset.univ.fold max (⊥ : EReal) fun n : Fin 512 => diag h P x K r n)
      = rowTop f g σ k r := by
  have hr := r.isLt
  unfold rowTop
  have hs : shift (M r) = 0 := by rw [hM, ← EReal.coe_zero, shift_coe, neg_zero]
  let S : Fin 4096 → EReal := fun n => if n.val / 64 ≤ (512 * k + r.val) / 64 then line (Real.log 2)⁻¹ (rowAdd σ (512 * k + r.val)) (natAt (f r) g σ (512 * k + r.val) n) else ⊥
  let F : ℕ → EReal := fun n => if h : n < 4096 then S ⟨n, h⟩ else ⊥
  have hF : ∀ n : Fin 4096, F n.val = S n := fun n => dif_pos n.isLt
  have hpk : ∀ n ∈ Finset.range (512 * k), pk x T p r n = F n := fun n hn => by
    rw [Finset.mem_range] at hn
    have h4 : n < 4096 := by omega
    show pk x T p r n = if h : n < 4096 then S ⟨n, h⟩ else ⊥
    rw [pk, dif_pos h4, dif_pos h4, ex_low x T p f M g σ hx hT r (512 * k + r.val) ⟨n, h4⟩ (by show n ≤ _; omega), hs, add_zero]
    have hp : n / 64 ≤ (512 * k + r.val) / 64 := by omega
    exact (if_pos hp).symm
  have hblk : ∀ n : Fin 512, diag h P x K r n = F (512 * k + n.val) := fun n => by
    rw [diag_any h P x K T p f M g σ hx hT hh hP k hk hK r n, hs]
    refine Eq.trans ?_ (hF ⟨512 * k + n.val, by omega⟩).symm
    exact if_congr Iff.rfl (add_zero _) rfl
  have hbot : ∀ n, 512 * (k + 1) ≤ n → F n = ⊥ := fun n hn => by
    show (if h : n < 4096 then S ⟨n, h⟩ else ⊥) = ⊥
    by_cases h4 : n < 4096
    · rw [dif_pos h4]
      have hp : ¬ n / 64 ≤ (512 * k + r.val) / 64 := by omega
      exact if_neg hp
    · rw [dif_neg h4]
  rw [← top_line _ _ _ _ (inv_pos.2 (Real.log_pos one_lt_two)), ha r, Finset.fold_congr hpk, Finset.fold_congr (fun n _ => hblk n), ← all_max F k hk hbot]
  exact Finset.fold_congr fun n _ => hF n

/-- A row of the attention: the natural scores, weighing the values. -/
theorem row_form (h : FVec Ideal S512x512 .f32) (P : IVec S512x512 1) (x : FVec Ideal S512x256 .bf16) (K : FVec Ideal S1x512x256 .bf16) (T : FVec Ideal S2x4096x256 .bf16) (p : Fin 2)
    (f : Fin 512 → Fin 128 → EReal) (M : Fin 512 → EReal) (g : Fin 4096 → Fin 128 → EReal) (σ : ℝ) (hx : Query x f M) (hT : Keys T p g σ) (hh : Ahead h σ) (hP : Seen P)
    (k : ℕ) (hk : k < 8) (hK : ∀ (n : Fin 512) e, K (ix3 0 n e : S1x512x256.Idx) = T (ix3 p ⟨512 * k + n.val, by omega⟩ e : S2x4096x256.Idx))
    (v : FVec Ideal S4096x256 .bf16) (w : FVec Ideal S512x256 .bf16) (hw : ∀ (n : Fin 512) d, w (ix2 n d : S512x256.Idx) = v (ix2 ⟨512 * k + n.val, by omega⟩ d : S4096x256.Idx))
    (a : FVec Ideal S512x128 .f32) (b : FVec Ideal S512x256 .f32) (hab : acc x T p v k a b) (r : Fin 512) (d : Fin 256)
    (hM : M r = rowTop f g σ k r) :
    Ideal.div ((b (ix2 r d : S512x256.Idx) : EReal) + ∑ n : Fin 512, Ideal.exp2 (diag h P x K r n) * w (ix2 n d : S512x256.Idx))
      (∑ l : Fin 128, ((a (ix2 r l : S512x128.Idx) : EReal) + lanes (fun n => Ideal.exp2 (diag h P x K r n)) l))
    = comp (fun n : Fin 4096 => n.val / 64 ≤ (512 * k + r.val) / 64) (natAt (f r) g σ (512 * k + r.val)) (fun n => v (ix2 n d : S4096x256.Idx)) := by
  have hr := r.isLt
  let S : Fin 4096 → EReal := fun n => if n.val / 64 ≤ (512 * k + r.val) / 64
    then line (Real.log 2)⁻¹ (rowAdd σ (512 * k + r.val)) (natAt (f r) g σ (512 * k + r.val) n) + shift (M r) else ⊥
  have hdiag : ∀ n : Fin 512, diag h P x K r n = S ⟨512 * k + n.val, by omega⟩ := fun n => diag_any h P x K T p f M g σ hx hT hh hP k hk hK r n
  let F : ℕ → EReal := fun n => if h : n < 4096 then Ideal.exp2 (S ⟨n, h⟩) else 0
  have hF : ∀ n : Fin 4096, F n.val = Ideal.exp2 (S n) := fun n => dif_pos n.isLt
  have hwt : ∀ n ∈ Finset.range (512 * k), wt x T p r n = F n := fun n hn => by
    rw [Finset.mem_range] at hn
    have h4 : n < 4096 := by omega
    show wt x T p r n = if h : n < 4096 then Ideal.exp2 (S ⟨n, h⟩) else 0
    rw [wt, dif_pos h4, dif_pos h4, ex_low x T p f M g σ hx hT r (512 * k + r.val) ⟨n, h4⟩ (by show n ≤ _; omega)]
    have hp : n / 64 ≤ (512 * k + r.val) / 64 := by omega
    exact congrArg Ideal.exp2 (if_pos hp).symm
  have hblk : ∀ n : Fin 512, Ideal.exp2 (diag h P x K r n) = F (512 * k + n.val) := fun n => by
    rw [hdiag]; exact (hF ⟨512 * k + n.val, by omega⟩).symm
  have hzero : ∀ n, 512 * (k + 1) ≤ n → F n = 0 := fun n hn => by
    show (if h : n < 4096 then Ideal.exp2 (S ⟨n, h⟩) else 0) = 0
    by_cases h4 : n < 4096
    · rw [dif_pos h4]
      have hp : ¬ n / 64 ≤ (512 * k + r.val) / 64 := by omega
      have hS : S ⟨n, h4⟩ = ⊥ := if_neg hp
      rw [hS, Ideal.exp2_bot]
    · rw [dif_neg h4]
  have hden : ∑ l : Fin 128, ((a (ix2 r l : S512x128.Idx) : EReal) + lanes (fun n => Ideal.exp2 (diag h P x K r n)) l) = ∑ n : Fin 4096, Ideal.exp2 (S n) := by
    rw [lanes_add, hab.1 r, Finset.sum_congr rfl hwt, Finset.sum_congr rfl (fun n _ => hblk n), ← all_sum F k hk hzero]
    exact Finset.sum_congr rfl fun n _ => hF n
  have hnum : (b (ix2 r d : S512x256.Idx) : EReal) + ∑ n : Fin 512, Ideal.exp2 (diag h P x K r n) * w (ix2 n d : S512x256.Idx)
      = ∑ n : Fin 4096, Ideal.exp2 (S n) * v (ix2 n d : S4096x256.Idx) := by
    have e1 : ∑ n : Fin 512, Ideal.exp2 (diag h P x K r n) * w (ix2 n d : S512x256.Idx) = ∑ n : Fin 512, F (512 * k + n.val) * vl v d (512 * k + n.val) :=
      Finset.sum_congr rfl fun n _ => by rw [hblk, hw, vl, dif_pos (by omega)]
    rw [hab.2 r d, Finset.sum_congr rfl (fun n hn => by rw [hwt n hn]), e1, ← all_sum (fun n => F n * vl v d n) k hk (fun n hn => by rw [hzero n hn, zero_mul])]
    exact Finset.sum_congr rfl fun n _ => by rw [hF, vl, dif_pos n.isLt]
  rw [hnum, hden]
  exact ratio_any _ _ (rowAdd σ (512 * k + r.val)) _ S fun n => by rw [show line (Real.log 2)⁻¹ (rowAdd σ (512 * k + r.val)) (top _ _) = M r from hM.symm]

end Cert.DiffKernelIdeal.Value
end
end
-- ==== Proof.DiffOuter.lean ====
module
public import proofs.«01_k».proof.Proof.DiffRow
@[expose] public section
set_option maxRecDepth 16384
set_option maxHeartbeats 1600000
noncomputable section
namespace Cert.DiffKernelIdeal.Value
open Idealize.ShloMosaic Idealize.ShloMosaic.TcCoe Idealize.SL.Sem
open Cert.DiffKernelIdeal Cert.DiffKernelIdeal.Gen ChunkAttention

theorem pay35_eq (h : FVec Ideal S512x512 .f32) (p : IVec S512x512 1) (x : FVec Ideal S512x256 .bf16) (a : FVec Ideal S512x128 .f32) (k : FVec Ideal S1x512x256 .bf16) (r : Fin 512) (μ : EReal)
    (hm : k0_pay31 h p x a k (ix2 r 0 : S512x1.Idx) = -μ) : k0_pay35 h p x a k (ix2 r 0 : S512x1.Idx) = (-μ - -μ) - (-μ - -μ) := by
  have h33 : k0_pay33 h p x a k (ix2 r 0 : S512x1.Idx) = -μ - -μ := congrArg₂ (fun a b : EReal => a - b) hm hm
  exact congrArg₂ (fun a b : EReal => a - b) h33 h33

/-- A tuple rebuilt from its parts. -/
theorem acc4_eta (x y : FVec Ideal S512x256 .bf16) (T : FVec Ideal S2x4096x256 .bf16) (v : FVec Ideal S4096x256 .bf16) (J : ℕ)
    (s : FVec Ideal S512x128 .f32 × FVec Ideal S512x256 .f32 × FVec Ideal S512x128 .f32 × FVec Ideal S512x256 .f32) (h : acc4 x y T v J s) :
    acc4 x y T v J (s.1, s.2.1, s.2.2.1, s.2.2.2) := h

section Outer
variable (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole)
variable (X2 : BufTy.Contents (Elt Ideal) arg2.view.ty) (X3 : BufTy.Contents (Elt Ideal) arg3.view.ty) (X6 : BufTy.Contents (Elt Ideal) arg6.view.ty)
  (X7 : BufTy.Contents (Elt Ideal) arg7.view.ty) (X11 : BufTy.Contents (Elt Ideal) arg11.view.ty) (X13 : BufTy.Contents (Elt Ideal) arg13.view.ty)
  (T : FVec Ideal S2x4096x256 .bf16) (v : FVec Ideal S4096x256 .bf16) (v22 : FVec Ideal S1x1 .f32)
  (v123 : FVec Ideal S512x512 .f32) (v147 v149 : IVec S512x512 32) (v163 v167 : IVec S512x512 1) (k : Fin k0_t1_loop.trips)
  (f0 f1 : Fin 512 → Fin 128 → EReal) (g0 g1 : Fin 4096 → Fin 128 → EReal) (σ : ℝ)

theorem query0 (hr0 : ∀ r d, (trip_k0_t1.sl.r (F := Ideal) arg2 arg7 X2 X7 k) (ix2 r d : S512x128.Idx) = f0 r d * (((Real.log 2)⁻¹ * (Real.sqrt 128)⁻¹ : ℝ) : EReal)) :
    Query (trip_k0_t1.sl.v243 (F := Ideal) arg2 arg7 X2 X7 k) f0 (fun _ => 0) where
  lo := fun r d => (pay20_lo _ r d).trans (hr0 r d)
  hi := fun r d => by
    simp only [neg_zero, sub_zero]
    exact pay20_hi _ r d

theorem query1 (hr1 : ∀ r d, (trip_k0_t1.sl.r_1 (F := Ideal) arg3 arg7 X3 X7 k) (ix2 r d : S512x128.Idx) = f1 r d * (((Real.log 2)⁻¹ * (Real.sqrt 128)⁻¹ : ℝ) : EReal)) :
    Query (trip_k0_t1.sl.r_2 (F := Ideal) arg3 arg7 X3 X7 k) f1 (fun _ => 0) where
  lo := fun r d => (pay22_lo _ r d).trans (hr1 r d)
  hi := fun r d => by
    simp only [neg_zero, sub_zero]
    exact pay22_hi _ r d

theorem peak_a (hT : ∀ (B : LoadRect S2x4096x256) j, View.readAt (Elt Ideal) arg13.view B X13 j = T (B.idx j)) :
    peaks (trip_k0_t1.sl.v243 (F := Ideal) arg2 arg7 X2 X7 k) (trip_k0_t1.sl.r_2 (F := Ideal) arg3 arg7 X3 X7 k) T (2 * (k.val / 2)) ((trip_k0_t1.sl.r_3 (F := Ideal) 𝒱 c bd i arg2 harg2 arg3 harg3 arg4 harg4 arg5 harg5 arg6 harg6 arg7 harg7 arg8 harg8 arg9 harg9 arg10 harg10 arg11 harg11 arg12 harg12 arg13 harg13 X2 X3 X7 X13 k), (trip_k0_t1.sl.r_4 (F := Ideal) 𝒱 c bd i arg2 harg2 arg3 harg3 arg4 harg4 arg5 harg5 arg6 harg6 arg7 harg7 arg8 harg8 arg9 harg9 arg10 harg10 arg11 harg11 arg12 harg12 arg13 harg13 X2 X3 X7 X13 k)) := by
  have hb : peaks (trip_k0_t1.sl.v243 (F := Ideal) arg2 arg7 X2 X7 k) (trip_k0_t1.sl.r_2 (F := Ideal) arg3 arg7 X3 X7 k) T 0 (k0_pay23 (F := Ideal), k0_pay23 (F := Ideal)) := by
    have hz : (Finset.univ.fold max (⊥ : EReal) fun _ : Fin 128 => (⊥ : EReal)) = ⊥ := le_bot_iff.1 (by rw [Finset.fold_max_le]; exact ⟨le_rfl, fun _ _ => le_rfl⟩)
    exact ⟨fun r => hz, fun r => hz⟩
  have hL := loop2 𝒱 c bd i arg2 harg2 arg3 harg3 arg4 harg4 arg5 harg5 arg6 harg6 arg7 harg7 arg8 harg8 arg9 harg9 arg10 harg10 arg11 harg11 arg12 harg12 arg13 harg13 X13 T k (trip_k0_t1.sl.arg14 k) (trip_k0_t1.sl.r_1 (F := Ideal) arg3 arg7 X3 X7 k) (trip_k0_t1.sl.v243 (F := Ideal) arg2 arg7 X2 X7 k) trip_k0_t1.sl.v244 (trip_k0_t1.sl.v257 (F := Ideal)) _ hT hb _ (le_refl _)
  rw [show 2 * (k0_t2_loop k).trips = 2 * (k.val / 2) from by rw [trips2]] at hL
  have e3 : Scf.trips (k0_t3_loop k).lb (k0_t3_loop k).ub (k0_t3_loop k).st = 0 := trips3 k
  unfold trip_k0_t1.sl.r_3 trip_k0_t1.sl.r_4
  rw [e3]
  exact hL

theorem top_b (hT : ∀ (B : LoadRect S2x4096x256) j, View.readAt (Elt Ideal) arg13.view B X13 j = T (B.idx j)) (hr0 : ∀ r d, (trip_k0_t1.sl.r (F := Ideal) arg2 arg7 X2 X7 k) (ix2 r d : S512x128.Idx) = f0 r d * (((Real.log 2)⁻¹ * (Real.sqrt 128)⁻¹ : ℝ) : EReal))
    (hr1 : ∀ r d, (trip_k0_t1.sl.r_1 (F := Ideal) arg3 arg7 X3 X7 k) (ix2 r d : S512x128.Idx) = f1 r d * (((Real.log 2)⁻¹ * (Real.sqrt 128)⁻¹ : ℝ) : EReal))
    (hk0 : Keys T 0 g0 σ) (hk1 : Keys T 1 g1 σ) (hh : Ahead v123 σ) (hP : Seen (k0_pay1 v147 v149 v163 v167)) :
    (∀ r, (trip_k0_t1.sl.r_6 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (ix2 r 0 : S512x1.Idx) = -rowTop f0 g0 σ k.val r ∧ (trip_k0_t1.sl.r_7 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (ix2 r 0 : S512x1.Idx) = -rowTop f0 g0 σ k.val r - -rowTop f0 g0 σ k.val r ∧ (trip_k0_t1.sl.r_8 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (ix2 r 0 : S512x1.Idx) = (-rowTop f0 g0 σ k.val r - -rowTop f0 g0 σ k.val r) - (-rowTop f0 g0 σ k.val r - -rowTop f0 g0 σ k.val r))
    ∧ ∀ r, (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (ix2 r 0 : S512x1.Idx) = rowTop f1 g1 σ k.val r := by
  have hk := outer_lt k
  have q0 := query0 arg2 arg7 X2 X7 k f0 hr0
  have q1 := query1 arg3 arg7 X3 X7 k f1 hr1
  have hL := loop4 𝒱 c bd i arg2 harg2 arg3 harg3 arg4 harg4 arg5 harg5 arg6 harg6 arg7 harg7 arg8 harg8 arg9 harg9 arg10 harg10 arg11 harg11 arg12 harg12 arg13 harg13 X13 T v123 (k0_pay1 v147 v149 v163 v167) k (trip_k0_t1.sl.v174 k) (trip_k0_t1.sl.v243 (F := Ideal) arg2 arg7 X2 X7 k) (trip_k0_t1.sl.r_2 (F := Ideal) arg3 arg7 X3 X7 k) (trip_k0_t1.sl.r_3 (F := Ideal) 𝒱 c bd i arg2 harg2 arg3 harg3 arg4 harg4 arg5 harg5 arg6 harg6 arg7 harg7 arg8 harg8 arg9 harg9 arg10 harg10 arg11 harg11 arg12 harg12 arg13 harg13 X2 X3 X7 X13 k) (trip_k0_t1.sl.r_4 (F := Ideal) 𝒱 c bd i arg2 harg2 arg3 harg3 arg4 harg4 arg5 harg5 arg6 harg6 arg7 harg7 arg8 harg8 arg9 harg9 arg10 harg10 arg11 harg11 arg12 harg12 arg13 harg13 X2 X3 X7 X13 k) (trip_k0_t1.sl.v297 k) (trip_k0_t1.sl.v298 k) _ hT
    (peak_a 𝒱 c bd i arg2 harg2 arg3 harg3 arg4 harg4 arg5 harg5 arg6 harg6 arg7 harg7 arg8 harg8 arg9 harg9 arg10 harg10 arg11 harg11 arg12 harg12 arg13 harg13 X2 X3 X7 X13 T k hT) _ (le_refl _)
  rw [show 2 * (k.val / 2) + (k0_t4_loop k).trips = k.val from by rw [trips4]; omega] at hL
  have e5 : Scf.trips (k0_t5_loop k).lb (k0_t5_loop k).ub (k0_t5_loop k).st = 0 := trips5 k
  constructor
  · have hμ := max_row v123 (k0_pay1 v147 v149 v163 v167) (trip_k0_t1.sl.v243 (F := Ideal) arg2 arg7 X2 X7 k) (View.readAt (Elt Ideal) arg13.view (Rect.unit (s := S2x4096x256) (k0_off14 k) S1x512x256.size (k0_off14_inb k)).toLoadRect X13) T 0 f0 _ g0 σ q0 hk0 hh hP k.val hk
      (scr_ld arg13 X13 T hT (k0_off14 k) 0 k.val hk (off14_at k) (k0_off14_inb k)) (fun _ => rfl) _ hL.1
    intro r
    have hm := (pay31_at v123 (k0_pay1 v147 v149 v163 v167) (trip_k0_t1.sl.v243 (F := Ideal) arg2 arg7 X2 X7 k) _ _ r).trans (congrArg Neg.neg (hμ r))
    refine ⟨?_, ?_, ?_⟩
    · unfold trip_k0_t1.sl.r_6
      rw [e5]
      exact hm
    · unfold trip_k0_t1.sl.r_7
      rw [e5]
      exact congrArg₂ (fun a b : EReal => a - b) hm hm
    · unfold trip_k0_t1.sl.r_8
      rw [e5]
      exact pay35_eq _ _ _ _ _ r _ hm
  · have hμ := max_row v123 (k0_pay1 v147 v149 v163 v167) (trip_k0_t1.sl.r_2 (F := Ideal) arg3 arg7 X3 X7 k) (View.readAt (Elt Ideal) arg13.view (Rect.unit (s := S2x4096x256) (k0_off15 k) S1x512x256.size (k0_off15_inb k)).toLoadRect X13) T 1 f1 _ g1 σ q1 hk1 hh hP k.val hk
      (scr_ld arg13 X13 T hT (k0_off15 k) 1 k.val hk (off15_at k) (k0_off15_inb k)) (fun _ => rfl) _ hL.2
    intro r
    have hm := (pay30_at v123 (k0_pay1 v147 v149 v163 v167) (trip_k0_t1.sl.r_2 (F := Ideal) arg3 arg7 X3 X7 k) _ _ r).trans (hμ r)
    unfold trip_k0_t1.sl.r_5
    rw [e5]
    exact hm

theorem query_b (hT : ∀ (B : LoadRect S2x4096x256) j, View.readAt (Elt Ideal) arg13.view B X13 j = T (B.idx j)) (hr0 : ∀ r d, (trip_k0_t1.sl.r (F := Ideal) arg2 arg7 X2 X7 k) (ix2 r d : S512x128.Idx) = f0 r d * (((Real.log 2)⁻¹ * (Real.sqrt 128)⁻¹ : ℝ) : EReal))
    (hr1 : ∀ r d, (trip_k0_t1.sl.r_1 (F := Ideal) arg3 arg7 X3 X7 k) (ix2 r d : S512x128.Idx) = f1 r d * (((Real.log 2)⁻¹ * (Real.sqrt 128)⁻¹ : ℝ) : EReal))
    (hk0 : Keys T 0 g0 σ) (hk1 : Keys T 1 g1 σ) (hh : Ahead v123 σ) (hP : Seen (k0_pay1 v147 v149 v163 v167)) : Query (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) f0 (rowTop f0 g0 σ k.val) ∧ Query (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) f1 (rowTop f1 g1 σ k.val) := by
  obtain ⟨hμ, hν⟩ := top_b 𝒱 c bd i arg2 harg2 arg3 harg3 arg4 harg4 arg5 harg5 arg6 harg6 arg7 harg7 arg8 harg8 arg9 harg9 arg10 harg10 arg11 harg11 arg12 harg12 arg13 harg13 X2 X3 X7 X13 T v123 v147 v149 v163 v167 k f0 f1 g0 g1 σ hT hr0 hr1 hk0 hk1 hh hP
  refine ⟨⟨fun r d => (pay38_lo (trip_k0_t1.sl.r (F := Ideal) arg2 arg7 X2 X7 k) (trip_k0_t1.sl.r_6 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.r_7 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.r_8 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) r d).trans (hr0 r d), fun r d => ?_⟩, ⟨fun r d => (pay46_lo (trip_k0_t1.sl.r_1 (F := Ideal) arg3 arg7 X3 X7 k) (k0_pay40 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k)) (k0_pay42 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k)) (k0_pay43 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k)) r d).trans (hr1 r d), fun r d => ?_⟩⟩
  · refine (pay38_hi (trip_k0_t1.sl.r (F := Ideal) arg2 arg7 X2 X7 k) (trip_k0_t1.sl.r_6 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.r_7 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.r_8 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) r d).trans ?_
    rw [(hμ r).1, (hμ r).2.1, (hμ r).2.2]
  · have hm := (pay39_at (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) r).trans (congrArg Neg.neg (hν r))
    have h41 : k0_pay41 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (ix2 r 0 : S512x1.Idx) = -rowTop f1 g1 σ k.val r - -rowTop f1 g1 σ k.val r := congrArg₂ (fun a b : EReal => a - b) hm hm
    have h42 : k0_pay42 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (ix2 r 0 : S512x1.Idx) = -rowTop f1 g1 σ k.val r - -rowTop f1 g1 σ k.val r := h41
    have h43 : k0_pay43 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (ix2 r 0 : S512x1.Idx) = (-rowTop f1 g1 σ k.val r - -rowTop f1 g1 σ k.val r) - (-rowTop f1 g1 σ k.val r - -rowTop f1 g1 σ k.val r) := congrArg₂ (fun a b : EReal => a - b) h41 h41
    have h40 : k0_pay40 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (ix2 r 0 : S512x1.Idx) = -rowTop f1 g1 σ k.val r := hm
    refine (pay46_hi (trip_k0_t1.sl.r_1 (F := Ideal) arg3 arg7 X3 X7 k) (k0_pay40 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k)) (k0_pay42 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k)) (k0_pay43 (F := Ideal) (trip_k0_t1.sl.r_5 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k)) r d).trans ?_
    rw [h40, h42, h43]

theorem zero_382 (r l) : trip_k0_t1.sl.v382 (F := Ideal) (ix2 r l : S512x128.Idx) = (0 : EReal) := by
  pointwise [trip_k0_t1.sl.v382, trip_k0_t1.sl.cst_136]
theorem zero_416 (r l) : trip_k0_t1.sl.v416 (F := Ideal) (ix2 r l : S512x256.Idx) = (0 : EReal) := by
  pointwise [trip_k0_t1.sl.v416, trip_k0_t1.sl.cst_136]

/-- The sums after the whole blocks before the diagonal's. -/
theorem chain (hT : ∀ (B : LoadRect S2x4096x256) j, View.readAt (Elt Ideal) arg13.view B X13 j = T (B.idx j)) (hV : ∀ (B : LoadRect S4096x256) j, View.readAt (Elt Ideal) arg6.view B X6 j = v (B.idx j)) :
    acc4 (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) T v k.val (st_k0_t8 (F := Ideal) 𝒱 c bd i arg2 harg2 arg3 harg3 arg4 harg4 arg5 harg5 arg6 harg6 arg7 harg7 arg8 harg8 arg9 harg9 arg10 harg10 arg11 harg11 arg12 harg12 arg13 harg13 v123 (k0_pay1 v147 v149 v163 v167) k (trip_k0_t1.sl.arg14 k) (trip_k0_t1.sl.v174 k) (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v382 (F := Ideal)) (trip_k0_t1.sl.v416 (F := Ideal)) (trip_k0_t1.sl.v417 k) (0#1) (trip_k0_t1.sl.v432 k) X6 X13 ((st_k0_t6 (F := Ideal) 𝒱 c bd i arg2 harg2 arg3 harg3 arg4 harg4 arg5 harg5 arg6 harg6 arg7 harg7 arg8 harg8 arg9 harg9 arg10 harg10 arg11 harg11 arg12 harg12 arg13 harg13 v123 (k0_pay1 v147 v149 v163 v167) k (trip_k0_t1.sl.arg14 k) (trip_k0_t1.sl.v174 k) (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v382 (F := Ideal)) (trip_k0_t1.sl.v416 (F := Ideal)) (trip_k0_t1.sl.v417 k) (0#1) (trip_k0_t1.sl.v432 k) X6 X13 (trip_k0_t1.sl.v382 (F := Ideal), trip_k0_t1.sl.v416 (F := Ideal), trip_k0_t1.sl.v382 (F := Ideal), trip_k0_t1.sl.v416 (F := Ideal)) (k0_t6_loop k).trips).1, (st_k0_t6 (F := Ideal) 𝒱 c bd i arg2 harg2 arg3 harg3 arg4 harg4 arg5 harg5 arg6 harg6 arg7 harg7 arg8 harg8 arg9 harg9 arg10 harg10 arg11 harg11 arg12 harg12 arg13 harg13 v123 (k0_pay1 v147 v149 v163 v167) k (trip_k0_t1.sl.arg14 k) (trip_k0_t1.sl.v174 k) (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v382 (F := Ideal)) (trip_k0_t1.sl.v416 (F := Ideal)) (trip_k0_t1.sl.v417 k) (0#1) (trip_k0_t1.sl.v432 k) X6 X13 (trip_k0_t1.sl.v382 (F := Ideal), trip_k0_t1.sl.v416 (F := Ideal), trip_k0_t1.sl.v382 (F := Ideal), trip_k0_t1.sl.v416 (F := Ideal)) (k0_t6_loop k).trips).2.1, (st_k0_t6 (F := Ideal) 𝒱 c bd i arg2 harg2 arg3 harg3 arg4 harg4 arg5 harg5 arg6 harg6 arg7 harg7 arg8 harg8 arg9 harg9 arg10 harg10 arg11 harg11 arg12 harg12 arg13 harg13 v123 (k0_pay1 v147 v149 v163 v167) k (trip_k0_t1.sl.arg14 k) (trip_k0_t1.sl.v174 k) (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v382 (F := Ideal)) (trip_k0_t1.sl.v416 (F := Ideal)) (trip_k0_t1.sl.v417 k) (0#1) (trip_k0_t1.sl.v432 k) X6 X13 (trip_k0_t1.sl.v382 (F := Ideal), trip_k0_t1.sl.v416 (F := Ideal), trip_k0_t1.sl.v382 (F := Ideal), trip_k0_t1.sl.v416 (F := Ideal)) (k0_t6_loop k).trips).2.2.1, (st_k0_t6 (F := Ideal) 𝒱 c bd i arg2 harg2 arg3 harg3 arg4 harg4 arg5 harg5 arg6 harg6 arg7 harg7 arg8 harg8 arg9 harg9 arg10 harg10 arg11 harg11 arg12 harg12 arg13 harg13 v123 (k0_pay1 v147 v149 v163 v167) k (trip_k0_t1.sl.arg14 k) (trip_k0_t1.sl.v174 k) (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v382 (F := Ideal)) (trip_k0_t1.sl.v416 (F := Ideal)) (trip_k0_t1.sl.v417 k) (0#1) (trip_k0_t1.sl.v432 k) X6 X13 (trip_k0_t1.sl.v382 (F := Ideal), trip_k0_t1.sl.v416 (F := Ideal), trip_k0_t1.sl.v382 (F := Ideal), trip_k0_t1.sl.v416 (F := Ideal)) (k0_t6_loop k).trips).2.2.2) (k0_t8_loop k).trips) := by
  have hz : acc4 (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) T v 0 (trip_k0_t1.sl.v382 (F := Ideal), trip_k0_t1.sl.v416 (F := Ideal), trip_k0_t1.sl.v382 (F := Ideal), trip_k0_t1.sl.v416 (F := Ideal)) := by
    refine ⟨⟨fun r => ?_, fun r d => ?_⟩, ⟨fun r => ?_, fun r d => ?_⟩⟩
    · exact Finset.sum_eq_zero fun l _ => zero_382 r l
    · exact zero_416 r d
    · exact Finset.sum_eq_zero fun l _ => zero_382 r l
    · exact zero_416 r d
  have h6 := loop6 𝒱 c bd i arg2 harg2 arg3 harg3 arg4 harg4 arg5 harg5 arg6 harg6 arg7 harg7 arg8 harg8 arg9 harg9 arg10 harg10 arg11 harg11 arg12 harg12 arg13 harg13 X6 X13 T v v123 (k0_pay1 v147 v149 v163 v167) k (trip_k0_t1.sl.arg14 k) (trip_k0_t1.sl.v174 k) (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v382 (F := Ideal)) (trip_k0_t1.sl.v416 (F := Ideal)) (trip_k0_t1.sl.v417 k) (0#1) (trip_k0_t1.sl.v432 k) _ hT hV hz _ (le_refl _)
  rw [show 2 * (k0_t6_loop k).trips = 2 * (k.val / 2) from by rw [trips6]] at h6
  have h8 := loop8 𝒱 c bd i arg2 harg2 arg3 harg3 arg4 harg4 arg5 harg5 arg6 harg6 arg7 harg7 arg8 harg8 arg9 harg9 arg10 harg10 arg11 harg11 arg12 harg12 arg13 harg13 X6 X13 T v v123 (k0_pay1 v147 v149 v163 v167) k (trip_k0_t1.sl.arg14 k) (trip_k0_t1.sl.v174 k) (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) (trip_k0_t1.sl.v382 (F := Ideal)) (trip_k0_t1.sl.v416 (F := Ideal)) (trip_k0_t1.sl.v417 k) (0#1) (trip_k0_t1.sl.v432 k) _ hT hV (acc4_eta _ _ _ _ _ _ h6) _ (le_refl _)
  rw [show 2 * (k.val / 2) + (k0_t8_loop k).trips = k.val from by rw [trips8]; omega] at h8
  exact h8

theorem sums_c (hT : ∀ (B : LoadRect S2x4096x256) j, View.readAt (Elt Ideal) arg13.view B X13 j = T (B.idx j)) (hV : ∀ (B : LoadRect S4096x256) j, View.readAt (Elt Ideal) arg6.view B X6 j = v (B.idx j)) : acc (trip_k0_t1.sl.v414 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) T 1 v k.val (trip_k0_t1.sl.r_9 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X6 X7 X13 k) (trip_k0_t1.sl.r_10 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X6 X7 X13 k) := by
  have h8 := (chain 𝒱 c bd i arg2 harg2 arg3 harg3 arg4 harg4 arg5 harg5 arg6 harg6 arg7 harg7 arg8 harg8 arg9 harg9 arg10 harg10 arg11 harg11 arg12 harg12 arg13 harg13 X2 X3 X6 X7 X13 T v v123 v147 v149 v163 v167 k hT hV).2
  have e7 : Scf.trips (k0_t7_loop k).lb (k0_t7_loop k).ub (k0_t7_loop k).st = 0 := trips7 k
  have e9 : Scf.trips (k0_t9_loop k).lb (k0_t9_loop k).ub (k0_t9_loop k).st = 0 := trips9 k
  unfold trip_k0_t1.sl.r_9 trip_k0_t1.sl.r_10
  rw [e7, e9]
  exact h8

theorem sums_d (hT : ∀ (B : LoadRect S2x4096x256) j, View.readAt (Elt Ideal) arg13.view B X13 j = T (B.idx j)) (hV : ∀ (B : LoadRect S4096x256) j, View.readAt (Elt Ideal) arg6.view B X6 j = v (B.idx j)) : ∃ a b, acc (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) T 0 v k.val a b ∧ (trip_k0_t1.sl.r_12 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X6 X7 X13 k) = k0_pay73 v123 (k0_pay1 v147 v149 v163 v167) (trip_k0_t1.sl.v371 (F := Ideal) 𝒱 c bd i arg2 harg2 arg3 harg3 arg4 harg4 arg5 harg5 arg6 harg6 arg7 harg7 arg8 harg8 arg9 harg9 arg10 harg10 arg11 harg11 arg12 harg12 arg13 harg13 v123 v147 v149 v163 v167 X2 X3 X7 X13 k) a b
        (View.readAt (Elt Ideal) arg6.view (Rect.unit (s := S4096x256) (k0_off34 k) S512x256.size (k0_off34_inb k)).toLoadRect X6)
        (View.readAt (Elt Ideal) arg13.view (Rect.unit (s := S2x4096x256) (k0_off14 k) S1x512x256.size (k0_off14_inb k)).toLoadRect X13) := by
  have h8 := (chain 𝒱 c bd i arg2 harg2 arg3 harg3 arg4 harg4 arg5 harg5 arg6 harg6 arg7 harg7 arg8 harg8 arg9 harg9 arg10 harg10 arg11 harg11 arg12 harg12 arg13 harg13 X2 X3 X6 X7 X13 T v v123 v147 v149 v163 v167 k hT hV).1
  have e7 : Scf.trips (k0_t7_loop k).lb (k0_t7_loop k).ub (k0_t7_loop k).st = 0 := trips7 k
  have e9 : Scf.trips (k0_t9_loop k).lb (k0_t9_loop k).ub (k0_t9_loop k).st = 0 := trips9 k
  unfold trip_k0_t1.sl.r_12
  rw [e7, e9]
  exact ⟨_, _, h8, rfl⟩

/-- What one outer trip stores. -/
theorem outer_at (hT : ∀ (B : LoadRect S2x4096x256) j, View.readAt (Elt Ideal) arg13.view B X13 j = T (B.idx j)) (hV : ∀ (B : LoadRect S4096x256) j, View.readAt (Elt Ideal) arg6.view B X6 j = v (B.idx j)) (hr0 : ∀ r d, (trip_k0_t1.sl.r (F := Ideal) arg2 arg7 X2 X7 k) (ix2 r d : S512x128.Idx) = f0 r d * (((Real.log 2)⁻¹ * (Real.sqrt 128)⁻¹ : ℝ) : EReal))
    (hr1 : ∀ r d, (trip_k0_t1.sl.r_1 (F := Ideal) arg3 arg7 X3 X7 k) (ix2 r d : S512x128.Idx) = f1 r d * (((Real.log 2)⁻¹ * (Real.sqrt 128)⁻¹ : ℝ) : EReal))
    (hk0 : Keys T 0 g0 σ) (hk1 : Keys T 1 g1 σ) (hh : Ahead v123 σ) (hP : Seen (k0_pay1 v147 v149 v163 v167)) (r : Fin 512) (d : Fin 256) :
    trip_k0_t1.sl.r_14 (F := Ideal) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X2 X3 X6 X7 X11 X13 k (ix2 r d : S512x256.Idx)
      = nrm256 (fun d => comp (fun n : Fin 4096 => n.val / 64 ≤ (512 * k.val + r.val) / 64)
          (natAt (f0 r) g0 σ (512 * k.val + r.val)) (fun n => v (ix2 n d : S4096x256.Idx))
        - v22 (ix2 0 0 : S1x1.Idx) * comp (fun n : Fin 4096 => n.val / 64 ≤ (512 * k.val + r.val) / 64)
          (natAt (f1 r) g1 σ (512 * k.val + r.val)) (fun n => v (ix2 n d : S4096x256.Idx)))
        (fun d => View.readAt (Elt Ideal) arg11.view (Rect.unit ![0, 0] S1x256.size inb_S1x256_S1x256_0_0).toLoadRect X11 (ix2 0 d : S1x256.Idx)) d := by
  have hk := outer_lt k
  obtain ⟨q0, q1⟩ := query_b 𝒱 c bd i arg2 harg2 arg3 harg3 arg4 harg4 arg5 harg5 arg6 harg6 arg7 harg7 arg8 harg8 arg9 harg9 arg10 harg10 arg11 harg11 arg12 harg12 arg13 harg13 X2 X3 X7 X13 T v123 v147 v149 v163 v167 k f0 f1 g0 g1 σ hT hr0 hr1 hk0 hk1 hh hP
  obtain ⟨a, b, hab, h12⟩ := sums_d 𝒱 c bd i arg2 harg2 arg3 harg3 arg4 harg4 arg5 harg5 arg6 harg6 arg7 harg7 arg8 harg8 arg9 harg9 arg10 harg10 arg11 harg11 arg12 harg12 arg13 harg13 X2 X3 X6 X7 X13 T v v123 v147 v149 v163 v167 k hT hV
  have hcd := sums_c 𝒱 c bd i arg2 harg2 arg3 harg3 arg4 harg4 arg5 harg5 arg6 harg6 arg7 harg7 arg8 harg8 arg9 harg9 arg10 harg10 arg11 harg11 arg12 harg12 arg13 harg13 X2 X3 X6 X7 X13 T v v123 v147 v149 v163 v167 k hT hV
  unfold trip_k0_t1.sl.r_14
  refine (pay74_at _ _ _ _ _ _ _ _ _ _ r d).trans ?_
  refine congrArg (fun t => nrm256 t _ d) (funext fun d => ?_)
  rw [h12]
  refine congrArg₂ (fun a b : EReal => a - v22 (ix2 0 0 : S1x1.Idx) * b) ?_ ?_
  · refine (pay73_at _ _ _ _ _ _ _ r d).trans ?_
    exact row_form v123 (k0_pay1 v147 v149 v163 v167) _ _ T 0 f0 _ g0 σ q0 hk0 hh hP k.val hk (scr_ld arg13 X13 T hT (k0_off14 k) 0 k.val hk (off14_at k) _) v _
      (val_ld arg6 X6 v hV (k0_off34 k) k.val hk (off34_at k) _) a b hab r d rfl
  · exact row_form v123 (k0_pay1 v147 v149 v163 v167) _ _ T 1 f1 _ g1 σ q1 hk1 hh hP k.val hk (scr_ld arg13 X13 T hT (k0_off15 k) 1 k.val hk (off15_at k) _) v _
      (val_ld arg6 X6 v hV (k0_off34 k) k.val hk (off34_at k) _) _ _ hcd r d rfl
end Outer
end Cert.DiffKernelIdeal.Value
end
end
-- ==== Proof.DiffScratch.lean ====
module
public import proofs.«01_k».proof.Proof.DiffRow
public import Idealize.ShloMosaic.Lib.Pipeline.ValueKit
public import Idealize.ShloMosaic.Lib.Pointwise
@[expose] public section
set_option maxRecDepth 16384
noncomputable section
namespace Cert.DiffKernelIdeal.Value
open Idealize.ShloMosaic Idealize.ShloMosaic.TcCoe Idealize.SL.Sem
open Cert.DiffKernelIdeal Cert.DiffKernelIdeal.Gen ChunkAttention

/-- A row of the scratch. -/
def scrRow (g : Fin 4096 → Fin 128 → EReal) (σ : ℝ) (n : Fin 4096) (l : Fin 256) : EReal :=
  if h : l.val < 128 then g n ⟨l.val, h⟩ else six (((Real.log 2)⁻¹ * σ * (n.val : ℝ) : ℝ) : EReal) 0 0 1 1 1 ⟨l.val - 128, by omega⟩

/-- What the scratch holds: the two groups of keys and what each key adds to an exponent. -/
def scr (g0 g1 : Fin 4096 → Fin 128 → EReal) (σ : ℝ) : FVec Ideal S2x4096x256 .bf16 := fun y =>
  scrRow (if (y 0 : Fin 2).val = 0 then g0 else g1) σ (y 1) (y 2)

theorem scr_lo (g0 g1 : Fin 4096 → Fin 128 → EReal) (σ : ℝ) (p : Fin 2) (n : Fin 4096) (d : Fin 128) :
    scr g0 g1 σ (ix3 p n ⟨d.val, by omega⟩ : S2x4096x256.Idx) = (if p.val = 0 then g0 else g1) n d :=
  dif_pos d.isLt

theorem scr_hi (g0 g1 : Fin 4096 → Fin 128 → EReal) (σ : ℝ) (p : Fin 2) (n : Fin 4096) (d : Fin 128) :
    scr g0 g1 σ (ix3 p n ⟨128 + d.val, by omega⟩ : S2x4096x256.Idx) = six (((Real.log 2)⁻¹ * σ * (n.val : ℝ) : ℝ) : EReal) 0 0 1 1 1 d := by
  have h : ¬ 128 + d.val < 128 := by omega
  refine (dif_neg h).trans ?_
  exact congrArg (six _ 0 0 1 1 1) (Fin.ext (by show 128 + d.val - 128 = d.val; omega))

theorem keys0 (g0 g1 : Fin 4096 → Fin 128 → EReal) (σ : ℝ) : Keys (scr g0 g1 σ) 0 g0 σ :=
  ⟨fun n d => scr_lo g0 g1 σ 0 n d, fun n d => scr_hi g0 g1 σ 0 n d⟩
theorem keys1 (g0 g1 : Fin 4096 → Fin 128 → EReal) (σ : ℝ) : Keys (scr g0 g1 σ) 1 g1 σ :=
  ⟨fun n d => scr_lo g0 g1 σ 1 n d, fun n d => scr_hi g0 g1 σ 1 n d⟩

theorem pay77_real (s : FVec Ideal S1x1x1 .f32) (σ : ℝ) (hs : s (ix3 0 0 0 : S1x1x1.Idx) = ((σ : ℝ) : EReal)) (n : Fin 4096) :
    k0_pay77 (F := Ideal) s (ix2 n 0 : S4096x1.Idx) = (((Real.log 2)⁻¹ * σ * (n.val : ℝ) : ℝ) : EReal) := by
  rw [pay77_at, hs, EReal.coe_mul, EReal.coe_mul]

theorem pay79_zero (s : FVec Ideal S1x1x1 .f32) (σ : ℝ) (hs : s (ix3 0 0 0 : S1x1x1.Idx) = ((σ : ℝ) : EReal)) (n : Fin 4096) :
    k0_pay79 (F := Ideal) s (ix2 n 0 : S4096x1.Idx) = (0 : EReal) := by
  rw [pay79_at, pay77_real s σ hs, ← EReal.coe_sub, sub_self, EReal.coe_zero]

theorem pay81_zero (s : FVec Ideal S1x1x1 .f32) (σ : ℝ) (hs : s (ix3 0 0 0 : S1x1x1.Idx) = ((σ : ℝ) : EReal)) (n : Fin 4096) :
    k0_pay81 (F := Ideal) s (ix2 n 0 : S4096x1.Idx) = (0 : EReal) := by
  rw [pay81_at, pay79_zero s σ hs, sub_zero]

/-- What each key adds to an exponent. -/
theorem add_at (s : FVec Ideal S1x1x1 .f32) (σ : ℝ) (hs : s (ix3 0 0 0 : S1x1x1.Idx) = ((σ : ℝ) : EReal)) (n : Fin 4096) (l : Fin 128) :
    k0_pay85 (F := Ideal) (k0_pay80 s) (k0_pay81 s) (iota .tc S4096x128 32 [1] iota_S4096x128_d1_w32) k0_pay82 k0_pay83 (k0_pay84 s) (ix2 n l : S4096x128.Idx)
      = six (((Real.log 2)⁻¹ * σ * (n.val : ℝ) : ℝ) : EReal) 0 0 1 1 1 l := by
  refine (pay85_at (k0_pay80 s) _ _ s n l).trans ?_
  have h80 : k0_pay80 (F := Ideal) s (ix2 n 0 : S4096x1.Idx) = (0 : EReal) := pay79_zero s σ hs n
  rw [pay77_real s σ hs, h80, pay81_zero s σ hs]

/-- What the keys after the query add, in the block of the diagonal. -/
theorem ahead_at (s : FVec Ideal S1x1x1 .f32) (σ : ℝ) (hs : s (ix3 0 0 0 : S1x1x1.Idx) = ((σ : ℝ) : EReal)) :
    Ahead (k0_pay93 (F := Ideal) k0_pay91 (k0_pay92 (k0_pay75 s))) σ := fun r n => by
  refine (pay93_at (k0_pay75 s) r n).trans ?_
  rw [pay75_at, hs, EReal.coe_mul]

theorem pay87_at (x : FVec Ideal S4096x128 .bf16) (n : Fin 4096) (d : Fin 128) :
    k0_pay87 (F := Ideal) x (ix3 0 n d : S1x4096x128.Idx) = x (ix2 n d : S4096x128.Idx) := by
  pointwise [k0_pay87]

theorem pay90_at (x : FVec Ideal S4096x128 .bf16) (n : Fin 4096) (d : Fin 128) :
    k0_pay90 (F := Ideal) x (ix3 0 n d : S1x4096x128.Idx) = x (ix2 n d : S4096x128.Idx) := by
  pointwise [k0_pay90]

theorem ld_keys (a : Memref sig .tc .vmem S4096x128 .bf16) (ha : a.IsWhole) (X : Vec Ideal S4096x128 .bf16) (hb) :
    View.readAt (Elt Ideal) a.view (Rect.unit (s := S4096x128) ![0, 0] S4096x128.size hb).toLoadRect (ha.unread X) = X :=
  funext fun j => (Memref.IsWhole.readAt_unread (Val := Elt Ideal) ha X (Rect.unit (s := S4096x128) ![0, 0] S4096x128.size hb).toLoadRect j).trans
    (congrArg X (funext fun a => Fin.ext (by
      match a with
      | ⟨0, _⟩ => show 0 + 1 * (j 0).val = (j 0).val; omega
      | ⟨1, _⟩ => show 0 + 1 * (j 1).val = (j 1).val; omega)))

theorem ld_gain (a : Memref sig .tc .vmem S1x128 .f32) (ha : a.IsWhole) (X : Vec Ideal S1x128 .f32) (hb) :
    View.readAt (Elt Ideal) a.view (Rect.unit (s := S1x128) ![0, 0] S1x128.size hb).toLoadRect (ha.unread X) = X :=
  funext fun j => (Memref.IsWhole.readAt_unread (Val := Elt Ideal) ha X (Rect.unit (s := S1x128) ![0, 0] S1x128.size hb).toLoadRect j).trans
    (congrArg X (funext fun a => Fin.ext (by
      match a with
      | ⟨0, _⟩ => show 0 + 1 * (j 0).val = (j 0).val; omega
      | ⟨1, _⟩ => show 0 + 1 * (j 1).val = (j 1).val; omega)))

theorem ld_outgain (a : Memref sig .tc .vmem S1x256 .f32) (ha : a.IsWhole) (X : Vec Ideal S1x256 .f32) (hb) :
    View.readAt (Elt Ideal) a.view (Rect.unit (s := S1x256) ![0, 0] S1x256.size hb).toLoadRect (ha.unread X) = X :=
  funext fun j => (Memref.IsWhole.readAt_unread (Val := Elt Ideal) ha X (Rect.unit (s := S1x256) ![0, 0] S1x256.size hb).toLoadRect j).trans
    (congrArg X (funext fun a => Fin.ext (by
      match a with
      | ⟨0, _⟩ => show 0 + 1 * (j 0).val = (j 0).val; omega
      | ⟨1, _⟩ => show 0 + 1 * (j 1).val = (j 1).val; omega)))

theorem ld_slope (a : Memref sig .tc .vmem S1x1x128 .f32) (ha : a.IsWhole) (X : Vec Ideal S1x1x128 .f32) (hb) :
    View.readAt (Elt Ideal) a.view (Rect.unit (s := S1x1x128) ![0, 0, 0] S1x1x1.size hb).toLoadRect (ha.unread X) (ix3 0 0 0 : S1x1x1.Idx)
      = X (ix3 0 0 0 : S1x1x128.Idx) :=
  (Memref.IsWhole.readAt_unread (Val := Elt Ideal) ha X (Rect.unit (s := S1x1x128) ![0, 0, 0] S1x1x1.size hb).toLoadRect _).trans
    (congrArg X (funext fun a => Fin.ext (by
      match a with
      | ⟨0, _⟩ => rfl
      | ⟨1, _⟩ => rfl
      | ⟨2, _⟩ => rfl)))

theorem ld_lam (a : Memref sig .tc .vmem S4x128 .f32) (ha : a.IsWhole) (X : Vec Ideal S4x128 .f32) (p : Fin 4) (off : Fin 2 → ℕ) (ho : off = ![p.val, 0]) (hb) (e : Fin 128) :
    View.readAt (Elt Ideal) a.view (Rect.unit (s := S4x128) off S1x128.size hb).toLoadRect (ha.unread X) (ix2 0 e : S1x128.Idx)
      = X (ix2 p e : S4x128.Idx) := by
  subst ho
  refine (Memref.IsWhole.readAt_unread (Val := Elt Ideal) ha X (Rect.unit (s := S4x128) ![p.val, 0] S1x128.size hb).toLoadRect _).trans
    (congrArg X (funext fun a => Fin.ext ?_))
  match a with
  | ⟨0, _⟩ => show p.val + 1 * 0 = p.val; omega
  | ⟨1, _⟩ => show 0 + 1 * e.val = e.val; omega

theorem ld_rows (a : Memref sig .tc .vmem S4096x128 .bf16) (ha : a.IsWhole) (X : Vec Ideal S4096x128 .bf16) (J : ℕ) (hJ : J < 8) (off : Fin 2 → ℕ) (ho : off = ![512 * J, 0]) (hb) (r : Fin 512) (d : Fin 128) :
    View.readAt (Elt Ideal) a.view (Rect.unit (s := S4096x128) off S512x128.size hb).toLoadRect (ha.unread X) (ix2 r d : S512x128.Idx)
      = X (ix2 ⟨512 * J + r.val, by omega⟩ d : S4096x128.Idx) := by
  subst ho
  refine (Memref.IsWhole.readAt_unread (Val := Elt Ideal) ha X (Rect.unit (s := S4096x128) ![512 * J, 0] S512x128.size hb).toLoadRect _).trans
    (congrArg X (funext fun a => Fin.ext ?_))
  match a with
  | ⟨0, _⟩ => show 512 * J + 1 * r.val = 512 * J + r.val; omega
  | ⟨1, _⟩ => show 0 + 1 * d.val = d.val; omega

/-- How much of the second weights is taken away. -/
def lamK (X : FVec Ideal S4x128 .f32) : EReal :=
  Ideal.exp (∑ e : Fin 128, X (ix2 0 e : S4x128.Idx) * X (ix2 1 e : S4x128.Idx)) - Ideal.exp (∑ e : Fin 128, X (ix2 2 e : S4x128.Idx) * X (ix2 3 e : S4x128.Idx)) + Ideal.ofBits .f32 0x3EB60549#32

theorem pay76_at (a b c d : FVec Ideal S1x128 .f32) : k0_pay76 (F := Ideal) a b c d (ix2 0 0 : S1x1.Idx)
    = (Ideal.exp (∑ e : Fin 128, a (ix2 0 e : S1x128.Idx) * b (ix2 0 e : S1x128.Idx)) - Ideal.exp (∑ e : Fin 128, c (ix2 0 e : S1x128.Idx) * d (ix2 0 e : S1x128.Idx)) + Ideal.ofBits .f32 0x3EB60549#32 : EReal) := by
  pointwise [k0_pay76]
  first | done | rfl

theorem lam_at (c : Dev nD) (arg9 : Memref sig .tc .vmem S4x128 .f32) (harg9 : arg9.IsWhole) (x7 : FVec Ideal S4x128 .f32) :
    kernelRun0_A.sl.r_1 (F := Ideal) c arg9 harg9 x7 (ix2 0 0 : S1x1.Idx) = lamK x7 := by
  unfold kernelRun0_A.sl.r_1
  refine (pay76_at _ _ _ _).trans ?_
  refine congrArg₂ (fun a b : EReal => Ideal.exp a - Ideal.exp b + Ideal.ofBits .f32 0x3EB60549#32) ?_ ?_
  · exact Finset.sum_congr rfl fun e _ => congrArg₂ (fun a b : EReal => a * b) (ld_lam arg9 harg9 x7 0 _ rfl _ e) (ld_lam arg9 harg9 x7 1 _ rfl _ e)
  · exact Finset.sum_congr rfl fun e _ => congrArg₂ (fun a b : EReal => a * b) (ld_lam arg9 harg9 x7 2 _ rfl _ e) (ld_lam arg9 harg9 x7 3 _ rfl _ e)

theorem seen_at : Seen (k0_pay1 kernelRun0_A.sl.v147 (divsi kernelRun0_A.sl.v113 kernelRun0_A.sl.v124) kernelRun0_A.sl.v163 kernelRun0_A.sl.v167) := fun r n =>
  allowed_at r n

theorem v123_ahead (c : Dev nD) (arg10 : Memref sig .tc .vmem S1x1x128 .f32) (harg10 : arg10.IsWhole) (x8 : FVec Ideal S1x1x128 .f32) (σ : ℝ)
    (hσ : x8 (ix3 0 0 0 : S1x1x128.Idx) = ((σ : ℝ) : EReal)) : Ahead (kernelRun0_A.sl.v123 (F := Ideal) c arg10 harg10 x8) σ :=
  ahead_at _ σ ((ld_slope arg10 harg10 x8 inb_S1x1x128_S1x1x1_0_0_0).trans hσ)

theorem v89_at (c : Dev nD) (arg10 : Memref sig .tc .vmem S1x1x128 .f32) (harg10 : arg10.IsWhole) (x8 : FVec Ideal S1x1x128 .f32) (σ : ℝ)
    (hσ : x8 (ix3 0 0 0 : S1x1x128.Idx) = ((σ : ℝ) : EReal)) (n : Fin 4096) (l : Fin 128) :
    kernelRun0_A.sl.v89 (F := Ideal) c arg10 harg10 x8 (ix3 0 n l : S1x4096x128.Idx) = six (((Real.log 2)⁻¹ * σ * (n.val : ℝ) : ℝ) : EReal) 0 0 1 1 1 l :=
  (pay90_at _ n l).trans (add_at _ σ ((ld_slope arg10 harg10 x8 inb_S1x1x128_S1x1x1_0_0_0).trans hσ) n l)

theorem v86_at (c : Dev nD) (arg4 : Memref sig .tc .vmem S4096x128 .bf16) (harg4 : arg4.IsWhole) (arg8 : Memref sig .tc .vmem S1x128 .f32) (harg8 : arg8.IsWhole)
    (x2 : FVec Ideal S4096x128 .bf16) (x6 : FVec Ideal S1x128 .f32) (n : Fin 4096) (d : Fin 128) :
    kernelRun0_A.sl.v86 (F := Ideal) c arg4 harg4 arg8 harg8 x2 x6 (ix3 0 n d : S1x4096x128.Idx)
      = nrm (fun e => x2 (ix2 n e : S4096x128.Idx)) (fun e => x6 (ix2 0 e : S1x128.Idx)) d := by
  refine Eq.trans (b := k0_pay86 (F := Ideal) (View.readAt (Elt Ideal) arg4.view (Rect.unit (s := S4096x128) ![0, 0] S4096x128.size inb_S4096x128_S4096x128_0_0).toLoadRect (harg4.unread x2))
    (View.readAt (Elt Ideal) arg8.view (Rect.unit (s := S1x128) ![0, 0] S1x128.size inb_S1x128_S1x128_0_0).toLoadRect (harg8.unread x6)) (ix2 n d : S4096x128.Idx)) (pay87_at _ n d) ?_
  rw [ld_keys, ld_gain]
  exact pay86_at x2 x6 n d

theorem v109_at (c : Dev nD) (arg5 : Memref sig .tc .vmem S4096x128 .bf16) (harg5 : arg5.IsWhole) (arg8 : Memref sig .tc .vmem S1x128 .f32) (harg8 : arg8.IsWhole)
    (x3 : FVec Ideal S4096x128 .bf16) (x6 : FVec Ideal S1x128 .f32) (n : Fin 4096) (d : Fin 128) :
    kernelRun0_A.sl.v109 (F := Ideal) c arg5 harg5 arg8 harg8 x3 x6 (ix3 0 n d : S1x4096x128.Idx)
      = nrm (fun e => x3 (ix2 n e : S4096x128.Idx)) (fun e => x6 (ix2 0 e : S1x128.Idx)) d := by
  refine Eq.trans (b := k0_pay86 (F := Ideal) (View.readAt (Elt Ideal) arg5.view (Rect.unit (s := S4096x128) ![0, 0] S4096x128.size inb_S4096x128_S4096x128_0_0).toLoadRect (harg5.unread x3))
    (View.readAt (Elt Ideal) arg8.view (Rect.unit (s := S1x128) ![0, 0] S1x128.size inb_S1x128_S1x128_0_0).toLoadRect (harg8.unread x6)) (ix2 n d : S4096x128.Idx)) (pay87_at _ n d) ?_
  rw [ld_keys, ld_gain]
  exact pay86_at x3 x6 n d

/-- A piece of the scratch. -/
theorem piece_emb (p : Fin 2) (o : ℕ) (ho : o + 128 ≤ 256) (off : Fin 3 → ℕ) (hf : off = ![p.val, 0, o]) (h) (n : Fin 4096) (l : Fin 128) :
    (Rect.unit (s := S2x4096x256) off S1x4096x128.size h).emb (ix3 0 n l : S1x4096x128.Idx) = (ix3 p n ⟨o + l.val, by omega⟩ : S2x4096x256.Idx) := by
  subst hf
  funext a
  refine Fin.ext ?_
  match a with
  | ⟨0, _⟩ => show p.val + 1 * 0 = p.val; omega
  | ⟨1, _⟩ => show 0 + 1 * n.val = n.val; omega
  | ⟨2, _⟩ => show o + 1 * l.val = o + l.val; omega

/-- What the scratch holds after the keys are written. -/
theorem scratch_at (c : Dev nD) (arg4 : Memref sig .tc .vmem S4096x128 .bf16) (harg4 : arg4.IsWhole) (arg5 : Memref sig .tc .vmem S4096x128 .bf16) (harg5 : arg5.IsWhole) (arg8 : Memref sig .tc .vmem S1x128 .f32) (harg8 : arg8.IsWhole)
    (arg10 : Memref sig .tc .vmem S1x1x128 .f32) (harg10 : arg10.IsWhole) (x2 x3 : FVec Ideal S4096x128 .bf16) (x6 : FVec Ideal S1x128 .f32) (x8 : FVec Ideal S1x1x128 .f32)
    (g0 g1 : Fin 4096 → Fin 128 → EReal) (σ : ℝ)
    (h0 : ∀ n d, nrm (fun e => x2 (ix2 n e : S4096x128.Idx)) (fun e => x6 (ix2 0 e : S1x128.Idx)) d = g0 n d)
    (h1 : ∀ n d, nrm (fun e => x3 (ix2 n e : S4096x128.Idx)) (fun e => x6 (ix2 0 e : S1x128.Idx)) d = g1 n d)
    (hσ : x8 (ix3 0 0 0 : S1x1x128.Idx) = ((σ : ℝ) : EReal)) (y : S2x4096x256.Idx) :
    View.canon (Val := Elt Ideal) (e := .bf16) (kernelRun0_A.sl.HS0_4 (F := Ideal) c arg4 harg4 arg5 harg5 arg8 harg8 arg10 harg10 x2 x3 x6 x8) y = scr g0 g1 σ y := by
  refine View.canon_apply_of_pieces (Val := Elt Ideal) (e := .bf16) (scr g0 g1 σ) _ ?_ y ?_
  · unfold kernelRun0_A.sl.HS0_4
    intro p hp x
    rcases List.mem_cons.1 hp with rfl | hp
    · obtain ⟨n, l, rfl⟩ : ∃ (n : Fin 4096) (l : Fin 128), x = (ix3 0 n l : S1x4096x128.Idx) := ⟨x 1, x 2, (eq_ix3 x).trans (congrArg (fun a => (ix3 a (x 1) (x 2) : S1x4096x128.Idx)) (Subsingleton.elim _ _))⟩
      refine Eq.trans ?_ (congrArg (scr g0 g1 σ) (piece_emb 1 128 (by omega) ![1, 0, 128] rfl inb_S2x4096x256_S1x4096x128_1_0_128 n l)).symm
      exact (v89_at c arg10 harg10 x8 σ hσ n l).trans (scr_hi g0 g1 σ 1 n l).symm
    rcases List.mem_cons.1 hp with rfl | hp
    · obtain ⟨n, l, rfl⟩ : ∃ (n : Fin 4096) (l : Fin 128), x = (ix3 0 n l : S1x4096x128.Idx) := ⟨x 1, x 2, (eq_ix3 x).trans (congrArg (fun a => (ix3 a (x 1) (x 2) : S1x4096x128.Idx)) (Subsingleton.elim _ _))⟩
      refine Eq.trans ?_ (congrArg (scr g0 g1 σ) (piece_emb 1 0 (by omega) ![1, 0, 0] rfl inb_S2x4096x256_S1x4096x128_1_0_0 n l)).symm
      refine ((v109_at c arg5 harg5 arg8 harg8 x3 x6 n l).trans (h1 n l)).trans ((scr_lo g0 g1 σ 1 n l).symm.trans ?_)
      exact congrArg (fun z => scr g0 g1 σ (ix3 1 n z : S2x4096x256.Idx)) (Fin.ext (Nat.zero_add _).symm)
    rcases List.mem_cons.1 hp with rfl | hp
    · obtain ⟨n, l, rfl⟩ : ∃ (n : Fin 4096) (l : Fin 128), x = (ix3 0 n l : S1x4096x128.Idx) := ⟨x 1, x 2, (eq_ix3 x).trans (congrArg (fun a => (ix3 a (x 1) (x 2) : S1x4096x128.Idx)) (Subsingleton.elim _ _))⟩
      refine Eq.trans ?_ (congrArg (scr g0 g1 σ) (piece_emb 0 128 (by omega) ![0, 0, 128] rfl inb_S2x4096x256_S1x4096x128_0_0_128 n l)).symm
      exact (v89_at c arg10 harg10 x8 σ hσ n l).trans (scr_hi g0 g1 σ 0 n l).symm
    · rw [List.mem_singleton] at hp
      subst hp
      obtain ⟨n, l, rfl⟩ : ∃ (n : Fin 4096) (l : Fin 128), x = (ix3 0 n l : S1x4096x128.Idx) := ⟨x 1, x 2, (eq_ix3 x).trans (congrArg (fun a => (ix3 a (x 1) (x 2) : S1x4096x128.Idx)) (Subsingleton.elim _ _))⟩
      refine Eq.trans ?_ (congrArg (scr g0 g1 σ) (piece_emb 0 0 (by omega) ![0, 0, 0] rfl inb_S2x4096x256_S1x4096x128_0_0_0 n l)).symm
      refine ((v86_at c arg4 harg4 arg8 harg8 x2 x6 n l).trans (h0 n l)).trans ((scr_lo g0 g1 σ 0 n l).symm.trans ?_)
      exact congrArg (fun z => scr g0 g1 σ (ix3 0 n z : S2x4096x256.Idx)) (Fin.ext (Nat.zero_add _).symm)
  · unfold kernelRun0_A.sl.HS0_4
    obtain ⟨p, n, l, rfl⟩ : ∃ (p : Fin 2) (n : Fin 4096) (l : Fin 256), y = (ix3 p n l : S2x4096x256.Idx) := ⟨y 0, y 1, y 2, eq_ix3 y⟩
    have hp : p = 0 ∨ p = 1 := by omega
    by_cases hl : l.val < 128
    · rcases hp with rfl | rfl
      · refine ⟨_, List.mem_cons_of_mem _ (List.mem_cons_of_mem _ (List.mem_cons_of_mem _ List.mem_cons_self)), ?_⟩
        have e := piece_emb 0 0 (by omega) ![0, 0, 0] rfl inb_S2x4096x256_S1x4096x128_0_0_0 n ⟨l.val, hl⟩
        have e' : (ix3 0 n ⟨0 + l.val, by omega⟩ : S2x4096x256.Idx) = ix3 0 n l := congrArg (fun z => (ix3 0 n z : S2x4096x256.Idx)) (Fin.ext (Nat.zero_add _))
        rw [← e.trans e']; exact LoadRect.idx_mem _ _
      · refine ⟨_, List.mem_cons_of_mem _ List.mem_cons_self, ?_⟩
        have e := piece_emb 1 0 (by omega) ![1, 0, 0] rfl inb_S2x4096x256_S1x4096x128_1_0_0 n ⟨l.val, hl⟩
        have e' : (ix3 1 n ⟨0 + l.val, by omega⟩ : S2x4096x256.Idx) = ix3 1 n l := congrArg (fun z => (ix3 1 n z : S2x4096x256.Idx)) (Fin.ext (Nat.zero_add _))
        rw [← e.trans e']; exact LoadRect.idx_mem _ _
    · rcases hp with rfl | rfl
      · refine ⟨_, List.mem_cons_of_mem _ (List.mem_cons_of_mem _ List.mem_cons_self), ?_⟩
        have e := piece_emb 0 128 (by omega) ![0, 0, 128] rfl inb_S2x4096x256_S1x4096x128_0_0_128 n ⟨l.val - 128, by omega⟩
        have e' : (ix3 0 n ⟨128 + (l.val - 128), by omega⟩ : S2x4096x256.Idx) = ix3 0 n l := congrArg (fun z => (ix3 0 n z : S2x4096x256.Idx)) (Fin.ext (by show 128 + (l.val - 128) = l.val; omega))
        rw [← e.trans e']; exact LoadRect.idx_mem _ _
      · refine ⟨_, List.mem_cons_self, ?_⟩
        have e := piece_emb 1 128 (by omega) ![1, 0, 128] rfl inb_S2x4096x256_S1x4096x128_1_0_128 n ⟨l.val - 128, by omega⟩
        have e' : (ix3 1 n ⟨128 + (l.val - 128), by omega⟩ : S2x4096x256.Idx) = ix3 1 n l := congrArg (fun z => (ix3 1 n z : S2x4096x256.Idx)) (Fin.ext (by show 128 + (l.val - 128) = l.val; omega))
        rw [← e.trans e']; exact LoadRect.idx_mem _ _

end Cert.DiffKernelIdeal.Value
end
end
-- ==== Proof.DiffBlock.lean ====
module
public import proofs.«01_k».proof.Proof.DiffOuter
public import proofs.«01_k».proof.Proof.DiffScratch
@[expose] public section
set_option maxRecDepth 16384
set_option maxHeartbeats 1600000
noncomputable section
namespace Cert.DiffKernelIdeal.Value
open Idealize.ShloMosaic Idealize.ShloMosaic.TcCoe Idealize.SL.Sem
open Cert.DiffKernelIdeal Cert.DiffKernelIdeal.Gen ChunkAttention

/-- What the body leaves in its output block: each row's differential attention. -/
def blockOut (f0 f1 g0 g1 : Fin 4096 → Fin 128 → EReal) (σ : ℝ) (x4 : FVec Ideal S4096x256 .bf16) (x7 : FVec Ideal S4x128 .f32) (x9 : FVec Ideal S1x256 .f32)
    (y : S4096x256.Idx) : EReal :=
  nrm256 (fun d => comp (fun n : Fin 4096 => n.val / 64 ≤ (y 0 : Fin 4096).val / 64) (natAt (f0 (y 0)) g0 σ (y 0 : Fin 4096).val) (fun n => x4 (ix2 n d : S4096x256.Idx))
    - lamK x7 * comp (fun n : Fin 4096 => n.val / 64 ≤ (y 0 : Fin 4096).val / 64) (natAt (f1 (y 0)) g1 σ (y 0 : Fin 4096).val) (fun n => x4 (ix2 n d : S4096x256.Idx)))
    (fun d => x9 (ix2 0 d : S1x256.Idx)) (y 1)

theorem out_emb (k : Fin k0_t1_loop.trips) (h) (r : Fin 512) (d : Fin 256) :
    (Rect.unit (s := S4096x256) (k0_off34 k) S512x256.size h).emb (ix2 r d : S512x256.Idx)
      = (ix2 ⟨512 * k.val + r.val, by have := outer_lt k; omega⟩ d : S4096x256.Idx) :=
  val_idx (k0_off34 k) k.val (outer_lt k) (off34_at k) h r d

theorem pay19_at (q : FVec Ideal S512x128 .bf16) (g : FVec Ideal S1x128 .f32) (r : Fin 512) (d : Fin 128) :
    k0_pay19 (F := Ideal) q g (ix2 r d : S512x128.Idx) = (nrm (fun e => q (ix2 r e : S512x128.Idx)) (fun e => g (ix2 0 e : S1x128.Idx)) d
      * (((Real.log 2)⁻¹ * (Real.sqrt 128)⁻¹ : ℝ) : EReal) : EReal) := pay18_at q g r d

section Trips
variable (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x256 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S4x128 .f32) (harg9 : arg9.IsWhole) (arg10 : Memref sig .tc .vmem S1x1x128 .f32) (harg10 : arg10.IsWhole) (arg11 : Memref sig .tc .vmem S1x256 .f32) (harg11 : arg11.IsWhole) (arg12 : Memref sig .tc .vmem S4096x256 .bf16) (harg12 : arg12.IsWhole) (arg13 : Memref sig .tc .vmem S2x4096x256 .bf16) (harg13 : arg13.IsWhole)

/-- If each trip's pieces agree with one function of the block, so do the pieces of any number of trips. -/
theorem pieces_of_trips (X2 : BufTy.Contents (Elt Ideal) arg2.view.ty) (X3 : BufTy.Contents (Elt Ideal) arg3.view.ty) (X6 : BufTy.Contents (Elt Ideal) arg6.view.ty) (X7 : BufTy.Contents (Elt Ideal) arg7.view.ty) (X11 : BufTy.Contents (Elt Ideal) arg11.view.ty) (X13 : BufTy.Contents (Elt Ideal) arg13.view.ty) (v22 : FVec Ideal S1x1 .f32) (v123 : FVec Ideal S512x512 .f32) (v147 v149 : IVec S512x512 32) (v163 v167 : IVec S512x512 1) (G : S4096x256.Idx → Elt Ideal .bf16)
    (h : ∀ k, ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X2 X3 X6 X7 X11 X13 k, ∀ x, p.2 x = G (p.1.emb x)) :
    ∀ n ≤ k0_t1_loop.trips, ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 v22 v123 v147 v149 v163 v167 X2 X3 X6 X7 X11 X13 n, ∀ x, p.2 x = G (p.1.emb x)
  | 0, _, p, hp => by rw [pb_k0_t1.eq_1] at hp; exact absurd hp List.not_mem_nil
  | n + 1, hn, p, hp => by
    rw [show n + 1 = (⟨n, hn⟩ : Fin k0_t1_loop.trips).val + 1 from rfl, pb_k0_t1_succ] at hp
    rcases List.mem_append.1 hp with hp | hp
    · exact h _ p hp
    · exact pieces_of_trips X2 X3 X6 X7 X11 X13 v22 v123 v147 v149 v163 v167 G h n (by omega) p hp

/-- Each trip's piece is its rows of `blockOut`. -/
theorem trip_pieces (x0 x1 x2 x3 : FVec Ideal S4096x128 .bf16) (x4 : FVec Ideal S4096x256 .bf16) (x5 x6 : FVec Ideal S1x128 .f32) (x7 : FVec Ideal S4x128 .f32) (x8 : FVec Ideal S1x1x128 .f32) (x9 : FVec Ideal S1x256 .f32)
    (f0 f1 g0 g1 : Fin 4096 → Fin 128 → EReal) (σ : ℝ)
    (h0 : ∀ n d, nrm (fun e => x0 (ix2 n e : S4096x128.Idx)) (fun e => x5 (ix2 0 e : S1x128.Idx)) d = f0 n d)
    (h1 : ∀ n d, nrm (fun e => x1 (ix2 n e : S4096x128.Idx)) (fun e => x5 (ix2 0 e : S1x128.Idx)) d = f1 n d)
    (h2 : ∀ n d, nrm (fun e => x2 (ix2 n e : S4096x128.Idx)) (fun e => x6 (ix2 0 e : S1x128.Idx)) d = g0 n d)
    (h3 : ∀ n d, nrm (fun e => x3 (ix2 n e : S4096x128.Idx)) (fun e => x6 (ix2 0 e : S1x128.Idx)) d = g1 n d)
    (hσ : x8 (ix3 0 0 0 : S1x1x128.Idx) = ((σ : ℝ) : EReal))
    (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 (kernelRun0_A.sl.r_1 (F := Ideal) c arg9 harg9 x7) (kernelRun0_A.sl.v123 (F := Ideal) c arg10 harg10 x8) kernelRun0_A.sl.v147 (divsi kernelRun0_A.sl.v113 kernelRun0_A.sl.v124) kernelRun0_A.sl.v163 kernelRun0_A.sl.v167 (harg2.unread x0) (harg3.unread x1) (harg6.unread x4) (harg7.unread x5) (harg11.unread x9) (arg13.view.writes (Elt Ideal) arg13.view.junk (kernelRun0_A.sl.HS0_4 (F := Ideal) c arg4 harg4 arg5 harg5 arg8 harg8 arg10 harg10 x2 x3 x6 x8)) k,
      ∀ x, p.2 x = blockOut f0 f1 g0 g1 σ x4 x7 x9 (p.1.emb x) := by
  unfold tripL_k0_t1 trip_k0_t1
  dsimp only
  intro p hp
  rw [List.mem_singleton] at hp
  subst hp
  intro x
  have hk := outer_lt k
  obtain ⟨r, d, rfl⟩ : ∃ (r : Fin 512) (d : Fin 256), x = (ix2 r d : S512x256.Idx) := ⟨x 0, x 1, eq_ix2 x⟩
  refine Eq.trans ?_ (congrArg (blockOut f0 f1 g0 g1 σ x4 x7 x9) (out_emb k (k0_off34_inb k) r d)).symm
  refine (outer_at 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg6.unread x4) (harg7.unread x5) (harg11.unread x9) (arg13.view.writes (Elt Ideal) arg13.view.junk (kernelRun0_A.sl.HS0_4 (F := Ideal) c arg4 harg4 arg5 harg5 arg8 harg8 arg10 harg10 x2 x3 x6 x8)) (scr g0 g1 σ) x4 (kernelRun0_A.sl.r_1 (F := Ideal) c arg9 harg9 x7) (kernelRun0_A.sl.v123 (F := Ideal) c arg10 harg10 x8) kernelRun0_A.sl.v147 (divsi kernelRun0_A.sl.v113 kernelRun0_A.sl.v124) kernelRun0_A.sl.v163 kernelRun0_A.sl.v167 k (fun r => f0 ⟨512 * k.val + r.val, by omega⟩) (fun r => f1 ⟨512 * k.val + r.val, by omega⟩) g0 g1 σ
    (fun B j => ?_) (fun B j => Memref.IsWhole.readAt_unread (Val := Elt Ideal) harg6 x4 B j) (fun r d => ?_) (fun r d => ?_) (keys0 g0 g1 σ) (keys1 g0 g1 σ) (v123_ahead c arg10 harg10 x8 σ hσ) seen_at r d).trans ?_
  · rw [View.readAt_writes_junk_eq_canon]
    exact scratch_at c arg4 harg4 arg5 harg5 arg8 harg8 arg10 harg10 x2 x3 x6 x8 g0 g1 σ h2 h3 hσ (B.idx j)
  · unfold trip_k0_t1.sl.r
    refine (pay18_at _ _ r d).trans ?_
    rw [← h0]
    refine congrArg (fun z : EReal => z * _) ?_
    refine congrArg₂ (fun f g => nrm f g d) (funext fun e => ?_) (funext fun e => ?_)
    · exact ld_rows arg2 harg2 x0 k.val hk _ (off1_at k) _ r e
    · exact congrFun (ld_gain arg7 harg7 x5 _) _
  · unfold trip_k0_t1.sl.r_1
    refine (pay19_at _ _ r d).trans ?_
    rw [← h1]
    refine congrArg (fun z : EReal => z * _) ?_
    refine congrArg₂ (fun f g => nrm f g d) (funext fun e => ?_) (funext fun e => ?_)
    · exact ld_rows arg3 harg3 x1 k.val hk _ (off1_at k) _ r e
    · exact congrFun (ld_gain arg7 harg7 x5 _) _
  · rw [lam_at, ld_outgain]
    rfl
end Trips

variable (m : (ℓ : Loc nD τ sig) → Buf (Elt Ideal) ℓ)

/-- What the body leaves at a grid point is `blockOut` of the point's blocks. -/
theorem outsAt_eq (c : Dev nD) (t : Fin cfg0.N) (f0 f1 g0 g1 : Fin 4096 → Fin 128 → EReal) (σ : ℝ)
    (h0 : ∀ n d, nrm (fun e => (iblk m c 0 t : FVec Ideal S4096x128 .bf16) (ix2 n e : S4096x128.Idx)) (fun e => (iblk m c 5 t : FVec Ideal S1x128 .f32) (ix2 0 e : S1x128.Idx)) d = f0 n d)
    (h1 : ∀ n d, nrm (fun e => (iblk m c 1 t : FVec Ideal S4096x128 .bf16) (ix2 n e : S4096x128.Idx)) (fun e => (iblk m c 5 t : FVec Ideal S1x128 .f32) (ix2 0 e : S1x128.Idx)) d = f1 n d)
    (h2 : ∀ n d, nrm (fun e => (iblk m c 2 t : FVec Ideal S4096x128 .bf16) (ix2 n e : S4096x128.Idx)) (fun e => (iblk m c 6 t : FVec Ideal S1x128 .f32) (ix2 0 e : S1x128.Idx)) d = g0 n d)
    (h3 : ∀ n d, nrm (fun e => (iblk m c 3 t : FVec Ideal S4096x128 .bf16) (ix2 n e : S4096x128.Idx)) (fun e => (iblk m c 6 t : FVec Ideal S1x128 .f32) (ix2 0 e : S1x128.Idx)) d = g1 n d)
    (hσ : (iblk m c 8 t : FVec Ideal S1x1x128 .f32) (ix3 0 0 0 : S1x1x128.Idx) = ((σ : ℝ) : EReal)) :
    outsAt0 m c t = blockOut f0 f1 g0 g1 σ (iblk m c 4 t) (iblk m c 7 t) (iblk m c 9 t) := by
  funext y
  unfold outsAt0 out0_A_10
  refine View.read_writes_apply_of_pieces (Val := Elt Ideal) _ _ (blockOut f0 f1 g0 g1 σ (iblk m c 4 t) (iblk m c 7 t) (iblk m c 9 t)) _ ?_ y (cover0_A_10 c _ _ _ _ _ _ _ _ _ _ _ _ _ _ _ _ _ _ _ _ _ _ _ _ _ _ _ _ _ _ _ _ _ _ _ y)
  unfold kernelRun0_A
  dsimp only
  exact pieces_of_trips _ _ _ _ _ _ _ _ _ _ _ _ _ _ _ _ _ _ _ _ _ _ _ _ _ _ _ _ _ _ _ _ _ _ _ _ _ _ _ _ _ (fun k => trip_pieces _ _ _ _ _ _ _ _ _ _ _ _ _ _ _ _ _ _ _ _ _ _ _ _ _ _ _ _ _ _ _ _ _ _ _ _ _ _ f0 f1 g0 g1 σ h0 h1 h2 h3 hσ k) _ (le_of_eq rfl)

end Cert.DiffKernelIdeal.Value
end
end
-- ==== Proof.DiffRef.lean ====
module
public import proofs.«01_k».proof.Proof.Gen.DiffReferenceIdeal.Run
public import proofs.«01_k».proof.Proof.Norm
public import Idealize.ShloMosaic.Lib.Pointwise
@[expose] public section
set_option maxRecDepth 16384
noncomputable section
namespace Cert.DiffReferenceIdeal.Value
open Idealize.ShloMosaic Idealize.ShloMosaic.TcCoe Idealize.SL.Sem
open Cert.DiffReferenceIdeal Cert.DiffReferenceIdeal.Gen ChunkAttention

/-- How fast a head's scores fall with the distance. -/
def slope (h : ℕ) : EReal :=
  Ideal.pow (Ideal.ofBits .f32 0x40000000#32) (Ideal.div (Ideal.ofBits .f32 0xC1000000#32 * (1 + FloatOps.sitofp (F := Ideal) .f32 (BitVec.ofNat 32 h)))
    (Ideal.ofBits .f32 0x40C00000#32))

theorem slope_real (h : ℕ) : ∃ σ : ℝ, slope h = (σ : EReal) := by
  have h2 : Ideal.ofBits .f32 0x40000000#32 = ((2 : ℝ) : EReal) := by simp [Ideal.ofBits, Ideal.ieee, -EReal.coe_mul]; norm_num
  have h6 : Ideal.ofBits .f32 0x40C00000#32 = ((6 : ℝ) : EReal) := by simp [Ideal.ofBits, Ideal.ieee, -EReal.coe_mul]; norm_num
  have h8 : ∃ e : ℝ, Ideal.ofBits .f32 0xC1000000#32 = (e : EReal) := ⟨_, by simp [Ideal.ofBits, Ideal.ieee, -EReal.coe_mul]; rfl⟩
  obtain ⟨e, he⟩ := h8
  unfold slope
  rw [h2, h6, he, Ideal.div_coe (by norm_num)]
  have hs : FloatOps.sitofp (F := Ideal) .f32 (BitVec.ofNat 32 h) = (((BitVec.ofNat 32 h).toInt : ℝ) : EReal) := rfl
  rw [hs, ← EReal.coe_one, ← EReal.coe_add, ← EReal.coe_mul, ← EReal.coe_mul]
  exact ⟨_, rfl⟩

variable (V : Valuation τ sig (Elt Ideal))

/-- The scores, the exponentials, the weights and the mix of the values. -/
def scores : FVec Ideal S2x6x2x4096x4096 .f32 := res_main_v77 V
def exps : FVec Ideal S2x6x2x4096x4096 .f32 := res_main_v84 V
def weights : FVec Ideal S2x6x2x4096x4096 .f32 := res_main_v88 V
def mixed : FVec Ideal S2x4096x6x256 .f32 := res_main_v97 V

/-- How much of the second weights is taken away. -/
def lam (a b c d : Fin 128 → EReal) : EReal :=
  Ideal.exp (∑ x, a x * b x) - Ideal.exp (∑ x, c x * d x) + Ideal.ofBits .f32 0x3EB60549#32

theorem v1_at (b : Fin 2) (n : Fin 4096) (e : Fin 22528) :
    (res_main_v1 V : FVec Ideal S2x4096x22528 .f32) (ix3 b n e : S2x4096x22528.Idx)
      = (V (Proc.devRef .tc main_arg0) : FVec Ideal S8192x22528 .bf16) (ix2 ⟨b * 4096 + n, by omega⟩ e : S8192x22528.Idx) := by
  unfold res_main_v1
  pointwise []

theorem v5_at (b : Fin 2) (n : Fin 4096) (h : Fin 6) (c : Fin 2) (d : Fin 128) :
    (res_main_v5 V : FVec Ideal S2x4096x6x2x128 .f32) (ix5 b n h c d : S2x4096x6x2x128.Idx)
      = (V (Proc.devRef .tc main_arg0) : FVec Ideal S8192x22528 .bf16) (ix2 ⟨b * 4096 + n, by omega⟩ ⟨5632 + (h * 256 + c * 128 + d), by omega⟩ : S8192x22528.Idx) := by
  unfold res_main_v5
  pointwise [v1_at]

theorem v6_at (b : Fin 2) (n : Fin 4096) (h : Fin 6) (c : Fin 2) (d : Fin 128) :
    (res_main_v6 V : FVec Ideal S2x4096x6x2x128 .f32) (ix5 b n h c d : S2x4096x6x2x128.Idx)
      = (V (Proc.devRef .tc main_arg0) : FVec Ideal S8192x22528 .bf16) (ix2 ⟨b * 4096 + n, by omega⟩ ⟨7168 + (h * 256 + c * 128 + d), by omega⟩ : S8192x22528.Idx) := by
  unfold res_main_v6
  pointwise [v1_at]

end Cert.DiffReferenceIdeal.Value
end
end
-- ==== Proof.DiffArray.lean ====
module
public import proofs.«01_k».proof.Proof.DiffBlock
public import proofs.«01_k».proof.Proof.DiffRef
public import Idealize.ShloMosaic.Lib.Claim
@[expose] public section
set_option maxRecDepth 16384
noncomputable section
namespace Cert.DiffKernelIdeal.Value
open Idealize.ShloMosaic Idealize.ShloMosaic.TcCoe Idealize.SL.Sem
open Cert.DiffKernelIdeal Cert.DiffKernelIdeal.Gen ChunkAttention

/-- Column `d` of component `c` of head `h`, in the part of the projection that begins at column `o`. -/
def part (o : ℕ) (ho : o ≤ 7168) (h : Fin 6) (c : Fin 2) (d : Fin 128) : Fin 22528 := ⟨o + (h * 256 + c * 128 + d), by omega⟩
/-- Column `d` of a head's values. -/
def vcol (h : Fin 6) (d : Fin 256) : Fin 22528 := ⟨8704 + (h * 256 + d), by omega⟩
/-- Row `n` of batch `b`. -/
def brow (b : Fin 2) (n : Fin 4096) : Fin 8192 := ⟨b * 4096 + n, by omega⟩

/-- A row's batch and its place in it, a column's head and its place in it. -/
def batch (i : Fin 8192) : Fin 2 := ⟨i.val / 4096, by omega⟩
def place (i : Fin 8192) : Fin 4096 := ⟨i.val % 4096, by omega⟩
def head (j : Fin 1536) : Fin 6 := ⟨j.val / 256, by omega⟩
def lane (j : Fin 1536) : Fin 256 := ⟨j.val % 256, by omega⟩

/-- One row of one head: the difference of the two weighted sums of the values, normalised. -/
def rowOut (Q G : Fin 2 → Fin 6 → Fin 2 → Fin 4096 → Fin 128 → EReal) (σ : Fin 6 → ℝ) (x : FVec Ideal S8192x22528 .bf16) (l : EReal) (g : Fin 256 → EReal)
    (b : Fin 2) (r : Fin 4096) (h : Fin 6) (d : Fin 256) : EReal :=
  nrm256 (fun d => comp (fun n : Fin 4096 => n.val / 64 ≤ r.val / 64) (natAt (Q b h 0 r) (G b h 0) (σ h) r.val) (fun n => x (ix2 (brow b n) (vcol h d) : S8192x22528.Idx))
    - l * comp (fun n : Fin 4096 => n.val / 64 ≤ r.val / 64) (natAt (Q b h 1 r) (G b h 1) (σ h) r.val) (fun n => x (ix2 (brow b n) (vcol h d) : S8192x22528.Idx))) g d

/-- The array the kernel computes. -/
def diffOut (Q G : Fin 2 → Fin 6 → Fin 2 → Fin 4096 → Fin 128 → EReal) (σ : Fin 6 → ℝ) (x : FVec Ideal S8192x22528 .bf16) (l : EReal) (g : Fin 256 → EReal)
    (i : S8192x1536.Idx) : EReal :=
  rowOut Q G σ x l g (batch (i 0)) (place (i 0)) (head (i 1)) (lane (i 1))

theorem idx : ∀ t : Fin cfg0.N, win0_0.index t = ![t.val / 6, 44 + 2 * (t.val % 6)] ∧ win0_1.index t = ![t.val / 6, 45 + 2 * (t.val % 6)]
    ∧ win0_2.index t = ![t.val / 6, 56 + 2 * (t.val % 6)] ∧ win0_3.index t = ![t.val / 6, 57 + 2 * (t.val % 6)] ∧ win0_4.index t = ![t.val / 6, 34 + t.val % 6]
    ∧ win0_5.index t = ![0, 0] ∧ win0_6.index t = ![0, 0] ∧ win0_7.index t = ![0, 0] ∧ win0_8.index t = ![t.val % 6, 0, 0] ∧ win0_9.index t = ![0, 0]
    ∧ win0_10.index t = ![t.val / 6, t.val % 6] ∧ t.val / 6 < 2 :=
  (by decide +kernel : ∀ t : Fin grid0.N, _)

theorem lt2 (t : Fin cfg0.N) : t.val / 6 < 2 := (idx t).2.2.2.2.2.2.2.2.2.2.2

variable (m : (ℓ : Loc nD τ sig) → Buf (Elt Ideal) ℓ)

theorem blk0 (c : Dev nD) (t : Fin cfg0.N) (r : Fin 4096) (e : Fin 128) : iblk m c 0 t (ix2 r e : S4096x128.Idx)
    = m ((c : Thread nD τ).loc main_arg0) (ix2 ⟨4096 * (t.val / 6) + r.val, by have := lt2 t; omega⟩ ⟨128 * (44 + 2 * (t.val % 6)) + e.val, by omega⟩ : S8192x22528.Idx) := by
  blk_ext [iblk, V, idx t]
theorem blk1 (c : Dev nD) (t : Fin cfg0.N) (r : Fin 4096) (e : Fin 128) : iblk m c 1 t (ix2 r e : S4096x128.Idx)
    = m ((c : Thread nD τ).loc main_arg0) (ix2 ⟨4096 * (t.val / 6) + r.val, by have := lt2 t; omega⟩ ⟨128 * (45 + 2 * (t.val % 6)) + e.val, by omega⟩ : S8192x22528.Idx) := by
  blk_ext [iblk, V, idx t]
theorem blk2 (c : Dev nD) (t : Fin cfg0.N) (r : Fin 4096) (e : Fin 128) : iblk m c 2 t (ix2 r e : S4096x128.Idx)
    = m ((c : Thread nD τ).loc main_arg0) (ix2 ⟨4096 * (t.val / 6) + r.val, by have := lt2 t; omega⟩ ⟨128 * (56 + 2 * (t.val % 6)) + e.val, by omega⟩ : S8192x22528.Idx) := by
  blk_ext [iblk, V, idx t]
theorem blk3 (c : Dev nD) (t : Fin cfg0.N) (r : Fin 4096) (e : Fin 128) : iblk m c 3 t (ix2 r e : S4096x128.Idx)
    = m ((c : Thread nD τ).loc main_arg0) (ix2 ⟨4096 * (t.val / 6) + r.val, by have := lt2 t; omega⟩ ⟨128 * (57 + 2 * (t.val % 6)) + e.val, by omega⟩ : S8192x22528.Idx) := by
  blk_ext [iblk, V, idx t]
theorem blk4 (c : Dev nD) (t : Fin cfg0.N) (r : Fin 4096) (e : Fin 256) : iblk m c 4 t (ix2 r e : S4096x256.Idx)
    = m ((c : Thread nD τ).loc main_arg0) (ix2 ⟨4096 * (t.val / 6) + r.val, by have := lt2 t; omega⟩ ⟨256 * (34 + t.val % 6) + e.val, by omega⟩ : S8192x22528.Idx) := by
  blk_ext [iblk, V, idx t]
theorem blk5 (c : Dev nD) (t : Fin cfg0.N) (e : Fin 128) : iblk m c 5 t (ix2 0 e : S1x128.Idx) = V m c main_v16 (ix2 0 e : S1x128.Idx) := by
  blk_ext [iblk, idx t]
theorem blk6 (c : Dev nD) (t : Fin cfg0.N) (e : Fin 128) : iblk m c 6 t (ix2 0 e : S1x128.Idx) = V m c main_v17 (ix2 0 e : S1x128.Idx) := by
  blk_ext [iblk, idx t]
theorem blk7 (c : Dev nD) (t : Fin cfg0.N) (p : Fin 4) (e : Fin 128) : iblk m c 7 t (ix2 p e : S4x128.Idx) = V m c main_v4 (ix2 p e : S4x128.Idx) := by
  blk_ext [iblk, idx t]
theorem blk8 (c : Dev nD) (t : Fin cfg0.N) : iblk m c 8 t (ix3 0 0 0 : S1x1x128.Idx) = V m c main_v15 (ix3 ⟨t.val % 6, by omega⟩ 0 0 : S6x1x128.Idx) := by
  blk_ext [iblk, idx t]
theorem blk9 (c : Dev nD) (t : Fin cfg0.N) (e : Fin 256) : iblk m c 9 t (ix2 0 e : S1x256.Idx) = V m c main_v18 (ix2 0 e : S1x256.Idx) := by
  blk_ext [iblk, idx t]

theorem emb10 (t : Fin cfg0.N) (r : Fin 4096) (d : Fin 256) : (win0_10.blk t).view.emb (ix2 r d : S4096x256.Idx)
    = (ix2 ⟨4096 * (t.val / 6) + r.val, by have := lt2 t; omega⟩ ⟨256 * (t.val % 6) + d.val, by omega⟩ : S8192x1536.Idx) := by
  blk_ext [idx t]

/-- The gain of the queries as a row. -/
theorem v16_at (c : Dev nD) (e : Fin 128) : (V m c main_v16 : FVec Ideal S1x128 .f32) (ix2 0 e : S1x128.Idx) =
    (m ((c.tc : Thread nD τ).loc main_arg1) : FVec Ideal S128 .f32) (ix1 e : S128.Idx) := by
  unfold V
  simp only [hostOps0, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  pointwise []
/-- The gain of the keys as a row. -/
theorem v17_at (c : Dev nD) (e : Fin 128) : (V m c main_v17 : FVec Ideal S1x128 .f32) (ix2 0 e : S1x128.Idx) =
    (m ((c.tc : Thread nD τ).loc main_arg2) : FVec Ideal S128 .f32) (ix1 e : S128.Idx) := by
  unfold V
  simp only [hostOps0, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  pointwise []
/-- The gain of the result as a row. -/
theorem v18_at (c : Dev nD) (e : Fin 256) : (V m c main_v18 : FVec Ideal S1x256 .f32) (ix2 0 e : S1x256.Idx) =
    (m ((c.tc : Thread nD τ).loc main_arg7) : FVec Ideal S256 .f32) (ix1 e : S256.Idx) := by
  unfold V
  simp only [hostOps0, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  pointwise []
/-- How fast each head's scores fall. -/
theorem v15_at (c : Dev nD) (h : Fin 6) : (V m c main_v15 : FVec Ideal S6x1x128 .f32) (ix3 h 0 0 : S6x1x128.Idx) = Cert.DiffReferenceIdeal.Value.slope h := by
  unfold V Cert.DiffReferenceIdeal.Value.slope
  simp only [hostOps0, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  pointwise []
/-- The four rows of the vectors of the weight. -/
theorem v4_eq (c : Dev nD) : V m c main_v4 = (concatenate S4x128 0 [⟨S1x128, broadcastInDim S1x128 ![1] bcast_S128_S1x128_1 (m ((c.tc : Thread nD τ).loc main_arg3) : FVec Ideal S128 .f32)⟩,
      ⟨S1x128, broadcastInDim S1x128 ![1] bcast_S128_S1x128_1 (m ((c.tc : Thread nD τ).loc main_arg4) : FVec Ideal S128 .f32)⟩,
      ⟨S1x128, broadcastInDim S1x128 ![1] bcast_S128_S1x128_1 (m ((c.tc : Thread nD τ).loc main_arg5) : FVec Ideal S128 .f32)⟩,
      ⟨S1x128, broadcastInDim S1x128 ![1] bcast_S128_S1x128_1 (m ((c.tc : Thread nD τ).loc main_arg6) : FVec Ideal S128 .f32)⟩] concatenates_S1x128_S1x128_S1x128_S1x128_S4x128_d0 : FVec Ideal S4x128 .f32) := by
  unfold V
  simp only [hostOps0, List.flatten_cons, List.flatten_nil, List.cons_append, List.nil_append, List.append_nil, StableHlo.TRef.binary, StableHlo.TRef.ternary, StableHlo.TRef.unary, StableHlo.TRef.toBuf, StableHlo.TRef.ofBuf, cast_eq]
  after_results_simp
  rfl
theorem rows_at (a b c d : FVec Ideal S128 .f32) (p : Fin 4) (e : Fin 128) :
    (concatenate S4x128 0 [⟨S1x128, broadcastInDim S1x128 ![1] bcast_S128_S1x128_1 a⟩, ⟨S1x128, broadcastInDim S1x128 ![1] bcast_S128_S1x128_1 b⟩,
      ⟨S1x128, broadcastInDim S1x128 ![1] bcast_S128_S1x128_1 c⟩, ⟨S1x128, broadcastInDim S1x128 ![1] bcast_S128_S1x128_1 d⟩] concatenates_S1x128_S1x128_S1x128_S1x128_S4x128_d0 : FVec Ideal S4x128 .f32)
      (ix2 p e : S4x128.Idx) = ![a, b, c, d] p (ix1 e : S128.Idx) := by
  fin_cases p <;> pointwise []

/-- The weight of the second sum, from the four vectors. -/
theorem lam_rows (c : Dev nD) (a b u v : FVec Ideal S128 .f32) (h3 : m ((c.tc : Thread nD τ).loc main_arg3) = a) (h4 : m ((c.tc : Thread nD τ).loc main_arg4) = b)
    (h5 : m ((c.tc : Thread nD τ).loc main_arg5) = u) (h6 : m ((c.tc : Thread nD τ).loc main_arg6) = v) (X : FVec Ideal S4x128 .f32)
    (hX : ∀ (p : Fin 4) (e : Fin 128), X (ix2 p e : S4x128.Idx) = (V m c main_v4 : FVec Ideal S4x128 .f32) (ix2 p e : S4x128.Idx)) :
    lamK X = Cert.DiffReferenceIdeal.Value.lam (fun x => a (ix1 x : S128.Idx)) (fun x => b (ix1 x : S128.Idx)) (fun x => u (ix1 x : S128.Idx)) (fun x => v (ix1 x : S128.Idx)) := by
  have hr : ∀ (p : Fin 4) (e : Fin 128), X (ix2 p e : S4x128.Idx) = ![a, b, u, v] p (ix1 e : S128.Idx) := fun p e => by
    rw [hX, v4_eq, h3, h4, h5, h6]
    exact rows_at a b u v p e
  refine congrArg₂ (fun s t : EReal => Ideal.exp s - Ideal.exp t + Ideal.ofBits .f32 0x3EB60549#32) ?_ ?_
  · exact Finset.sum_congr rfl fun e _ => congrArg₂ (fun s t : EReal => s * t) (hr 0 e) (hr 1 e)
  · exact Finset.sum_congr rfl fun e _ => congrArg₂ (fun s t : EReal => s * t) (hr 2 e) (hr 3 e)

/-- The array after the run. -/
theorem final (c : Dev nD) (Q G : Fin 2 → Fin 6 → Fin 2 → Fin 4096 → Fin 128 → EReal) (σ : Fin 6 → ℝ) (x : FVec Ideal S8192x22528 .bf16)
    (a1 a2 a3 a4 a5 a6 : FVec Ideal S128 .f32) (a7 : FVec Ideal S256 .f32)
    (e0 : m ((c.tc : Thread nD τ).loc main_arg0) = x) (e1 : m ((c.tc : Thread nD τ).loc main_arg1) = a1) (e2 : m ((c.tc : Thread nD τ).loc main_arg2) = a2)
    (e3 : m ((c.tc : Thread nD τ).loc main_arg3) = a3) (e4 : m ((c.tc : Thread nD τ).loc main_arg4) = a4) (e5 : m ((c.tc : Thread nD τ).loc main_arg5) = a5)
    (e6 : m ((c.tc : Thread nD τ).loc main_arg6) = a6) (e7 : m ((c.tc : Thread nD τ).loc main_arg7) = a7)
    (hQ : ∀ b h p n d, nrm (fun e => x (ix2 (brow b n) (part 5632 (by omega) h p e) : S8192x22528.Idx)) (fun e => a1 (ix1 e : S128.Idx)) d = Q b h p n d)
    (hG : ∀ b h p n d, nrm (fun e => x (ix2 (brow b n) (part 7168 (by omega) h p e) : S8192x22528.Idx)) (fun e => a2 (ix1 e : S128.Idx)) d = G b h p n d)
    (hσ : ∀ h : Fin 6, Cert.DiffReferenceIdeal.Value.slope h = ((σ h : ℝ) : EReal)) :
    (dats m 0 c).arrAt 10 (cfgs 0).N = diffOut Q G σ x
      (Cert.DiffReferenceIdeal.Value.lam (fun x => a3 (ix1 x : S128.Idx)) (fun x => a4 (ix1 x : S128.Idx)) (fun x => a5 (ix1 x : S128.Idx)) (fun x => a6 (ix1 x : S128.Idx)))
      (fun d => a7 (ix1 d : S256.Idx)) := by
  refine (dats m 0 c).arrAt_eq_of_covers 10 _ (by decide +kernel) fun t _ y => ?_
  blk_simp
  have ht := lt2 t
  have hb : ∀ n : Fin 4096, (⟨4096 * (t.val / 6) + n.val, by omega⟩ : Fin 8192) = brow ⟨t.val / 6, ht⟩ n := fun n => Fin.ext (by show 4096 * (t.val / 6) + n.val = t.val / 6 * 4096 + n.val; omega)
  have g1 : (fun e : Fin 128 => (iblk m c 5 t : FVec Ideal S1x128 .f32) (ix2 0 e : S1x128.Idx)) = fun e => a1 (ix1 e : S128.Idx) :=
    funext fun e => (blk5 m c t e).trans ((v16_at m c e).trans (by rw [e1]))
  have g2 : (fun e : Fin 128 => (iblk m c 6 t : FVec Ideal S1x128 .f32) (ix2 0 e : S1x128.Idx)) = fun e => a2 (ix1 e : S128.Idx) :=
    funext fun e => (blk6 m c t e).trans ((v17_at m c e).trans (by rw [e2]))
  rw [after0_10, outsAt_eq m c t (Q ⟨t.val / 6, ht⟩ ⟨t.val % 6, by omega⟩ 0) (Q ⟨t.val / 6, ht⟩ ⟨t.val % 6, by omega⟩ 1)
    (G ⟨t.val / 6, ht⟩ ⟨t.val % 6, by omega⟩ 0) (G ⟨t.val / 6, ht⟩ ⟨t.val % 6, by omega⟩ 1) (σ ⟨t.val % 6, by omega⟩) ?_ ?_ ?_ ?_ ?_]
  · obtain ⟨r, d, rfl⟩ : ∃ (r : Fin 4096) (d : Fin 256), y = (ix2 r d : S4096x256.Idx) := ⟨y 0, y 1, eq_ix2 y⟩
    refine Eq.trans ?_ (congrArg (diffOut Q G σ x _ (fun d => a7 (ix1 d : S256.Idx))) (emb10 t r d)).symm
    have i1 : batch ⟨4096 * (t.val / 6) + r.val, by omega⟩ = ⟨t.val / 6, ht⟩ := Fin.ext (by show (4096 * (t.val / 6) + r.val) / 4096 = t.val / 6; omega)
    have i2 : place ⟨4096 * (t.val / 6) + r.val, by omega⟩ = r := Fin.ext (by show (4096 * (t.val / 6) + r.val) % 4096 = r.val; omega)
    have i3 : head ⟨256 * (t.val % 6) + d.val, by omega⟩ = ⟨t.val % 6, by omega⟩ := Fin.ext (by show (256 * (t.val % 6) + d.val) / 256 = t.val % 6; omega)
    have i4 : lane ⟨256 * (t.val % 6) + d.val, by omega⟩ = d := Fin.ext (by show (256 * (t.val % 6) + d.val) % 256 = d.val; omega)
    have hv : ∀ d : Fin 256, (fun n : Fin 4096 => (iblk m c 4 t : FVec Ideal S4096x256 .bf16) (ix2 n d : S4096x256.Idx))
        = fun n => x (ix2 (brow ⟨t.val / 6, ht⟩ n) (vcol ⟨t.val % 6, by omega⟩ d) : S8192x22528.Idx) := fun d => funext fun n => by
      refine (blk4 m c t n d).trans ?_
      rw [e0, hb]
      exact congrArg (fun j => x (ix2 (brow ⟨t.val / 6, ht⟩ n) j : S8192x22528.Idx)) (Fin.ext (by show 256 * (34 + t.val % 6) + d.val = 8704 + (t.val % 6 * 256 + d.val); omega))
    show blockOut _ _ _ _ _ _ _ _ _ = rowOut Q G σ x _ _ (batch ⟨4096 * (t.val / 6) + r.val, by omega⟩) (place ⟨4096 * (t.val / 6) + r.val, by omega⟩)
      (head ⟨256 * (t.val % 6) + d.val, by omega⟩) (lane ⟨256 * (t.val % 6) + d.val, by omega⟩)
    rw [i1, i2, i3, i4]
    unfold blockOut rowOut
    rw [lam_rows m c a3 a4 a5 a6 e3 e4 e5 e6 _ (fun p e => blk7 m c t p e)]
    refine congrFun (congrArg₂ nrm256 (funext fun d => ?_) (funext fun e => (blk9 m c t e).trans ((v18_at m c e).trans (by rw [e7])))) _
    rw [hv d]
    rfl
  · intro n d
    rw [g1, ← hQ]
    refine congrArg (fun f => nrm f (fun e => a1 (ix1 e : S128.Idx)) d) (funext fun e => (blk0 m c t n e).trans ?_)
    rw [e0, hb]
    exact congrArg (fun j => x (ix2 (brow ⟨t.val / 6, ht⟩ n) j : S8192x22528.Idx)) (Fin.ext (by show 128 * (44 + 2 * (t.val % 6)) + e.val = 5632 + (t.val % 6 * 256 + 0 * 128 + e.val); omega))
  · intro n d
    rw [g1, ← hQ]
    refine congrArg (fun f => nrm f (fun e => a1 (ix1 e : S128.Idx)) d) (funext fun e => (blk1 m c t n e).trans ?_)
    rw [e0, hb]
    exact congrArg (fun j => x (ix2 (brow ⟨t.val / 6, ht⟩ n) j : S8192x22528.Idx)) (Fin.ext (by show 128 * (45 + 2 * (t.val % 6)) + e.val = 5632 + (t.val % 6 * 256 + 1 * 128 + e.val); omega))
  · intro n d
    rw [g2, ← hG]
    refine congrArg (fun f => nrm f (fun e => a2 (ix1 e : S128.Idx)) d) (funext fun e => (blk2 m c t n e).trans ?_)
    rw [e0, hb]
    exact congrArg (fun j => x (ix2 (brow ⟨t.val / 6, ht⟩ n) j : S8192x22528.Idx)) (Fin.ext (by show 128 * (56 + 2 * (t.val % 6)) + e.val = 7168 + (t.val % 6 * 256 + 0 * 128 + e.val); omega))
  · intro n d
    rw [g2, ← hG]
    refine congrArg (fun f => nrm f (fun e => a2 (ix1 e : S128.Idx)) d) (funext fun e => (blk3 m c t n e).trans ?_)
    rw [e0, hb]
    exact congrArg (fun j => x (ix2 (brow ⟨t.val / 6, ht⟩ n) j : S8192x22528.Idx)) (Fin.ext (by show 128 * (57 + 2 * (t.val % 6)) + e.val = 7168 + (t.val % 6 * 256 + 1 * 128 + e.val); omega))
  · exact (blk8 m c t).trans ((v15_at m c _).trans (hσ _))

end Cert.DiffKernelIdeal.Value
end
end
-- ==== Proof.DiffRefScore.lean ====
module
public import proofs.«01_k».proof.Proof.Gen.DiffReferenceIdeal.Run
public import proofs.«01_k».proof.Proof.DiffRef
public import Idealize.ShloMosaic.Lib.Pointwise
@[expose] public section
set_option maxRecDepth 16384
noncomputable section
namespace Cert.DiffReferenceIdeal.Value
open Idealize.ShloMosaic Idealize.ShloMosaic.TcCoe Idealize.SL.Sem
open Cert.DiffReferenceIdeal Cert.DiffReferenceIdeal.Gen ChunkAttention

/-- The words of the keys' and the queries' blocks of 64. -/
theorem word_block : ∀ n : Fin 4096, Scalar.select
          (IntOp.andi
            (IntOp.cmpi CmpIPredicate.ne
              (if BitVec.ofNat 32 n.val = (0 : BitVec 32) then (0 : BitVec 32) else if (BitVec.ofNat 32 n.val).msb = true then (-1 : BitVec 32) else 1)
              (if (id (constantI S_ 32 64#32 : IVec S_ 32) : IVec S_ 32) ix0 = (0 : BitVec 32) then (0 : BitVec 32)
              else if BitVec.msb ((id (constantI S_ 32 64#32 : IVec S_ 32) : IVec S_ 32) ix0) = true then (-1 : BitVec 32) else 1))
            (IntOp.cmpi CmpIPredicate.ne
              (IntOp.remsi ArithUnit.host (BitVec.ofNat 32 n.val) ((id (constantI S_ 32 64#32 : IVec S_ 32) : IVec S_ 32) ix0)) 0#32))
          (IntOp.subi (IntOp.divsi ArithUnit.host (BitVec.ofNat 32 n.val) ((id (constantI S_ 32 64#32 : IVec S_ 32) : IVec S_ 32) ix0)) 1#32)
          (IntOp.divsi ArithUnit.host (BitVec.ofNat 32 n.val) ((id (constantI S_ 32 64#32 : IVec S_ 32) : IVec S_ 32) ix0)) = BitVec.ofNat 32 (n.val / 64) := by decide +kernel

theorem word_le : ∀ a b : Fin 64, IntOp.cmpi .sle (BitVec.ofNat 32 a.val) (BitVec.ofNat 32 b.val) = if a.val ≤ b.val then 1#1 else 0#1 := by decide +kernel

theorem word_int : ∀ n : Fin 4096, (BitVec.ofNat 32 n.val).toInt = (n.val : ℤ) := by decide +kernel

theorem word_sub (r n : Fin 4096) : (IntOp.subi (BitVec.ofNat 32 r.val) (BitVec.ofNat 32 n.val)).toInt = (r.val : ℤ) - n.val := by
  show (BitVec.ofNat 32 r.val - BitVec.ofNat 32 n.val).toInt = _
  rw [BitVec.toInt_sub, word_int, word_int]
  have := r.isLt; have := n.isLt
  simp only [Int.bmod]
  split <;> omega

theorem word_abs (r n : Fin 4096) : (IntOp.absi (IntOp.subi (BitVec.ofNat 32 r.val) (BitVec.ofNat 32 n.val))).toInt = |(r.val : ℤ) - n.val| := by
  have hs := word_sub r n
  generalize IntOp.subi (BitVec.ofNat 32 r.val) (BitVec.ofNat 32 n.val) = x at hs
  have := r.isLt; have := n.isLt
  show (if x.msb then -x else x).toInt = _
  rw [← hs, BitVec.msb_eq_toInt]
  by_cases h : x.toInt < 0
  · rw [decide_eq_true h, if_pos rfl, abs_of_neg h, BitVec.toInt_neg, hs]
    simp only [Int.bmod]
    split <;> omega
  · rw [decide_eq_false h, if_neg (by simp), abs_of_nonneg (not_lt.1 h)]

variable (V : Valuation τ sig (Elt Ideal))

theorem v77_at (b : Fin 2) (h : Fin 6) (c : Fin 2) (r n : Fin 4096) :
    scores V (ix5 b h c r n : S2x6x2x4096x4096.Idx) = (if n.val / 64 ≤ r.val / 64 then
      (∑ x : Fin 128, Ideal.div (nrm (fun d => (V (Proc.devRef .tc main_arg0) : FVec Ideal S8192x22528 .bf16) (ix2 ⟨b * 4096 + r, by omega⟩ ⟨5632 + (h * 256 + c * 128 + d), by omega⟩ : S8192x22528.Idx))
          (fun d => (V (Proc.devRef .tc main_arg1) : FVec Ideal S128 .f32) (ix1 d : S128.Idx)) x) (Ideal.sqrt (Ideal.ofBits .f32 0x43000000#32))
        * nrm (fun d => (V (Proc.devRef .tc main_arg0) : FVec Ideal S8192x22528 .bf16) (ix2 ⟨b * 4096 + n, by omega⟩ ⟨7168 + (h * 256 + c * 128 + d), by omega⟩ : S8192x22528.Idx))
          (fun d => (V (Proc.devRef .tc main_arg2) : FVec Ideal S128 .f32) (ix1 d : S128.Idx)) x)
        - slope h * (((|(r.val : ℤ) - n.val| : ℤ) : ℝ) : EReal) else ⊥ : EReal) := by
  unfold scores res_main_v77
  pointwise [res_main_v70, res_main_v72, res_main_v54, res_main_call0_v0, res_main_call0_v2, res_main_call1_v0, res_main_call1_v2, v5_at, v6_at]
  refine (congrArg₂ (fun a b => Scalar.select (IntOp.cmpi .sle a b) _ _) (word_block n) (word_block r)).trans ?_
  have hw : IntOp.cmpi .sle (BitVec.ofNat 32 (n.val / 64)) (BitVec.ofNat 32 (r.val / 64)) = if n.val / 64 ≤ r.val / 64 then 1#1 else 0#1 :=
    word_le ⟨n.val / 64, by omega⟩ ⟨r.val / 64, by omega⟩
  rw [hw]
  by_cases hP : n.val / 64 ≤ r.val / 64
  · rw [if_pos hP, if_pos hP, ← word_abs]
    rfl
  · rw [if_neg hP, if_neg hP]
    exact of_neg_inf

end Cert.DiffReferenceIdeal.Value
end
end
-- ==== Proof.DiffRefOut.lean ====
module
public import proofs.«01_k».proof.Proof.Gen.DiffReferenceIdeal.Run
public import proofs.«01_k».proof.Proof.DiffRef
public import Idealize.ShloMosaic.Lib.Pointwise
@[expose] public section
set_option maxRecDepth 16384
noncomputable section
namespace Cert.DiffReferenceIdeal.Value
open Idealize.ShloMosaic Idealize.ShloMosaic.TcCoe Idealize.SL.Sem
open Cert.DiffReferenceIdeal Cert.DiffReferenceIdeal.Gen ChunkAttention

/-- The largest score of a row. -/
theorem top_at (s : FVec Ideal S2x6x2x4096x4096 .f32) (b : Fin 2) (h : Fin 6) (c : Fin 2) (r : Fin 4096) :
    (Host.reduce FloatOps.maximumf s (constant S_ .f32 0xFF800000#32) reducesTo_S2x6x2x4096x4096_S2x6x2x4096_d4 h_S_ : FVec Ideal S2x6x2x4096 .f32)
      (ix4 b h c r : S2x6x2x4096.Idx) = Finset.univ.fold max (⊥ : EReal) (fun n : Fin 4096 => s (ix5 b h c r n : S2x6x2x4096x4096.Idx)) := by
  pointwise []
  rw [of_neg_inf]

/-- Each row of scores less one number, exponentiated. -/
theorem shift_at (s : FVec Ideal S2x6x2x4096x4096 .f32) (t : FVec Ideal S2x6x2x4096 .f32) (b : Fin 2) (h : Fin 6) (c : Fin 2) (r n : Fin 4096) :
    (Host.exp (subf s (broadcastInDim S2x6x2x4096x4096 ![0, 1, 2, 3, 4] bcast_S2x6x2x4096x1_S2x6x2x4096x4096_0_1_2_3_4 (broadcastInDim S2x6x2x4096x1 ![0, 1, 2, 3] bcast_S2x6x2x4096_S2x6x2x4096x1_0_1_2_3 t))) : FVec Ideal S2x6x2x4096x4096 .f32)
      (ix5 b h c r n : S2x6x2x4096x4096.Idx) = Ideal.exp ((s (ix5 b h c r n : S2x6x2x4096x4096.Idx) : EReal) - t (ix4 b h c r : S2x6x2x4096.Idx)) := by
  pointwise []

/-- The larger of minus infinity and an array. -/
theorem above_at (t : FVec Ideal S2x6x2x4096 .f32) (b : Fin 2) (h : Fin 6) (c : Fin 2) (r : Fin 4096) :
    (maximumf (broadcastInDim S2x6x2x4096 ![] bcast_S_S2x6x2x4096 (constant S_ .f32 0xFF800000#32)) t : FVec Ideal S2x6x2x4096 .f32)
      (ix4 b h c r : S2x6x2x4096.Idx) = t (ix4 b h c r : S2x6x2x4096.Idx) := by
  pointwise []
  rw [of_neg_inf]
  exact bot_sup_eq _

/-- The exponentials of a row's scores below its largest. -/
theorem exps_at (s : FVec Ideal S2x6x2x4096x4096 .f32) (b : Fin 2) (h : Fin 6) (c : Fin 2) (r n : Fin 4096) :
    (Host.exp (subf s (broadcastInDim S2x6x2x4096x4096 ![0, 1, 2, 3, 4] bcast_S2x6x2x4096x1_S2x6x2x4096x4096_0_1_2_3_4 (broadcastInDim S2x6x2x4096x1 ![0, 1, 2, 3] bcast_S2x6x2x4096_S2x6x2x4096x1_0_1_2_3 (maximumf (broadcastInDim S2x6x2x4096 ![] bcast_S_S2x6x2x4096 (constant S_ .f32 0xFF800000#32)) (Host.reduce FloatOps.maximumf s (constant S_ .f32 0xFF800000#32) reducesTo_S2x6x2x4096x4096_S2x6x2x4096_d4 h_S_))))) : FVec Ideal S2x6x2x4096x4096 .f32)
      (ix5 b h c r n : S2x6x2x4096x4096.Idx) = Ideal.exp ((s (ix5 b h c r n : S2x6x2x4096x4096.Idx) : EReal)
        - Finset.univ.fold max (⊥ : EReal) (fun n : Fin 4096 => (s (ix5 b h c r n : S2x6x2x4096x4096.Idx) : EReal))) := by
  refine (shift_at s _ b h c r n).trans (congrArg (fun z : EReal => Ideal.exp (s (ix5 b h c r n : S2x6x2x4096x4096.Idx) - z)) ?_)
  exact (above_at _ b h c r).trans (top_at s b h c r)

variable (V : Valuation τ sig (Elt Ideal))

theorem v84_at (b : Fin 2) (h : Fin 6) (c : Fin 2) (r n : Fin 4096) :
    exps V (ix5 b h c r n : S2x6x2x4096x4096.Idx)
      = Ideal.exp ((scores V (ix5 b h c r n : S2x6x2x4096x4096.Idx) : EReal)
        - Finset.univ.fold max (⊥ : EReal) (fun n : Fin 4096 => (scores V (ix5 b h c r n : S2x6x2x4096x4096.Idx) : EReal))) :=
  exps_at (res_main_v77 V) b h c r n

theorem v88_at (b : Fin 2) (h : Fin 6) (c : Fin 2) (r n : Fin 4096) :
    weights V (ix5 b h c r n : S2x6x2x4096x4096.Idx)
      = Ideal.div (exps V (ix5 b h c r n : S2x6x2x4096x4096.Idx))
        (∑ l : Fin 4096, (exps V (ix5 b h c r l : S2x6x2x4096x4096.Idx) : EReal)) := by
  unfold weights res_main_v88
  show _ = Ideal.div ((res_main_v84 V : FVec Ideal S2x6x2x4096x4096 .f32) (ix5 b h c r n : S2x6x2x4096x4096.Idx)) (∑ l : Fin 4096, ((res_main_v84 V : FVec Ideal S2x6x2x4096x4096 .f32) (ix5 b h c r l : S2x6x2x4096x4096.Idx) : EReal))
  generalize res_main_v84 V = s
  revert s
  intro (s : FVec Ideal S2x6x2x4096x4096 .f32)
  pointwise []

end Cert.DiffReferenceIdeal.Value
end
end
-- ==== Proof.DiffRefRes.lean ====
module
public import proofs.«01_k».proof.Proof.Gen.DiffReferenceIdeal.Run
public import proofs.«01_k».proof.Proof.DiffRef
public import Idealize.ShloMosaic.Lib.Pointwise
@[expose] public section
set_option maxRecDepth 16384
noncomputable section
namespace Cert.DiffReferenceIdeal.Value
open Idealize.ShloMosaic Idealize.ShloMosaic.TcCoe Idealize.SL.Sem
open Cert.DiffReferenceIdeal Cert.DiffReferenceIdeal.Gen ChunkAttention

variable (V : Valuation τ sig (Elt Ideal))

/-- The reference's result at an index. -/
theorem res_at (i : Fin 8192) (j : Fin 1536) :
    (truncf .bf16 (shapeCast _ (mulf (mulf (mulf (res_main_v97 V) (broadcastInDim S2x4096x6x256 ![0, 1, 2, 3] bcast_S2x4096x6x1_S2x4096x6x256_0_1_2_3 (Host.rsqrt (addf (Host.divf (broadcastInDim S2x4096x6x1 ![0, 1, 2] bcast_S2x4096x6_S2x4096x6x1_0_1_2 (Host.reduceAdd (mulf (res_main_v97 V) (res_main_v97 V)) (constant S_ .f32 0x00000000#32) reducesTo_S2x4096x6x256_S2x4096x6_d3 h_S_)) (broadcastInDim S2x4096x6x1 ![] bcast_S_S2x4096x6x1 (constant S_ .f32 0x43800000#32))) (broadcastInDim S2x4096x6x1 ![] bcast_S_S2x4096x6x1 (constant S_ .f32 0x358637BD#32)))))) (broadcastInDim S2x4096x6x256 ![0, 1, 2, 3] bcast_S1x1x1x256_S2x4096x6x256_0_1_2_3 (broadcastInDim S1x1x1x256 ![3] bcast_S256_S1x1x1x256_3 (V (Proc.devRef .tc main_arg7))))) (broadcastInDim S2x4096x6x256 ![] bcast_S_S2x4096x6x256 (constant S_ .f32 0x3F24FD5C#32))) shapeCasts_S2x4096x6x256_S8192x1536) bitsLt_bf16_f32 : FVec Ideal S8192x1536 .bf16)
      (ix2 i j : S8192x1536.Idx) = (
      (fun x : Fin 256 → EReal => x ⟨j % 256, by omega⟩ * Ideal.rsqrt (Ideal.div (∑ e, x e * x e) (Ideal.ofBits .f32 0x43800000#32) + Ideal.ofBits .f32 0x358637BD#32)
        * (V (Proc.devRef .tc main_arg7) : FVec Ideal S256 .f32) (ix1 ⟨j % 256, by omega⟩ : S256.Idx) * Ideal.ofBits .f32 0x3F24FD5C#32)
      (fun d => (res_main_v97 V : FVec Ideal S2x4096x6x256 .f32) (ix4 ⟨i / 4096, by omega⟩ ⟨i % 4096, by omega⟩ ⟨j / 256, by omega⟩ d : S2x4096x6x256.Idx)) : EReal) := by
  generalize res_main_v97 V = s
  revert s
  intro (s : FVec Ideal S2x4096x6x256 .f32)
  pointwise []
end Cert.DiffReferenceIdeal.Value
end
end
-- ==== Proof.DiffRefMix.lean ====
module
public import proofs.«01_k».proof.Proof.Gen.DiffReferenceIdeal.Run
public import proofs.«01_k».proof.Proof.DiffRef
public import Idealize.ShloMosaic.Lib.Pointwise
@[expose] public section
set_option maxRecDepth 16384
noncomputable section
namespace Cert.DiffReferenceIdeal.Value
open Idealize.ShloMosaic Idealize.ShloMosaic.TcCoe Idealize.SL.Sem
open Cert.DiffReferenceIdeal Cert.DiffReferenceIdeal.Gen ChunkAttention

/-- The number the second weights are multiplied with. -/
theorem lam_at (a b c d : FVec Ideal S128 .f32) (i : S_.Idx) :
    (addf (subf (Host.exp (Host.reduceAdd (mulf a b) (constant S_ .f32 0x00000000#32) reducesTo_S128_S_d0 h_S_)) (Host.exp (Host.reduceAdd (mulf c d) (constant S_ .f32 0x00000000#32) reducesTo_S128_S_d0 h_S_))) (constant S_ .f32 0x3EB60549#32) : FVec Ideal S_ .f32) i
      = lam (fun x => a (ix1 x : S128.Idx)) (fun x => b (ix1 x : S128.Idx)) (fun x => c (ix1 x : S128.Idx)) (fun x => d (ix1 x : S128.Idx)) := by
  unfold lam
  pointwise []

/-- The difference of the two weights. -/
theorem less_at (w : FVec Ideal S2x6x2x4096x4096 .f32) (l : FVec Ideal S_ .f32) (b : Fin 2) (h : Fin 6) (q n : Fin 4096) :
    (subf (shapeCast _ (extractStridedSlice S2x6x1x4096x4096 ![0, 0, 0, 0, 0] w slices_S2x6x2x4096x4096_S2x6x1x4096x4096_0_0_0_0_0) shapeCasts_S2x6x1x4096x4096_S2x6x4096x4096) (mulf (broadcastInDim S2x6x4096x4096 ![] bcast_S_S2x6x4096x4096 l) (shapeCast _ (extractStridedSlice S2x6x1x4096x4096 ![0, 0, 1, 0, 0] w slices_S2x6x2x4096x4096_S2x6x1x4096x4096_0_0_1_0_0) shapeCasts_S2x6x1x4096x4096_S2x6x4096x4096)) : FVec Ideal S2x6x4096x4096 .f32)
      (ix4 b h q n : S2x6x4096x4096.Idx) = (w (ix5 b h 0 q n : S2x6x2x4096x4096.Idx) : EReal) - l ix0 * w (ix5 b h 1 q n : S2x6x2x4096x4096.Idx) := by
  pointwise []

/-- The values at a head. -/
theorem vals_at (x : FVec Ideal S2x4096x22528 .f32) (b : Fin 2) (n : Fin 4096) (h : Fin 6) (d : Fin 256) :
    (shapeCast _ (extractStridedSlice S2x4096x1536 ![0, 0, 8704] x slices_S2x4096x22528_S2x4096x1536_0_0_8704) shapeCasts_S2x4096x1536_S2x4096x6x256 : FVec Ideal S2x4096x6x256 .f32)
      (ix4 b n h d : S2x4096x6x256.Idx) = x (ix3 b n ⟨8704 + (h * 256 + d), by omega⟩ : S2x4096x22528.Idx) := by
  pointwise []

/-- The weighted sum of the values. -/
theorem sum_at (y : FVec Ideal S2x4096x6x256 .f32) (w : FVec Ideal S2x6x4096x4096 .f32) (b : Fin 2) (q : Fin 4096) (h : Fin 6) (d : Fin 256) :
    (transpose S2x4096x6x256 [0, 3, 1, 2] (Host.dotGeneral dot_S2x4096x6x256_S2x6x4096x4096_S2x6x256x4096_1_3_3_2_02_01 none y w) transposes_S2x6x256x4096_S2x4096x6x256_0_3_1_2 : FVec Ideal S2x4096x6x256 .f32)
      (ix4 b q h d : S2x4096x6x256.Idx) = ∑ n : Fin 4096, (y (ix4 b n h d : S2x4096x6x256.Idx) : EReal) * w (ix4 b h q n : S2x6x4096x4096.Idx) := by
  pointwise []

/-- The mix of the values. -/
def mixRow (x : FVec Ideal S8192x22528 .bf16) (w : FVec Ideal S2x6x2x4096x4096 .f32) (l : EReal) (b : Fin 2) (q : Fin 4096) (h : Fin 6) (d : Fin 256) : EReal :=
  ∑ n : Fin 4096, (x (ix2 ⟨b * 4096 + n, by omega⟩ ⟨8704 + (h * 256 + d), by omega⟩ : S8192x22528.Idx) : EReal)
    * ((w (ix5 b h 0 q n : S2x6x2x4096x4096.Idx) : EReal) - l * w (ix5 b h 1 q n : S2x6x2x4096x4096.Idx))

variable (V : Valuation τ sig (Elt Ideal))

theorem v97_at (b : Fin 2) (q : Fin 4096) (h : Fin 6) (d : Fin 256) :
    mixed V (ix4 b q h d : S2x4096x6x256.Idx) = mixRow (V (Proc.devRef .tc main_arg0)) (weights V)
      (lam (fun x => (V (Proc.devRef .tc main_arg3) : FVec Ideal S128 .f32) (ix1 x : S128.Idx)) (fun x => (V (Proc.devRef .tc main_arg4) : FVec Ideal S128 .f32) (ix1 x : S128.Idx))
              (fun x => (V (Proc.devRef .tc main_arg5) : FVec Ideal S128 .f32) (ix1 x : S128.Idx)) (fun x => (V (Proc.devRef .tc main_arg6) : FVec Ideal S128 .f32) (ix1 x : S128.Idx))) b q h d := by
  refine (sum_at _ _ b q h d).trans (Finset.sum_congr rfl fun n _ => congrArg₂ (fun a b : EReal => a * b) ?_ ?_)
  · exact (vals_at _ b n h d).trans (v1_at V b n _)
  · exact (less_at (weights V) _ b h q n).trans (congrArg (fun l : EReal => weights V (ix5 b h 0 q n : S2x6x2x4096x4096.Idx) - l * weights V (ix5 b h 1 q n : S2x6x2x4096x4096.Idx)) (lam_at _ _ _ _ _))

end Cert.DiffReferenceIdeal.Value
end
end
-- ==== Proof.DiffFinite.lean ====
module
public import proofs.«01_k».proof.Pre_diff_finite
public import proofs.«01_k».proof.Proof.Finite
@[expose] public section
noncomputable section
namespace Cert.Pre_diff_finite
open Idealize.ShloMosaic Cert.Pre_gains_and_bias_finite

/-- The facts the precondition's operations state. -/
theorem facts : Facts where
  slices_S8192x22528_S8192x1536_0_8704 := by decide
  bitsLt_bf16_f32 := by decide
  bcast_S_S8192x1536 := by decide
  reducesTo_S8192x1536_S_d0_1 := by decide
  h_S_ := by decide
  bcast_S_S128 := by decide
  reducesTo_S128_S_d0 := by decide

instance : Subsingleton S_.Idx := ⟨fun a b => funext fun k => k.elim0⟩

/-- What the precondition gives: the values and the vectors of the weight are real. -/
theorem real_of_pre [Facts] (a0 : FVec Ideal S8192x22528 .bf16) (a1 a2 a3 a4 a5 a6 : FVec Ideal S128 .f32) (a7 : FVec Ideal S256 .f32)
    (h : fn a0 a1 a2 a3 a4 a5 a6 a7 = fun _ => 1#1) :
    (∀ i, ∃ r : ℝ, (extractStridedSlice S8192x1536 ![0, 8704] a0 Facts.slices_S8192x22528_S8192x1536_0_8704 i : EReal) = (r : EReal))
    ∧ (∀ i, ∃ r : ℝ, (a3 i : EReal) = (r : EReal))
    ∧ (∀ i, ∃ r : ℝ, (a4 i : EReal) = (r : EReal)) ∧ (∀ i, ∃ r : ℝ, (a5 i : EReal) = (r : EReal)) ∧ (∀ i, ∃ r : ℝ, (a6 i : EReal) = (r : EReal)) := by
  have h0 := congrFun h (fun k => k.elim0)
  unfold fn fn_part1 at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  refine ⟨fun i => ?_, fun i => ?_, fun i => ?_, fun i => ?_, fun i => ?_⟩
  · exact real_of_abs (S := S8192x1536) (extf .f32 (extractStridedSlice S8192x1536 ![0, 8704] a0 Facts.slices_S8192x22528_S8192x1536_0_8704) Facts.bitsLt_bf16_f32) _ i of_inf (Host.reduce_andi_all _ _ _ _ _ h0 i)
  · exact real_of_abs _ _ i of_inf (Host.reduce_andi_all _ _ _ _ _ h3 i)
  · exact real_of_abs _ _ i of_inf (Host.reduce_andi_all _ _ _ _ _ h4 i)
  · exact real_of_abs _ _ i of_inf (Host.reduce_andi_all _ _ _ _ _ h5 i)
  · exact real_of_abs _ _ i of_inf (Host.reduce_andi_all _ _ _ _ _ h6 i)
end Cert.Pre_diff_finite
end
end
-- ==== Proof.DiffEqual.lean ====
module
public import proofs.«01_k».proof.Proof.DiffArray
public import proofs.«01_k».proof.Proof.DiffRefScore
public import proofs.«01_k».proof.Proof.DiffRefOut
public import proofs.«01_k».proof.Proof.DiffRefRes
public import proofs.«01_k».proof.Proof.DiffRefMix
public import proofs.«01_k».proof.Proof.DiffFinite
@[expose] public section
set_option maxRecDepth 16384
noncomputable section
namespace Cert.DiffReferenceIdeal.Value
open Idealize.ShloMosaic Idealize.ShloMosaic.TcCoe Idealize.SL.Sem
open Cert.DiffReferenceIdeal Cert.DiffReferenceIdeal.Gen ChunkAttention
open Cert.DiffKernelIdeal.Value (natAt nrm256 mixed_any part vcol brow rowOut diffOut batch place head lane)

/-- A row's score with a key: the product of the normalised query and key over the root of 128, less the slope times the distance. -/
theorem natural_any (q : Fin 128 → EReal) (k : Fin 4096 → Fin 128 → EReal) (s : EReal) (σ : ℝ) (r n : Fin 4096) (hs : s = (σ : EReal)) :
    (∑ x : Fin 128, Ideal.div (q x) (Ideal.sqrt (Ideal.ofBits .f32 0x43000000#32)) * k n x) - s * (((|(r.val : ℤ) - n.val| : ℤ) : ℝ) : EReal)
      = natAt q k σ r.val n := by
  have h128 : Real.sqrt 128 ≠ 0 := (Real.sqrt_pos.2 (by norm_num)).ne'
  have hr : Ideal.sqrt (Ideal.ofBits .f32 0x43000000#32) = (Real.sqrt 128 : EReal) := by
    rw [of_128, Ideal.sqrt_coe, if_neg (by norm_num)]
  have hc : (((|(r.val : ℤ) - n.val| : ℤ) : ℝ)) = |(r.val : ℝ) - (n.val : ℝ)| := by push_cast; rfl
  rw [hs, hc, ← EReal.coe_mul, sub_eq_add_neg, ← EReal.coe_neg, natAt]
  simp only [hr, Ideal.div_coe h128]

variable (V : Valuation τ sig (Elt Ideal)) (Q G : Fin 2 → Fin 6 → Fin 2 → Fin 4096 → Fin 128 → EReal) (σ : Fin 6 → ℝ) (x : FVec Ideal S8192x22528 .bf16)
  (a1 a2 a3 a4 a5 a6 : FVec Ideal S128 .f32) (a7 : FVec Ideal S256 .f32)

theorem scores_at (e0 : V (Proc.devRef .tc main_arg0) = x) (e1 : V (Proc.devRef .tc main_arg1) = a1) (e2 : V (Proc.devRef .tc main_arg2) = a2)
    (hQ : ∀ b h p n d, nrm (fun e => x (ix2 (brow b n) (part 5632 (by omega) h p e) : S8192x22528.Idx)) (fun e => a1 (ix1 e : S128.Idx)) d = Q b h p n d)
    (hG : ∀ b h p n d, nrm (fun e => x (ix2 (brow b n) (part 7168 (by omega) h p e) : S8192x22528.Idx)) (fun e => a2 (ix1 e : S128.Idx)) d = G b h p n d)
    (hσ : ∀ h : Fin 6, slope h = ((σ h : ℝ) : EReal)) (b : Fin 2) (h : Fin 6) (p : Fin 2) (r n : Fin 4096) :
    (scores V (ix5 b h p r n : S2x6x2x4096x4096.Idx) : EReal) = if n.val / 64 ≤ r.val / 64 then natAt (Q b h p r) (G b h p) (σ h) r.val n else ⊥ := by
  refine (v77_at V b h p r n).trans (if_congr Iff.rfl ?_ rfl)
  rw [e0, e1, e2]
  refine Eq.trans ?_ (natural_any (Q b h p r) (G b h p) (slope h) (σ h) r n (hσ h))
  exact congrArg₂ (fun s t : EReal => s - t)
    (Finset.sum_congr rfl fun e _ => congrArg₂ (fun s t : EReal => Ideal.div s (Ideal.sqrt (Ideal.ofBits .f32 0x43000000#32)) * t) (hQ b h p r e) (hG b h p n e)) rfl

/-- A row's weights are its softmax. -/
theorem weights_at (b : Fin 2) (h : Fin 6) (p : Fin 2) (r n : Fin 4096) (s : Fin 4096 → EReal)
    (hs : ∀ n, (scores V (ix5 b h p r n : S2x6x2x4096x4096.Idx) : EReal) = s n) :
    (weights V (ix5 b h p r n : S2x6x2x4096x4096.Idx) : EReal)
      = Ideal.div (Ideal.exp (s n - Finset.univ.fold max (⊥ : EReal) s)) (∑ l, Ideal.exp (s l - Finset.univ.fold max (⊥ : EReal) s)) := by
  have he : ∀ n, (exps V (ix5 b h p r n : S2x6x2x4096x4096.Idx) : EReal) = Ideal.exp (s n - Finset.univ.fold max (⊥ : EReal) s) := fun n => by
    rw [← funext hs]
    exact v84_at V b h p r n
  exact (v88_at V b h p r n).trans (congrArg₂ Ideal.div (he n) (Finset.sum_congr rfl fun l _ => he l))

theorem lam_real (a b c d : Fin 128 → EReal) (ha : ∀ e, ∃ r : ℝ, a e = (r : EReal)) (hb : ∀ e, ∃ r : ℝ, b e = (r : EReal))
    (hc : ∀ e, ∃ r : ℝ, c e = (r : EReal)) (hd : ∀ e, ∃ r : ℝ, d e = (r : EReal)) : ∃ l : ℝ, lam a b c d = (l : EReal) := by
  choose a' ha using ha
  choose b' hb using hb
  choose c' hc using hc
  choose d' hd using hd
  obtain ⟨k, hk⟩ : ∃ k : ℝ, Ideal.ofBits .f32 0x3EB60549#32 = (k : EReal) := ⟨_, by simp [Ideal.ofBits, Ideal.ieee, -EReal.coe_mul]; rfl⟩
  unfold lam
  simp only [ha, hb, hc, hd, hk, ← EReal.coe_mul]
  rw [coe_sum, coe_sum, Ideal.exp_coe, Ideal.exp_coe, ← EReal.coe_sub, ← EReal.coe_add]
  exact ⟨_, rfl⟩

/-- The mix of the values is, after the last norm, the difference of the two weighted sums. -/
theorem mixed_at (e0 : V (Proc.devRef .tc main_arg0) = x) (e1 : V (Proc.devRef .tc main_arg1) = a1) (e2 : V (Proc.devRef .tc main_arg2) = a2)
    (e3 : V (Proc.devRef .tc main_arg3) = a3) (e4 : V (Proc.devRef .tc main_arg4) = a4) (e5 : V (Proc.devRef .tc main_arg5) = a5) (e6 : V (Proc.devRef .tc main_arg6) = a6)
    (hQ : ∀ b h p n d, nrm (fun e => x (ix2 (brow b n) (part 5632 (by omega) h p e) : S8192x22528.Idx)) (fun e => a1 (ix1 e : S128.Idx)) d = Q b h p n d)
    (hG : ∀ b h p n d, nrm (fun e => x (ix2 (brow b n) (part 7168 (by omega) h p e) : S8192x22528.Idx)) (fun e => a2 (ix1 e : S128.Idx)) d = G b h p n d)
    (hσ : ∀ h : Fin 6, slope h = ((σ h : ℝ) : EReal)) (b : Fin 2) (r : Fin 4096) (h : Fin 6)
    (hv : ∀ d n, ∃ v : ℝ, (x (ix2 (brow b n) (vcol h d) : S8192x22528.Idx) : EReal) = (v : EReal)) (l : EReal)
    (hl : lam (fun x => a3 (ix1 x : S128.Idx)) (fun x => a4 (ix1 x : S128.Idx)) (fun x => a5 (ix1 x : S128.Idx)) (fun x => a6 (ix1 x : S128.Idx)) = l)
    (l' : ℝ) (hl' : l = (l' : EReal)) (g : Fin 256 → EReal) (d : Fin 256) :
    nrm256 (fun d => (mixed V (ix4 b r h d : S2x4096x6x256.Idx) : EReal)) g d
      = nrm256 (fun d => comp (fun n : Fin 4096 => n.val / 64 ≤ r.val / 64) (natAt (Q b h 0 r) (G b h 0) (σ h) r.val) (fun n => x (ix2 (brow b n) (vcol h d) : S8192x22528.Idx))
        - l * comp (fun n : Fin 4096 => n.val / 64 ≤ r.val / 64) (natAt (Q b h 1 r) (G b h 1) (σ h) r.val) (fun n => x (ix2 (brow b n) (vcol h d) : S8192x22528.Idx))) g d := by
  have hw := fun p n => weights_at V b h p r n _ (fun n => scores_at V Q G σ x a1 a2 e0 e1 e2 hQ hG hσ b h p r n)
  refine Eq.trans ?_ (mixed_any (fun n : Fin 4096 => n.val / 64 ≤ r.val / 64) (natAt (Q b h 0 r) (G b h 0) (σ h) r.val) (natAt (Q b h 1 r) (G b h 1) (σ h) r.val)
    (fun n => weights V (ix5 b h 0 r n : S2x6x2x4096x4096.Idx)) (fun n => weights V (ix5 b h 1 r n : S2x6x2x4096x4096.Idx))
    (fun d n => x (ix2 (brow b n) (vcol h d) : S8192x22528.Idx)) l l' hl' hv (hw 0) (hw 1) g d)
  refine congrArg (fun f => nrm256 f g d) (funext fun d => ?_)
  refine (v97_at V b r h d).trans ?_
  rw [e0, e3, e4, e5, e6, hl]
  rfl

end Cert.DiffReferenceIdeal.Value
end
end
-- ==== Proof.DiffClaim.lean ====
module
public import proofs.«01_k».proof.Defs
public import proofs.«01_k».proof.Proof.DiffEqual
public import Idealize.ShloMosaic.Lib.Claim
@[expose] public section
set_option maxRecDepth 16384
noncomputable section
namespace Cert.DiffReferenceIdeal.Value
open Idealize.ShloMosaic Idealize.ShloMosaic.TcCoe Idealize.SL.Sem
open Cert.DiffReferenceIdeal Cert.DiffReferenceIdeal.Gen ChunkAttention
open Cert.DiffKernelIdeal.Value (part vcol brow rowOut diffOut batch place head lane)

/-- A column of the values' slice is a column of the projection. -/
theorem slice_at (x : FVec Ideal S8192x22528 .bf16) (h) (i : Fin 8192) (j : Fin 1536) :
    extractStridedSlice S8192x1536 ![0, 8704] x h (ix2 i j : S8192x1536.Idx) = x (ix2 i ⟨8704 + j, by omega⟩ : S8192x22528.Idx) := by
  pointwise []

end Cert.DiffReferenceIdeal.Value

namespace Cert.Proof
open Idealize.ShloMosaic Idealize.ShloMosaic.TcCoe Idealize.SL.Sem ChunkAttention
open Cert.DiffReferenceIdeal.Value (slope lam slope_real lam_real mixed_at res_at slice_at)
open Cert.DiffKernelIdeal.Value (part vcol brow rowOut diffOut batch place head lane)

instance : Cert.Pre_diff_finite.Facts := Cert.Pre_diff_finite.facts

set_option maxHeartbeats 1600000 in
theorem algebraic_DiffKernelIdeal : Cert.algebraic_DiffKernelIdeal_DiffReferenceIdeal_pre_diff_finite := by
  intro m g m' g' hp ha
  refine ⟨_, Cert.DiffKernelIdeal.Gen.run_blocks m g, ?_⟩
  refine (θ_run Cert.DiffReferenceIdeal.defs _ _).mono (fun r h c => ?_) (Cert.DiffReferenceIdeal.Value.run (F := Ideal) m' g')
  refine ⟨(h c).1.trans ?_, (h c).2⟩
  obtain ⟨h0, h3, h4, h5, h6⟩ := Cert.Pre_diff_finite.real_of_pre _ _ _ _ _ _ _ _ (hp c)
  obtain ⟨a0, a1, a2, a3, a4, a5, a6, a7⟩ := ha c
  obtain ⟨x, hx⟩ : ∃ x : FVec Ideal Cert.DiffKernelIdeal.S8192x22528 .bf16, m ((c.tc : Thread Cert.DiffKernelIdeal.nD Cert.DiffKernelIdeal.τ).loc Cert.DiffKernelIdeal.main_arg0) = x := ⟨_, rfl⟩
  obtain ⟨x1, hx1⟩ : ∃ x : FVec Ideal Cert.DiffKernelIdeal.S128 .f32, m ((c.tc : Thread Cert.DiffKernelIdeal.nD Cert.DiffKernelIdeal.τ).loc Cert.DiffKernelIdeal.main_arg1) = x := ⟨_, rfl⟩
  obtain ⟨x2, hx2⟩ : ∃ x : FVec Ideal Cert.DiffKernelIdeal.S128 .f32, m ((c.tc : Thread Cert.DiffKernelIdeal.nD Cert.DiffKernelIdeal.τ).loc Cert.DiffKernelIdeal.main_arg2) = x := ⟨_, rfl⟩
  obtain ⟨x3, hx3⟩ : ∃ x : FVec Ideal Cert.DiffKernelIdeal.S128 .f32, m ((c.tc : Thread Cert.DiffKernelIdeal.nD Cert.DiffKernelIdeal.τ).loc Cert.DiffKernelIdeal.main_arg3) = x := ⟨_, rfl⟩
  obtain ⟨x4, hx4⟩ : ∃ x : FVec Ideal Cert.DiffKernelIdeal.S128 .f32, m ((c.tc : Thread Cert.DiffKernelIdeal.nD Cert.DiffKernelIdeal.τ).loc Cert.DiffKernelIdeal.main_arg4) = x := ⟨_, rfl⟩
  obtain ⟨x5, hx5⟩ : ∃ x : FVec Ideal Cert.DiffKernelIdeal.S128 .f32, m ((c.tc : Thread Cert.DiffKernelIdeal.nD Cert.DiffKernelIdeal.τ).loc Cert.DiffKernelIdeal.main_arg5) = x := ⟨_, rfl⟩
  obtain ⟨x6, hx6⟩ : ∃ x : FVec Ideal Cert.DiffKernelIdeal.S128 .f32, m ((c.tc : Thread Cert.DiffKernelIdeal.nD Cert.DiffKernelIdeal.τ).loc Cert.DiffKernelIdeal.main_arg6) = x := ⟨_, rfl⟩
  obtain ⟨x7, hx7⟩ : ∃ x : FVec Ideal Cert.DiffKernelIdeal.S256 .f32, m ((c.tc : Thread Cert.DiffKernelIdeal.nD Cert.DiffKernelIdeal.τ).loc Cert.DiffKernelIdeal.main_arg7) = x := ⟨_, rfl⟩
  rw [hx] at h0 a0
  rw [hx1] at a1
  rw [hx2] at a2
  rw [hx3] at h3 a3
  rw [hx4] at h4 a4
  rw [hx5] at h5 a5
  rw [hx6] at h6 a6
  rw [hx7] at a7
  choose σ hσ using fun h : Fin 6 => slope_real h
  obtain ⟨l', hl'⟩ := lam_real (fun e => x3 (ix1 e : Cert.DiffKernelIdeal.S128.Idx)) (fun e => x4 (ix1 e : Cert.DiffKernelIdeal.S128.Idx))
    (fun e => x5 (ix1 e : Cert.DiffKernelIdeal.S128.Idx)) (fun e => x6 (ix1 e : Cert.DiffKernelIdeal.S128.Idx)) (fun e => h3 _) (fun e => h4 _) (fun e => h5 _) (fun e => h6 _)
  refine Eq.trans ?_ (Cert.DiffKernelIdeal.Value.final m c _ _ σ x x1 x2 x3 x4 x5 x6 x7 hx hx1 hx2 hx3 hx4 hx5 hx6 hx7 (fun _ _ _ _ _ => rfl) (fun _ _ _ _ _ => rfl) hσ).symm
  funext i
  idx_vars i
  refine (res_at _ _ _).trans ?_
  rw [show (StableHlo.launchContents m' c) (Proc.devRef .tc Cert.DiffReferenceIdeal.main_arg7) = x7 from a7]
  have hv : ∀ d n, ∃ v : ℝ, (x (ix2 (brow (batch i0) n) (vcol (head i1) d) : Cert.DiffKernelIdeal.S8192x22528.Idx) : EReal) = (v : EReal) := fun d n => by
    obtain ⟨v, hv⟩ := h0 (ix2 (brow (batch i0) n) ⟨(head i1).val * 256 + d.val, by omega⟩)
    exact ⟨v, (slice_at x _ _ _).symm.trans hv⟩
  exact mixed_at (StableHlo.launchContents m' c) _ _ σ x x1 x2 x3 x4 x5 x6 a0 a1 a2 a3 a4 a5 a6 (fun _ _ _ _ _ => rfl) (fun _ _ _ _ _ => rfl) hσ (batch i0) (place i0) (head i1) hv _ rfl l' hl'
    (fun d => x7 (ix1 d : Cert.DiffKernelIdeal.S256.Idx)) (lane i1)

end Cert.Proof
end
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equal
public import proofs.«01_k».proof.Proof.Finite
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.Ff1Kernel
public import proofs.«01_k».proof.Proof.Gen.Ff1Kernel.Skeleton
public import proofs.«01_k».proof.Proof.Gen.Ff1Kernel.Launch
public import proofs.«01_k».proof.Proof.Gen.Ff1Kernel.Points
public import proofs.«01_k».proof.Proof.Gen.Ff1Kernel.Frame
public import proofs.«01_k».proof.Proof.Gen.Ff1KernelIdeal
public import proofs.«01_k».proof.Proof.Gen.Ff1KernelIdeal.Skeleton
public import proofs.«01_k».proof.Proof.Gen.Ff1KernelIdeal.Launch
public import proofs.«01_k».proof.Proof.Gen.Ff1KernelIdeal.Points
public import proofs.«01_k».proof.Proof.Gen.Ff1KernelIdeal.Frame
public import proofs.«01_k».proof.Proof.Gen.Ff1KernelIdeal.Value
public import proofs.«01_k».proof.Proof.Gen.Ff1ReferenceIdeal
public import proofs.«01_k».proof.Proof.Gen.Ff1ReferenceIdeal.Run
public import proofs.«01_k».proof.Proof.Gen.Ff2Kernel
public import proofs.«01_k».proof.Proof.Gen.Ff2Kernel.Skeleton
public import proofs.«01_k».proof.Proof.Gen.Ff2Kernel.Launch
public import proofs.«01_k».proof.Proof.Gen.Ff2Kernel.Points
public import proofs.«01_k».proof.Proof.Gen.Ff2Kernel.Frame
public import proofs.«01_k».proof.Proof.Gen.Ff2KernelIdeal
public import proofs.«01_k».proof.Proof.Gen.Ff2KernelIdeal.Skeleton
public import proofs.«01_k».proof.Proof.Gen.Ff2KernelIdeal.Launch
public import proofs.«01_k».proof.Proof.Gen.Ff2KernelIdeal.Points
public import proofs.«01_k».proof.Proof.Gen.Ff2KernelIdeal.Frame
public import proofs.«01_k».proof.Proof.Gen.Ff2KernelIdeal.Value
public import proofs.«01_k».proof.Proof.Gen.Ff2ReferenceIdeal
public import proofs.«01_k».proof.Proof.Gen.Ff2ReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluKernelIdeal.Value
public import proofs.«01_k».proof.Proof.Gen.GluReferenceIdeal
public import proofs.«01_k».proof.Proof.Gen.GluReferenceIdeal.Run
public import proofs.«01_k».proof.Proof.InProduct
public import proofs.«01_k».proof.Proof.Ff1Product
public import proofs.«01_k».proof.Proof.Ff2Product
public import proofs.«01_k».proof.Proof.OutProduct
public import proofs.«01_k».proof.Proof.Merge
public import proofs.«01_k».proof.Proof.RowNorm
public import proofs.«01_k».proof.Proof.Glu
public import proofs.«01_k».proof.Proof.DiffLoops
public import proofs.«01_k».proof.Proof.DiffLoopsIdeal
public import proofs.«01_k».proof.Proof.DiffRun
public import proofs.«01_k».proof.Proof.DiffRunIdeal
public import proofs.«01_k».proof.Proof.DiffClaim
public import proofs.«01_k».proof.Proof.Gen.DiffKernel
public import proofs.«01_k».proof.Proof.Gen.DiffKernel.Skeleton
public import proofs.«01_k».proof.Proof.Gen.DiffKernel.Launch
public import proofs.«01_k».proof.Proof.Gen.DiffKernel.Points
public import proofs.«01_k».proof.Proof.Gen.DiffKernelIdeal
public import proofs.«01_k».proof.Proof.Gen.DiffKernelIdeal.Skeleton
public import proofs.«01_k».proof.Proof.Gen.DiffKernelIdeal.Launch
public import proofs.«01_k».proof.Proof.Gen.DiffKernelIdeal.Points
public import proofs.«01_k».proof.Proof.Gen.DiffReferenceIdeal
public import proofs.«01_k».proof.Proof.Gen.DiffReferenceIdeal.Run
public import Idealize.ShloMosaic.Adequacy
public import Idealize.ShloMosaic.Init
public import Idealize.ShloMosaic.Lib.Claim

@[expose] public section

noncomputable section

namespace Cert.Proof

open Idealize.ShloMosaic Idealize.SL.Sem Cert.Kernel

instance : Cert.Pre_gains_and_bias_finite.Facts := Cert.Pre_gains_and_bias_finite.facts

theorem frame_k : Cert.quiescent_Kernel := fun m g _ => Cert.Kernel.Gen.frame m g

theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem frame_ri_pre : Cert.quiescent_ReferenceIdeal_pre_gains_and_bias_finite := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem preserves : Cert.preserves_Kernel_KernelIdeal :=
  ⟨IdealRules.named_const.statement Cert.KernelIdeal.κ "scale" .f32 0x3E0293EE#32 (((Real.log 2)⁻¹ * (Real.sqrt 128)⁻¹ : ℝ) : EReal) rfl,
    IdealRules.named_const.statement Cert.KernelIdeal.κ "log2e" .f32 0x3FB8AA3B#32 (((Real.log 2)⁻¹ : ℝ) : EReal) rfl⟩

theorem algebraic : Cert.algebraic_KernelIdeal_ReferenceIdeal_pre_gains_and_bias_finite := by
  intro m g m' g' hp ha
  refine ⟨_, Cert.KernelIdeal.Value.run_blocks m g, ?_⟩
  refine (θ_run Cert.ReferenceIdeal.defs _ _).mono (fun r h c => ?_) (Cert.ReferenceIdeal.Value.run (F := Ideal) m' g')
  refine ⟨(h c).1.trans ?_, (h c).2⟩
  obtain ⟨h1, h2, h3⟩ := Cert.Pre_gains_and_bias_finite.real_of_pre _ _ _ _ (hp c)
  obtain ⟨a0, a1, a2, a3⟩ := ha c
  rw [Cert.KernelIdeal.Value.final]
  funext i
  idx_vars i
  exact (ChunkAttention.equal m m' c _ _ _ _ rfl rfl rfl rfl a0 a1 a2 a3 h1 h2 h3 _ _).symm

theorem frame_InReference : Cert.quiescent_InReferenceIdeal := fun m g _ =>
  (θ_run Cert.InReferenceIdeal.defs _ _).mono (fun r h => ⟨fun c => (h c).2, Idealize.ShloMosaic.sem_eq_zero_of_no_sems (by decide) r.2⟩)
    (Cert.InReferenceIdeal.Value.run (F := Ideal) m g)

theorem frame_Ff1Reference : Cert.quiescent_Ff1ReferenceIdeal := fun m g _ =>
  (θ_run Cert.Ff1ReferenceIdeal.defs _ _).mono (fun r h => ⟨fun c => (h c).2, Idealize.ShloMosaic.sem_eq_zero_of_no_sems (by decide) r.2⟩)
    (Cert.Ff1ReferenceIdeal.Value.run (F := Ideal) m g)

theorem frame_Ff2Reference : Cert.quiescent_Ff2ReferenceIdeal := fun m g _ =>
  (θ_run Cert.Ff2ReferenceIdeal.defs _ _).mono (fun r h => ⟨fun c => (h c).2, Idealize.ShloMosaic.sem_eq_zero_of_no_sems (by decide) r.2⟩)
    (Cert.Ff2ReferenceIdeal.Value.run (F := Ideal) m g)

theorem frame_OutReference : Cert.quiescent_OutReferenceIdeal := fun m g _ =>
  (θ_run Cert.OutReferenceIdeal.defs _ _).mono (fun r h => ⟨fun c => (h c).2, Idealize.ShloMosaic.sem_eq_zero_of_no_sems (by decide) r.2⟩)
    (Cert.OutReferenceIdeal.Value.run (F := Ideal) m g)

theorem frame_MergeReference : Cert.quiescent_MergeReferenceIdeal := fun m g _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m g)

theorem frame_NormReference : Cert.quiescent_NormReferenceIdeal := fun m g _ =>
  (θ_run Cert.NormReferenceIdeal.defs _ _).mono (fun r h => ⟨fun c => (h c).2, Idealize.ShloMosaic.sem_eq_zero_of_no_sems (by decide) r.2⟩)
    (Cert.NormReferenceIdeal.Value.run (F := Ideal) m g)

theorem frame_GluReference : Cert.quiescent_GluReferenceIdeal := fun m g _ =>
  (θ_run Cert.GluReferenceIdeal.defs _ _).mono (fun r h => ⟨fun c => (h c).2, Idealize.ShloMosaic.sem_eq_zero_of_no_sems (by decide) r.2⟩)
    (Cert.GluReferenceIdeal.Value.run (F := Ideal) m g)

theorem frame_DiffReference : Cert.quiescent_DiffReferenceIdeal := fun m g _ =>
  (θ_run Cert.DiffReferenceIdeal.defs _ _).mono (fun r h => ⟨fun c => (h c).2, Idealize.ShloMosaic.sem_eq_zero_of_no_sems (by decide) r.2⟩)
    (Cert.DiffReferenceIdeal.Value.run (F := Ideal) m g)

theorem frame_DiffReference_pre : Cert.quiescent_DiffReferenceIdeal_pre_diff_finite := fun m g _ =>
  (θ_run Cert.DiffReferenceIdeal.defs _ _).mono (fun r h => ⟨fun c => (h c).2, Idealize.ShloMosaic.sem_eq_zero_of_no_sems (by decide) r.2⟩)
    (Cert.DiffReferenceIdeal.Value.run (F := Ideal) m g)

theorem preserves_Diff : Cert.preserves_DiffKernel_DiffKernelIdeal :=
  ⟨IdealRules.named_const.statement Cert.DiffKernelIdeal.κ "log2e" .f32 0x3FB8AA3B#32 (((Real.log 2)⁻¹ : ℝ) : EReal) rfl,
    IdealRules.named_const.statement Cert.DiffKernelIdeal.κ "scale" .f32 0x3E0293EE#32 (((Real.log 2)⁻¹ * (Real.sqrt 128)⁻¹ : ℝ) : EReal) rfl,
    IdealRules.named_const.statement Cert.DiffKernelIdeal.κ "mask" .f32 0xF149F2CA#32 ⊥ rfl⟩

theorem claim : Cert.Claim :=
  ⟨Cert.Kernel.Gen.facts, Cert.KernelIdeal.Gen.facts, Cert.ReferenceIdeal.Gen.facts,
    Cert.InKernel.Gen.facts, Cert.InKernelIdeal.Gen.facts, Cert.InReferenceIdeal.Gen.facts,
    Cert.Ff1Kernel.Gen.facts, Cert.Ff1KernelIdeal.Gen.facts, Cert.Ff1ReferenceIdeal.Gen.facts,
    Cert.Ff2Kernel.Gen.facts, Cert.Ff2KernelIdeal.Gen.facts, Cert.Ff2ReferenceIdeal.Gen.facts,
    Cert.OutKernel.Gen.facts, Cert.OutKernelIdeal.Gen.facts, Cert.OutReferenceIdeal.Gen.facts,
    Cert.MergeKernel.Gen.facts, Cert.MergeKernelIdeal.Gen.facts, Cert.MergeReferenceIdeal.Gen.facts,
    Cert.NormKernel.Gen.facts, Cert.NormKernelIdeal.Gen.facts, Cert.NormReferenceIdeal.Gen.facts,
    Cert.GluKernel.Gen.facts, Cert.GluKernelIdeal.Gen.facts, Cert.GluReferenceIdeal.Gen.facts,
    Cert.DiffKernel.Gen.facts, Cert.DiffKernelIdeal.Gen.facts, Cert.DiffReferenceIdeal.Gen.facts,
    Cert.Pre_gains_and_bias_finite.facts, Cert.Pre_diff_finite.facts,
    frame_k, fun m g _ => Cert.KernelIdeal.Gen.frame m g, fun m g _ => Cert.KernelIdeal.Gen.frame m g, frame_ri, frame_ri_pre,
    fun m g _ => Cert.InKernel.Gen.frame m g, fun m g _ => Cert.InKernelIdeal.Gen.frame m g, frame_InReference,
    fun m g _ => Cert.Ff1Kernel.Gen.frame m g, fun m g _ => Cert.Ff1KernelIdeal.Gen.frame m g, frame_Ff1Reference,
    fun m g _ => Cert.Ff2Kernel.Gen.frame m g, fun m g _ => Cert.Ff2KernelIdeal.Gen.frame m g, frame_Ff2Reference,
    fun m g _ => Cert.OutKernel.Gen.frame m g, fun m g _ => Cert.OutKernelIdeal.Gen.frame m g, frame_OutReference,
    fun m g _ => Cert.MergeKernel.Gen.frame m g, fun m g _ => Cert.MergeKernelIdeal.Gen.frame m g, frame_MergeReference,
    fun m g _ => Cert.NormKernel.Gen.frame m g, fun m g _ => Cert.NormKernelIdeal.Gen.frame m g, frame_NormReference,
    fun m g _ => Cert.GluKernel.Gen.frame m g, fun m g _ => Cert.GluKernelIdeal.Gen.frame m g, frame_GluReference,
    fun m g _ => Cert.DiffKernel.Gen.frame m g, fun m g _ => Cert.DiffKernelIdeal.Gen.frame m g, fun m g _ => Cert.DiffKernelIdeal.Gen.frame m g, frame_DiffReference, frame_DiffReference_pre,
    preserves, algebraic,
    trivial, algebraic_InKernelIdeal,
    trivial, algebraic_Ff1KernelIdeal,
    trivial, algebraic_Ff2KernelIdeal,
    trivial, algebraic_OutKernelIdeal,
    trivial, algebraic_MergeKernelIdeal,
    trivial, algebraic_NormKernelIdeal,
    trivial, algebraic_GluKernelIdeal,
    preserves_Diff, algebraic_DiffKernelIdeal⟩

end Cert.Proof

end
